-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routing_finite [hPre_routing_finite : Cert.Pre_routing_finite.Facts] (m : (ℓ : Loc Cert.KernelIdeal.nD Cert.KernelIdeal.τ Cert.KernelIdeal.sig) → Buf (Elt Ideal) ℓ) : Prop :=
  ∀ c : Dev Cert.KernelIdeal.nD,
    (Cert.Pre_routing_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routing_finite [hPre_routing_finite : Cert.Pre_routing_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routing_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_gqa_finite [hPre_gqa_finite : Cert.Pre_gqa_finite.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_gqa_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_gqa_finite [hPre_gqa_finite : Cert.Pre_gqa_finite.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_gqa_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_diff_finite [hPre_diff_finite : Cert.Pre_diff_finite.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_diff_finite.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_diff_finite [hPre_diff_finite : Cert.Pre_diff_finite.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_diff_finite.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2))) = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Kernel15Ideal_gqa_context_finite [hPre_gqa_context_finite : Cert.Pre_gqa_context_finite.Facts] (m : (ℓ : Loc Cert.Kernel15Ideal.nD Cert.Kernel15Ideal.τ Cert.Kernel15Ideal.sig) → Buf (Elt Ideal) ℓ) : Prop :=
  ∀ c : Dev Cert.Kernel15Ideal.nD,
    (Cert.Pre_gqa_context_finite.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2))) = (fun _ => 1#1)

def Pre_Reference15Ideal (m : (ℓ : Loc Cert.Reference15Ideal.nD Cert.Reference15Ideal.τ Cert.Reference15Ideal.sig) → Buf (Elt Ideal) ℓ) : Prop :=
  True

def Pre_Reference15Ideal_gqa_context_finite [hPre_gqa_context_finite : Cert.Pre_gqa_context_finite.Facts] (m : (ℓ : Loc Cert.Reference15Ideal.nD Cert.Reference15Ideal.τ Cert.Reference15Ideal.sig) → Buf (Elt Ideal) ℓ) : Prop :=
  ∀ c : Dev Cert.Reference15Ideal.nD,
    (Cert.Pre_gqa_context_finite.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_routing_finite [hKernelIdeal : Cert.KernelIdeal.Facts] [hPre_routing_finite : Cert.Pre_routing_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routing_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_routing_finite [hReferenceIdeal : Cert.ReferenceIdeal.Facts] [hPre_routing_finite : Cert.Pre_routing_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routing_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Kernel3Ideal_pre_gqa_finite [hKernel3Ideal : Cert.Kernel3Ideal.Facts] [hPre_gqa_finite : Cert.Pre_gqa_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_gqa_finite m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Reference3Ideal_pre_gqa_finite [hReference3Ideal : Cert.Reference3Ideal.Facts] [hPre_gqa_finite : Cert.Pre_gqa_finite.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_gqa_finite m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Kernel7Ideal_pre_diff_finite [hKernel7Ideal : Cert.Kernel7Ideal.Facts] [hPre_diff_finite : Cert.Pre_diff_finite.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_diff_finite m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Reference7Ideal_pre_diff_finite [hReference7Ideal : Cert.Reference7Ideal.Facts] [hPre_diff_finite : Cert.Pre_diff_finite.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_diff_finite m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5)
      ∧ r.2.mem ((c.tc : Thread Cert.Kernel14.nD Cert.Kernel14.τ).loc Cert.Kernel14.main_arg6) = m ((c.tc : Thread Cert.Kernel14.nD Cert.Kernel14.τ).loc Cert.Kernel14.main_arg6)
      ∧ r.2.mem ((c.tc : Thread Cert.Kernel14.nD Cert.Kernel14.τ).loc Cert.Kernel14.main_arg7) = m ((c.tc : Thread Cert.Kernel14.nD Cert.Kernel14.τ).loc Cert.Kernel14.main_arg7)
      ∧ r.2.mem ((c.tc : Thread Cert.Kernel14.nD Cert.Kernel14.τ).loc Cert.Kernel14.main_arg8) = m ((c.tc : Thread Cert.Kernel14.nD Cert.Kernel14.τ).loc Cert.Kernel14.main_arg8))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
      ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6)
      ∧ r.2.mem ((c.tc : Thread Cert.Kernel14Ideal.nD Cert.Kernel14Ideal.τ).loc Cert.Kernel14Ideal.main_arg7) = m ((c.tc : Thread Cert.Kernel14Ideal.nD Cert.Kernel14Ideal.τ).loc Cert.Kernel14Ideal.main_arg7)
      ∧ r.2.mem ((c.tc : Thread Cert.Kernel14Ideal.nD Cert.Kernel14Ideal.τ).loc Cert.Kernel14Ideal.main_arg8) = m ((c.tc : Thread Cert.Kernel14Ideal.nD Cert.Kernel14Ideal.τ).loc Cert.Kernel14Ideal.main_arg8))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5)
      ∧ r.2.mem ((c.tc : Thread Cert.Reference14Ideal.nD Cert.Reference14Ideal.τ).loc Cert.Reference14Ideal.main_arg6) = m ((c.tc : Thread Cert.Reference14Ideal.nD Cert.Reference14Ideal.τ).loc Cert.Reference14Ideal.main_arg6)
      ∧ r.2.mem ((c.tc : Thread Cert.Reference14Ideal.nD Cert.Reference14Ideal.τ).loc Cert.Reference14Ideal.main_arg7) = m ((c.tc : Thread Cert.Reference14Ideal.nD Cert.Reference14Ideal.τ).loc Cert.Reference14Ideal.main_arg7)
      ∧ r.2.mem ((c.tc : Thread Cert.Reference14Ideal.nD Cert.Reference14Ideal.τ).loc Cert.Reference14Ideal.main_arg8) = m ((c.tc : Thread Cert.Reference14Ideal.nD Cert.Reference14Ideal.τ).loc Cert.Reference14Ideal.main_arg8))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Kernel15Ideal_pre_gqa_context_finite [hKernel15Ideal : Cert.Kernel15Ideal.Facts] [hPre_gqa_context_finite : Cert.Pre_gqa_context_finite.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal_gqa_context_finite m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Reference15Ideal_pre_gqa_context_finite [hReference15Ideal : Cert.Reference15Ideal.Facts] [hPre_gqa_context_finite : Cert.Pre_gqa_context_finite.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal_gqa_context_finite m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def preserves_Kernel_KernelIdeal : Prop :=
  True

def algebraic_KernelIdeal_ReferenceIdeal_pre_routing_finite [hKernelIdeal : Cert.KernelIdeal.Facts] [hReferenceIdeal : Cert.ReferenceIdeal.Facts] [hPre_routing_finite : Cert.Pre_routing_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routing_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v172) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v42) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal_pre_gqa_finite [hKernel3Ideal : Cert.Kernel3Ideal.Facts] [hReference3Ideal : Cert.Reference3Ideal.Facts] [hPre_gqa_finite : Cert.Pre_gqa_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_gqa_finite m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v16) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v21) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v21) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v17) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal_pre_diff_finite [hKernel7Ideal : Cert.Kernel7Ideal.Facts] [hReference7Ideal : Cert.Reference7Ideal.Facts] [hPre_diff_finite : Cert.Pre_diff_finite.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_diff_finite m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v5)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v5) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v17) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v92) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v7)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v7) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v7) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v19) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v4)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v4) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v21) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)) →
    ∃ (v0 : (c : Dev Cert.Kernel12Ideal.nD) → Buf (Elt Ideal) ((c.tc : Thread Cert.Kernel12Ideal.nD Cert.Kernel12Ideal.τ).loc Cert.Kernel12Ideal.main_v4)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v4) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v21) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)) →
    ∃ (v0 : (c : Dev Cert.Kernel13Ideal.nD) → Buf (Elt Ideal) ((c.tc : Thread Cert.Kernel13Ideal.nD Cert.Kernel13Ideal.τ).loc Cert.Kernel13Ideal.main_v4)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v4) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v17) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)
      ∧ m' ((c.tc : Thread Cert.Reference14Ideal.nD Cert.Reference14Ideal.τ).loc Cert.Reference14Ideal.main_arg6) = m ((c.tc : Thread Cert.Kernel14Ideal.nD Cert.Kernel14Ideal.τ).loc Cert.Kernel14Ideal.main_arg6)
      ∧ m' ((c.tc : Thread Cert.Reference14Ideal.nD Cert.Reference14Ideal.τ).loc Cert.Reference14Ideal.main_arg7) = m ((c.tc : Thread Cert.Kernel14Ideal.nD Cert.Kernel14Ideal.τ).loc Cert.Kernel14Ideal.main_arg7)
      ∧ m' ((c.tc : Thread Cert.Reference14Ideal.nD Cert.Reference14Ideal.τ).loc Cert.Reference14Ideal.main_arg8) = m ((c.tc : Thread Cert.Kernel14Ideal.nD Cert.Kernel14Ideal.τ).loc Cert.Kernel14Ideal.main_arg8)) →
    ∃ (v0 : (c : Dev Cert.Kernel14Ideal.nD) → Buf (Elt Ideal) ((c.tc : Thread Cert.Kernel14Ideal.nD Cert.Kernel14Ideal.τ).loc Cert.Kernel14Ideal.main_v8)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v8) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
          ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
          ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6)
          ∧ r.2.mem ((c.tc : Thread Cert.Kernel14Ideal.nD Cert.Kernel14Ideal.τ).loc Cert.Kernel14Ideal.main_arg7) = m ((c.tc : Thread Cert.Kernel14Ideal.nD Cert.Kernel14Ideal.τ).loc Cert.Kernel14Ideal.main_arg7)
          ∧ r.2.mem ((c.tc : Thread Cert.Kernel14Ideal.nD Cert.Kernel14Ideal.τ).loc Cert.Kernel14Ideal.main_arg8) = m ((c.tc : Thread Cert.Kernel14Ideal.nD Cert.Kernel14Ideal.τ).loc Cert.Kernel14Ideal.main_arg8))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v42) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4)
          ∧ r.2.mem ((c.tc : Thread Cert.Reference14Ideal.nD Cert.Reference14Ideal.τ).loc Cert.Reference14Ideal.main_arg5) = m' ((c.tc : Thread Cert.Reference14Ideal.nD Cert.Reference14Ideal.τ).loc Cert.Reference14Ideal.main_arg5)
          ∧ r.2.mem ((c.tc : Thread Cert.Reference14Ideal.nD Cert.Reference14Ideal.τ).loc Cert.Reference14Ideal.main_arg6) = m' ((c.tc : Thread Cert.Reference14Ideal.nD Cert.Reference14Ideal.τ).loc Cert.Reference14Ideal.main_arg6)
          ∧ r.2.mem ((c.tc : Thread Cert.Reference14Ideal.nD Cert.Reference14Ideal.τ).loc Cert.Reference14Ideal.main_arg7) = m' ((c.tc : Thread Cert.Reference14Ideal.nD Cert.Reference14Ideal.τ).loc Cert.Reference14Ideal.main_arg7)
          ∧ r.2.mem ((c.tc : Thread Cert.Reference14Ideal.nD Cert.Reference14Ideal.τ).loc Cert.Reference14Ideal.main_arg8) = m' ((c.tc : Thread Cert.Reference14Ideal.nD Cert.Reference14Ideal.τ).loc Cert.Reference14Ideal.main_arg8))

def preserves_Kernel15_Kernel15Ideal : Prop :=
  True

def algebraic_Kernel15Ideal_Reference15Ideal_pre_gqa_context_finite [hKernel15Ideal : Cert.Kernel15Ideal.Facts] [hReference15Ideal : Cert.Reference15Ideal.Facts] [hPre_gqa_context_finite : Cert.Pre_gqa_context_finite.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal_gqa_context_finite m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v5)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v5) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v16) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hPre_routing_finite : Cert.Pre_routing_finite.Facts) (hPre_gqa_finite : Cert.Pre_gqa_finite.Facts) (hPre_diff_finite : Cert.Pre_diff_finite.Facts) (hPre_gqa_context_finite : Cert.Pre_gqa_context_finite.Facts),
    quiescent_Kernel (hKernel := hKernel)
    ∧ quiescent_KernelIdeal (hKernelIdeal := hKernelIdeal)
    ∧ quiescent_KernelIdeal_pre_routing_finite (hKernelIdeal := hKernelIdeal) (hPre_routing_finite := hPre_routing_finite)
    ∧ quiescent_ReferenceIdeal (hReferenceIdeal := hReferenceIdeal)
    ∧ quiescent_ReferenceIdeal_pre_routing_finite (hReferenceIdeal := hReferenceIdeal) (hPre_routing_finite := hPre_routing_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_gqa_finite (hKernel3Ideal := hKernel3Ideal) (hPre_gqa_finite := hPre_gqa_finite)
    ∧ quiescent_Reference3Ideal (hReference3Ideal := hReference3Ideal)
    ∧ quiescent_Reference3Ideal_pre_gqa_finite (hReference3Ideal := hReference3Ideal) (hPre_gqa_finite := hPre_gqa_finite)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_diff_finite (hKernel7Ideal := hKernel7Ideal) (hPre_diff_finite := hPre_diff_finite)
    ∧ quiescent_Reference7Ideal (hReference7Ideal := hReference7Ideal)
    ∧ quiescent_Reference7Ideal_pre_diff_finite (hReference7Ideal := hReference7Ideal) (hPre_diff_finite := hPre_diff_finite)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Kernel15Ideal_pre_gqa_context_finite (hKernel15Ideal := hKernel15Ideal) (hPre_gqa_context_finite := hPre_gqa_context_finite)
    ∧ quiescent_Reference15Ideal (hReference15Ideal := hReference15Ideal)
    ∧ quiescent_Reference15Ideal_pre_gqa_context_finite (hReference15Ideal := hReference15Ideal) (hPre_gqa_context_finite := hPre_gqa_context_finite)
    ∧ preserves_Kernel_KernelIdeal
    ∧ algebraic_KernelIdeal_ReferenceIdeal_pre_routing_finite (hKernelIdeal := hKernelIdeal) (hReferenceIdeal := hReferenceIdeal) (hPre_routing_finite := hPre_routing_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_gqa_finite (hKernel3Ideal := hKernel3Ideal) (hReference3Ideal := hReference3Ideal) (hPre_gqa_finite := hPre_gqa_finite)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_diff_finite (hKernel7Ideal := hKernel7Ideal) (hReference7Ideal := hReference7Ideal) (hPre_diff_finite := hPre_diff_finite)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal_pre_gqa_context_finite (hKernel15Ideal := hKernel15Ideal) (hReference15Ideal := hReference15Ideal) (hPre_gqa_context_finite := hPre_gqa_context_finite)
-- ==== Pre_diff_finite.lean ====
abbrev S2x8x8192x64 : Shape := ⟨4, ![2, 8, 8192, 64]⟩
abbrev S2x8x8448x64 : Shape := ⟨4, ![2, 8, 8448, 64]⟩
abbrev S2x4x8448x128 : Shape := ⟨4, ![2, 4, 8448, 128]⟩
abbrev S_ : Shape := ⟨0, ![]⟩

class Facts : Prop where
  bcast_S_S2x8x8192x64 : S_.BroadcastsInDim S2x8x8192x64 (![] : Fin 0 → Fin S2x8x8192x64.rank)
  reducesTo_S2x8x8192x64_S_d0_1_2_3 : S2x8x8192x64.ReducesTo [0, 1, 2, 3] S_
  h_S_ : 0 < S_.numel
  bcast_S_S2x8x8448x64 : S_.BroadcastsInDim S2x8x8448x64 (![] : Fin 0 → Fin S2x8x8448x64.rank)
  reducesTo_S2x8x8448x64_S_d0_1_2_3 : S2x8x8448x64.ReducesTo [0, 1, 2, 3] S_

variable [Facts]

def fn {F : FTy → Type} [FloatOps F] (main_arg0 : FVec F S2x8x8192x64 .f32) (main_arg1 : FVec F S2x8x8448x64 .f32) (main_arg2 : FVec F S2x4x8448x128 .f32) : IVec S_ 1 :=
  let main_v0 : FVec F S2x8x8192x64 .f32 := Host.absf main_arg0
  let main_cst : FVec F S_ .f32 := constant S_ .f32 0x7F800000#32
  let main_v1 : FVec F S2x8x8192x64 .f32 := broadcastInDim S2x8x8192x64 ![] bcast_S_S2x8x8192x64 main_cst
  let main_v2 : IVec S2x8x8192x64 1 := cmpf .olt main_v0 main_v1
  let main_c : IVec S_ 1 := constantI S_ 1 1#1
  let main_v3 : IVec S_ 1 := (fun x v => Host.reduce IntOp.andi x v reducesTo_S2x8x8192x64_S_d0_1_2_3 h_S_) main_v2 main_c
  let main_v4 : FVec F S2x8x8448x64 .f32 := Host.absf main_arg1
  let main_cst_0 : FVec F S_ .f32 := constant S_ .f32 0x7F800000#32
  let main_v5 : FVec F S2x8x8448x64 .f32 := broadcastInDim S2x8x8448x64 ![] bcast_S_S2x8x8448x64 main_cst_0
  let main_v6 : IVec S2x8x8448x64 1 := cmpf .olt main_v4 main_v5
  let main_c_1 : IVec S_ 1 := constantI S_ 1 1#1
  let main_v7 : IVec S_ 1 := (fun x v => Host.reduce IntOp.andi x v reducesTo_S2x8x8448x64_S_d0_1_2_3 h_S_) main_v6 main_c_1
  let main_v8 : IVec S_ 1 := andi main_v3 main_v7
  main_v8
-- ==== Pre_gqa_context_finite.lean ====
abbrev S2x4x256x128 : Shape := ⟨4, ![2, 4, 256, 128]⟩
abbrev S2x2x256x128 : Shape := ⟨4, ![2, 2, 256, 128]⟩
abbrev S_ : Shape := ⟨0, ![]⟩

class Facts : Prop where
  bcast_S_S2x4x256x128 : S_.BroadcastsInDim S2x4x256x128 (![] : Fin 0 → Fin S2x4x256x128.rank)
  reducesTo_S2x4x256x128_S_d0_1_2_3 : S2x4x256x128.ReducesTo [0, 1, 2, 3] S_
  h_S_ : 0 < S_.numel
  bcast_S_S2x2x256x128 : S_.BroadcastsInDim S2x2x256x128 (![] : Fin 0 → Fin S2x2x256x128.rank)
  reducesTo_S2x2x256x128_S_d0_1_2_3 : S2x2x256x128.ReducesTo [0, 1, 2, 3] S_

variable [Facts]

def fn {F : FTy → Type} [FloatOps F] (main_arg0 : FVec F S2x4x256x128 .f32) (main_arg1 : FVec F S2x2x256x128 .f32) (main_arg2 : FVec F S2x2x256x128 .f32) : IVec S_ 1 :=
  let main_v0 : FVec F S2x4x256x128 .f32 := Host.absf main_arg0
  let main_cst : FVec F S_ .f32 := constant S_ .f32 0x7F800000#32
  let main_v1 : FVec F S2x4x256x128 .f32 := broadcastInDim S2x4x256x128 ![] bcast_S_S2x4x256x128 main_cst
  let main_v2 : IVec S2x4x256x128 1 := cmpf .olt main_v0 main_v1
  let main_c : IVec S_ 1 := constantI S_ 1 1#1
  let main_v3 : IVec S_ 1 := (fun x v => Host.reduce IntOp.andi x v reducesTo_S2x4x256x128_S_d0_1_2_3 h_S_) main_v2 main_c
  let main_v4 : FVec F S2x2x256x128 .f32 := Host.absf main_arg1
  let main_cst_0 : FVec F S_ .f32 := constant S_ .f32 0x7F800000#32
  let main_v5 : FVec F S2x2x256x128 .f32 := broadcastInDim S2x2x256x128 ![] bcast_S_S2x2x256x128 main_cst_0
  let main_v6 : IVec S2x2x256x128 1 := cmpf .olt main_v4 main_v5
  let main_c_1 : IVec S_ 1 := constantI S_ 1 1#1
  let main_v7 : IVec S_ 1 := (fun x v => Host.reduce IntOp.andi x v reducesTo_S2x2x256x128_S_d0_1_2_3 h_S_) main_v6 main_c_1
  let main_v8 : IVec S_ 1 := andi main_v3 main_v7
  main_v8
-- ==== Pre_gqa_finite.lean ====
abbrev S2x4x8192x128 : Shape := ⟨4, ![2, 4, 8192, 128]⟩
abbrev S2x2x8448x128 : Shape := ⟨4, ![2, 2, 8448, 128]⟩
abbrev S_ : Shape := ⟨0, ![]⟩

class Facts : Prop where
  bcast_S_S2x4x8192x128 : S_.BroadcastsInDim S2x4x8192x128 (![] : Fin 0 → Fin S2x4x8192x128.rank)
  reducesTo_S2x4x8192x128_S_d0_1_2_3 : S2x4x8192x128.ReducesTo [0, 1, 2, 3] S_
  h_S_ : 0 < S_.numel
  bcast_S_S2x2x8448x128 : S_.BroadcastsInDim S2x2x8448x128 (![] : Fin 0 → Fin S2x2x8448x128.rank)
  reducesTo_S2x2x8448x128_S_d0_1_2_3 : S2x2x8448x128.ReducesTo [0, 1, 2, 3] S_

variable [Facts]

def fn {F : FTy → Type} [FloatOps F] (main_arg0 : FVec F S2x4x8192x128 .f32) (main_arg1 : FVec F S2x2x8448x128 .f32) (main_arg2 : FVec F S2x2x8448x128 .f32) : IVec S_ 1 :=
  let main_v0 : FVec F S2x4x8192x128 .f32 := Host.absf main_arg0
  let main_cst : FVec F S_ .f32 := constant S_ .f32 0x7F800000#32
  let main_v1 : FVec F S2x4x8192x128 .f32 := broadcastInDim S2x4x8192x128 ![] bcast_S_S2x4x8192x128 main_cst
  let main_v2 : IVec S2x4x8192x128 1 := cmpf .olt main_v0 main_v1
  let main_c : IVec S_ 1 := constantI S_ 1 1#1
  let main_v3 : IVec S_ 1 := (fun x v => Host.reduce IntOp.andi x v reducesTo_S2x4x8192x128_S_d0_1_2_3 h_S_) main_v2 main_c
  let main_v4 : FVec F S2x2x8448x128 .f32 := Host.absf main_arg1
  let main_cst_0 : FVec F S_ .f32 := constant S_ .f32 0x7F800000#32
  let main_v5 : FVec F S2x2x8448x128 .f32 := broadcastInDim S2x2x8448x128 ![] bcast_S_S2x2x8448x128 main_cst_0
  let main_v6 : IVec S2x2x8448x128 1 := cmpf .olt main_v4 main_v5
  let main_c_1 : IVec S_ 1 := constantI S_ 1 1#1
  let main_v7 : IVec S_ 1 := (fun x v => Host.reduce IntOp.andi x v reducesTo_S2x2x8448x128_S_d0_1_2_3 h_S_) main_v6 main_c_1
  let main_v8 : IVec S_ 1 := andi main_v3 main_v7
  main_v8
-- ==== Pre_routing_finite.lean ====
abbrev S2x8192x1024 : Shape := ⟨3, ![2, 8192, 1024]⟩
abbrev S1024 : Shape := ⟨1, ![1024]⟩
abbrev S2x1024 : Shape := ⟨2, ![2, 1024]⟩
abbrev S1024x8 : Shape := ⟨2, ![1024, 8]⟩
abbrev S8x1024x3584 : Shape := ⟨3, ![8, 1024, 3584]⟩
abbrev S8x3584x1024 : Shape := ⟨3, ![8, 3584, 1024]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S2x1024 : S_.BroadcastsInDim S2x1024 (![] : Fin 0 → Fin S2x1024.rank)
  reducesTo_S2x1024_S_d0_1 : S2x1024.ReducesTo [0, 1] S_
  bcast_S_S1024x8 : S_.BroadcastsInDim S1024x8 (![] : Fin 0 → Fin S1024x8.rank)
  reducesTo_S1024x8_S_d0_1 : S1024x8.ReducesTo [0, 1] S_

variable [Facts]

def fn_part1 {F : FTy → Type} [FloatOps F] (main_v13 : IVec S_ 1) (main_v16 : IVec S1024x8 1) : IVec S_ 1 :=
  let main_c_5 : IVec S_ 1 := constantI S_ 1 1#1
  let main_v17 : IVec S_ 1 := (fun x v => Host.reduce IntOp.andi x v reducesTo_S1024x8_S_d0_1 h_S_) main_v16 main_c_5
  let main_v18 : IVec S_ 1 := andi main_v13 main_v17
  main_v18

def fn {F : FTy → Type} [FloatOps F] (main_arg0 : FVec F S2x8192x1024 .f32) (main_arg1 : FVec F S1024 .f32) (main_arg2 : FVec F S2x1024 .f32) (main_arg3 : FVec F S2x1024 .f32) (main_arg4 : FVec F S1024x8 .f32) (main_arg5 : FVec F S8x1024x3584 .f32) (main_arg6 : FVec F S8x1024x3584 .f32) (main_arg7 : FVec F S8x3584x1024 .f32) (main_arg8 : FVec F S1024 .f32) (main_arg9 : FVec F S2x1024 .f32) : IVec S_ 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S2x1024 .f32 := Host.absf main_arg2
  let main_cst_0 : FVec F S_ .f32 := constant S_ .f32 0x7F800000#32
  let main_v5 : FVec F S2x1024 .f32 := broadcastInDim S2x1024 ![] bcast_S_S2x1024 main_cst_0
  let main_v6 : IVec S2x1024 1 := cmpf .olt main_v4 main_v5
  let main_c_1 : IVec S_ 1 := constantI S_ 1 1#1
  let main_v7 : IVec S_ 1 := (fun x v => Host.reduce IntOp.andi x v reducesTo_S2x1024_S_d0_1 h_S_) main_v6 main_c_1
  let main_v8 : IVec S_ 1 := andi main_v3 main_v7
  let main_v9 : FVec F S2x1024 .f32 := Host.absf main_arg3
  let main_cst_2 : FVec F S_ .f32 := constant S_ .f32 0x7F800000#32
  let main_v10 : FVec F S2x1024 .f32 := broadcastInDim S2x1024 ![] bcast_S_S2x1024 main_cst_2
  let main_v11 : IVec S2x1024 1 := cmpf .olt main_v9 main_v10
  let main_c_3 : IVec S_ 1 := constantI S_ 1 1#1
  let main_v12 : IVec S_ 1 := (fun x v => Host.reduce IntOp.andi x v reducesTo_S2x1024_S_d0_1 h_S_) main_v11 main_c_3
  let main_v13 : IVec S_ 1 := andi main_v8 main_v12
  let main_v14 : FVec F S1024x8 .f32 := Host.absf main_arg4
  let main_cst_4 : FVec F S_ .f32 := constant S_ .f32 0x7F800000#32
  let main_v15 : FVec F S1024x8 .f32 := broadcastInDim S1024x8 ![] bcast_S_S1024x8 main_cst_4
  let main_v16 : IVec S1024x8 1 := cmpf .olt main_v14 main_v15
  fn_part1 (F := F) main_v13 main_v16
-- ==== Kernel.lean ====
abbrev S2x8192x1024 : Shape := ⟨3, ![2, 8192, 1024]⟩
abbrev S1024 : Shape := ⟨1, ![1024]⟩
abbrev S2x1024 : Shape := ⟨2, ![2, 1024]⟩
abbrev S1024x8 : Shape := ⟨2, ![1024, 8]⟩
abbrev S8x1024x3584 : Shape := ⟨3, ![8, 1024, 3584]⟩
abbrev S8x3584x1024 : Shape := ⟨3, ![8, 3584, 1024]⟩
abbrev S_ : Shape := ⟨0, ![]⟩
abbrev S1024x128 : Shape := ⟨2, ![1024, 128]⟩
abbrev S1 : Shape := ⟨1, ![1]⟩
abbrev S1x1024 : Shape := ⟨2, ![1, 1024]⟩
abbrev S2x1x1024 : Shape := ⟨3, ![2, 1, 1024]⟩
abbrev S1x1024x1024 : Shape := ⟨3, ![1, 1024, 1024]⟩
abbrev S1x1x1024 : Shape := ⟨3, ![1, 1, 1024]⟩
abbrev S1x1024x512 : Shape := ⟨3, ![1, 1024, 512]⟩
abbrev S1x512x1024 : Shape := ⟨3, ![1, 512, 1024]⟩
abbrev S1024x1024 : Shape := ⟨2, ![1024, 1024]⟩
abbrev S1024x1 : Shape := ⟨2, ![1024, 1]⟩
abbrev S1024x512 : Shape := ⟨2, ![1024, 512]⟩
abbrev S512x1024 : Shape := ⟨2, ![512, 1024]⟩

abbrev nBuf : Space → Nat
  | .hbm => 24
  | .vmem => 22
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S2x1024, .f32⟩
  | .hbm, ⟨3, _⟩ => ⟨S2x1024, .f32⟩
  | .hbm, ⟨4, _⟩ => ⟨S1024x8, .f32⟩
  | .hbm, ⟨5, _⟩ => ⟨S8x1024x3584, .f32⟩
  | .hbm, ⟨6, _⟩ => ⟨S8x1024x3584, .f32⟩
  | .hbm, ⟨7, _⟩ => ⟨S8x3584x1024, .f32⟩
  | .hbm, ⟨8, _⟩ => ⟨S1024, .f32⟩
  | .hbm, ⟨9, _⟩ => ⟨S2x1024, .f32⟩
  | .hbm, ⟨10, _⟩ => ⟨S8x1024x3584, .bf16⟩
  | .hbm, ⟨11, _⟩ => ⟨S8x1024x3584, .bf16⟩
  | .hbm, ⟨12, _⟩ => ⟨S8x3584x1024, .bf16⟩
  | .hbm, ⟨13, _⟩ => ⟨S_, .f32⟩
  | .hbm, ⟨14, _⟩ => ⟨S1024x128, .f32⟩
  | .hbm, ⟨15, _⟩ => ⟨S_, .i32⟩
  | .hbm, ⟨16, _⟩ => ⟨S1, .i32⟩
  | .hbm, ⟨17, _⟩ => ⟨S1024x128, .f32⟩
  | .hbm, ⟨18, _⟩ => ⟨S1x1024, .f32⟩
  | .hbm, ⟨19, _⟩ => ⟨S2x1x1024, .f32⟩
  | .hbm, ⟨20, _⟩ => ⟨S2x1x1024, .f32⟩
  | .hbm, ⟨21, _⟩ => ⟨S1x1024, .f32⟩
  | .hbm, ⟨22, _⟩ => ⟨S2x1x1024, .f32⟩
  | .hbm, ⟨23, _⟩ => ⟨S2x8192x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x128, .f32⟩
  | .local _ .vmem, ⟨8, _⟩ => ⟨S1x1024x512, .bf16⟩
  | .local _ .vmem, ⟨9, _⟩ => ⟨S1x1024x512, .bf16⟩
  | .local _ .vmem, ⟨10, _⟩ => ⟨S1x1024x512, .bf16⟩
  | .local _ .vmem, ⟨11, _⟩ => ⟨S1x1024x512, .bf16⟩
  | .local _ .vmem, ⟨12, _⟩ => ⟨S1x512x1024, .bf16⟩
  | .local _ .vmem, ⟨13, _⟩ => ⟨S1x512x1024, .bf16⟩
  | .local _ .vmem, ⟨14, _⟩ => ⟨S1x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x1024x1024, .f32⟩
  | .local _ .vmem, ⟨18, _⟩ => ⟨S1x1024x1024, .f32⟩
  | .local _ .vmem, ⟨19, _⟩ => ⟨S1024x1024, .bf16⟩
  | .local _ .vmem, ⟨20, _⟩ => ⟨S1024x128, .f32⟩
  | .local _ .vmem, ⟨21, _⟩ => ⟨S1024x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨4, ![2, 8, 8, 7], ![false, false, false, false]⟩

def k0_cond2 (i : grid0.Coords) : BitVec 1 :=
  let arg2 : BitVec 32 := BitVec.ofNat 32 (i 2).val
  let c7_i32 : BitVec 32 := 7#32
  let v40 : BitVec 1 := Scalar.cmpi .eq arg2 c7_i32
  let arg3 : BitVec 32 := BitVec.ofNat 32 (i 3).val
  let c6_i32 : BitVec 32 := 6#32
  let v41 : BitVec 1 := Scalar.cmpi .eq arg3 c6_i32
  let v42 : BitVec 1 := Scalar.andi v40 v41
  let v43 : BitVec 32 := Scalar.extui v42
  let c0_i32_25 : BitVec 32 := 0#32
  let v44 : BitVec 1 := Scalar.cmpi .ne v43 c0_i32_25
  v44

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg2.toNat, c0_i32.toNat, arg3.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg2.toNat, c0_i32.toNat, arg3.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg2.toNat, arg3.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false, false]

abbrev stage0_4 : Fin 1 → Memref sig .tc .vmem S1024x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false, false]

abbrev stage0_5 : Fin 2 → Memref sig .tc .vmem S1x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true, true]

abbrev stage0_6 : Fin 2 → Memref sig .tc .vmem S1x1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true, true]

abbrev stage0_7 : Fin 2 → Memref sig .tc .vmem S1x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, false, true, true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false, false]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false, false, false]

abbrev stage0_10 : Fin 2 → Memref sig .tc .vmem S1x1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false, false]
-- ==== ReferenceIdeal.lean ====
abbrev S2x8192x1024 : Shape := ⟨3, ![2, 8192, 1024]⟩
abbrev S1024 : Shape := ⟨1, ![1024]⟩
abbrev S2x1024 : Shape := ⟨2, ![2, 1024]⟩
abbrev S1024x8 : Shape := ⟨2, ![1024, 8]⟩
abbrev S8x1024x3584 : Shape := ⟨3, ![8, 1024, 3584]⟩
abbrev S8x3584x1024 : Shape := ⟨3, ![8, 3584, 1024]⟩
abbrev S2x1x1024 : Shape := ⟨3, ![2, 1, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x8 : Shape := ⟨3, ![2, 8192, 8]⟩
abbrev S2x8192x2 : Shape := ⟨3, ![2, 8192, 2]⟩
abbrev S2x8192x2x1 : Shape := ⟨4, ![2, 8192, 2, 1]⟩
abbrev S1x1x1x8 : Shape := ⟨4, ![1, 1, 1, 8]⟩
abbrev S2x8192x2x8 : Shape := ⟨4, ![2, 8192, 2, 8]⟩
abbrev S1x1024x3584 : Shape := ⟨3, ![1, 1024, 3584]⟩
abbrev S1024x3584 : Shape := ⟨2, ![1024, 3584]⟩
abbrev S1x3584x1024 : Shape := ⟨3, ![1, 3584, 1024]⟩
abbrev S3584x1024 : Shape := ⟨2, ![3584, 1024]⟩
abbrev S2x8192x3584 : Shape := ⟨3, ![2, 8192, 3584]⟩

abbrev nBuf : Space → Nat
  | .hbm => 265
  | .vmem => 0
  | .smem => 0
  | _ => 0

abbrev hbmTy0_0 (i : Nat) : BufTy := match i % 128 with
  | 0 => ⟨S2x8192x1024, .f32⟩
  | 1 => ⟨S1024, .f32⟩
  | 2 => ⟨S2x1024, .f32⟩
  | 3 => ⟨S2x1024, .f32⟩
  | 4 => ⟨S1024x8, .f32⟩
  | 5 => ⟨S8x1024x3584, .f32⟩
  | 6 => ⟨S8x1024x3584, .f32⟩
  | 7 => ⟨S8x3584x1024, .f32⟩
  | 8 => ⟨S1024, .f32⟩
  | 9 => ⟨S2x1024, .f32⟩
  | 10 => ⟨S2x1x1024, .f32⟩
  | 11 => ⟨S2x1x1024, .f32⟩
  | 12 => ⟨S2x1x1024, .f32⟩
  | 13 => ⟨S2x8192x1024, .f32⟩
  | 14 => ⟨S_, .f32⟩
  | 15 => ⟨S2x8192, .f32⟩
  | 16 => ⟨S2x8192x1, .f32⟩
  | 17 => ⟨S_, .f32⟩
  | 18 => ⟨S2x8192x1, .f32⟩
  | 19 => ⟨S2x8192x1, .f32⟩
  | 20 => ⟨S_, .f32⟩
  | 21 => ⟨S2x8192x1, .f32⟩
  | 22 => ⟨S2x8192x1, .f32⟩
  | 23 => ⟨S2x8192x1, .f32⟩
  | 24 => ⟨S2x8192x1024, .f32⟩
  | 25 => ⟨S2x8192x1024, .f32⟩
  | 26 => ⟨S1x1x1024, .f32⟩
  | 27 => ⟨S2x8192x1024, .f32⟩
  | 28 => ⟨S2x8192x1024, .f32⟩
  | 29 => ⟨S_, .f32⟩
  | 30 => ⟨S2x1x1024, .f32⟩
  | 31 => ⟨S2x1x1024, .f32⟩
  | 32 => ⟨S2x8192x1024, .f32⟩
  | 33 => ⟨S2x8192x1024, .f32⟩
  | 34 => ⟨S2x8192x1024, .f32⟩
  | 35 => ⟨S2x8192x1024, .f32⟩
  | 36 => ⟨S2x8192x8, .f32⟩
  | 37 => ⟨S2x8192x2, .f32⟩
  | 38 => ⟨S2x8192x2, .i32⟩
  | 39 => ⟨S_, .f32⟩
  | 40 => ⟨S2x8192, .f32⟩
  | 41 => ⟨S_, .f32⟩
  | 42 => ⟨S2x8192, .f32⟩
  | 43 => ⟨S2x8192, .f32⟩
  | 44 => ⟨S2x8192x1, .f32⟩
  | 45 => ⟨S2x8192x2, .f32⟩
  | 46 => ⟨S2x8192x2, .f32⟩
  | 47 => ⟨S2x8192x2, .f32⟩
  | 48 => ⟨S_, .f32⟩
  | 49 => ⟨S2x8192, .f32⟩
  | 50 => ⟨S2x8192x1, .f32⟩
  | 51 => ⟨S2x8192x2, .f32⟩
  | 52 => ⟨S2x8192x2, .f32⟩
  | 53 => ⟨S2x8192x2x1, .i32⟩
  | 54 => ⟨S1x1x1x8, .i32⟩
  | 55 => ⟨S2x8192x2x8, .i32⟩
  | 56 => ⟨S2x8192x2x8, .i32⟩
  | 57 => ⟨S2x8192x2x8, .i1⟩
  | 58 => ⟨S2x8192x2x8, .f32⟩
  | 59 => ⟨S2x8192x8, .f32⟩
  | 60 => ⟨S_, .f32⟩
  | 61 => ⟨S2x8192x1024, .f32⟩
  | 62 => ⟨S2x8192x1, .f32⟩
  | 63 => ⟨S1x1024x3584, .f32⟩
  | 64 => ⟨S1024x3584, .f32⟩
  | 65 => ⟨S1x1024x3584, .f32⟩
  | 66 => ⟨S1024x3584, .f32⟩
  | 67 => ⟨S1x3584x1024, .f32⟩
  | 68 => ⟨S3584x1024, .f32⟩
  | 69 => ⟨S2x8192x3584, .f32⟩
  | 70 => ⟨S2x8192x3584, .f32⟩
  | 71 => ⟨S2x8192x3584, .f32⟩
  | 72 => ⟨S_, .f32⟩
  | 73 => ⟨S2x8192x3584, .f32⟩
  | 74 => ⟨S2x8192x3584, .f32⟩
  | 75 => ⟨S_, .f32⟩
  | 76 => ⟨S2x8192x3584, .f32⟩
  | 77 => ⟨S2x8192x3584, .f32⟩
  | 78 => ⟨S2x8192x3584, .f32⟩
  | 79 => ⟨S2x8192x3584, .f32⟩
  | 80 => ⟨S2x8192x3584, .f32⟩
  | 81 => ⟨S2x8192x1024, .f32⟩
  | 82 => ⟨S2x8192x1024, .f32⟩
  | 83 => ⟨S2x8192x1024, .f32⟩
  | 84 => ⟨S2x8192x1024, .f32⟩
  | 85 => ⟨S2x8192x1, .f32⟩
  | 86 => ⟨S1x1024x3584, .f32⟩
  | 87 => ⟨S1024x3584, .f32⟩
  | 88 => ⟨S1x1024x3584, .f32⟩
  | 89 => ⟨S1024x3584, .f32⟩
  | 90 => ⟨S1x3584x1024, .f32⟩
  | 91 => ⟨S3584x1024, .f32⟩
  | 92 => ⟨S2x8192x3584, .f32⟩
  | 93 => ⟨S2x8192x3584, .f32⟩
  | 94 => ⟨S2x8192x3584, .f32⟩
  | 95 => ⟨S_, .f32⟩
  | 96 => ⟨S2x8192x3584, .f32⟩
  | 97 => ⟨S2x8192x3584, .f32⟩
  | 98 => ⟨S_, .f32⟩
  | 99 => ⟨S2x8192x3584, .f32⟩
  | 100 => ⟨S2x8192x3584, .f32⟩
  | 101 => ⟨S2x8192x3584, .f32⟩
  | 102 => ⟨S2x8192x3584, .f32⟩
  | 103 => ⟨S2x8192x3584, .f32⟩
  | 104 => ⟨S2x8192x1024, .f32⟩
  | 105 => ⟨S2x8192x1024, .f32⟩
  | 106 => ⟨S2x8192x1024, .f32⟩
  | 107 => ⟨S2x8192x1024, .f32⟩
  | 108 => ⟨S2x8192x1, .f32⟩
  | 109 => ⟨S1x1024x3584, .f32⟩
  | 110 => ⟨S1024x3584, .f32⟩
  | 111 => ⟨S1x1024x3584, .f32⟩
  | 112 => ⟨S1024x3584, .f32⟩
  | 113 => ⟨S1x3584x1024, .f32⟩
  | 114 => ⟨S3584x1024, .f32⟩
  | 115 => ⟨S2x8192x3584, .f32⟩
  | 116 => ⟨S2x8192x3584, .f32⟩
  | 117 => ⟨S2x8192x3584, .f32⟩
  | 118 => ⟨S_, .f32⟩
  | 119 => ⟨S2x8192x3584, .f32⟩
  | 120 => ⟨S2x8192x3584, .f32⟩
  | 121 => ⟨S_, .f32⟩
  | 122 => ⟨S2x8192x3584, .f32⟩
  | 123 => ⟨S2x8192x3584, .f32⟩
  | 124 => ⟨S2x8192x3584, .f32⟩
  | 125 => ⟨S2x8192x3584, .f32⟩
  | 126 => ⟨S2x8192x3584, .f32⟩
  | 127 => ⟨S2x8192x1024, .f32⟩
  | _ => ⟨S2x8192x1024, .f32⟩

abbrev hbmTy0_1 (i : Nat) : BufTy := match i % 128 with
  | 0 => ⟨S2x8192x1024, .f32⟩
  | 1 => ⟨S2x8192x1024, .f32⟩
  | 2 => ⟨S2x8192x1024, .f32⟩
  | 3 => ⟨S2x8192x1, .f32⟩
  | 4 => ⟨S1x1024x3584, .f32⟩
  | 5 => ⟨S1024x3584, .f32⟩
  | 6 => ⟨S1x1024x3584, .f32⟩
  | 7 => ⟨S1024x3584, .f32⟩
  | 8 => ⟨S1x3584x1024, .f32⟩
  | 9 => ⟨S3584x1024, .f32⟩
  | 10 => ⟨S2x8192x3584, .f32⟩
  | 11 => ⟨S2x8192x3584, .f32⟩
  | 12 => ⟨S2x8192x3584, .f32⟩
  | 13 => ⟨S_, .f32⟩
  | 14 => ⟨S2x8192x3584, .f32⟩
  | 15 => ⟨S2x8192x3584, .f32⟩
  | 16 => ⟨S_, .f32⟩
  | 17 => ⟨S2x8192x3584, .f32⟩
  | 18 => ⟨S2x8192x3584, .f32⟩
  | 19 => ⟨S2x8192x3584, .f32⟩
  | 20 => ⟨S2x8192x3584, .f32⟩
  | 21 => ⟨S2x8192x3584, .f32⟩
  | 22 => ⟨S2x8192x1024, .f32⟩
  | 23 => ⟨S2x8192x1024, .f32⟩
  | 24 => ⟨S2x8192x1024, .f32⟩
  | 25 => ⟨S2x8192x1024, .f32⟩
  | 26 => ⟨S2x8192x1, .f32⟩
  | 27 => ⟨S1x1024x3584, .f32⟩
  | 28 => ⟨S1024x3584, .f32⟩
  | 29 => ⟨S1x1024x3584, .f32⟩
  | 30 => ⟨S1024x3584, .f32⟩
  | 31 => ⟨S1x3584x1024, .f32⟩
  | 32 => ⟨S3584x1024, .f32⟩
  | 33 => ⟨S2x8192x3584, .f32⟩
  | 34 => ⟨S2x8192x3584, .f32⟩
  | 35 => ⟨S2x8192x3584, .f32⟩
  | 36 => ⟨S_, .f32⟩
  | 37 => ⟨S2x8192x3584, .f32⟩
  | 38 => ⟨S2x8192x3584, .f32⟩
  | 39 => ⟨S_, .f32⟩
  | 40 => ⟨S2x8192x3584, .f32⟩
  | 41 => ⟨S2x8192x3584, .f32⟩
  | 42 => ⟨S2x8192x3584, .f32⟩
  | 43 => ⟨S2x8192x3584, .f32⟩
  | 44 => ⟨S2x8192x3584, .f32⟩
  | 45 => ⟨S2x8192x1024, .f32⟩
  | 46 => ⟨S2x8192x1024, .f32⟩
  | 47 => ⟨S2x8192x1024, .f32⟩
  | 48 => ⟨S2x8192x1024, .f32⟩
  | 49 => ⟨S2x8192x1, .f32⟩
  | 50 => ⟨S1x1024x3584, .f32⟩
  | 51 => ⟨S1024x3584, .f32⟩
  | 52 => ⟨S1x1024x3584, .f32⟩
  | 53 => ⟨S1024x3584, .f32⟩
  | 54 => ⟨S1x3584x1024, .f32⟩
  | 55 => ⟨S3584x1024, .f32⟩
  | 56 => ⟨S2x8192x3584, .f32⟩
  | 57 => ⟨S2x8192x3584, .f32⟩
  | 58 => ⟨S2x8192x3584, .f32⟩
  | 59 => ⟨S_, .f32⟩
  | 60 => ⟨S2x8192x3584, .f32⟩
  | 61 => ⟨S2x8192x3584, .f32⟩
  | 62 => ⟨S_, .f32⟩
  | 63 => ⟨S2x8192x3584, .f32⟩
  | 64 => ⟨S2x8192x3584, .f32⟩
  | 65 => ⟨S2x8192x3584, .f32⟩
  | 66 => ⟨S2x8192x3584, .f32⟩
  | 67 => ⟨S2x8192x3584, .f32⟩
  | 68 => ⟨S2x8192x1024, .f32⟩
  | 69 => ⟨S2x8192x1024, .f32⟩
  | 70 => ⟨S2x8192x1024, .f32⟩
  | 71 => ⟨S2x8192x1024, .f32⟩
  | 72 => ⟨S2x8192x1, .f32⟩
  | 73 => ⟨S1x1024x3584, .f32⟩
  | 74 => ⟨S1024x3584, .f32⟩
  | 75 => ⟨S1x1024x3584, .f32⟩
  | 76 => ⟨S1024x3584, .f32⟩
  | 77 => ⟨S1x3584x1024, .f32⟩
  | 78 => ⟨S3584x1024, .f32⟩
  | 79 => ⟨S2x8192x3584, .f32⟩
  | 80 => ⟨S2x8192x3584, .f32⟩
  | 81 => ⟨S2x8192x3584, .f32⟩
  | 82 => ⟨S_, .f32⟩
  | 83 => ⟨S2x8192x3584, .f32⟩
  | 84 => ⟨S2x8192x3584, .f32⟩
  | 85 => ⟨S_, .f32⟩
  | 86 => ⟨S2x8192x3584, .f32⟩
  | 87 => ⟨S2x8192x3584, .f32⟩
  | 88 => ⟨S2x8192x3584, .f32⟩
  | 89 => ⟨S2x8192x3584, .f32⟩
  | 90 => ⟨S2x8192x3584, .f32⟩
  | 91 => ⟨S2x8192x1024, .f32⟩
  | 92 => ⟨S2x8192x1024, .f32⟩
  | 93 => ⟨S2x8192x1024, .f32⟩
  | 94 => ⟨S2x8192x1024, .f32⟩
  | 95 => ⟨S2x8192x1, .f32⟩
  | 96 => ⟨S1x1024x3584, .f32⟩
  | 97 => ⟨S1024x3584, .f32⟩
  | 98 => ⟨S1x1024x3584, .f32⟩
  | 99 => ⟨S1024x3584, .f32⟩
  | 100 => ⟨S1x3584x1024, .f32⟩
  | 101 => ⟨S3584x1024, .f32⟩
  | 102 => ⟨S2x8192x3584, .f32⟩
  | 103 => ⟨S2x8192x3584, .f32⟩
  | 104 => ⟨S2x8192x3584, .f32⟩
  | 105 => ⟨S_, .f32⟩
  | 106 => ⟨S2x8192x3584, .f32⟩
  | 107 => ⟨S2x8192x3584, .f32⟩
  | 108 => ⟨S_, .f32⟩
  | 109 => ⟨S2x8192x3584, .f32⟩
  | 110 => ⟨S2x8192x3584, .f32⟩
  | 111 => ⟨S2x8192x3584, .f32⟩
  | 112 => ⟨S2x8192x3584, .f32⟩
  | 113 => ⟨S2x8192x3584, .f32⟩
  | 114 => ⟨S2x8192x1024, .f32⟩
  | 115 => ⟨S2x8192x1024, .f32⟩
  | 116 => ⟨S2x8192x1024, .f32⟩
  | 117 => ⟨S2x8192x1024, .f32⟩
  | 118 => ⟨S2x8192x1024, .f32⟩
  | 119 => ⟨S_, .f32⟩
  | 120 => ⟨S2x8192, .f32⟩
  | 121 => ⟨S2x8192x1, .f32⟩
  | 122 => ⟨S_, .f32⟩
  | 123 => ⟨S2x8192x1, .f32⟩
  | 124 => ⟨S2x8192x1, .f32⟩
  | 125 => ⟨S_, .f32⟩
  | 126 => ⟨S2x8192x1, .f32⟩
  | 127 => ⟨S2x8192x1, .f32⟩
  | _ => ⟨S2x8192x1024, .f32⟩

abbrev hbmTy0_2 (i : Nat) : BufTy := match i % 128 with
  | 0 => ⟨S2x8192x1, .f32⟩
  | 1 => ⟨S2x8192x1024, .f32⟩
  | 2 => ⟨S2x8192x1024, .f32⟩
  | 3 => ⟨S1x1x1024, .f32⟩
  | 4 => ⟨S2x8192x1024, .f32⟩
  | 5 => ⟨S2x8192x1024, .f32⟩
  | 6 => ⟨S2x8192x1024, .f32⟩
  | 7 => ⟨S2x8192x1024, .f32⟩
  | 8 => ⟨S2x8192x1024, .f32⟩
  | _ => ⟨S2x8192x1024, .f32⟩

abbrev hbmTy (i : Nat) : BufTy := match i / 128 with
  | 0 => hbmTy0_0 i
  | 1 => hbmTy0_1 i
  | 2 => hbmTy0_2 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_values : Ref sig .tc := ⟨.hbm, 37, rfl⟩
abbrev main_indices : Ref sig .tc := ⟨.hbm, 38, rfl⟩
abbrev main_cst_3 : Ref sig .tc := ⟨.hbm, 39, rfl⟩
abbrev main_v23 : Ref sig .tc := ⟨.hbm, 40, rfl⟩
abbrev main_cst_4 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_5 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_call0_v0 : Ref sig .tc := ⟨.hbm, 53, rfl⟩
abbrev main_call0_v1 : Ref sig .tc := ⟨.hbm, 54, rfl⟩
abbrev main_call0_v2 : Ref sig .tc := ⟨.hbm, 55, rfl⟩
abbrev main_call0_v3 : Ref sig .tc := ⟨.hbm, 56, rfl⟩
abbrev main_call0_v4 : Ref sig .tc := ⟨.hbm, 57, rfl⟩
abbrev main_v34 : Ref sig .tc := ⟨.hbm, 58, rfl⟩
abbrev main_v35 : Ref sig .tc := ⟨.hbm, 59, rfl⟩
abbrev main_cst_6 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_call1_v0 : Ref sig .tc := ⟨.hbm, 70, rfl⟩
abbrev main_call1_v1 : Ref sig .tc := ⟨.hbm, 71, rfl⟩
abbrev main_call1_cst : Ref sig .tc := ⟨.hbm, 72, rfl⟩
abbrev main_call1_v2 : Ref sig .tc := ⟨.hbm, 73, rfl⟩
abbrev main_call1_v3 : Ref sig .tc := ⟨.hbm, 74, rfl⟩
abbrev main_call1_cst_0 : Ref sig .tc := ⟨.hbm, 75, rfl⟩
abbrev main_call1_v4 : Ref sig .tc := ⟨.hbm, 76, rfl⟩
abbrev main_call1_v5 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_call2_v0 : Ref sig .tc := ⟨.hbm, 93, rfl⟩
abbrev main_call2_v1 : Ref sig .tc := ⟨.hbm, 94, rfl⟩
abbrev main_call2_cst : Ref sig .tc := ⟨.hbm, 95, rfl⟩
abbrev main_call2_v2 : Ref sig .tc := ⟨.hbm, 96, rfl⟩
abbrev main_call2_v3 : Ref sig .tc := ⟨.hbm, 97, rfl⟩
abbrev main_call2_cst_0 : Ref sig .tc := ⟨.hbm, 98, rfl⟩
abbrev main_call2_v4 : Ref sig .tc := ⟨.hbm, 99, rfl⟩
abbrev main_call2_v5 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_call3_v0 : Ref sig .tc := ⟨.hbm, 116, rfl⟩
abbrev main_call3_v1 : Ref sig .tc := ⟨.hbm, 117, rfl⟩
abbrev main_call3_cst : Ref sig .tc := ⟨.hbm, 118, rfl⟩
abbrev main_call3_v2 : Ref sig .tc := ⟨.hbm, 119, rfl⟩
abbrev main_call3_v3 : Ref sig .tc := ⟨.hbm, 120, rfl⟩
abbrev main_call3_cst_0 : Ref sig .tc := ⟨.hbm, 121, rfl⟩
abbrev main_call3_v4 : Ref sig .tc := ⟨.hbm, 122, rfl⟩
abbrev main_call3_v5 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_call4_v0 : Ref sig .tc := ⟨.hbm, 139, rfl⟩
abbrev main_call4_v1 : Ref sig .tc := ⟨.hbm, 140, rfl⟩
abbrev main_call4_cst : Ref sig .tc := ⟨.hbm, 141, rfl⟩
abbrev main_call4_v2 : Ref sig .tc := ⟨.hbm, 142, rfl⟩
abbrev main_call4_v3 : Ref sig .tc := ⟨.hbm, 143, rfl⟩
abbrev main_call4_cst_0 : Ref sig .tc := ⟨.hbm, 144, rfl⟩
abbrev main_call4_v4 : Ref sig .tc := ⟨.hbm, 145, rfl⟩
abbrev main_call4_v5 : Ref sig .tc := ⟨.hbm, 146, rfl⟩
abbrev main_v90 : Ref sig .tc := ⟨.hbm, 147, rfl⟩
abbrev main_v91 : Ref sig .tc := ⟨.hbm, 148, rfl⟩
abbrev main_v92 : Ref sig .tc := ⟨.hbm, 149, rfl⟩
abbrev main_v93 : Ref sig .tc := ⟨.hbm, 150, rfl⟩
abbrev main_v94 : Ref sig .tc := ⟨.hbm, 151, rfl⟩
abbrev main_v95 : Ref sig .tc := ⟨.hbm, 152, rfl⟩
abbrev main_v96 : Ref sig .tc := ⟨.hbm, 153, rfl⟩
abbrev main_v97 : Ref sig .tc := ⟨.hbm, 154, rfl⟩
abbrev main_v98 : Ref sig .tc := ⟨.hbm, 155, rfl⟩
abbrev main_v99 : Ref sig .tc := ⟨.hbm, 156, rfl⟩
abbrev main_v100 : Ref sig .tc := ⟨.hbm, 157, rfl⟩
abbrev main_v101 : Ref sig .tc := ⟨.hbm, 158, rfl⟩
abbrev main_v102 : Ref sig .tc := ⟨.hbm, 159, rfl⟩
abbrev main_v103 : Ref sig .tc := ⟨.hbm, 160, rfl⟩
abbrev main_v104 : Ref sig .tc := ⟨.hbm, 161, rfl⟩
abbrev main_call5_v0 : Ref sig .tc := ⟨.hbm, 162, rfl⟩
abbrev main_call5_v1 : Ref sig .tc := ⟨.hbm, 163, rfl⟩
abbrev main_call5_cst : Ref sig .tc := ⟨.hbm, 164, rfl⟩
abbrev main_call5_v2 : Ref sig .tc := ⟨.hbm, 165, rfl⟩
abbrev main_call5_v3 : Ref sig .tc := ⟨.hbm, 166, rfl⟩
abbrev main_call5_cst_0 : Ref sig .tc := ⟨.hbm, 167, rfl⟩
abbrev main_call5_v4 : Ref sig .tc := ⟨.hbm, 168, rfl⟩
abbrev main_call5_v5 : Ref sig .tc := ⟨.hbm, 169, rfl⟩
abbrev main_v105 : Ref sig .tc := ⟨.hbm, 170, rfl⟩
abbrev main_v106 : Ref sig .tc := ⟨.hbm, 171, rfl⟩
abbrev main_v107 : Ref sig .tc := ⟨.hbm, 172, rfl⟩
abbrev main_v108 : Ref sig .tc := ⟨.hbm, 173, rfl⟩
abbrev main_v109 : Ref sig .tc := ⟨.hbm, 174, rfl⟩
abbrev main_v110 : Ref sig .tc := ⟨.hbm, 175, rfl⟩
abbrev main_v111 : Ref sig .tc := ⟨.hbm, 176, rfl⟩
abbrev main_v112 : Ref sig .tc := ⟨.hbm, 177, rfl⟩
abbrev main_v113 : Ref sig .tc := ⟨.hbm, 178, rfl⟩
abbrev main_v114 : Ref sig .tc := ⟨.hbm, 179, rfl⟩
abbrev main_v115 : Ref sig .tc := ⟨.hbm, 180, rfl⟩
abbrev main_v116 : Ref sig .tc := ⟨.hbm, 181, rfl⟩
abbrev main_v117 : Ref sig .tc := ⟨.hbm, 182, rfl⟩
abbrev main_v118 : Ref sig .tc := ⟨.hbm, 183, rfl⟩
abbrev main_v119 : Ref sig .tc := ⟨.hbm, 184, rfl⟩
abbrev main_call6_v0 : Ref sig .tc := ⟨.hbm, 185, rfl⟩
abbrev main_call6_v1 : Ref sig .tc := ⟨.hbm, 186, rfl⟩
abbrev main_call6_cst : Ref sig .tc := ⟨.hbm, 187, rfl⟩
abbrev main_call6_v2 : Ref sig .tc := ⟨.hbm, 188, rfl⟩
abbrev main_call6_v3 : Ref sig .tc := ⟨.hbm, 189, rfl⟩
abbrev main_call6_cst_0 : Ref sig .tc := ⟨.hbm, 190, rfl⟩
abbrev main_call6_v4 : Ref sig .tc := ⟨.hbm, 191, rfl⟩
abbrev main_call6_v5 : Ref sig .tc := ⟨.hbm, 192, rfl⟩
abbrev main_v120 : Ref sig .tc := ⟨.hbm, 193, rfl⟩
abbrev main_v121 : Ref sig .tc := ⟨.hbm, 194, rfl⟩
abbrev main_v122 : Ref sig .tc := ⟨.hbm, 195, rfl⟩
abbrev main_v123 : Ref sig .tc := ⟨.hbm, 196, rfl⟩
abbrev main_v124 : Ref sig .tc := ⟨.hbm, 197, rfl⟩
abbrev main_v125 : Ref sig .tc := ⟨.hbm, 198, rfl⟩
abbrev main_v126 : Ref sig .tc := ⟨.hbm, 199, rfl⟩
abbrev main_v127 : Ref sig .tc := ⟨.hbm, 200, rfl⟩
abbrev main_v128 : Ref sig .tc := ⟨.hbm, 201, rfl⟩
abbrev main_v129 : Ref sig .tc := ⟨.hbm, 202, rfl⟩
abbrev main_v130 : Ref sig .tc := ⟨.hbm, 203, rfl⟩
abbrev main_v131 : Ref sig .tc := ⟨.hbm, 204, rfl⟩
abbrev main_v132 : Ref sig .tc := ⟨.hbm, 205, rfl⟩
abbrev main_v133 : Ref sig .tc := ⟨.hbm, 206, rfl⟩
abbrev main_v134 : Ref sig .tc := ⟨.hbm, 207, rfl⟩
abbrev main_call7_v0 : Ref sig .tc := ⟨.hbm, 208, rfl⟩
abbrev main_call7_v1 : Ref sig .tc := ⟨.hbm, 209, rfl⟩
abbrev main_call7_cst : Ref sig .tc := ⟨.hbm, 210, rfl⟩
abbrev main_call7_v2 : Ref sig .tc := ⟨.hbm, 211, rfl⟩
abbrev main_call7_v3 : Ref sig .tc := ⟨.hbm, 212, rfl⟩
abbrev main_call7_cst_0 : Ref sig .tc := ⟨.hbm, 213, rfl⟩
abbrev main_call7_v4 : Ref sig .tc := ⟨.hbm, 214, rfl⟩
abbrev main_call7_v5 : Ref sig .tc := ⟨.hbm, 215, rfl⟩
abbrev main_v135 : Ref sig .tc := ⟨.hbm, 216, rfl⟩
abbrev main_v136 : Ref sig .tc := ⟨.hbm, 217, rfl⟩
abbrev main_v137 : Ref sig .tc := ⟨.hbm, 218, rfl⟩
abbrev main_v138 : Ref sig .tc := ⟨.hbm, 219, rfl⟩
abbrev main_v139 : Ref sig .tc := ⟨.hbm, 220, rfl⟩
abbrev main_v140 : Ref sig .tc := ⟨.hbm, 221, rfl⟩
abbrev main_v141 : Ref sig .tc := ⟨.hbm, 222, rfl⟩
abbrev main_v142 : Ref sig .tc := ⟨.hbm, 223, rfl⟩
abbrev main_v143 : Ref sig .tc := ⟨.hbm, 224, rfl⟩
abbrev main_v144 : Ref sig .tc := ⟨.hbm, 225, rfl⟩
abbrev main_v145 : Ref sig .tc := ⟨.hbm, 226, rfl⟩
abbrev main_v146 : Ref sig .tc := ⟨.hbm, 227, rfl⟩
abbrev main_v147 : Ref sig .tc := ⟨.hbm, 228, rfl⟩
abbrev main_v148 : Ref sig .tc := ⟨.hbm, 229, rfl⟩
abbrev main_v149 : Ref sig .tc := ⟨.hbm, 230, rfl⟩
abbrev main_call8_v0 : Ref sig .tc := ⟨.hbm, 231, rfl⟩
abbrev main_call8_v1 : Ref sig .tc := ⟨.hbm, 232, rfl⟩
abbrev main_call8_cst : Ref sig .tc := ⟨.hbm, 233, rfl⟩
abbrev main_call8_v2 : Ref sig .tc := ⟨.hbm, 234, rfl⟩
abbrev main_call8_v3 : Ref sig .tc := ⟨.hbm, 235, rfl⟩
abbrev main_call8_cst_0 : Ref sig .tc := ⟨.hbm, 236, rfl⟩
abbrev main_call8_v4 : Ref sig .tc := ⟨.hbm, 237, rfl⟩
abbrev main_call8_v5 : Ref sig .tc := ⟨.hbm, 238, rfl⟩
abbrev main_v150 : Ref sig .tc := ⟨.hbm, 239, rfl⟩
abbrev main_v151 : Ref sig .tc := ⟨.hbm, 240, rfl⟩
abbrev main_v152 : Ref sig .tc := ⟨.hbm, 241, rfl⟩
abbrev main_v153 : Ref sig .tc := ⟨.hbm, 242, rfl⟩
abbrev main_v154 : Ref sig .tc := ⟨.hbm, 243, rfl⟩
abbrev main_v155 : Ref sig .tc := ⟨.hbm, 244, rfl⟩
abbrev main_v156 : Ref sig .tc := ⟨.hbm, 245, rfl⟩
abbrev main_v157 : Ref sig .tc := ⟨.hbm, 246, rfl⟩
abbrev main_cst_7 : Ref sig .tc := ⟨.hbm, 247, rfl⟩
abbrev main_v158 : Ref sig .tc := ⟨.hbm, 248, rfl⟩
abbrev main_v159 : Ref sig .tc := ⟨.hbm, 249, rfl⟩
abbrev main_cst_8 : Ref sig .tc := ⟨.hbm, 250, rfl⟩
abbrev main_v160 : Ref sig .tc := ⟨.hbm, 251, rfl⟩
abbrev main_v161 : Ref sig .tc := ⟨.hbm, 252, rfl⟩
abbrev main_cst_9 : Ref sig .tc := ⟨.hbm, 253, rfl⟩
abbrev main_v162 : Ref sig .tc := ⟨.hbm, 254, rfl⟩
abbrev main_v163 : Ref sig .tc := ⟨.hbm, 255, rfl⟩
abbrev main_v164 : Ref sig .tc := ⟨.hbm, 256, rfl⟩
abbrev main_v165 : Ref sig .tc := ⟨.hbm, 257, rfl⟩
abbrev main_v166 : Ref sig .tc := ⟨.hbm, 258, rfl⟩
abbrev main_v167 : Ref sig .tc := ⟨.hbm, 259, rfl⟩
abbrev main_v168 : Ref sig .tc := ⟨.hbm, 260, rfl⟩
abbrev main_v169 : Ref sig .tc := ⟨.hbm, 261, rfl⟩
abbrev main_v170 : Ref sig .tc := ⟨.hbm, 262, rfl⟩
abbrev main_v171 : Ref sig .tc := ⟨.hbm, 263, rfl⟩
abbrev main_v172 : Ref sig .tc := ⟨.hbm, 264, rfl⟩

abbrev nD : Nat := 1
abbrev τ : Topo := Topo.v7x

variable {F : FTy → Type} [FloatOps F]
-- ==== Kernel2.lean ====
abbrev S2x8192x1024 : Shape := ⟨3, ![2, 8192, 1024]⟩
abbrev S1024 : Shape := ⟨1, ![1024]⟩
abbrev S2x1024 : Shape := ⟨2, ![2, 1024]⟩
abbrev S1024x2816 : Shape := ⟨2, ![1024, 2816]⟩
abbrev S2816x1024 : Shape := ⟨2, ![2816, 1024]⟩
abbrev S1x1024 : Shape := ⟨2, ![1, 1024]⟩
abbrev S2x1x1024 : Shape := ⟨3, ![2, 1, 1024]⟩
abbrev S1x1024x1024 : Shape := ⟨3, ![1, 1024, 1024]⟩
abbrev S1x1x1024 : Shape := ⟨3, ![1, 1, 1024]⟩
abbrev S1024x256 : Shape := ⟨2, ![1024, 256]⟩
abbrev S256x1024 : Shape := ⟨2, ![256, 1024]⟩
abbrev S1024x1024 : Shape := ⟨2, ![1024, 1024]⟩
abbrev S1024x1 : Shape := ⟨2, ![1024, 1]⟩

abbrev nBuf : Space → Nat
  | .hbm => 18
  | .vmem => 20
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S2x1024, .f32⟩
  | .hbm, ⟨3, _⟩ => ⟨S2x1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S1024, .f32⟩
  | .hbm, ⟨8, _⟩ => ⟨S2x1024, .f32⟩
  | .hbm, ⟨9, _⟩ => ⟨S1024x2816, .bf16⟩
  | .hbm, ⟨10, _⟩ => ⟨S1024x2816, .bf16⟩
  | .hbm, ⟨11, _⟩ => ⟨S2816x1024, .bf16⟩
  | .hbm, ⟨12, _⟩ => ⟨S1x1024, .f32⟩
  | .hbm, ⟨13, _⟩ => ⟨S2x1x1024, .f32⟩
  | .hbm, ⟨14, _⟩ => ⟨S2x1x1024, .f32⟩
  | .hbm, ⟨15, _⟩ => ⟨S1x1024, .f32⟩
  | .hbm, ⟨16, _⟩ => ⟨S2x1x1024, .f32⟩
  | .hbm, ⟨17, _⟩ => ⟨S2x8192x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x256, .bf16⟩
  | .local _ .vmem, ⟨8, _⟩ => ⟨S1024x256, .bf16⟩
  | .local _ .vmem, ⟨9, _⟩ => ⟨S1024x256, .bf16⟩
  | .local _ .vmem, ⟨10, _⟩ => ⟨S1024x256, .bf16⟩
  | .local _ .vmem, ⟨11, _⟩ => ⟨S256x1024, .bf16⟩
  | .local _ .vmem, ⟨12, _⟩ => ⟨S256x1024, .bf16⟩
  | .local _ .vmem, ⟨13, _⟩ => ⟨S1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1024x1024, .f32⟩
  | .local _ .vmem, ⟨17, _⟩ => ⟨S1x1024x1024, .f32⟩
  | .local _ .vmem, ⟨18, _⟩ => ⟨S1024x1024, .bf16⟩
  | .local _ .vmem, ⟨19, _⟩ => ⟨S1024x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨3, ![2, 8, 11], ![false, false, false]⟩

def k0_cond2 (i : grid0.Coords) : BitVec 1 :=
  let arg2 : BitVec 32 := BitVec.ofNat 32 (i 2).val
  let c10_i32 : BitVec 32 := 10#32
  let v28 : BitVec 1 := Scalar.cmpi .eq arg2 c10_i32
  let v29 : BitVec 32 := Scalar.extui v28
  let c0_i32_17 : BitVec 32 := 0#32
  let v30 : BitVec 1 := Scalar.cmpi .ne v29 c0_i32_17
  v30

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]

abbrev stage0_9 : Fin 2 → Memref sig .tc .vmem S1x1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]
-- ==== Kernel2Ideal.lean ====
abbrev S2x8192x1024 : Shape := ⟨3, ![2, 8192, 1024]⟩
abbrev S1024 : Shape := ⟨1, ![1024]⟩
abbrev S2x1024 : Shape := ⟨2, ![2, 1024]⟩
abbrev S1024x2816 : Shape := ⟨2, ![1024, 2816]⟩
abbrev S2816x1024 : Shape := ⟨2, ![2816, 1024]⟩
abbrev S1x1024 : Shape := ⟨2, ![1, 1024]⟩
abbrev S2x1x1024 : Shape := ⟨3, ![2, 1, 1024]⟩
abbrev S1x1024x1024 : Shape := ⟨3, ![1, 1024, 1024]⟩
abbrev S1x1x1024 : Shape := ⟨3, ![1, 1, 1024]⟩
abbrev S1024x256 : Shape := ⟨2, ![1024, 256]⟩
abbrev S256x1024 : Shape := ⟨2, ![256, 1024]⟩
abbrev S1024x1024 : Shape := ⟨2, ![1024, 1024]⟩
abbrev S1024x1 : Shape := ⟨2, ![1024, 1]⟩

abbrev nBuf : Space → Nat
  | .hbm => 18
  | .vmem => 20
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S2x1024, .f32⟩
  | .hbm, ⟨3, _⟩ => ⟨S2x1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S1024, .f32⟩
  | .hbm, ⟨8, _⟩ => ⟨S2x1024, .f32⟩
  | .hbm, ⟨9, _⟩ => ⟨S1024x2816, .bf16⟩
  | .hbm, ⟨10, _⟩ => ⟨S1024x2816, .bf16⟩
  | .hbm, ⟨11, _⟩ => ⟨S2816x1024, .bf16⟩
  | .hbm, ⟨12, _⟩ => ⟨S1x1024, .f32⟩
  | .hbm, ⟨13, _⟩ => ⟨S2x1x1024, .f32⟩
  | .hbm, ⟨14, _⟩ => ⟨S2x1x1024, .f32⟩
  | .hbm, ⟨15, _⟩ => ⟨S1x1024, .f32⟩
  | .hbm, ⟨16, _⟩ => ⟨S2x1x1024, .f32⟩
  | .hbm, ⟨17, _⟩ => ⟨S2x8192x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x256, .bf16⟩
  | .local _ .vmem, ⟨8, _⟩ => ⟨S1024x256, .bf16⟩
  | .local _ .vmem, ⟨9, _⟩ => ⟨S1024x256, .bf16⟩
  | .local _ .vmem, ⟨10, _⟩ => ⟨S1024x256, .bf16⟩
  | .local _ .vmem, ⟨11, _⟩ => ⟨S256x1024, .bf16⟩
  | .local _ .vmem, ⟨12, _⟩ => ⟨S256x1024, .bf16⟩
  | .local _ .vmem, ⟨13, _⟩ => ⟨S1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1024x1024, .f32⟩
  | .local _ .vmem, ⟨17, _⟩ => ⟨S1x1024x1024, .f32⟩
  | .local _ .vmem, ⟨18, _⟩ => ⟨S1024x1024, .bf16⟩
  | .local _ .vmem, ⟨19, _⟩ => ⟨S1024x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨3, ![2, 8, 11], ![false, false, false]⟩

def k0_cond2 (i : grid0.Coords) : BitVec 1 :=
  let arg2 : BitVec 32 := BitVec.ofNat 32 (i 2).val
  let c10_i32 : BitVec 32 := 10#32
  let v28 : BitVec 1 := Scalar.cmpi .eq arg2 c10_i32
  let v29 : BitVec 32 := Scalar.extui v28
  let c0_i32_17 : BitVec 32 := 0#32
  let v30 : BitVec 1 := Scalar.cmpi .ne v29 c0_i32_17
  v30

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]

abbrev stage0_9 : Fin 2 → Memref sig .tc .vmem S1x1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]
-- ==== Reference2Ideal.lean ====
abbrev S2x8192x1024 : Shape := ⟨3, ![2, 8192, 1024]⟩
abbrev S1024 : Shape := ⟨1, ![1024]⟩
abbrev S2x1024 : Shape := ⟨2, ![2, 1024]⟩
abbrev S1024x2816 : Shape := ⟨2, ![1024, 2816]⟩
abbrev S2816x1024 : Shape := ⟨2, ![2816, 1024]⟩
abbrev S2x1x1024 : Shape := ⟨3, ![2, 1, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x2816 : Shape := ⟨3, ![2, 8192, 2816]⟩

abbrev nBuf : Space → Nat
  | .hbm => 67
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S2x1024, .f32⟩
  | .hbm, ⟨3, _⟩ => ⟨S2x1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S1024, .f32⟩
  | .hbm, ⟨8, _⟩ => ⟨S2x1024, .f32⟩
  | .hbm, ⟨9, _⟩ => ⟨S2x1x1024, .f32⟩
  | .hbm, ⟨10, _⟩ => ⟨S2x1x1024, .f32⟩
  | .hbm, ⟨11, _⟩ => ⟨S2x1x1024, .f32⟩
  | .hbm, ⟨12, _⟩ => ⟨S2x8192x1024, .f32⟩
  | .hbm, ⟨13, _⟩ => ⟨S_, .f32⟩
  | .hbm, ⟨14, _⟩ => ⟨S2x8192, .f32⟩
  | .hbm, ⟨15, _⟩ => ⟨S2x8192x1, .f32⟩
  | .hbm, ⟨16, _⟩ => ⟨S_, .f32⟩
  | .hbm, ⟨17, _⟩ => ⟨S2x8192x1, .f32⟩
  | .hbm, ⟨18, _⟩ => ⟨S2x8192x1, .f32⟩
  | .hbm, ⟨19, _⟩ => ⟨S_, .f32⟩
  | .hbm, ⟨20, _⟩ => ⟨S2x8192x1, .f32⟩
  | .hbm, ⟨21, _⟩ => ⟨S2x8192x1, .f32⟩
  | .hbm, ⟨22, _⟩ => ⟨S2x8192x1, .f32⟩
  | .hbm, ⟨23, _⟩ => ⟨S2x8192x1024, .f32⟩
  | .hbm, ⟨24, _⟩ => ⟨S2x8192x1024, .f32⟩
  | .hbm, ⟨25, _⟩ => ⟨S1x1x1024, .f32⟩
  | .hbm, ⟨26, _⟩ => ⟨S2x8192x1024, .f32⟩
  | .hbm, ⟨27, _⟩ => ⟨S2x8192x1024, .f32⟩
  | .hbm, ⟨28, _⟩ => ⟨S_, .f32⟩
  | .hbm, ⟨29, _⟩ => ⟨S2x1x1024, .f32⟩
  | .hbm, ⟨30, _⟩ => ⟨S2x1x1024, .f32⟩
  | .hbm, ⟨31, _⟩ => ⟨S2x8192x1024, .f32⟩
  | .hbm, ⟨32, _⟩ => ⟨S2x8192x1024, .f32⟩
  | .hbm, ⟨33, _⟩ => ⟨S2x8192x1024, .f32⟩
  | .hbm, ⟨34, _⟩ => ⟨S2x8192x1024, .f32⟩
  | .hbm, ⟨35, _⟩ => ⟨S2x8192x2816, .f32⟩
  | .hbm, ⟨36, _⟩ => ⟨S2x8192x2816, .f32⟩
  | .hbm, ⟨37, _⟩ => ⟨S2x8192x2816, .f32⟩
  | .hbm, ⟨38, _⟩ => ⟨S_, .f32⟩
  | .hbm, ⟨39, _⟩ => ⟨S2x8192x2816, .f32⟩
  | .hbm, ⟨40, _⟩ => ⟨S2x8192x2816, .f32⟩
  | .hbm, ⟨41, _⟩ => ⟨S_, .f32⟩
  | .hbm, ⟨42, _⟩ => ⟨S2x8192x2816, .f32⟩
  | .hbm, ⟨43, _⟩ => ⟨S2x8192x2816, .f32⟩
  | .hbm, ⟨44, _⟩ => ⟨S2x8192x2816, .f32⟩
  | .hbm, ⟨45, _⟩ => ⟨S2x8192x2816, .f32⟩
  | .hbm, ⟨46, _⟩ => ⟨S2x8192x2816, .f32⟩
  | .hbm, ⟨47, _⟩ => ⟨S2x8192x1024, .f32⟩
  | .hbm, ⟨48, _⟩ => ⟨S2x8192x1024, .f32⟩
  | .hbm, ⟨49, _⟩ => ⟨S_, .f32⟩
  | .hbm, ⟨50, _⟩ => ⟨S2x8192, .f32⟩
  | .hbm, ⟨51, _⟩ => ⟨S2x8192x1, .f32⟩
  | .hbm, ⟨52, _⟩ => ⟨S_, .f32⟩
  | .hbm, ⟨53, _⟩ => ⟨S2x8192x1, .f32⟩
  | .hbm, ⟨54, _⟩ => ⟨S2x8192x1, .f32⟩
  | .hbm, ⟨55, _⟩ => ⟨S_, .f32⟩
  | .hbm, ⟨56, _⟩ => ⟨S2x8192x1, .f32⟩
  | .hbm, ⟨57, _⟩ => ⟨S2x8192x1, .f32⟩
  | .hbm, ⟨58, _⟩ => ⟨S2x8192x1, .f32⟩
  | .hbm, ⟨59, _⟩ => ⟨S2x8192x1024, .f32⟩
  | .hbm, ⟨60, _⟩ => ⟨S2x8192x1024, .f32⟩
  | .hbm, ⟨61, _⟩ => ⟨S1x1x1024, .f32⟩
  | .hbm, ⟨62, _⟩ => ⟨S2x8192x1024, .f32⟩
  | .hbm, ⟨63, _⟩ => ⟨S2x8192x1024, .f32⟩
  | .hbm, ⟨64, _⟩ => ⟨S2x8192x1024, .f32⟩
  | .hbm, ⟨65, _⟩ => ⟨S2x8192x1024, .f32⟩
  | .hbm, ⟨66, _⟩ => ⟨S2x8192x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_3 : Ref sig .tc := ⟨.hbm, 49, rfl⟩
abbrev main_v28 : Ref sig .tc := ⟨.hbm, 50, rfl⟩
abbrev main_v29 : Ref sig .tc := ⟨.hbm, 51, rfl⟩
abbrev main_cst_4 : Ref sig .tc := ⟨.hbm, 52, rfl⟩
abbrev main_v30 : Ref sig .tc := ⟨.hbm, 53, rfl⟩
abbrev main_v31 : Ref sig .tc := ⟨.hbm, 54, rfl⟩
abbrev main_cst_5 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩

abbrev nD : Nat := 1
abbrev τ : Topo := Topo.v7x

variable {F : FTy → Type} [FloatOps F]
-- ==== Kernel3.lean ====
abbrev S2x4x8192x128 : Shape := ⟨4, ![2, 4, 8192, 128]⟩
abbrev S2x2x8448x128 : Shape := ⟨4, ![2, 2, 8448, 128]⟩
abbrev S_ : Shape := ⟨0, ![]⟩
abbrev S1x1x256x128 : Shape := ⟨4, ![1, 1, 256, 128]⟩
abbrev S1x1x8448x128 : Shape := ⟨4, ![1, 1, 8448, 128]⟩
abbrev S256x128 : Shape := ⟨2, ![256, 128]⟩
abbrev S8448x128 : Shape := ⟨2, ![8448, 128]⟩
abbrev S256x8448 : Shape := ⟨2, ![256, 8448]⟩
abbrev S256 : Shape := ⟨1, ![256]⟩
abbrev S256x1 : Shape := ⟨2, ![256, 1]⟩

abbrev nBuf : Space → Nat
  | .hbm => 10
  | .vmem => 8
  | .smem => 0
  | _ => 0

abbrev bufTy : (tb : Table) → Fin (tcTables nBuf tb) → BufTy
  | .hbm, ⟨0, _⟩ => ⟨S2x4x8192x128, .f32⟩
  | .hbm, ⟨1, _⟩ => ⟨S2x2x8448x128, .f32⟩
  | .hbm, ⟨2, _⟩ => ⟨S2x2x8448x128, .f32⟩
  | .hbm, ⟨3, _⟩ => ⟨S_, .f32⟩
  | .hbm, ⟨4, _⟩ => ⟨S2x4x8192x128, .f32⟩
  | .hbm, ⟨5, _⟩ => ⟨S2x4x8192x128, .f32⟩
  | .hbm, ⟨6, _⟩ => ⟨S2x4x8192x128, .bf16⟩
  | .hbm, ⟨7, _⟩ => ⟨S2x2x8448x128, .bf16⟩
  | .hbm, ⟨8, _⟩ => ⟨S2x2x8448x128, .bf16⟩
  | .hbm, ⟨9, _⟩ => ⟨S2x4x8192x128, .f32⟩
  | .local _ .vmem, ⟨0, _⟩ => ⟨S1x1x256x128, .bf16⟩
  | .local _ .vmem, ⟨1, _⟩ => ⟨S1x1x256x128, .bf16⟩
  | .local _ .vmem, ⟨2, _⟩ => ⟨S1x1x8448x128, .bf16⟩
  | .local _ .vmem, ⟨3, _⟩ => ⟨S1x1x8448x128, .bf16⟩
  | .local _ .vmem, ⟨4, _⟩ => ⟨S1x1x8448x128, .bf16⟩
  | .local _ .vmem, ⟨5, _⟩ => ⟨S1x1x8448x128, .bf16⟩
  | .local _ .vmem, ⟨6, _⟩ => ⟨S1x1x256x128, .f32⟩
  | .local _ .vmem, ⟨7, _⟩ => ⟨S1x1x256x128, .f32⟩
  | _, _ => ⟨S2x4x8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 32], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![arg0.toNat, v16.toNat, c0_i32_4.toNat, c0_i32_5.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![arg0.toNat, v16.toNat, c0_i32_4.toNat, c0_i32_5.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x8448x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x8448x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== Kernel3Ideal.lean ====
abbrev S2x4x8192x128 : Shape := ⟨4, ![2, 4, 8192, 128]⟩
abbrev S2x2x8448x128 : Shape := ⟨4, ![2, 2, 8448, 128]⟩
abbrev S_ : Shape := ⟨0, ![]⟩
abbrev S1x1x256x128 : Shape := ⟨4, ![1, 1, 256, 128]⟩
abbrev S1x1x8448x128 : Shape := ⟨4, ![1, 1, 8448, 128]⟩
abbrev S256x128 : Shape := ⟨2, ![256, 128]⟩
abbrev S8448x128 : Shape := ⟨2, ![8448, 128]⟩
abbrev S256x8448 : Shape := ⟨2, ![256, 8448]⟩
abbrev S256 : Shape := ⟨1, ![256]⟩
abbrev S256x1 : Shape := ⟨2, ![256, 1]⟩

abbrev nBuf : Space → Nat
  | .hbm => 10
  | .vmem => 8
  | .smem => 0
  | _ => 0

abbrev bufTy : (tb : Table) → Fin (tcTables nBuf tb) → BufTy
  | .hbm, ⟨0, _⟩ => ⟨S2x4x8192x128, .f32⟩
  | .hbm, ⟨1, _⟩ => ⟨S2x2x8448x128, .f32⟩
  | .hbm, ⟨2, _⟩ => ⟨S2x2x8448x128, .f32⟩
  | .hbm, ⟨3, _⟩ => ⟨S_, .f32⟩
  | .hbm, ⟨4, _⟩ => ⟨S2x4x8192x128, .f32⟩
  | .hbm, ⟨5, _⟩ => ⟨S2x4x8192x128, .f32⟩
  | .hbm, ⟨6, _⟩ => ⟨S2x4x8192x128, .bf16⟩
  | .hbm, ⟨7, _⟩ => ⟨S2x2x8448x128, .bf16⟩
  | .hbm, ⟨8, _⟩ => ⟨S2x2x8448x128, .bf16⟩
  | .hbm, ⟨9, _⟩ => ⟨S2x4x8192x128, .f32⟩
  | .local _ .vmem, ⟨0, _⟩ => ⟨S1x1x256x128, .bf16⟩
  | .local _ .vmem, ⟨1, _⟩ => ⟨S1x1x256x128, .bf16⟩
  | .local _ .vmem, ⟨2, _⟩ => ⟨S1x1x8448x128, .bf16⟩
  | .local _ .vmem, ⟨3, _⟩ => ⟨S1x1x8448x128, .bf16⟩
  | .local _ .vmem, ⟨4, _⟩ => ⟨S1x1x8448x128, .bf16⟩
  | .local _ .vmem, ⟨5, _⟩ => ⟨S1x1x8448x128, .bf16⟩
  | .local _ .vmem, ⟨6, _⟩ => ⟨S1x1x256x128, .f32⟩
  | .local _ .vmem, ⟨7, _⟩ => ⟨S1x1x256x128, .f32⟩
  | _, _ => ⟨S2x4x8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 32], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![arg0.toNat, v16.toNat, c0_i32_4.toNat, c0_i32_5.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![arg0.toNat, v16.toNat, c0_i32_4.toNat, c0_i32_5.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x8448x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x8448x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== Reference3Ideal.lean ====
abbrev S2x4x8192x128 : Shape := ⟨4, ![2, 4, 8192, 128]⟩
abbrev S2x2x8448x128 : Shape := ⟨4, ![2, 2, 8448, 128]⟩
abbrev S2x2x2x8192x128 : Shape := ⟨5, ![2, 2, 2, 8192, 128]⟩
abbrev S2x2x2x8192x8448 : Shape := ⟨5, ![2, 2, 2, 8192, 8448]⟩
abbrev S_ : Shape := ⟨0, ![]⟩
abbrev S2x2x2x8192 : Shape := ⟨4, ![2, 2, 2, 8192]⟩
abbrev S2x2x2x8192x1 : Shape := ⟨5, ![2, 2, 2, 8192, 1]⟩

abbrev nBuf : Space → Nat
  | .hbm => 24
  | .vmem => 0
  | .smem => 0
  | _ => 0

abbrev bufTy : (tb : Table) → Fin (tcTables nBuf tb) → BufTy
  | .hbm, ⟨0, _⟩ => ⟨S2x4x8192x128, .f32⟩
  | .hbm, ⟨1, _⟩ => ⟨S2x2x8448x128, .f32⟩
  | .hbm, ⟨2, _⟩ => ⟨S2x2x8448x128, .f32⟩
  | .hbm, ⟨3, _⟩ => ⟨S2x2x2x8192x128, .f32⟩
  | .hbm, ⟨4, _⟩ => ⟨S2x2x2x8192x8448, .f32⟩
  | .hbm, ⟨5, _⟩ => ⟨S_, .f32⟩
  | .hbm, ⟨6, _⟩ => ⟨S2x2x2x8192x8448, .f32⟩
  | .hbm, ⟨7, _⟩ => ⟨S2x2x2x8192x8448, .f32⟩
  | .hbm, ⟨8, _⟩ => ⟨S_, .f32⟩
  | .hbm, ⟨9, _⟩ => ⟨S2x2x2x8192, .f32⟩
  | .hbm, ⟨10, _⟩ => ⟨S_, .f32⟩
  | .hbm, ⟨11, _⟩ => ⟨S2x2x2x8192, .f32⟩
  | .hbm, ⟨12, _⟩ => ⟨S2x2x2x8192, .f32⟩
  | .hbm, ⟨13, _⟩ => ⟨S2x2x2x8192x1, .f32⟩
  | .hbm, ⟨14, _⟩ => ⟨S2x2x2x8192x8448, .f32⟩
  | .hbm, ⟨15, _⟩ => ⟨S2x2x2x8192x8448, .f32⟩
  | .hbm, ⟨16, _⟩ => ⟨S2x2x2x8192x8448, .f32⟩
  | .hbm, ⟨17, _⟩ => ⟨S_, .f32⟩
  | .hbm, ⟨18, _⟩ => ⟨S2x2x2x8192, .f32⟩
  | .hbm, ⟨19, _⟩ => ⟨S2x2x2x8192x1, .f32⟩
  | .hbm, ⟨20, _⟩ => ⟨S2x2x2x8192x8448, .f32⟩
  | .hbm, ⟨21, _⟩ => ⟨S2x2x2x8192x8448, .f32⟩
  | .hbm, ⟨22, _⟩ => ⟨S2x2x2x8192x128, .f32⟩
  | .hbm, ⟨23, _⟩ => ⟨S2x4x8192x128, .f32⟩
  | _, _ => ⟨S2x4x8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel4.lean ====
abbrev S2x8192x1024 : Shape := ⟨3, ![2, 8192, 1024]⟩
abbrev S1024 : Shape := ⟨1, ![1024]⟩
abbrev S2x1024 : Shape := ⟨2, ![2, 1024]⟩
abbrev S1024x3072 : Shape := ⟨2, ![1024, 3072]⟩
abbrev S1x1024 : Shape := ⟨2, ![1, 1024]⟩
abbrev S2x1x1024 : Shape := ⟨3, ![2, 1, 1024]⟩
abbrev S2x8192x3072 : Shape := ⟨3, ![2, 8192, 3072]⟩
abbrev S1x256x1024 : Shape := ⟨3, ![1, 256, 1024]⟩
abbrev S1x1x1024 : Shape := ⟨3, ![1, 1, 1024]⟩
abbrev S1x256x3072 : Shape := ⟨3, ![1, 256, 3072]⟩
abbrev S256x1024 : Shape := ⟨2, ![256, 1024]⟩
abbrev S256 : Shape := ⟨1, ![256]⟩
abbrev S256x1 : Shape := ⟨2, ![256, 1]⟩
abbrev S256x3072 : Shape := ⟨2, ![256, 3072]⟩

abbrev nBuf : Space → Nat
  | .hbm => 10
  | .vmem => 10
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S2x1024, .f32⟩
  | .hbm, ⟨3, _⟩ => ⟨S2x1024, .f32⟩
  | .hbm, ⟨4, _⟩ => ⟨S1024x3072, .f32⟩
  | .hbm, ⟨5, _⟩ => ⟨S1024x3072, .bf16⟩
  | .hbm, ⟨6, _⟩ => ⟨S1x1024, .f32⟩
  | .hbm, ⟨7, _⟩ => ⟨S2x1x1024, .f32⟩
  | .hbm, ⟨8, _⟩ => ⟨S2x1x1024, .f32⟩
  | .hbm, ⟨9, _⟩ => ⟨S2x8192x3072, .f32⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x3072, .bf16⟩
  | .local _ .vmem, ⟨8, _⟩ => ⟨S1x256x3072, .f32⟩
  | .local _ .vmem, ⟨9, _⟩ => ⟨S1x256x3072, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x3072 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Kernel4Ideal.lean ====
abbrev S2x8192x1024 : Shape := ⟨3, ![2, 8192, 1024]⟩
abbrev S1024 : Shape := ⟨1, ![1024]⟩
abbrev S2x1024 : Shape := ⟨2, ![2, 1024]⟩
abbrev S1024x3072 : Shape := ⟨2, ![1024, 3072]⟩
abbrev S1x1024 : Shape := ⟨2, ![1, 1024]⟩
abbrev S2x1x1024 : Shape := ⟨3, ![2, 1, 1024]⟩
abbrev S2x8192x3072 : Shape := ⟨3, ![2, 8192, 3072]⟩
abbrev S1x256x1024 : Shape := ⟨3, ![1, 256, 1024]⟩
abbrev S1x1x1024 : Shape := ⟨3, ![1, 1, 1024]⟩
abbrev S1x256x3072 : Shape := ⟨3, ![1, 256, 3072]⟩
abbrev S256x1024 : Shape := ⟨2, ![256, 1024]⟩
abbrev S256 : Shape := ⟨1, ![256]⟩
abbrev S256x1 : Shape := ⟨2, ![256, 1]⟩
abbrev S256x3072 : Shape := ⟨2, ![256, 3072]⟩

abbrev nBuf : Space → Nat
  | .hbm => 10
  | .vmem => 10
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S2x1024, .f32⟩
  | .hbm, ⟨3, _⟩ => ⟨S2x1024, .f32⟩
  | .hbm, ⟨4, _⟩ => ⟨S1024x3072, .f32⟩
  | .hbm, ⟨5, _⟩ => ⟨S1024x3072, .bf16⟩
  | .hbm, ⟨6, _⟩ => ⟨S1x1024, .f32⟩
  | .hbm, ⟨7, _⟩ => ⟨S2x1x1024, .f32⟩
  | .hbm, ⟨8, _⟩ => ⟨S2x1x1024, .f32⟩
  | .hbm, ⟨9, _⟩ => ⟨S2x8192x3072, .f32⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x3072, .bf16⟩
  | .local _ .vmem, ⟨8, _⟩ => ⟨S1x256x3072, .f32⟩
  | .local _ .vmem, ⟨9, _⟩ => ⟨S1x256x3072, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x3072 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference4Ideal.lean ====
abbrev S2x8192x1024 : Shape := ⟨3, ![2, 8192, 1024]⟩
abbrev S1024 : Shape := ⟨1, ![1024]⟩
abbrev S2x1024 : Shape := ⟨2, ![2, 1024]⟩
abbrev S1024x3072 : Shape := ⟨2, ![1024, 3072]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x1x1024 : Shape := ⟨3, ![2, 1, 1024]⟩
abbrev S2x8192x3072 : Shape := ⟨3, ![2, 8192, 3072]⟩

abbrev nBuf : Space → Nat
  | .hbm => 31
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S2x1024, .f32⟩
  | .hbm, ⟨3, _⟩ => ⟨S2x1024, .f32⟩
  | .hbm, ⟨4, _⟩ => ⟨S1024x3072, .f32⟩
  | .hbm, ⟨5, _⟩ => ⟨S2x8192x1024, .f32⟩
  | .hbm, ⟨6, _⟩ => ⟨S_, .f32⟩
  | .hbm, ⟨7, _⟩ => ⟨S2x8192, .f32⟩
  | .hbm, ⟨8, _⟩ => ⟨S2x8192x1, .f32⟩
  | .hbm, ⟨9, _⟩ => ⟨S_, .f32⟩
  | .hbm, ⟨10, _⟩ => ⟨S2x8192x1, .f32⟩
  | .hbm, ⟨11, _⟩ => ⟨S2x8192x1, .f32⟩
  | .hbm, ⟨12, _⟩ => ⟨S_, .f32⟩
  | .hbm, ⟨13, _⟩ => ⟨S2x8192x1, .f32⟩
  | .hbm, ⟨14, _⟩ => ⟨S2x8192x1, .f32⟩
  | .hbm, ⟨15, _⟩ => ⟨S2x8192x1, .f32⟩
  | .hbm, ⟨16, _⟩ => ⟨S2x8192x1024, .f32⟩
  | .hbm, ⟨17, _⟩ => ⟨S2x8192x1024, .f32⟩
  | .hbm, ⟨18, _⟩ => ⟨S1x1x1024, .f32⟩
  | .hbm, ⟨19, _⟩ => ⟨S2x8192x1024, .f32⟩
  | .hbm, ⟨20, _⟩ => ⟨S2x8192x1024, .f32⟩
  | .hbm, ⟨21, _⟩ => ⟨S2x1x1024, .f32⟩
  | .hbm, ⟨22, _⟩ => ⟨S2x1x1024, .f32⟩
  | .hbm, ⟨23, _⟩ => ⟨S_, .f32⟩
  | .hbm, ⟨24, _⟩ => ⟨S2x1x1024, .f32⟩
  | .hbm, ⟨25, _⟩ => ⟨S2x1x1024, .f32⟩
  | .hbm, ⟨26, _⟩ => ⟨S2x8192x1024, .f32⟩
  | .hbm, ⟨27, _⟩ => ⟨S2x8192x1024, .f32⟩
  | .hbm, ⟨28, _⟩ => ⟨S2x8192x1024, .f32⟩
  | .hbm, ⟨29, _⟩ => ⟨S2x8192x1024, .f32⟩
  | .hbm, ⟨30, _⟩ => ⟨S2x8192x3072, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== Kernel5.lean ====
abbrev S2x8192x1024 : Shape := ⟨3, ![2, 8192, 1024]⟩
abbrev S1024 : Shape := ⟨1, ![1024]⟩
abbrev S2x1024 : Shape := ⟨2, ![2, 1024]⟩
abbrev S1024x3456 : Shape := ⟨2, ![1024, 3456]⟩
abbrev S1x1024 : Shape := ⟨2, ![1, 1024]⟩
abbrev S2x1x1024 : Shape := ⟨3, ![2, 1, 1024]⟩
abbrev S2x8192x3456 : Shape := ⟨3, ![2, 8192, 3456]⟩
abbrev S1x256x1024 : Shape := ⟨3, ![1, 256, 1024]⟩
abbrev S1x1x1024 : Shape := ⟨3, ![1, 1, 1024]⟩
abbrev S1x256x3456 : Shape := ⟨3, ![1, 256, 3456]⟩
abbrev S256x1024 : Shape := ⟨2, ![256, 1024]⟩
abbrev S256 : Shape := ⟨1, ![256]⟩
abbrev S256x1 : Shape := ⟨2, ![256, 1]⟩
abbrev S256x3456 : Shape := ⟨2, ![256, 3456]⟩

abbrev nBuf : Space → Nat
  | .hbm => 10
  | .vmem => 10
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S2x1024, .f32⟩
  | .hbm, ⟨3, _⟩ => ⟨S2x1024, .f32⟩
  | .hbm, ⟨4, _⟩ => ⟨S1024x3456, .f32⟩
  | .hbm, ⟨5, _⟩ => ⟨S1024x3456, .bf16⟩
  | .hbm, ⟨6, _⟩ => ⟨S1x1024, .f32⟩
  | .hbm, ⟨7, _⟩ => ⟨S2x1x1024, .f32⟩
  | .hbm, ⟨8, _⟩ => ⟨S2x1x1024, .f32⟩
  | .hbm, ⟨9, _⟩ => ⟨S2x8192x3456, .f32⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x3456, .bf16⟩
  | .local _ .vmem, ⟨8, _⟩ => ⟨S1x256x3456, .f32⟩
  | .local _ .vmem, ⟨9, _⟩ => ⟨S1x256x3456, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x3456 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x3456 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Kernel5Ideal.lean ====
abbrev S2x8192x1024 : Shape := ⟨3, ![2, 8192, 1024]⟩
abbrev S1024 : Shape := ⟨1, ![1024]⟩
abbrev S2x1024 : Shape := ⟨2, ![2, 1024]⟩
abbrev S1024x3456 : Shape := ⟨2, ![1024, 3456]⟩
abbrev S1x1024 : Shape := ⟨2, ![1, 1024]⟩
abbrev S2x1x1024 : Shape := ⟨3, ![2, 1, 1024]⟩
abbrev S2x8192x3456 : Shape := ⟨3, ![2, 8192, 3456]⟩
abbrev S1x256x1024 : Shape := ⟨3, ![1, 256, 1024]⟩
abbrev S1x1x1024 : Shape := ⟨3, ![1, 1, 1024]⟩
abbrev S1x256x3456 : Shape := ⟨3, ![1, 256, 3456]⟩
abbrev S256x1024 : Shape := ⟨2, ![256, 1024]⟩
abbrev S256 : Shape := ⟨1, ![256]⟩
abbrev S256x1 : Shape := ⟨2, ![256, 1]⟩
abbrev S256x3456 : Shape := ⟨2, ![256, 3456]⟩

abbrev nBuf : Space → Nat
  | .hbm => 10
  | .vmem => 10
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S2x1024, .f32⟩
  | .hbm, ⟨3, _⟩ => ⟨S2x1024, .f32⟩
  | .hbm, ⟨4, _⟩ => ⟨S1024x3456, .f32⟩
  | .hbm, ⟨5, _⟩ => ⟨S1024x3456, .bf16⟩
  | .hbm, ⟨6, _⟩ => ⟨S1x1024, .f32⟩
  | .hbm, ⟨7, _⟩ => ⟨S2x1x1024, .f32⟩
  | .hbm, ⟨8, _⟩ => ⟨S2x1x1024, .f32⟩
  | .hbm, ⟨9, _⟩ => ⟨S2x8192x3456, .f32⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x3456, .bf16⟩
  | .local _ .vmem, ⟨8, _⟩ => ⟨S1x256x3456, .f32⟩
  | .local _ .vmem, ⟨9, _⟩ => ⟨S1x256x3456, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x3456 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x3456 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference5Ideal.lean ====
abbrev S2x8192x1024 : Shape := ⟨3, ![2, 8192, 1024]⟩
abbrev S1024 : Shape := ⟨1, ![1024]⟩
abbrev S2x1024 : Shape := ⟨2, ![2, 1024]⟩
abbrev S1024x3456 : Shape := ⟨2, ![1024, 3456]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x1x1024 : Shape := ⟨3, ![2, 1, 1024]⟩
abbrev S2x8192x3456 : Shape := ⟨3, ![2, 8192, 3456]⟩

abbrev nBuf : Space → Nat
  | .hbm => 31
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S2x1024, .f32⟩
  | .hbm, ⟨3, _⟩ => ⟨S2x1024, .f32⟩
  | .hbm, ⟨4, _⟩ => ⟨S1024x3456, .f32⟩
  | .hbm, ⟨5, _⟩ => ⟨S2x8192x1024, .f32⟩
  | .hbm, ⟨6, _⟩ => ⟨S_, .f32⟩
  | .hbm, ⟨7, _⟩ => ⟨S2x8192, .f32⟩
  | .hbm, ⟨8, _⟩ => ⟨S2x8192x1, .f32⟩
  | .hbm, ⟨9, _⟩ => ⟨S_, .f32⟩
  | .hbm, ⟨10, _⟩ => ⟨S2x8192x1, .f32⟩
  | .hbm, ⟨11, _⟩ => ⟨S2x8192x1, .f32⟩
  | .hbm, ⟨12, _⟩ => ⟨S_, .f32⟩
  | .hbm, ⟨13, _⟩ => ⟨S2x8192x1, .f32⟩
  | .hbm, ⟨14, _⟩ => ⟨S2x8192x1, .f32⟩
  | .hbm, ⟨15, _⟩ => ⟨S2x8192x1, .f32⟩
  | .hbm, ⟨16, _⟩ => ⟨S2x8192x1024, .f32⟩
  | .hbm, ⟨17, _⟩ => ⟨S2x8192x1024, .f32⟩
  | .hbm, ⟨18, _⟩ => ⟨S1x1x1024, .f32⟩
  | .hbm, ⟨19, _⟩ => ⟨S2x8192x1024, .f32⟩
  | .hbm, ⟨20, _⟩ => ⟨S2x8192x1024, .f32⟩
  | .hbm, ⟨21, _⟩ => ⟨S2x1x1024, .f32⟩
  | .hbm, ⟨22, _⟩ => ⟨S2x1x1024, .f32⟩
  | .hbm, ⟨23, _⟩ => ⟨S_, .f32⟩
  | .hbm, ⟨24, _⟩ => ⟨S2x1x1024, .f32⟩
  | .hbm, ⟨25, _⟩ => ⟨S2x1x1024, .f32⟩
  | .hbm, ⟨26, _⟩ => ⟨S2x8192x1024, .f32⟩
  | .hbm, ⟨27, _⟩ => ⟨S2x8192x1024, .f32⟩
  | .hbm, ⟨28, _⟩ => ⟨S2x8192x1024, .f32⟩
  | .hbm, ⟨29, _⟩ => ⟨S2x8192x1024, .f32⟩
  | .hbm, ⟨30, _⟩ => ⟨S2x8192x3456, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== Kernel6.lean ====
abbrev S2x8192x1024 : Shape := ⟨3, ![2, 8192, 1024]⟩
abbrev S1024x1024 : Shape := ⟨2, ![1024, 1024]⟩
abbrev S1024 : Shape := ⟨1, ![1024]⟩
abbrev S2x1024 : Shape := ⟨2, ![2, 1024]⟩
abbrev S1x1024 : Shape := ⟨2, ![1, 1024]⟩
abbrev S2x1x1024 : Shape := ⟨3, ![2, 1, 1024]⟩
abbrev S1x512x1024 : Shape := ⟨3, ![1, 512, 1024]⟩
abbrev S1x1x1024 : Shape := ⟨3, ![1, 1, 1024]⟩
abbrev S512x1024 : Shape := ⟨2, ![512, 1024]⟩
abbrev S512 : Shape := ⟨1, ![512]⟩
abbrev S512x1 : Shape := ⟨2, ![512, 1]⟩

abbrev nBuf : Space → Nat
  | .hbm => 10
  | .vmem => 10
  | .smem => 0
  | _ => 0

abbrev bufTy : (tb : Table) → Fin (tcTables nBuf tb) → BufTy
  | .hbm, ⟨0, _⟩ => ⟨S2x8192x1024, .f32⟩
  | .hbm, ⟨1, _⟩ => ⟨S1024x1024, .f32⟩
  | .hbm, ⟨2, _⟩ => ⟨S2x8192x1024, .f32⟩
  | .hbm, ⟨3, _⟩ => ⟨S1024, .f32⟩
  | .hbm, ⟨4, _⟩ => ⟨S2x1024, .f32⟩
  | .hbm, ⟨5, _⟩ => ⟨S2x8192x1024, .bf16⟩
  | .hbm, ⟨6, _⟩ => ⟨S1024x1024, .bf16⟩
  | .hbm, ⟨7, _⟩ => ⟨S1x1024, .f32⟩
  | .hbm, ⟨8, _⟩ => ⟨S2x1x1024, .f32⟩
  | .hbm, ⟨9, _⟩ => ⟨S2x8192x1024, .f32⟩
  | .local _ .vmem, ⟨0, _⟩ => ⟨S1x512x1024, .bf16⟩
  | .local _ .vmem, ⟨1, _⟩ => ⟨S1x512x1024, .bf16⟩
  | .local _ .vmem, ⟨2, _⟩ => ⟨S1024x1024, .bf16⟩
  | .local _ .vmem, ⟨3, _⟩ => ⟨S1x512x1024, .f32⟩
  | .local _ .vmem, ⟨4, _⟩ => ⟨S1x512x1024, .f32⟩
  | .local _ .vmem, ⟨5, _⟩ => ⟨S1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x512x1024, .f32⟩
  | .local _ .vmem, ⟨9, _⟩ => ⟨S1x512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Kernel6Ideal.lean ====
abbrev S2x8192x1024 : Shape := ⟨3, ![2, 8192, 1024]⟩
abbrev S1024x1024 : Shape := ⟨2, ![1024, 1024]⟩
abbrev S1024 : Shape := ⟨1, ![1024]⟩
abbrev S2x1024 : Shape := ⟨2, ![2, 1024]⟩
abbrev S1x1024 : Shape := ⟨2, ![1, 1024]⟩
abbrev S2x1x1024 : Shape := ⟨3, ![2, 1, 1024]⟩
abbrev S1x512x1024 : Shape := ⟨3, ![1, 512, 1024]⟩
abbrev S1x1x1024 : Shape := ⟨3, ![1, 1, 1024]⟩
abbrev S512x1024 : Shape := ⟨2, ![512, 1024]⟩
abbrev S512 : Shape := ⟨1, ![512]⟩
abbrev S512x1 : Shape := ⟨2, ![512, 1]⟩

abbrev nBuf : Space → Nat
  | .hbm => 10
  | .vmem => 10
  | .smem => 0
  | _ => 0

abbrev bufTy : (tb : Table) → Fin (tcTables nBuf tb) → BufTy
  | .hbm, ⟨0, _⟩ => ⟨S2x8192x1024, .f32⟩
  | .hbm, ⟨1, _⟩ => ⟨S1024x1024, .f32⟩
  | .hbm, ⟨2, _⟩ => ⟨S2x8192x1024, .f32⟩
  | .hbm, ⟨3, _⟩ => ⟨S1024, .f32⟩
  | .hbm, ⟨4, _⟩ => ⟨S2x1024, .f32⟩
  | .hbm, ⟨5, _⟩ => ⟨S2x8192x1024, .bf16⟩
  | .hbm, ⟨6, _⟩ => ⟨S1024x1024, .bf16⟩
  | .hbm, ⟨7, _⟩ => ⟨S1x1024, .f32⟩
  | .hbm, ⟨8, _⟩ => ⟨S2x1x1024, .f32⟩
  | .hbm, ⟨9, _⟩ => ⟨S2x8192x1024, .f32⟩
  | .local _ .vmem, ⟨0, _⟩ => ⟨S1x512x1024, .bf16⟩
  | .local _ .vmem, ⟨1, _⟩ => ⟨S1x512x1024, .bf16⟩
  | .local _ .vmem, ⟨2, _⟩ => ⟨S1024x1024, .bf16⟩
  | .local _ .vmem, ⟨3, _⟩ => ⟨S1x512x1024, .f32⟩
  | .local _ .vmem, ⟨4, _⟩ => ⟨S1x512x1024, .f32⟩
  | .local _ .vmem, ⟨5, _⟩ => ⟨S1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x512x1024, .f32⟩
  | .local _ .vmem, ⟨9, _⟩ => ⟨S1x512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference6Ideal.lean ====
abbrev S2x8192x1024 : Shape := ⟨3, ![2, 8192, 1024]⟩
abbrev S1024x1024 : Shape := ⟨2, ![1024, 1024]⟩
abbrev S1024 : Shape := ⟨1, ![1024]⟩
abbrev S2x1024 : Shape := ⟨2, ![2, 1024]⟩
abbrev S2x1x1024 : Shape := ⟨3, ![2, 1, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩

abbrev nBuf : Space → Nat
  | .hbm => 26
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024x1024, .f32⟩
  | .hbm, ⟨2, _⟩ => ⟨S2x8192x1024, .f32⟩
  | .hbm, ⟨3, _⟩ => ⟨S1024, .f32⟩
  | .hbm, ⟨4, _⟩ => ⟨S2x1024, .f32⟩
  | .hbm, ⟨5, _⟩ => ⟨S2x1x1024, .f32⟩
  | .hbm, ⟨6, _⟩ => ⟨S2x8192x1024, .f32⟩
  | .hbm, ⟨7, _⟩ => ⟨S2x8192x1024, .f32⟩
  | .hbm, ⟨8, _⟩ => ⟨S_, .f32⟩
  | .hbm, ⟨9, _⟩ => ⟨S2x8192, .f32⟩
  | .hbm, ⟨10, _⟩ => ⟨S2x8192x1, .f32⟩
  | .hbm, ⟨11, _⟩ => ⟨S_, .f32⟩
  | .hbm, ⟨12, _⟩ => ⟨S2x8192x1, .f32⟩
  | .hbm, ⟨13, _⟩ => ⟨S2x8192x1, .f32⟩
  | .hbm, ⟨14, _⟩ => ⟨S_, .f32⟩
  | .hbm, ⟨15, _⟩ => ⟨S2x8192x1, .f32⟩
  | .hbm, ⟨16, _⟩ => ⟨S2x8192x1, .f32⟩
  | .hbm, ⟨17, _⟩ => ⟨S2x8192x1, .f32⟩
  | .hbm, ⟨18, _⟩ => ⟨S2x8192x1024, .f32⟩
  | .hbm, ⟨19, _⟩ => ⟨S2x8192x1024, .f32⟩
  | .hbm, ⟨20, _⟩ => ⟨S1x1x1024, .f32⟩
  | .hbm, ⟨21, _⟩ => ⟨S2x8192x1024, .f32⟩
  | .hbm, ⟨22, _⟩ => ⟨S2x8192x1024, .f32⟩
  | .hbm, ⟨23, _⟩ => ⟨S2x8192x1024, .f32⟩
  | .hbm, ⟨24, _⟩ => ⟨S2x8192x1024, .f32⟩
  | .hbm, ⟨25, _⟩ => ⟨S2x8192x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== Kernel7.lean ====
abbrev S2x8x8192x64 : Shape := ⟨4, ![2, 8, 8192, 64]⟩
abbrev S2x8x8448x64 : Shape := ⟨4, ![2, 8, 8448, 64]⟩
abbrev S2x4x8448x128 : Shape := ⟨4, ![2, 4, 8448, 128]⟩
abbrev S_ : Shape := ⟨0, ![]⟩
abbrev S2x8x8192x128 : Shape := ⟨4, ![2, 8, 8192, 128]⟩
abbrev S1x1x256x64 : Shape := ⟨4, ![1, 1, 256, 64]⟩
abbrev S1x1x8448x64 : Shape := ⟨4, ![1, 1, 8448, 64]⟩
abbrev S1x1x8448x128 : Shape := ⟨4, ![1, 1, 8448, 128]⟩
abbrev S1x1x256x128 : Shape := ⟨4, ![1, 1, 256, 128]⟩
abbrev S256x64 : Shape := ⟨2, ![256, 64]⟩
abbrev S8448x64 : Shape := ⟨2, ![8448, 64]⟩
abbrev S256x8448 : Shape := ⟨2, ![256, 8448]⟩
abbrev S256 : Shape := ⟨1, ![256]⟩
abbrev S256x1 : Shape := ⟨2, ![256, 1]⟩
abbrev S8448x128 : Shape := ⟨2, ![8448, 128]⟩
abbrev S256x128 : Shape := ⟨2, ![256, 128]⟩

abbrev nBuf : Space → Nat
  | .hbm => 10
  | .vmem => 8
  | .smem => 0
  | _ => 0

abbrev bufTy : (tb : Table) → Fin (tcTables nBuf tb) → BufTy
  | .hbm, ⟨0, _⟩ => ⟨S2x8x8192x64, .f32⟩
  | .hbm, ⟨1, _⟩ => ⟨S2x8x8448x64, .f32⟩
  | .hbm, ⟨2, _⟩ => ⟨S2x4x8448x128, .f32⟩
  | .hbm, ⟨3, _⟩ => ⟨S_, .f32⟩
  | .hbm, ⟨4, _⟩ => ⟨S2x8x8192x64, .f32⟩
  | .hbm, ⟨5, _⟩ => ⟨S2x8x8192x64, .f32⟩
  | .hbm, ⟨6, _⟩ => ⟨S2x8x8192x64, .bf16⟩
  | .hbm, ⟨7, _⟩ => ⟨S2x8x8448x64, .bf16⟩
  | .hbm, ⟨8, _⟩ => ⟨S2x4x8448x128, .bf16⟩
  | .hbm, ⟨9, _⟩ => ⟨S2x8x8192x128, .f32⟩
  | .local _ .vmem, ⟨0, _⟩ => ⟨S1x1x256x64, .bf16⟩
  | .local _ .vmem, ⟨1, _⟩ => ⟨S1x1x256x64, .bf16⟩
  | .local _ .vmem, ⟨2, _⟩ => ⟨S1x1x8448x64, .bf16⟩
  | .local _ .vmem, ⟨3, _⟩ => ⟨S1x1x8448x64, .bf16⟩
  | .local _ .vmem, ⟨4, _⟩ => ⟨S1x1x8448x128, .bf16⟩
  | .local _ .vmem, ⟨5, _⟩ => ⟨S1x1x8448x128, .bf16⟩
  | .local _ .vmem, ⟨6, _⟩ => ⟨S1x1x256x128, .f32⟩
  | .local _ .vmem, ⟨7, _⟩ => ⟨S1x1x256x128, .f32⟩
  | _, _ => ⟨S2x8x8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 32], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![arg0.toNat, v16.toNat, c0_i32_5.toNat, c0_i32_6.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![arg0.toNat, v16.toNat, c0_i32_4.toNat, c0_i32_5.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x256x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x8448x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x8448x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== Reference7Ideal.lean ====
abbrev S2x8x8192x64 : Shape := ⟨4, ![2, 8, 8192, 64]⟩
abbrev S2x8x8448x64 : Shape := ⟨4, ![2, 8, 8448, 64]⟩
abbrev S2x4x8448x128 : Shape := ⟨4, ![2, 4, 8448, 128]⟩
abbrev S2x4x2x8192x64 : Shape := ⟨5, ![2, 4, 2, 8192, 64]⟩
abbrev S2x4x2x8448x64 : Shape := ⟨5, ![2, 4, 2, 8448, 64]⟩
abbrev S2x4x2x8192x8448 : Shape := ⟨5, ![2, 4, 2, 8192, 8448]⟩
abbrev S_ : Shape := ⟨0, ![]⟩
abbrev S2x4x2x8192 : Shape := ⟨4, ![2, 4, 2, 8192]⟩
abbrev S2x4x2x8192x1 : Shape := ⟨5, ![2, 4, 2, 8192, 1]⟩
abbrev S2x4x2x8192x128 : Shape := ⟨5, ![2, 4, 2, 8192, 128]⟩
abbrev S2x8x8192x128 : Shape := ⟨4, ![2, 8, 8192, 128]⟩

abbrev nBuf : Space → Nat
  | .hbm => 25
  | .vmem => 0
  | .smem => 0
  | _ => 0

abbrev bufTy : (tb : Table) → Fin (tcTables nBuf tb) → BufTy
  | .hbm, ⟨0, _⟩ => ⟨S2x8x8192x64, .f32⟩
  | .hbm, ⟨1, _⟩ => ⟨S2x8x8448x64, .f32⟩
  | .hbm, ⟨2, _⟩ => ⟨S2x4x8448x128, .f32⟩
  | .hbm, ⟨3, _⟩ => ⟨S2x4x2x8192x64, .f32⟩
  | .hbm, ⟨4, _⟩ => ⟨S2x4x2x8448x64, .f32⟩
  | .hbm, ⟨5, _⟩ => ⟨S2x4x2x8192x8448, .f32⟩
  | .hbm, ⟨6, _⟩ => ⟨S_, .f32⟩
  | .hbm, ⟨7, _⟩ => ⟨S2x4x2x8192x8448, .f32⟩
  | .hbm, ⟨8, _⟩ => ⟨S2x4x2x8192x8448, .f32⟩
  | .hbm, ⟨9, _⟩ => ⟨S_, .f32⟩
  | .hbm, ⟨10, _⟩ => ⟨S2x4x2x8192, .f32⟩
  | .hbm, ⟨11, _⟩ => ⟨S_, .f32⟩
  | .hbm, ⟨12, _⟩ => ⟨S2x4x2x8192, .f32⟩
  | .hbm, ⟨13, _⟩ => ⟨S2x4x2x8192, .f32⟩
  | .hbm, ⟨14, _⟩ => ⟨S2x4x2x8192x1, .f32⟩
  | .hbm, ⟨15, _⟩ => ⟨S2x4x2x8192x8448, .f32⟩
  | .hbm, ⟨16, _⟩ => ⟨S2x4x2x8192x8448, .f32⟩
  | .hbm, ⟨17, _⟩ => ⟨S2x4x2x8192x8448, .f32⟩
  | .hbm, ⟨18, _⟩ => ⟨S_, .f32⟩
  | .hbm, ⟨19, _⟩ => ⟨S2x4x2x8192, .f32⟩
  | .hbm, ⟨20, _⟩ => ⟨S2x4x2x8192x1, .f32⟩
  | .hbm, ⟨21, _⟩ => ⟨S2x4x2x8192x8448, .f32⟩
  | .hbm, ⟨22, _⟩ => ⟨S2x4x2x8192x8448, .f32⟩
  | .hbm, ⟨23, _⟩ => ⟨S2x4x2x8192x128, .f32⟩
  | .hbm, ⟨24, _⟩ => ⟨S2x8x8192x128, .f32⟩
  | _, _ => ⟨S2x8x8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Kernel8.lean ====
abbrev S2x4x8448x128 : Shape := ⟨4, ![2, 4, 8448, 128]⟩
abbrev S2x4 : Shape := ⟨2, ![2, 4]⟩
abbrev S2x2x4x8448x128 : Shape := ⟨5, ![2, 2, 4, 8448, 128]⟩
abbrev S1x1x128x128 : Shape := ⟨4, ![1, 1, 128, 128]⟩
abbrev S1x1x1x128x128 : Shape := ⟨5, ![1, 1, 1, 128, 128]⟩
abbrev S128x128 : Shape := ⟨2, ![128, 128]⟩
abbrev S1x1 : Shape := ⟨2, ![1, 1]⟩
abbrev S128x1 : Shape := ⟨2, ![128, 1]⟩

abbrev nBuf : Space → Nat
  | .hbm => 5
  | .vmem => 9
  | .smem => 1
  | _ => 0

abbrev bufTy : (tb : Table) → Fin (tcTables nBuf tb) → BufTy
  | .hbm, ⟨0, _⟩ => ⟨S2x4x8448x128, .f32⟩
  | .hbm, ⟨1, _⟩ => ⟨S2x4x8448x128, .f32⟩
  | .hbm, ⟨2, _⟩ => ⟨S2x4x8448x128, .f32⟩
  | .hbm, ⟨3, _⟩ => ⟨S2x4, .f32⟩
  | .hbm, ⟨4, _⟩ => ⟨S2x2x4x8448x128, .f32⟩
  | .local _ .vmem, ⟨0, _⟩ => ⟨S1x1x128x128, .f32⟩
  | .local _ .vmem, ⟨1, _⟩ => ⟨S1x1x128x128, .f32⟩
  | .local _ .vmem, ⟨2, _⟩ => ⟨S1x1x128x128, .f32⟩
  | .local _ .vmem, ⟨3, _⟩ => ⟨S1x1x128x128, .f32⟩
  | .local _ .vmem, ⟨4, _⟩ => ⟨S1x1x128x128, .f32⟩
  | .local _ .vmem, ⟨5, _⟩ => ⟨S1x1x128x128, .f32⟩
  | .local _ .vmem, ⟨6, _⟩ => ⟨S1x1x1x128x128, .f32⟩
  | .local _ .vmem, ⟨7, _⟩ => ⟨S1x1x1x128x128, .f32⟩
  | .local _ .vmem, ⟨8, _⟩ => ⟨S128x128, .f32⟩
  | .local _ .smem, ⟨0, _⟩ => ⟨S2x4, .f32⟩
  | _, _ => ⟨S2x4x8448x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨4, ![2, 4, 2, 66], ![false, false, false, false]⟩

def k0_off1 (i : grid0.Coords) : Fin 2 → Nat :=
  let arg2 : BitVec 32 := BitVec.ofNat 32 (i 2).val
  let v4 : Index := Scalar.indexCast arg2
  let arg1 : BitVec 32 := BitVec.ofNat 32 (i 1).val
  let v5 : Index := Scalar.indexCast arg1
  ![v4.toNat, v5.toNat]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 1 := Scalar.cmpi .slt arg3 c2_i32
  let c1_i32 : BitVec 32 := 1#32
  let v1 : BitVec 32 := Scalar.subi c1_i32 arg3
  let c65_i32 : BitVec 32 := 65#32
  let v2 : BitVec 32 := Scalar.subi c65_i32 arg3
  let c2_i32_0 : BitVec 32 := 2#32
  let v3 : BitVec 32 := Scalar.addi v2 c2_i32_0
  let v4 : BitVec 32 := Scalar.select v0 v1 v3
  let c0_i32 : BitVec 32 := 0#32
  let v5 : BitVec 1 := Scalar.cmpi .eq arg2 c0_i32
  let v6 : BitVec 32 := Scalar.select v5 arg3 v4
  let c0_i32_1 : BitVec 32 := 0#32
  let c0_i32_2 : BitVec 32 := 0#32
  ![arg0.toNat, arg1.toNat, v6.toNat, c0_i32_1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 1 := Scalar.cmpi .slt arg3 c2_i32
  let c1_i32 : BitVec 32 := 1#32
  let v1 : BitVec 32 := Scalar.subi c1_i32 arg3
  let c65_i32 : BitVec 32 := 65#32
  let v2 : BitVec 32 := Scalar.subi c65_i32 arg3
  let c2_i32_0 : BitVec 32 := 2#32
  let v3 : BitVec 32 := Scalar.addi v2 c2_i32_0
  let v4 : BitVec 32 := Scalar.select v0 v1 v3
  let c0_i32 : BitVec 32 := 0#32
  let v5 : BitVec 1 := Scalar.cmpi .eq arg2 c0_i32
  let v6 : BitVec 32 := Scalar.select v5 arg3 v4
  let c0_i32_1 : BitVec 32 := 0#32
  let c0_i32_2 : BitVec 32 := 0#32
  ![arg0.toNat, arg1.toNat, v6.toNat, c0_i32_1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 1 := Scalar.cmpi .slt arg3 c2_i32
  let c1_i32 : BitVec 32 := 1#32
  let v1 : BitVec 32 := Scalar.subi c1_i32 arg3
  let c65_i32 : BitVec 32 := 65#32
  let v2 : BitVec 32 := Scalar.subi c65_i32 arg3
  let c2_i32_0 : BitVec 32 := 2#32
  let v3 : BitVec 32 := Scalar.addi v2 c2_i32_0
  let v4 : BitVec 32 := Scalar.select v0 v1 v3
  let c0_i32 : BitVec 32 := 0#32
  let v5 : BitVec 1 := Scalar.cmpi .eq arg2 c0_i32
  let v6 : BitVec 32 := Scalar.select v5 arg3 v4
  let c0_i32_1 : BitVec 32 := 0#32
  let c0_i32_2 : BitVec 32 := 0#32
  ![arg0.toNat, arg1.toNat, v6.toNat, c0_i32_1.toNat]

def cc0_transform_4 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 1 := Scalar.cmpi .slt arg3 c2_i32
  let c1_i32 : BitVec 32 := 1#32
  let v1 : BitVec 32 := Scalar.subi c1_i32 arg3
  let c65_i32 : BitVec 32 := 65#32
  let v2 : BitVec 32 := Scalar.subi c65_i32 arg3
  let c2_i32_0 : BitVec 32 := 2#32
  let v3 : BitVec 32 := Scalar.addi v2 c2_i32_0
  let v4 : BitVec 32 := Scalar.select v0 v1 v3
  let c0_i32 : BitVec 32 := 0#32
  let v5 : BitVec 1 := Scalar.cmpi .eq arg2 c0_i32
  let v6 : BitVec 32 := Scalar.select v5 arg3 v4
  let c0_i32_1 : BitVec 32 := 0#32
  let c0_i32_2 : BitVec 32 := 0#32
  ![arg2.toNat, arg0.toNat, arg1.toNat, v6.toNat, c0_i32_1.toNat]

abbrev stage0_0 : Fin 1 → Memref sig .tc .smem S2x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false, false]

abbrev stage0_1 : Fin 2 → Memref sig .tc .vmem S1x1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true, true]

abbrev stage0_2 : Fin 2 → Memref sig .tc .vmem S1x1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, true]

abbrev stage0_3 : Fin 2 → Memref sig .tc .vmem S1x1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, true]

abbrev stage0_4 : Fin 2 → Memref sig .tc .vmem S1x1x1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true, true]
-- ==== Reference8Ideal.lean ====
abbrev S2x4x8448x128 : Shape := ⟨4, ![2, 4, 8448, 128]⟩
abbrev S2x4 : Shape := ⟨2, ![2, 4]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S_ : Shape := ⟨0, ![]⟩
abbrev S1x128x128 : Shape := ⟨3, ![1, 128, 128]⟩
abbrev S2x128x128 : Shape := ⟨3, ![2, 128, 128]⟩
abbrev S2x1x128x128 : Shape := ⟨4, ![2, 1, 128, 128]⟩
abbrev S2x4x1x1 : Shape := ⟨4, ![2, 4, 1, 1]⟩
abbrev S1x1x128x128 : Shape := ⟨4, ![1, 1, 128, 128]⟩
abbrev S2x4x128x128 : Shape := ⟨4, ![2, 4, 128, 128]⟩
abbrev S2x1x4x128x128 : Shape := ⟨5, ![2, 1, 4, 128, 128]⟩
abbrev S1x1x128x1 : Shape := ⟨4, ![1, 1, 128, 1]⟩
abbrev S2x4x128x1 : Shape := ⟨4, ![2, 4, 128, 1]⟩
abbrev S2x1x4x128x1 : Shape := ⟨5, ![2, 1, 4, 128, 1]⟩
abbrev S2x1x4x1x1 : Shape := ⟨5, ![2, 1, 4, 1, 1]⟩
abbrev S2x2x4x128x128 : Shape := ⟨5, ![2, 2, 4, 128, 128]⟩
abbrev S2x4x256x128 : Shape := ⟨4, ![2, 4, 256, 128]⟩
abbrev S2x4x8192x128 : Shape := ⟨4, ![2, 4, 8192, 128]⟩
abbrev S1x2x4x8448x128 : Shape := ⟨5, ![1, 2, 4, 8448, 128]⟩
abbrev S2x2x4x8448x128 : Shape := ⟨5, ![2, 2, 4, 8448, 128]⟩
abbrev S2x2x4x66x128x128 : Shape := ⟨6, ![2, 2, 4, 66, 128, 128]⟩
abbrev S66x2x2x4x128x128 : Shape := ⟨6, ![66, 2, 2, 4, 128, 128]⟩
abbrev S1x2x2x4x128x128 : Shape := ⟨6, ![1, 2, 2, 4, 128, 128]⟩

abbrev nBuf : Space → Nat
  | .hbm => 165
  | .vmem => 0
  | .smem => 0
  | _ => 0

abbrev hbmTy0_0 (i : Nat) : BufTy := match i % 128 with
  | 0 => ⟨S2x4x8448x128, .f32⟩
  | 1 => ⟨S2x4x8448x128, .f32⟩
  | 2 => ⟨S2x4x8448x128, .f32⟩
  | 3 => ⟨S2x4, .f32⟩
  | 4 => ⟨S128, .f32⟩
  | 5 => ⟨S128x1, .f32⟩
  | 6 => ⟨S1x128, .f32⟩
  | 7 => ⟨S128x128, .f32⟩
  | 8 => ⟨S128x128, .f32⟩
  | 9 => ⟨S128x128, .f32⟩
  | 10 => ⟨S_, .f32⟩
  | 11 => ⟨S128x128, .f32⟩
  | 12 => ⟨S128x128, .i1⟩
  | 13 => ⟨S_, .f32⟩
  | 14 => ⟨S128x128, .f32⟩
  | 15 => ⟨S128x128, .i1⟩
  | 16 => ⟨S1x128x128, .i1⟩
  | 17 => ⟨S1x128x128, .i1⟩
  | 18 => ⟨S2x128x128, .i1⟩
  | 19 => ⟨S2x1x128x128, .i1⟩
  | 20 => ⟨S2x4x1x1, .f32⟩
  | 21 => ⟨S_, .f32⟩
  | 22 => ⟨S128x128, .f32⟩
  | 23 => ⟨S128x128, .f32⟩
  | 24 => ⟨S1x1x128x128, .f32⟩
  | 25 => ⟨S2x4x128x128, .f32⟩
  | 26 => ⟨S2x4x128x128, .f32⟩
  | 27 => ⟨S2x4x128x128, .f32⟩
  | 28 => ⟨S2x4x128x128, .f32⟩
  | 29 => ⟨S_, .f32⟩
  | 30 => ⟨S_, .f32⟩
  | 31 => ⟨S2x4x128x128, .i1⟩
  | 32 => ⟨S2x4x128x128, .f32⟩
  | 33 => ⟨S2x4x128x128, .f32⟩
  | 34 => ⟨S2x1x4x128x128, .f32⟩
  | 35 => ⟨S_, .f32⟩
  | 36 => ⟨S128, .f32⟩
  | 37 => ⟨S128, .f32⟩
  | 38 => ⟨S128x1, .f32⟩
  | 39 => ⟨S1x1x128x1, .f32⟩
  | 40 => ⟨S2x4x128x1, .f32⟩
  | 41 => ⟨S2x4x128x1, .f32⟩
  | 42 => ⟨S2x4x128x1, .f32⟩
  | 43 => ⟨S2x4x128x1, .f32⟩
  | 44 => ⟨S2x1x4x128x1, .f32⟩
  | 45 => ⟨S_, .f32⟩
  | 46 => ⟨S128, .f32⟩
  | 47 => ⟨S128, .f32⟩
  | 48 => ⟨S128x1, .f32⟩
  | 49 => ⟨S1x1x128x1, .f32⟩
  | 50 => ⟨S2x4x128x1, .f32⟩
  | 51 => ⟨S2x4x128x1, .f32⟩
  | 52 => ⟨S2x4x128x1, .f32⟩
  | 53 => ⟨S2x4x128x1, .f32⟩
  | 54 => ⟨S2x1x4x128x1, .f32⟩
  | 55 => ⟨S_, .f32⟩
  | 56 => ⟨S2x4x1x1, .f32⟩
  | 57 => ⟨S2x4x1x1, .f32⟩
  | 58 => ⟨S2x4x1x1, .f32⟩
  | 59 => ⟨S2x1x4x1x1, .f32⟩
  | 60 => ⟨S_, .f32⟩
  | 61 => ⟨S2x2x4x128x128, .f32⟩
  | 62 => ⟨S2x4x256x128, .f32⟩
  | 63 => ⟨S2x4x256x128, .f32⟩
  | 64 => ⟨S2x4x8192x128, .f32⟩
  | 65 => ⟨S2x4x8192x128, .f32⟩
  | 66 => ⟨S2x4x8448x128, .f32⟩
  | 67 => ⟨S1x2x4x8448x128, .f32⟩
  | 68 => ⟨S1x2x4x8448x128, .f32⟩
  | 69 => ⟨S2x2x4x8448x128, .f32⟩
  | 70 => ⟨S2x2x4x66x128x128, .f32⟩
  | 71 => ⟨S66x2x2x4x128x128, .f32⟩
  | 72 => ⟨S2x4x256x128, .f32⟩
  | 73 => ⟨S2x4x256x128, .f32⟩
  | 74 => ⟨S2x4x8192x128, .f32⟩
  | 75 => ⟨S2x4x8192x128, .f32⟩
  | 76 => ⟨S2x4x8448x128, .f32⟩
  | 77 => ⟨S1x2x4x8448x128, .f32⟩
  | 78 => ⟨S1x2x4x8448x128, .f32⟩
  | 79 => ⟨S2x2x4x8448x128, .f32⟩
  | 80 => ⟨S2x2x4x66x128x128, .f32⟩
  | 81 => ⟨S66x2x2x4x128x128, .f32⟩
  | 82 => ⟨S2x4x256x128, .f32⟩
  | 83 => ⟨S2x4x256x128, .f32⟩
  | 84 => ⟨S2x4x8192x128, .f32⟩
  | 85 => ⟨S2x4x8192x128, .f32⟩
  | 86 => ⟨S2x4x8448x128, .f32⟩
  | 87 => ⟨S1x2x4x8448x128, .f32⟩
  | 88 => ⟨S1x2x4x8448x128, .f32⟩
  | 89 => ⟨S2x2x4x8448x128, .f32⟩
  | 90 => ⟨S2x2x4x66x128x128, .f32⟩
  | 91 => ⟨S66x2x2x4x128x128, .f32⟩
  | 92 => ⟨S_, .f32⟩
  | 93 => ⟨S66x2x2x4x128x128, .f32⟩
  | 94 => ⟨S_, .i32⟩
  | 95 => ⟨S66x2x2x4x128x128, .f32⟩
  | 96 => ⟨S66x2x2x4x128x128, .f32⟩
  | 97 => ⟨S66x2x2x4x128x128, .f32⟩
  | 98 => ⟨S2x1x4x128x128, .f32⟩
  | 99 => ⟨S2x1x4x128x1, .f32⟩
  | 100 => ⟨S2x1x4x1x1, .f32⟩
  | 101 => ⟨S2x1x4x128x1, .f32⟩
  | 102 => ⟨S_, .i32⟩
  | 103 => ⟨S2x2x4x128x128, .f32⟩
  | 104 => ⟨S66x2x2x4x128x128, .f32⟩
  | 105 => ⟨S_, .i32⟩
  | 106 => ⟨S_, .i1⟩
  | 107 => ⟨S_, .i32⟩
  | 108 => ⟨S_, .i32⟩
  | 109 => ⟨S_, .i32⟩
  | 110 => ⟨S_, .i32⟩
  | 111 => ⟨S_, .i32⟩
  | 112 => ⟨S1x2x2x4x128x128, .f32⟩
  | 113 => ⟨S2x2x4x128x128, .f32⟩
  | 114 => ⟨S_, .i32⟩
  | 115 => ⟨S_, .i32⟩
  | 116 => ⟨S_, .i32⟩
  | 117 => ⟨S_, .i32⟩
  | 118 => ⟨S_, .i32⟩
  | 119 => ⟨S1x2x2x4x128x128, .f32⟩
  | 120 => ⟨S2x2x4x128x128, .f32⟩
  | 121 => ⟨S_, .i32⟩
  | 122 => ⟨S_, .i32⟩
  | 123 => ⟨S_, .i32⟩
  | 124 => ⟨S_, .i32⟩
  | 125 => ⟨S_, .i32⟩
  | 126 => ⟨S1x2x2x4x128x128, .f32⟩
  | 127 => ⟨S2x2x4x128x128, .f32⟩
  | _ => ⟨S2x4x8448x128, .f32⟩

abbrev hbmTy0_1 (i : Nat) : BufTy := match i % 128 with
  | 0 => ⟨S2x2x4x128x128, .f32⟩
  | 1 => ⟨S2x2x4x128x128, .f32⟩
  | 2 => ⟨S2x2x4x128x128, .f32⟩
  | 3 => ⟨S2x2x4x128x128, .f32⟩
  | 4 => ⟨S2x2x4x128x128, .f32⟩
  | 5 => ⟨S2x2x4x128x128, .f32⟩
  | 6 => ⟨S2x2x4x128x128, .f32⟩
  | 7 => ⟨S2x2x4x128x128, .f32⟩
  | 8 => ⟨S2x2x4x128x128, .f32⟩
  | 9 => ⟨S2x2x4x128x128, .f32⟩
  | 10 => ⟨S2x2x4x128x128, .f32⟩
  | 11 => ⟨S2x2x4x128x128, .f32⟩
  | 12 => ⟨S2x2x4x128x128, .f32⟩
  | 13 => ⟨S2x2x4x128x128, .f32⟩
  | 14 => ⟨S1x2x2x4x128x128, .f32⟩
  | 15 => ⟨S_, .i32⟩
  | 16 => ⟨S_, .i32⟩
  | 17 => ⟨S_, .i32⟩
  | 18 => ⟨S_, .i32⟩
  | 19 => ⟨S_, .i32⟩
  | 20 => ⟨S66x2x2x4x128x128, .f32⟩
  | 21 => ⟨S_, .i32⟩
  | 22 => ⟨S_, .i32⟩
  | 23 => ⟨S2x2x4x66x128x128, .f32⟩
  | 24 => ⟨S2x2x4x8448x128, .f32⟩
  | 25 => ⟨S1x2x4x8448x128, .f32⟩
  | 26 => ⟨S2x4x8448x128, .f32⟩
  | 27 => ⟨S1x2x4x8448x128, .f32⟩
  | 28 => ⟨S2x4x8448x128, .f32⟩
  | 29 => ⟨S2x4x256x128, .f32⟩
  | 30 => ⟨S2x4x256x128, .f32⟩
  | 31 => ⟨S2x4x8192x128, .f32⟩
  | 32 => ⟨S2x4x8192x128, .f32⟩
  | 33 => ⟨S2x4x8448x128, .f32⟩
  | 34 => ⟨S1x2x4x8448x128, .f32⟩
  | 35 => ⟨S1x2x4x8448x128, .f32⟩
  | 36 => ⟨S2x2x4x8448x128, .f32⟩
  | _ => ⟨S2x4x8448x128, .f32⟩

abbrev hbmTy (i : Nat) : BufTy := match i / 128 with
  | 0 => hbmTy0_0 i
  | 1 => hbmTy0_1 i
  | _ => ⟨S2x4x8448x128, .f32⟩

abbrev bufTy : (tb : Table) → Fin (tcTables nBuf tb) → BufTy
  | .hbm, ⟨i, _⟩ => hbmTy i
  | _, _ => ⟨S2x4x8448x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_4 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_5 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_6 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_cst_7 : Ref sig .tc := ⟨.hbm, 92, rfl⟩
abbrev main_v77 : Ref sig .tc := ⟨.hbm, 93, rfl⟩
abbrev main_c : Ref sig .tc := ⟨.hbm, 94, rfl⟩
abbrev main_v78_0 : Ref sig .tc := ⟨.hbm, 95, rfl⟩
abbrev main_v78_1 : Ref sig .tc := ⟨.hbm, 96, rfl⟩
abbrev main_v78_2 : Ref sig .tc := ⟨.hbm, 97, rfl⟩
abbrev main_v78_3 : Ref sig .tc := ⟨.hbm, 98, rfl⟩
abbrev main_v78_4 : Ref sig .tc := ⟨.hbm, 99, rfl⟩
abbrev main_v78_5 : Ref sig .tc := ⟨.hbm, 100, rfl⟩
abbrev main_v78_6 : Ref sig .tc := ⟨.hbm, 101, rfl⟩
abbrev main_v78_7 : Ref sig .tc := ⟨.hbm, 102, rfl⟩
abbrev main_v78_8 : Ref sig .tc := ⟨.hbm, 103, rfl⟩
abbrev main_v78_9 : Ref sig .tc := ⟨.hbm, 104, rfl⟩
abbrev main_while0c_c_17 : Ref sig .tc := ⟨.hbm, 105, rfl⟩
abbrev main_while0c_v93 : Ref sig .tc := ⟨.hbm, 106, rfl⟩
abbrev main_while0b_call1_c : Ref sig .tc := ⟨.hbm, 107, rfl⟩
abbrev main_while0b_call1_c_0 : Ref sig .tc := ⟨.hbm, 108, rfl⟩
abbrev main_while0b_call1_c_1 : Ref sig .tc := ⟨.hbm, 109, rfl⟩
abbrev main_while0b_call1_c_2 : Ref sig .tc := ⟨.hbm, 110, rfl⟩
abbrev main_while0b_call1_c_3 : Ref sig .tc := ⟨.hbm, 111, rfl⟩
abbrev main_while0b_call1_v0 : Ref sig .tc := ⟨.hbm, 112, rfl⟩
abbrev main_while0b_v93 : Ref sig .tc := ⟨.hbm, 113, rfl⟩
abbrev main_while0b_call2_c : Ref sig .tc := ⟨.hbm, 114, rfl⟩
abbrev main_while0b_call2_c_0 : Ref sig .tc := ⟨.hbm, 115, rfl⟩
abbrev main_while0b_call2_c_1 : Ref sig .tc := ⟨.hbm, 116, rfl⟩
abbrev main_while0b_call2_c_2 : Ref sig .tc := ⟨.hbm, 117, rfl⟩
abbrev main_while0b_call2_c_3 : Ref sig .tc := ⟨.hbm, 118, rfl⟩
abbrev main_while0b_call2_v0 : Ref sig .tc := ⟨.hbm, 119, rfl⟩
abbrev main_while0b_v94 : Ref sig .tc := ⟨.hbm, 120, rfl⟩
abbrev main_while0b_call3_c : Ref sig .tc := ⟨.hbm, 121, rfl⟩
abbrev main_while0b_call3_c_0 : Ref sig .tc := ⟨.hbm, 122, rfl⟩
abbrev main_while0b_call3_c_1 : Ref sig .tc := ⟨.hbm, 123, rfl⟩
abbrev main_while0b_call3_c_2 : Ref sig .tc := ⟨.hbm, 124, rfl⟩
abbrev main_while0b_call3_c_3 : Ref sig .tc := ⟨.hbm, 125, rfl⟩
abbrev main_while0b_call3_v0 : Ref sig .tc := ⟨.hbm, 126, rfl⟩
abbrev main_while0b_v95 : Ref sig .tc := ⟨.hbm, 127, rfl⟩
abbrev main_while0b_v96 : Ref sig .tc := ⟨.hbm, 128, rfl⟩
abbrev main_while0b_v97 : Ref sig .tc := ⟨.hbm, 129, rfl⟩
abbrev main_while0b_v98 : Ref sig .tc := ⟨.hbm, 130, rfl⟩
abbrev main_while0b_v99 : Ref sig .tc := ⟨.hbm, 131, rfl⟩
abbrev main_while0b_v100 : Ref sig .tc := ⟨.hbm, 132, rfl⟩
abbrev main_while0b_v101 : Ref sig .tc := ⟨.hbm, 133, rfl⟩
abbrev main_while0b_v102 : Ref sig .tc := ⟨.hbm, 134, rfl⟩
abbrev main_while0b_v103 : Ref sig .tc := ⟨.hbm, 135, rfl⟩
abbrev main_while0b_v104 : Ref sig .tc := ⟨.hbm, 136, rfl⟩
abbrev main_while0b_v105 : Ref sig .tc := ⟨.hbm, 137, rfl⟩
abbrev main_while0b_v106 : Ref sig .tc := ⟨.hbm, 138, rfl⟩
abbrev main_while0b_v107 : Ref sig .tc := ⟨.hbm, 139, rfl⟩
abbrev main_while0b_v108 : Ref sig .tc := ⟨.hbm, 140, rfl⟩
abbrev main_while0b_v109 : Ref sig .tc := ⟨.hbm, 141, rfl⟩
abbrev main_while0b_call4_v0 : Ref sig .tc := ⟨.hbm, 142, rfl⟩
abbrev main_while0b_call4_c : Ref sig .tc := ⟨.hbm, 143, rfl⟩
abbrev main_while0b_call4_c_0 : Ref sig .tc := ⟨.hbm, 144, rfl⟩
abbrev main_while0b_call4_c_1 : Ref sig .tc := ⟨.hbm, 145, rfl⟩
abbrev main_while0b_call4_c_2 : Ref sig .tc := ⟨.hbm, 146, rfl⟩
abbrev main_while0b_call4_c_3 : Ref sig .tc := ⟨.hbm, 147, rfl⟩
abbrev main_while0b_v110 : Ref sig .tc := ⟨.hbm, 148, rfl⟩
abbrev main_while0b_c_17 : Ref sig .tc := ⟨.hbm, 149, rfl⟩
abbrev main_while0b_v111 : Ref sig .tc := ⟨.hbm, 150, rfl⟩
abbrev main_v79 : Ref sig .tc := ⟨.hbm, 151, rfl⟩
abbrev main_v80 : Ref sig .tc := ⟨.hbm, 152, rfl⟩
abbrev main_v81 : Ref sig .tc := ⟨.hbm, 153, rfl⟩
abbrev main_v82 : Ref sig .tc := ⟨.hbm, 154, rfl⟩
abbrev main_v83 : Ref sig .tc := ⟨.hbm, 155, rfl⟩
abbrev main_v84 : Ref sig .tc := ⟨.hbm, 156, rfl⟩
abbrev main_v85 : Ref sig .tc := ⟨.hbm, 157, rfl⟩
abbrev main_v86 : Ref sig .tc := ⟨.hbm, 158, rfl⟩
abbrev main_v87 : Ref sig .tc := ⟨.hbm, 159, rfl⟩
abbrev main_v88 : Ref sig .tc := ⟨.hbm, 160, rfl⟩
abbrev main_v89 : Ref sig .tc := ⟨.hbm, 161, rfl⟩
abbrev main_v90 : Ref sig .tc := ⟨.hbm, 162, rfl⟩
abbrev main_v91 : Ref sig .tc := ⟨.hbm, 163, rfl⟩
abbrev main_v92 : Ref sig .tc := ⟨.hbm, 164, rfl⟩

abbrev nD : Nat := 1
abbrev τ : Topo := Topo.v7x

variable {F : FTy → Type} [FloatOps F]

abbrev main_while0_count : Scf.Loop 32 := ⟨0#32, 66#32, 1#32⟩
-- ==== Kernel9.lean ====
abbrev S2x8192x512 : Shape := ⟨3, ![2, 8192, 512]⟩
abbrev S2x8192x128 : Shape := ⟨3, ![2, 8192, 128]⟩
abbrev S128x512 : Shape := ⟨2, ![128, 512]⟩
abbrev S_ : Shape := ⟨0, ![]⟩
abbrev S1x512x512 : Shape := ⟨3, ![1, 512, 512]⟩
abbrev S1x512x128 : Shape := ⟨3, ![1, 512, 128]⟩
abbrev S512x512 : Shape := ⟨2, ![512, 512]⟩
abbrev S512x128 : Shape := ⟨2, ![512, 128]⟩

abbrev nBuf : Space → Nat
  | .hbm => 13
  | .vmem => 7
  | .smem => 0
  | _ => 0

abbrev bufTy : (tb : Table) → Fin (tcTables nBuf tb) → BufTy
  | .hbm, ⟨0, _⟩ => ⟨S2x8192x512, .f32⟩
  | .hbm, ⟨1, _⟩ => ⟨S2x8192x128, .f32⟩
  | .hbm, ⟨2, _⟩ => ⟨S128x512, .f32⟩
  | .hbm, ⟨3, _⟩ => ⟨S2x8192x128, .f32⟩
  | .hbm, ⟨4, _⟩ => ⟨S2x8192x128, .f32⟩
  | .hbm, ⟨5, _⟩ => ⟨S_, .f32⟩
  | .hbm, ⟨6, _⟩ => ⟨S2x8192x128, .f32⟩
  | .hbm, ⟨7, _⟩ => ⟨S2x8192x128, .f32⟩
  | .hbm, ⟨8, _⟩ => ⟨S_, .f32⟩
  | .hbm, ⟨9, _⟩ => ⟨S2x8192x128, .f32⟩
  | .hbm, ⟨10, _⟩ => ⟨S2x8192x128, .f32⟩
  | .hbm, ⟨11, _⟩ => ⟨S128x512, .bf16⟩
  | .hbm, ⟨12, _⟩ => ⟨S2x8192x512, .f32⟩
  | .local _ .vmem, ⟨0, _⟩ => ⟨S1x512x512, .f32⟩
  | .local _ .vmem, ⟨1, _⟩ => ⟨S1x512x512, .f32⟩
  | .local _ .vmem, ⟨2, _⟩ => ⟨S1x512x128, .f32⟩
  | .local _ .vmem, ⟨3, _⟩ => ⟨S1x512x128, .f32⟩
  | .local _ .vmem, ⟨4, _⟩ => ⟨S128x512, .bf16⟩
  | .local _ .vmem, ⟨5, _⟩ => ⟨S1x512x512, .f32⟩
  | .local _ .vmem, ⟨6, _⟩ => ⟨S1x512x512, .f32⟩
  | _, _ => ⟨S2x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S128x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference9Ideal.lean ====
abbrev S2x8192x512 : Shape := ⟨3, ![2, 8192, 512]⟩
abbrev S2x8192x128 : Shape := ⟨3, ![2, 8192, 128]⟩
abbrev S128x512 : Shape := ⟨2, ![128, 512]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S2x8192x512, .f32⟩
  | .hbm, ⟨1, _⟩ => ⟨S2x8192x128, .f32⟩
  | .hbm, ⟨2, _⟩ => ⟨S128x512, .f32⟩
  | .hbm, ⟨3, _⟩ => ⟨S2x8192x128, .f32⟩
  | .hbm, ⟨4, _⟩ => ⟨S2x8192x128, .f32⟩
  | .hbm, ⟨5, _⟩ => ⟨S_, .f32⟩
  | .hbm, ⟨6, _⟩ => ⟨S2x8192x128, .f32⟩
  | .hbm, ⟨7, _⟩ => ⟨S2x8192x128, .f32⟩
  | .hbm, ⟨8, _⟩ => ⟨S_, .f32⟩
  | .hbm, ⟨9, _⟩ => ⟨S2x8192x128, .f32⟩
  | .hbm, ⟨10, _⟩ => ⟨S2x8192x128, .f32⟩
  | .hbm, ⟨11, _⟩ => ⟨S2x8192x512, .f32⟩
  | .hbm, ⟨12, _⟩ => ⟨S2x8192x512, .f32⟩
  | _, _ => ⟨S2x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Kernel10.lean ====
abbrev S8x1024 : Shape := ⟨2, ![8, 1024]⟩
abbrev S2x1024x6144 : Shape := ⟨3, ![2, 1024, 6144]⟩
abbrev S2x6144 : Shape := ⟨2, ![2, 6144]⟩
abbrev S2x1x6144 : Shape := ⟨3, ![2, 1, 6144]⟩
abbrev S2x8x6144 : Shape := ⟨3, ![2, 8, 6144]⟩
abbrev S1x1024x1536 : Shape := ⟨3, ![1, 1024, 1536]⟩
abbrev S1x1x1536 : Shape := ⟨3, ![1, 1, 1536]⟩
abbrev S1x8x1536 : Shape := ⟨3, ![1, 8, 1536]⟩
abbrev S1024x1536 : Shape := ⟨2, ![1024, 1536]⟩
abbrev S8x1536 : Shape := ⟨2, ![8, 1536]⟩
abbrev S1x1536 : Shape := ⟨2, ![1, 1536]⟩

abbrev nBuf : Space → Nat
  | .hbm => 5
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S2x1024x6144, .f32⟩
  | .hbm, ⟨2, _⟩ => ⟨S2x6144, .f32⟩
  | .hbm, ⟨3, _⟩ => ⟨S2x1x6144, .f32⟩
  | .hbm, ⟨4, _⟩ => ⟨S2x8x6144, .f32⟩
  | .local _ .vmem, ⟨0, _⟩ => ⟨S8x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x8x1536, .f32⟩
  | .local _ .vmem, ⟨6, _⟩ => ⟨S1x8x1536, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference10Ideal.lean ====
abbrev S8x1024 : Shape := ⟨2, ![8, 1024]⟩
abbrev S2x1024x6144 : Shape := ⟨3, ![2, 1024, 6144]⟩
abbrev S2x6144 : Shape := ⟨2, ![2, 6144]⟩
abbrev S_ : Shape := ⟨0, ![]⟩
abbrev S1x1024x6144 : Shape := ⟨3, ![1, 1024, 6144]⟩
abbrev S1024x6144 : Shape := ⟨2, ![1024, 6144]⟩
abbrev S8x6144 : Shape := ⟨2, ![8, 6144]⟩
abbrev S1x6144 : Shape := ⟨2, ![1, 6144]⟩
abbrev S6144 : Shape := ⟨1, ![6144]⟩
abbrev S1x8x6144 : Shape := ⟨3, ![1, 8, 6144]⟩
abbrev S2x8x6144 : Shape := ⟨3, ![2, 8, 6144]⟩

abbrev nBuf : Space → Nat
  | .hbm => 31
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S2x1024x6144, .f32⟩
  | .hbm, ⟨2, _⟩ => ⟨S2x6144, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S1x1024x6144, .f32⟩
  | .hbm, ⟨13, _⟩ => ⟨S1024x6144, .f32⟩
  | .hbm, ⟨14, _⟩ => ⟨S8x6144, .f32⟩
  | .hbm, ⟨15, _⟩ => ⟨S1x6144, .f32⟩
  | .hbm, ⟨16, _⟩ => ⟨S6144, .f32⟩
  | .hbm, ⟨17, _⟩ => ⟨S1x6144, .f32⟩
  | .hbm, ⟨18, _⟩ => ⟨S8x6144, .f32⟩
  | .hbm, ⟨19, _⟩ => ⟨S8x6144, .f32⟩
  | .hbm, ⟨20, _⟩ => ⟨S1x1024x6144, .f32⟩
  | .hbm, ⟨21, _⟩ => ⟨S1024x6144, .f32⟩
  | .hbm, ⟨22, _⟩ => ⟨S8x6144, .f32⟩
  | .hbm, ⟨23, _⟩ => ⟨S1x6144, .f32⟩
  | .hbm, ⟨24, _⟩ => ⟨S6144, .f32⟩
  | .hbm, ⟨25, _⟩ => ⟨S1x6144, .f32⟩
  | .hbm, ⟨26, _⟩ => ⟨S8x6144, .f32⟩
  | .hbm, ⟨27, _⟩ => ⟨S8x6144, .f32⟩
  | .hbm, ⟨28, _⟩ => ⟨S1x8x6144, .f32⟩
  | .hbm, ⟨29, _⟩ => ⟨S1x8x6144, .f32⟩
  | .hbm, ⟨30, _⟩ => ⟨S2x8x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩

abbrev nD : Nat := 1
abbrev τ : Topo := Topo.v7x

variable {F : FTy → Type} [FloatOps F]
-- ==== Kernel11.lean ====
abbrev S2x256x1024 : Shape := ⟨3, ![2, 256, 1024]⟩
abbrev S1024 : Shape := ⟨1, ![1024]⟩
abbrev S2x1024 : Shape := ⟨2, ![2, 1024]⟩
abbrev S1024x3072 : Shape := ⟨2, ![1024, 3072]⟩
abbrev S1x1024 : Shape := ⟨2, ![1, 1024]⟩
abbrev S2x1x1024 : Shape := ⟨3, ![2, 1, 1024]⟩
abbrev S2x256x3072 : Shape := ⟨3, ![2, 256, 3072]⟩
abbrev S1x256x1024 : Shape := ⟨3, ![1, 256, 1024]⟩
abbrev S1x1x1024 : Shape := ⟨3, ![1, 1, 1024]⟩
abbrev S1x256x3072 : Shape := ⟨3, ![1, 256, 3072]⟩
abbrev S256x1024 : Shape := ⟨2, ![256, 1024]⟩
abbrev S256 : Shape := ⟨1, ![256]⟩
abbrev S256x1 : Shape := ⟨2, ![256, 1]⟩
abbrev S256x3072 : Shape := ⟨2, ![256, 3072]⟩

abbrev nBuf : Space → Nat
  | .hbm => 10
  | .vmem => 10
  | .smem => 0
  | _ => 0

abbrev bufTy : (tb : Table) → Fin (tcTables nBuf tb) → BufTy
  | .hbm, ⟨0, _⟩ => ⟨S2x256x1024, .f32⟩
  | .hbm, ⟨1, _⟩ => ⟨S1024, .f32⟩
  | .hbm, ⟨2, _⟩ => ⟨S2x1024, .f32⟩
  | .hbm, ⟨3, _⟩ => ⟨S2x1024, .f32⟩
  | .hbm, ⟨4, _⟩ => ⟨S1024x3072, .f32⟩
  | .hbm, ⟨5, _⟩ => ⟨S1024x3072, .bf16⟩
  | .hbm, ⟨6, _⟩ => ⟨S1x1024, .f32⟩
  | .hbm, ⟨7, _⟩ => ⟨S2x1x1024, .f32⟩
  | .hbm, ⟨8, _⟩ => ⟨S2x1x1024, .f32⟩
  | .hbm, ⟨9, _⟩ => ⟨S2x256x3072, .f32⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x3072, .bf16⟩
  | .local _ .vmem, ⟨8, _⟩ => ⟨S1x256x3072, .f32⟩
  | .local _ .vmem, ⟨9, _⟩ => ⟨S1x256x3072, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x3072 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Kernel11Ideal.lean ====
abbrev S2x256x1024 : Shape := ⟨3, ![2, 256, 1024]⟩
abbrev S1024 : Shape := ⟨1, ![1024]⟩
abbrev S2x1024 : Shape := ⟨2, ![2, 1024]⟩
abbrev S1024x3072 : Shape := ⟨2, ![1024, 3072]⟩
abbrev S1x1024 : Shape := ⟨2, ![1, 1024]⟩
abbrev S2x1x1024 : Shape := ⟨3, ![2, 1, 1024]⟩
abbrev S2x256x3072 : Shape := ⟨3, ![2, 256, 3072]⟩
abbrev S1x256x1024 : Shape := ⟨3, ![1, 256, 1024]⟩
abbrev S1x1x1024 : Shape := ⟨3, ![1, 1, 1024]⟩
abbrev S1x256x3072 : Shape := ⟨3, ![1, 256, 3072]⟩
abbrev S256x1024 : Shape := ⟨2, ![256, 1024]⟩
abbrev S256 : Shape := ⟨1, ![256]⟩
abbrev S256x1 : Shape := ⟨2, ![256, 1]⟩
abbrev S256x3072 : Shape := ⟨2, ![256, 3072]⟩

abbrev nBuf : Space → Nat
  | .hbm => 10
  | .vmem => 10
  | .smem => 0
  | _ => 0

abbrev bufTy : (tb : Table) → Fin (tcTables nBuf tb) → BufTy
  | .hbm, ⟨0, _⟩ => ⟨S2x256x1024, .f32⟩
  | .hbm, ⟨1, _⟩ => ⟨S1024, .f32⟩
  | .hbm, ⟨2, _⟩ => ⟨S2x1024, .f32⟩
  | .hbm, ⟨3, _⟩ => ⟨S2x1024, .f32⟩
  | .hbm, ⟨4, _⟩ => ⟨S1024x3072, .f32⟩
  | .hbm, ⟨5, _⟩ => ⟨S1024x3072, .bf16⟩
  | .hbm, ⟨6, _⟩ => ⟨S1x1024, .f32⟩
  | .hbm, ⟨7, _⟩ => ⟨S2x1x1024, .f32⟩
  | .hbm, ⟨8, _⟩ => ⟨S2x1x1024, .f32⟩
  | .hbm, ⟨9, _⟩ => ⟨S2x256x3072, .f32⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x3072, .bf16⟩
  | .local _ .vmem, ⟨8, _⟩ => ⟨S1x256x3072, .f32⟩
  | .local _ .vmem, ⟨9, _⟩ => ⟨S1x256x3072, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x3072 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference11Ideal.lean ====
abbrev S2x256x1024 : Shape := ⟨3, ![2, 256, 1024]⟩
abbrev S1024 : Shape := ⟨1, ![1024]⟩
abbrev S2x1024 : Shape := ⟨2, ![2, 1024]⟩
abbrev S1024x3072 : Shape := ⟨2, ![1024, 3072]⟩
abbrev S_ : Shape := ⟨0, ![]⟩
abbrev S2x256 : Shape := ⟨2, ![2, 256]⟩
abbrev S2x256x1 : Shape := ⟨3, ![2, 256, 1]⟩
abbrev S1x1x1024 : Shape := ⟨3, ![1, 1, 1024]⟩
abbrev S2x1x1024 : Shape := ⟨3, ![2, 1, 1024]⟩
abbrev S2x256x3072 : Shape := ⟨3, ![2, 256, 3072]⟩

abbrev nBuf : Space → Nat
  | .hbm => 31
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S1024, .f32⟩
  | .hbm, ⟨2, _⟩ => ⟨S2x1024, .f32⟩
  | .hbm, ⟨3, _⟩ => ⟨S2x1024, .f32⟩
  | .hbm, ⟨4, _⟩ => ⟨S1024x3072, .f32⟩
  | .hbm, ⟨5, _⟩ => ⟨S2x256x1024, .f32⟩
  | .hbm, ⟨6, _⟩ => ⟨S_, .f32⟩
  | .hbm, ⟨7, _⟩ => ⟨S2x256, .f32⟩
  | .hbm, ⟨8, _⟩ => ⟨S2x256x1, .f32⟩
  | .hbm, ⟨9, _⟩ => ⟨S_, .f32⟩
  | .hbm, ⟨10, _⟩ => ⟨S2x256x1, .f32⟩
  | .hbm, ⟨11, _⟩ => ⟨S2x256x1, .f32⟩
  | .hbm, ⟨12, _⟩ => ⟨S_, .f32⟩
  | .hbm, ⟨13, _⟩ => ⟨S2x256x1, .f32⟩
  | .hbm, ⟨14, _⟩ => ⟨S2x256x1, .f32⟩
  | .hbm, ⟨15, _⟩ => ⟨S2x256x1, .f32⟩
  | .hbm, ⟨16, _⟩ => ⟨S2x256x1024, .f32⟩
  | .hbm, ⟨17, _⟩ => ⟨S2x256x1024, .f32⟩
  | .hbm, ⟨18, _⟩ => ⟨S1x1x1024, .f32⟩
  | .hbm, ⟨19, _⟩ => ⟨S2x256x1024, .f32⟩
  | .hbm, ⟨20, _⟩ => ⟨S2x256x1024, .f32⟩
  | .hbm, ⟨21, _⟩ => ⟨S2x1x1024, .f32⟩
  | .hbm, ⟨22, _⟩ => ⟨S2x1x1024, .f32⟩
  | .hbm, ⟨23, _⟩ => ⟨S_, .f32⟩
  | .hbm, ⟨24, _⟩ => ⟨S2x1x1024, .f32⟩
  | .hbm, ⟨25, _⟩ => ⟨S2x1x1024, .f32⟩
  | .hbm, ⟨26, _⟩ => ⟨S2x256x1024, .f32⟩
  | .hbm, ⟨27, _⟩ => ⟨S2x256x1024, .f32⟩
  | .hbm, ⟨28, _⟩ => ⟨S2x256x1024, .f32⟩
  | .hbm, ⟨29, _⟩ => ⟨S2x256x1024, .f32⟩
  | .hbm, ⟨30, _⟩ => ⟨S2x256x3072, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== Kernel12.lean ====
abbrev S2x256x1024 : Shape := ⟨3, ![2, 256, 1024]⟩
abbrev S1024 : Shape := ⟨1, ![1024]⟩
abbrev S2x1024 : Shape := ⟨2, ![2, 1024]⟩
abbrev S1024x3456 : Shape := ⟨2, ![1024, 3456]⟩
abbrev S1x1024 : Shape := ⟨2, ![1, 1024]⟩
abbrev S2x1x1024 : Shape := ⟨3, ![2, 1, 1024]⟩
abbrev S2x256x3456 : Shape := ⟨3, ![2, 256, 3456]⟩
abbrev S1x256x1024 : Shape := ⟨3, ![1, 256, 1024]⟩
abbrev S1x1x1024 : Shape := ⟨3, ![1, 1, 1024]⟩
abbrev S1x256x3456 : Shape := ⟨3, ![1, 256, 3456]⟩
abbrev S256x1024 : Shape := ⟨2, ![256, 1024]⟩
abbrev S256 : Shape := ⟨1, ![256]⟩
abbrev S256x1 : Shape := ⟨2, ![256, 1]⟩
abbrev S256x3456 : Shape := ⟨2, ![256, 3456]⟩

abbrev nBuf : Space → Nat
  | .hbm => 10
  | .vmem => 10
  | .smem => 0
  | _ => 0

abbrev bufTy : (tb : Table) → Fin (tcTables nBuf tb) → BufTy
  | .hbm, ⟨0, _⟩ => ⟨S2x256x1024, .f32⟩
  | .hbm, ⟨1, _⟩ => ⟨S1024, .f32⟩
  | .hbm, ⟨2, _⟩ => ⟨S2x1024, .f32⟩
  | .hbm, ⟨3, _⟩ => ⟨S2x1024, .f32⟩
  | .hbm, ⟨4, _⟩ => ⟨S1024x3456, .f32⟩
  | .hbm, ⟨5, _⟩ => ⟨S1024x3456, .bf16⟩
  | .hbm, ⟨6, _⟩ => ⟨S1x1024, .f32⟩
  | .hbm, ⟨7, _⟩ => ⟨S2x1x1024, .f32⟩
  | .hbm, ⟨8, _⟩ => ⟨S2x1x1024, .f32⟩
  | .hbm, ⟨9, _⟩ => ⟨S2x256x3456, .f32⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x3456, .bf16⟩
  | .local _ .vmem, ⟨8, _⟩ => ⟨S1x256x3456, .f32⟩
  | .local _ .vmem, ⟨9, _⟩ => ⟨S1x256x3456, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x3456 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x3456 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference12Ideal.lean ====
abbrev S2x256x1024 : Shape := ⟨3, ![2, 256, 1024]⟩
abbrev S1024 : Shape := ⟨1, ![1024]⟩
abbrev S2x1024 : Shape := ⟨2, ![2, 1024]⟩
abbrev S1024x3456 : Shape := ⟨2, ![1024, 3456]⟩
abbrev S_ : Shape := ⟨0, ![]⟩
abbrev S2x256 : Shape := ⟨2, ![2, 256]⟩
abbrev S2x256x1 : Shape := ⟨3, ![2, 256, 1]⟩
abbrev S1x1x1024 : Shape := ⟨3, ![1, 1, 1024]⟩
abbrev S2x1x1024 : Shape := ⟨3, ![2, 1, 1024]⟩
abbrev S2x256x3456 : Shape := ⟨3, ![2, 256, 3456]⟩

abbrev nBuf : Space → Nat
  | .hbm => 31
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S1024, .f32⟩
  | .hbm, ⟨2, _⟩ => ⟨S2x1024, .f32⟩
  | .hbm, ⟨3, _⟩ => ⟨S2x1024, .f32⟩
  | .hbm, ⟨4, _⟩ => ⟨S1024x3456, .f32⟩
  | .hbm, ⟨5, _⟩ => ⟨S2x256x1024, .f32⟩
  | .hbm, ⟨6, _⟩ => ⟨S_, .f32⟩
  | .hbm, ⟨7, _⟩ => ⟨S2x256, .f32⟩
  | .hbm, ⟨8, _⟩ => ⟨S2x256x1, .f32⟩
  | .hbm, ⟨9, _⟩ => ⟨S_, .f32⟩
  | .hbm, ⟨10, _⟩ => ⟨S2x256x1, .f32⟩
  | .hbm, ⟨11, _⟩ => ⟨S2x256x1, .f32⟩
  | .hbm, ⟨12, _⟩ => ⟨S_, .f32⟩
  | .hbm, ⟨13, _⟩ => ⟨S2x256x1, .f32⟩
  | .hbm, ⟨14, _⟩ => ⟨S2x256x1, .f32⟩
  | .hbm, ⟨15, _⟩ => ⟨S2x256x1, .f32⟩
  | .hbm, ⟨16, _⟩ => ⟨S2x256x1024, .f32⟩
  | .hbm, ⟨17, _⟩ => ⟨S2x256x1024, .f32⟩
  | .hbm, ⟨18, _⟩ => ⟨S1x1x1024, .f32⟩
  | .hbm, ⟨19, _⟩ => ⟨S2x256x1024, .f32⟩
  | .hbm, ⟨20, _⟩ => ⟨S2x256x1024, .f32⟩
  | .hbm, ⟨21, _⟩ => ⟨S2x1x1024, .f32⟩
  | .hbm, ⟨22, _⟩ => ⟨S2x1x1024, .f32⟩
  | .hbm, ⟨23, _⟩ => ⟨S_, .f32⟩
  | .hbm, ⟨24, _⟩ => ⟨S2x1x1024, .f32⟩
  | .hbm, ⟨25, _⟩ => ⟨S2x1x1024, .f32⟩
  | .hbm, ⟨26, _⟩ => ⟨S2x256x1024, .f32⟩
  | .hbm, ⟨27, _⟩ => ⟨S2x256x1024, .f32⟩
  | .hbm, ⟨28, _⟩ => ⟨S2x256x1024, .f32⟩
  | .hbm, ⟨29, _⟩ => ⟨S2x256x1024, .f32⟩
  | .hbm, ⟨30, _⟩ => ⟨S2x256x3456, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== Kernel13.lean ====
abbrev S2x256x1024 : Shape := ⟨3, ![2, 256, 1024]⟩
abbrev S1024x1024 : Shape := ⟨2, ![1024, 1024]⟩
abbrev S1024 : Shape := ⟨1, ![1024]⟩
abbrev S2x1024 : Shape := ⟨2, ![2, 1024]⟩
abbrev S1x1024 : Shape := ⟨2, ![1, 1024]⟩
abbrev S2x1x1024 : Shape := ⟨3, ![2, 1, 1024]⟩
abbrev S1x256x1024 : Shape := ⟨3, ![1, 256, 1024]⟩
abbrev S1x1x1024 : Shape := ⟨3, ![1, 1, 1024]⟩
abbrev S256x1024 : Shape := ⟨2, ![256, 1024]⟩
abbrev S256 : Shape := ⟨1, ![256]⟩
abbrev S256x1 : Shape := ⟨2, ![256, 1]⟩

abbrev nBuf : Space → Nat
  | .hbm => 10
  | .vmem => 10
  | .smem => 0
  | _ => 0

abbrev bufTy : (tb : Table) → Fin (tcTables nBuf tb) → BufTy
  | .hbm, ⟨0, _⟩ => ⟨S2x256x1024, .f32⟩
  | .hbm, ⟨1, _⟩ => ⟨S1024x1024, .f32⟩
  | .hbm, ⟨2, _⟩ => ⟨S2x256x1024, .f32⟩
  | .hbm, ⟨3, _⟩ => ⟨S1024, .f32⟩
  | .hbm, ⟨4, _⟩ => ⟨S2x1024, .f32⟩
  | .hbm, ⟨5, _⟩ => ⟨S2x256x1024, .bf16⟩
  | .hbm, ⟨6, _⟩ => ⟨S1024x1024, .bf16⟩
  | .hbm, ⟨7, _⟩ => ⟨S1x1024, .f32⟩
  | .hbm, ⟨8, _⟩ => ⟨S2x1x1024, .f32⟩
  | .hbm, ⟨9, _⟩ => ⟨S2x256x1024, .f32⟩
  | .local _ .vmem, ⟨0, _⟩ => ⟨S1x256x1024, .bf16⟩
  | .local _ .vmem, ⟨1, _⟩ => ⟨S1x256x1024, .bf16⟩
  | .local _ .vmem, ⟨2, _⟩ => ⟨S1024x1024, .bf16⟩
  | .local _ .vmem, ⟨3, _⟩ => ⟨S1x256x1024, .f32⟩
  | .local _ .vmem, ⟨4, _⟩ => ⟨S1x256x1024, .f32⟩
  | .local _ .vmem, ⟨5, _⟩ => ⟨S1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x256x1024, .f32⟩
  | .local _ .vmem, ⟨9, _⟩ => ⟨S1x256x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference13Ideal.lean ====
abbrev S2x256x1024 : Shape := ⟨3, ![2, 256, 1024]⟩
abbrev S1024x1024 : Shape := ⟨2, ![1024, 1024]⟩
abbrev S1024 : Shape := ⟨1, ![1024]⟩
abbrev S2x1024 : Shape := ⟨2, ![2, 1024]⟩
abbrev S2x1x1024 : Shape := ⟨3, ![2, 1, 1024]⟩
abbrev S_ : Shape := ⟨0, ![]⟩
abbrev S2x256 : Shape := ⟨2, ![2, 256]⟩
abbrev S2x256x1 : Shape := ⟨3, ![2, 256, 1]⟩
abbrev S1x1x1024 : Shape := ⟨3, ![1, 1, 1024]⟩

abbrev nBuf : Space → Nat
  | .hbm => 26
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S1024x1024, .f32⟩
  | .hbm, ⟨2, _⟩ => ⟨S2x256x1024, .f32⟩
  | .hbm, ⟨3, _⟩ => ⟨S1024, .f32⟩
  | .hbm, ⟨4, _⟩ => ⟨S2x1024, .f32⟩
  | .hbm, ⟨5, _⟩ => ⟨S2x1x1024, .f32⟩
  | .hbm, ⟨6, _⟩ => ⟨S2x256x1024, .f32⟩
  | .hbm, ⟨7, _⟩ => ⟨S2x256x1024, .f32⟩
  | .hbm, ⟨8, _⟩ => ⟨S_, .f32⟩
  | .hbm, ⟨9, _⟩ => ⟨S2x256, .f32⟩
  | .hbm, ⟨10, _⟩ => ⟨S2x256x1, .f32⟩
  | .hbm, ⟨11, _⟩ => ⟨S_, .f32⟩
  | .hbm, ⟨12, _⟩ => ⟨S2x256x1, .f32⟩
  | .hbm, ⟨13, _⟩ => ⟨S2x256x1, .f32⟩
  | .hbm, ⟨14, _⟩ => ⟨S_, .f32⟩
  | .hbm, ⟨15, _⟩ => ⟨S2x256x1, .f32⟩
  | .hbm, ⟨16, _⟩ => ⟨S2x256x1, .f32⟩
  | .hbm, ⟨17, _⟩ => ⟨S2x256x1, .f32⟩
  | .hbm, ⟨18, _⟩ => ⟨S2x256x1024, .f32⟩
  | .hbm, ⟨19, _⟩ => ⟨S2x256x1024, .f32⟩
  | .hbm, ⟨20, _⟩ => ⟨S1x1x1024, .f32⟩
  | .hbm, ⟨21, _⟩ => ⟨S2x256x1024, .f32⟩
  | .hbm, ⟨22, _⟩ => ⟨S2x256x1024, .f32⟩
  | .hbm, ⟨23, _⟩ => ⟨S2x256x1024, .f32⟩
  | .hbm, ⟨24, _⟩ => ⟨S2x256x1024, .f32⟩
  | .hbm, ⟨25, _⟩ => ⟨S2x256x1024, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== Kernel14.lean ====
abbrev S2x256x1024 : Shape := ⟨3, ![2, 256, 1024]⟩
abbrev S1024 : Shape := ⟨1, ![1024]⟩
abbrev S2x1024 : Shape := ⟨2, ![2, 1024]⟩
abbrev S1024x2816 : Shape := ⟨2, ![1024, 2816]⟩
abbrev S2816x1024 : Shape := ⟨2, ![2816, 1024]⟩
abbrev S1x1024 : Shape := ⟨2, ![1, 1024]⟩
abbrev S2x1x1024 : Shape := ⟨3, ![2, 1, 1024]⟩
abbrev S1x256x1024 : Shape := ⟨3, ![1, 256, 1024]⟩
abbrev S1x1x1024 : Shape := ⟨3, ![1, 1, 1024]⟩
abbrev S1024x256 : Shape := ⟨2, ![1024, 256]⟩
abbrev S256x1024 : Shape := ⟨2, ![256, 1024]⟩
abbrev S256 : Shape := ⟨1, ![256]⟩
abbrev S256x1 : Shape := ⟨2, ![256, 1]⟩
abbrev S256x256 : Shape := ⟨2, ![256, 256]⟩

abbrev nBuf : Space → Nat
  | .hbm => 18
  | .vmem => 20
  | .smem => 0
  | _ => 0

abbrev bufTy : (tb : Table) → Fin (tcTables nBuf tb) → BufTy
  | .hbm, ⟨0, _⟩ => ⟨S2x256x1024, .f32⟩
  | .hbm, ⟨1, _⟩ => ⟨S1024, .f32⟩
  | .hbm, ⟨2, _⟩ => ⟨S2x1024, .f32⟩
  | .hbm, ⟨3, _⟩ => ⟨S2x1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S1024, .f32⟩
  | .hbm, ⟨8, _⟩ => ⟨S2x1024, .f32⟩
  | .hbm, ⟨9, _⟩ => ⟨S1024x2816, .bf16⟩
  | .hbm, ⟨10, _⟩ => ⟨S1024x2816, .bf16⟩
  | .hbm, ⟨11, _⟩ => ⟨S2816x1024, .bf16⟩
  | .hbm, ⟨12, _⟩ => ⟨S1x1024, .f32⟩
  | .hbm, ⟨13, _⟩ => ⟨S2x1x1024, .f32⟩
  | .hbm, ⟨14, _⟩ => ⟨S2x1x1024, .f32⟩
  | .hbm, ⟨15, _⟩ => ⟨S1x1024, .f32⟩
  | .hbm, ⟨16, _⟩ => ⟨S2x1x1024, .f32⟩
  | .hbm, ⟨17, _⟩ => ⟨S2x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x256, .bf16⟩
  | .local _ .vmem, ⟨8, _⟩ => ⟨S1024x256, .bf16⟩
  | .local _ .vmem, ⟨9, _⟩ => ⟨S1024x256, .bf16⟩
  | .local _ .vmem, ⟨10, _⟩ => ⟨S1024x256, .bf16⟩
  | .local _ .vmem, ⟨11, _⟩ => ⟨S256x1024, .bf16⟩
  | .local _ .vmem, ⟨12, _⟩ => ⟨S256x1024, .bf16⟩
  | .local _ .vmem, ⟨13, _⟩ => ⟨S1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x256x1024, .f32⟩
  | .local _ .vmem, ⟨17, _⟩ => ⟨S1x256x1024, .f32⟩
  | .local _ .vmem, ⟨18, _⟩ => ⟨S256x1024, .bf16⟩
  | .local _ .vmem, ⟨19, _⟩ => ⟨S256x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨3, ![2, 1, 11], ![false, false, false]⟩

def k0_cond2 (i : grid0.Coords) : BitVec 1 :=
  let arg2 : BitVec 32 := BitVec.ofNat 32 (i 2).val
  let c10_i32 : BitVec 32 := 10#32
  let v28 : BitVec 1 := Scalar.cmpi .eq arg2 c10_i32
  let v29 : BitVec 32 := Scalar.extui v28
  let c0_i32_17 : BitVec 32 := 0#32
  let v30 : BitVec 1 := Scalar.cmpi .ne v29 c0_i32_17
  v30

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]

abbrev stage0_9 : Fin 2 → Memref sig .tc .vmem S1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]
-- ==== Reference14Ideal.lean ====
abbrev S2x256x1024 : Shape := ⟨3, ![2, 256, 1024]⟩
abbrev S1024 : Shape := ⟨1, ![1024]⟩
abbrev S2x1024 : Shape := ⟨2, ![2, 1024]⟩
abbrev S1024x2816 : Shape := ⟨2, ![1024, 2816]⟩
abbrev S2816x1024 : Shape := ⟨2, ![2816, 1024]⟩
abbrev S2x1x1024 : Shape := ⟨3, ![2, 1, 1024]⟩
abbrev S_ : Shape := ⟨0, ![]⟩
abbrev S2x256 : Shape := ⟨2, ![2, 256]⟩
abbrev S2x256x1 : Shape := ⟨3, ![2, 256, 1]⟩
abbrev S1x1x1024 : Shape := ⟨3, ![1, 1, 1024]⟩
abbrev S2x256x2816 : Shape := ⟨3, ![2, 256, 2816]⟩

abbrev nBuf : Space → Nat
  | .hbm => 67
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S1024, .f32⟩
  | .hbm, ⟨2, _⟩ => ⟨S2x1024, .f32⟩
  | .hbm, ⟨3, _⟩ => ⟨S2x1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S1024, .f32⟩
  | .hbm, ⟨8, _⟩ => ⟨S2x1024, .f32⟩
  | .hbm, ⟨9, _⟩ => ⟨S2x1x1024, .f32⟩
  | .hbm, ⟨10, _⟩ => ⟨S2x1x1024, .f32⟩
  | .hbm, ⟨11, _⟩ => ⟨S2x1x1024, .f32⟩
  | .hbm, ⟨12, _⟩ => ⟨S2x256x1024, .f32⟩
  | .hbm, ⟨13, _⟩ => ⟨S_, .f32⟩
  | .hbm, ⟨14, _⟩ => ⟨S2x256, .f32⟩
  | .hbm, ⟨15, _⟩ => ⟨S2x256x1, .f32⟩
  | .hbm, ⟨16, _⟩ => ⟨S_, .f32⟩
  | .hbm, ⟨17, _⟩ => ⟨S2x256x1, .f32⟩
  | .hbm, ⟨18, _⟩ => ⟨S2x256x1, .f32⟩
  | .hbm, ⟨19, _⟩ => ⟨S_, .f32⟩
  | .hbm, ⟨20, _⟩ => ⟨S2x256x1, .f32⟩
  | .hbm, ⟨21, _⟩ => ⟨S2x256x1, .f32⟩
  | .hbm, ⟨22, _⟩ => ⟨S2x256x1, .f32⟩
  | .hbm, ⟨23, _⟩ => ⟨S2x256x1024, .f32⟩
  | .hbm, ⟨24, _⟩ => ⟨S2x256x1024, .f32⟩
  | .hbm, ⟨25, _⟩ => ⟨S1x1x1024, .f32⟩
  | .hbm, ⟨26, _⟩ => ⟨S2x256x1024, .f32⟩
  | .hbm, ⟨27, _⟩ => ⟨S2x256x1024, .f32⟩
  | .hbm, ⟨28, _⟩ => ⟨S_, .f32⟩
  | .hbm, ⟨29, _⟩ => ⟨S2x1x1024, .f32⟩
  | .hbm, ⟨30, _⟩ => ⟨S2x1x1024, .f32⟩
  | .hbm, ⟨31, _⟩ => ⟨S2x256x1024, .f32⟩
  | .hbm, ⟨32, _⟩ => ⟨S2x256x1024, .f32⟩
  | .hbm, ⟨33, _⟩ => ⟨S2x256x1024, .f32⟩
  | .hbm, ⟨34, _⟩ => ⟨S2x256x1024, .f32⟩
  | .hbm, ⟨35, _⟩ => ⟨S2x256x2816, .f32⟩
  | .hbm, ⟨36, _⟩ => ⟨S2x256x2816, .f32⟩
  | .hbm, ⟨37, _⟩ => ⟨S2x256x2816, .f32⟩
  | .hbm, ⟨38, _⟩ => ⟨S_, .f32⟩
  | .hbm, ⟨39, _⟩ => ⟨S2x256x2816, .f32⟩
  | .hbm, ⟨40, _⟩ => ⟨S2x256x2816, .f32⟩
  | .hbm, ⟨41, _⟩ => ⟨S_, .f32⟩
  | .hbm, ⟨42, _⟩ => ⟨S2x256x2816, .f32⟩
  | .hbm, ⟨43, _⟩ => ⟨S2x256x2816, .f32⟩
  | .hbm, ⟨44, _⟩ => ⟨S2x256x2816, .f32⟩
  | .hbm, ⟨45, _⟩ => ⟨S2x256x2816, .f32⟩
  | .hbm, ⟨46, _⟩ => ⟨S2x256x2816, .f32⟩
  | .hbm, ⟨47, _⟩ => ⟨S2x256x1024, .f32⟩
  | .hbm, ⟨48, _⟩ => ⟨S2x256x1024, .f32⟩
  | .hbm, ⟨49, _⟩ => ⟨S_, .f32⟩
  | .hbm, ⟨50, _⟩ => ⟨S2x256, .f32⟩
  | .hbm, ⟨51, _⟩ => ⟨S2x256x1, .f32⟩
  | .hbm, ⟨52, _⟩ => ⟨S_, .f32⟩
  | .hbm, ⟨53, _⟩ => ⟨S2x256x1, .f32⟩
  | .hbm, ⟨54, _⟩ => ⟨S2x256x1, .f32⟩
  | .hbm, ⟨55, _⟩ => ⟨S_, .f32⟩
  | .hbm, ⟨56, _⟩ => ⟨S2x256x1, .f32⟩
  | .hbm, ⟨57, _⟩ => ⟨S2x256x1, .f32⟩
  | .hbm, ⟨58, _⟩ => ⟨S2x256x1, .f32⟩
  | .hbm, ⟨59, _⟩ => ⟨S2x256x1024, .f32⟩
  | .hbm, ⟨60, _⟩ => ⟨S2x256x1024, .f32⟩
  | .hbm, ⟨61, _⟩ => ⟨S1x1x1024, .f32⟩
  | .hbm, ⟨62, _⟩ => ⟨S2x256x1024, .f32⟩
  | .hbm, ⟨63, _⟩ => ⟨S2x256x1024, .f32⟩
  | .hbm, ⟨64, _⟩ => ⟨S2x256x1024, .f32⟩
  | .hbm, ⟨65, _⟩ => ⟨S2x256x1024, .f32⟩
  | .hbm, ⟨66, _⟩ => ⟨S2x256x1024, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_3 : Ref sig .tc := ⟨.hbm, 49, rfl⟩
abbrev main_v28 : Ref sig .tc := ⟨.hbm, 50, rfl⟩
abbrev main_v29 : Ref sig .tc := ⟨.hbm, 51, rfl⟩
abbrev main_cst_4 : Ref sig .tc := ⟨.hbm, 52, rfl⟩
abbrev main_v30 : Ref sig .tc := ⟨.hbm, 53, rfl⟩
abbrev main_v31 : Ref sig .tc := ⟨.hbm, 54, rfl⟩
abbrev main_cst_5 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩

abbrev nD : Nat := 1
abbrev τ : Topo := Topo.v7x

variable {F : FTy → Type} [FloatOps F]
-- ==== Kernel15.lean ====
abbrev S2x4x256x128 : Shape := ⟨4, ![2, 4, 256, 128]⟩
abbrev S2x2x256x128 : Shape := ⟨4, ![2, 2, 256, 128]⟩
abbrev S_ : Shape := ⟨0, ![]⟩
abbrev S1x1x256x128 : Shape := ⟨4, ![1, 1, 256, 128]⟩
abbrev S256x128 : Shape := ⟨2, ![256, 128]⟩
abbrev S256x256 : Shape := ⟨2, ![256, 256]⟩
abbrev S256 : Shape := ⟨1, ![256]⟩
abbrev S256x1 : Shape := ⟨2, ![256, 1]⟩

abbrev nBuf : Space → Nat
  | .hbm => 10
  | .vmem => 8
  | .smem => 0
  | _ => 0

abbrev bufTy : (tb : Table) → Fin (tcTables nBuf tb) → BufTy
  | .hbm, ⟨0, _⟩ => ⟨S2x4x256x128, .f32⟩
  | .hbm, ⟨1, _⟩ => ⟨S2x2x256x128, .f32⟩
  | .hbm, ⟨2, _⟩ => ⟨S2x2x256x128, .f32⟩
  | .hbm, ⟨3, _⟩ => ⟨S_, .f32⟩
  | .hbm, ⟨4, _⟩ => ⟨S2x4x256x128, .f32⟩
  | .hbm, ⟨5, _⟩ => ⟨S2x4x256x128, .f32⟩
  | .hbm, ⟨6, _⟩ => ⟨S2x4x256x128, .bf16⟩
  | .hbm, ⟨7, _⟩ => ⟨S2x2x256x128, .bf16⟩
  | .hbm, ⟨8, _⟩ => ⟨S2x2x256x128, .bf16⟩
  | .hbm, ⟨9, _⟩ => ⟨S2x4x256x128, .f32⟩
  | .local _ .vmem, ⟨0, _⟩ => ⟨S1x1x256x128, .bf16⟩
  | .local _ .vmem, ⟨1, _⟩ => ⟨S1x1x256x128, .bf16⟩
  | .local _ .vmem, ⟨2, _⟩ => ⟨S1x1x256x128, .bf16⟩
  | .local _ .vmem, ⟨3, _⟩ => ⟨S1x1x256x128, .bf16⟩
  | .local _ .vmem, ⟨4, _⟩ => ⟨S1x1x256x128, .bf16⟩
  | .local _ .vmem, ⟨5, _⟩ => ⟨S1x1x256x128, .bf16⟩
  | .local _ .vmem, ⟨6, _⟩ => ⟨S1x1x256x128, .f32⟩
  | .local _ .vmem, ⟨7, _⟩ => ⟨S1x1x256x128, .f32⟩
  | _, _ => ⟨S2x4x256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![arg0.toNat, v16.toNat, c0_i32_4.toNat, c0_i32_5.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![arg0.toNat, v16.toNat, c0_i32_4.toNat, c0_i32_5.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== Reference15Ideal.lean ====
abbrev S2x4x256x128 : Shape := ⟨4, ![2, 4, 256, 128]⟩
abbrev S2x2x256x128 : Shape := ⟨4, ![2, 2, 256, 128]⟩
abbrev S2x2x2x256x128 : Shape := ⟨5, ![2, 2, 2, 256, 128]⟩
abbrev S2x2x2x256x256 : Shape := ⟨5, ![2, 2, 2, 256, 256]⟩
abbrev S_ : Shape := ⟨0, ![]⟩
abbrev S2x2x2x256 : Shape := ⟨4, ![2, 2, 2, 256]⟩
abbrev S2x2x2x256x1 : Shape := ⟨5, ![2, 2, 2, 256, 1]⟩

abbrev nBuf : Space → Nat
  | .hbm => 24
  | .vmem => 0
  | .smem => 0
  | _ => 0

abbrev bufTy : (tb : Table) → Fin (tcTables nBuf tb) → BufTy
  | .hbm, ⟨0, _⟩ => ⟨S2x4x256x128, .f32⟩
  | .hbm, ⟨1, _⟩ => ⟨S2x2x256x128, .f32⟩
  | .hbm, ⟨2, _⟩ => ⟨S2x2x256x128, .f32⟩
  | .hbm, ⟨3, _⟩ => ⟨S2x2x2x256x128, .f32⟩
  | .hbm, ⟨4, _⟩ => ⟨S2x2x2x256x256, .f32⟩
  | .hbm, ⟨5, _⟩ => ⟨S_, .f32⟩
  | .hbm, ⟨6, _⟩ => ⟨S2x2x2x256x256, .f32⟩
  | .hbm, ⟨7, _⟩ => ⟨S2x2x2x256x256, .f32⟩
  | .hbm, ⟨8, _⟩ => ⟨S_, .f32⟩
  | .hbm, ⟨9, _⟩ => ⟨S2x2x2x256, .f32⟩
  | .hbm, ⟨10, _⟩ => ⟨S_, .f32⟩
  | .hbm, ⟨11, _⟩ => ⟨S2x2x2x256, .f32⟩
  | .hbm, ⟨12, _⟩ => ⟨S2x2x2x256, .f32⟩
  | .hbm, ⟨13, _⟩ => ⟨S2x2x2x256x1, .f32⟩
  | .hbm, ⟨14, _⟩ => ⟨S2x2x2x256x256, .f32⟩
  | .hbm, ⟨15, _⟩ => ⟨S2x2x2x256x256, .f32⟩
  | .hbm, ⟨16, _⟩ => ⟨S2x2x2x256x256, .f32⟩
  | .hbm, ⟨17, _⟩ => ⟨S_, .f32⟩
  | .hbm, ⟨18, _⟩ => ⟨S2x2x2x256, .f32⟩
  | .hbm, ⟨19, _⟩ => ⟨S2x2x2x256x1, .f32⟩
  | .hbm, ⟨20, _⟩ => ⟨S2x2x2x256x256, .f32⟩
  | .hbm, ⟨21, _⟩ => ⟨S2x2x2x256x256, .f32⟩
  | .hbm, ⟨22, _⟩ => ⟨S2x2x2x256x128, .f32⟩
  | .hbm, ⟨23, _⟩ => ⟨S2x4x256x128, .f32⟩
  | _, _ => ⟨S2x4x256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Proof.Top2.lean ====
module

public import Idealize.ShloMosaic.Lib.SortFacts
public import Idealize.ShloMosaic.PureOps.Ideal.Laws
public import Idealize.ShloMosaic.Lib.Pointwise.Select
public import Idealize.ShloMosaic.Lib.WordArith

@[expose] public section

noncomputable section

/-! # The two largest of eight, ties to the lower index

What a stable descending sort puts first and second, and what two passes of "maximum, then the first lane that attains it"
find, is the same pair of indices. Here that pair is characterized and shown to be unique, and both procedures are shown
to find it. -/

namespace Moe

open Idealize.ShloMosaic

/-- `a` is the first index of the maximum of `l`, and `b` is the first index of the maximum of the rest. -/
structure IsTop2 (l : Fin 8 → EReal) (a b : Fin 8) : Prop where
  le_fst : ∀ j, l j ≤ l a
  lt_fst : ∀ j, j < a → l j < l a
  ne : b ≠ a
  le_snd : ∀ j, j ≠ a → l j ≤ l b
  lt_snd : ∀ j, j ≠ a → j < b → l j < l b

/-- The pair is unique. -/
theorem IsTop2.unique {l : Fin 8 → EReal} {a b a' b' : Fin 8} (h : IsTop2 l a b) (h' : IsTop2 l a' b') : a = a' ∧ b = b' := by
  have e : a = a' := by
    rcases lt_trichotomy a a' with k | k | k
    · exact absurd (h'.lt_fst a k) (not_lt.mpr (h.le_fst a'))
    · exact k
    · exact absurd (h.lt_fst a' k) (not_lt.mpr (h'.le_fst a))
  subst e
  refine ⟨rfl, ?_⟩
  rcases lt_trichotomy b b' with k | k | k
  · exact absurd (h'.lt_snd b h.ne k) (not_lt.mpr (h.le_snd b' h'.ne))
  · exact k
  · exact absurd (h.lt_snd b' h'.ne k) (not_lt.mpr (h'.le_snd b h.ne))

/-- "Comes before" in the descending order in which equal elements keep their index order. -/
def Before (l : Fin 8 → EReal) (b c : Fin 8) : Prop := l c ≤ l b ∧ (b < c ∨ l c < l b)

theorem pairwise_insert (l : Fin 8 → EReal) (B : Fin 8 → Fin 8 → Bool) (hB : ∀ b c, B b c = true ↔ l c < l b) (a : Fin 8)
    (m : List (Fin 8)) (ha : ∀ c ∈ m, a < c) (hm : m.Pairwise (Before l)) : (insertBefore B a m).Pairwise (Before l) := by
  induction m with
  | nil => exact List.pairwise_singleton _ _
  | cons b m ih =>
    rw [List.pairwise_cons] at hm
    unfold insertBefore
    split
    · rename_i h
      refine List.pairwise_cons.mpr ⟨fun c hc => ?_, ih (fun c hc => ha c (List.mem_cons_of_mem _ hc)) hm.2⟩
      rcases List.mem_cons.mp ((perm_insertBefore B a m).mem_iff.mp hc) with rfl | hc'
      · exact ⟨((hB _ _).mp h).le, .inr ((hB _ _).mp h)⟩
      · exact hm.1 c hc'
    · rename_i h
      have hba : l b ≤ l a := not_lt.mp fun k => h ((hB _ _).mpr k)
      refine List.pairwise_cons.mpr ⟨fun c hc => ⟨?_, .inl (ha c hc)⟩, List.pairwise_cons.mpr hm⟩
      rcases List.mem_cons.mp hc with rfl | hc'
      · exact hba
      · exact (hm.1 c hc').1.trans hba

theorem pairwise_sort (l : Fin 8 → EReal) (B : Fin 8 → Fin 8 → Bool) (hB : ∀ b c, B b c = true ↔ l c < l b)
    (m : List (Fin 8)) (hm : m.Pairwise (· < ·)) : (stableSort B m).Pairwise (Before l) := by
  induction m with
  | nil => exact List.Pairwise.nil
  | cons a m ih =>
    rw [List.pairwise_cons] at hm
    unfold stableSort
    exact pairwise_insert l B hB a _ (fun c hc => hm.1 c ((perm_stableSort B m).mem_iff.mp hc)) (ih hm.2)

/-- The stable descending sort puts elements in the order `Before`. -/
theorem before_sortedFrom (l : Fin 8 → EReal) (B : Fin 8 → Fin 8 → Bool) (hB : ∀ b c, B b c = true ↔ l c < l b)
    (i j : Fin 8) (hij : i < j) : Before l (sortedFrom B i) (sortedFrom B j) := by
  have hp := List.pairwise_iff_get.mp (pairwise_sort l B hB (List.finRange 8) (List.pairwise_lt_finRange 8))
  unfold sortedFrom sortPositions
  exact hp _ _ (by simp only [Fin.lt_def, Fin.val_cast]; exact hij)

/-- The first two positions of the stable descending sort are the two largest. -/
theorem isTop2_sortedFrom (l : Fin 8 → EReal) (B : Fin 8 → Fin 8 → Bool) (hB : ∀ b c, B b c = true ↔ l c < l b) :
    IsTop2 l (sortedFrom B 0) (sortedFrom B 1) := by
  have h0 : ∀ j, j ≠ sortedFrom B 0 → Before l (sortedFrom B 0) j := fun j hj => by
    obtain ⟨k, rfl⟩ := sortedFrom_surjective B j
    exact before_sortedFrom l B hB 0 k (Fin.pos_iff_ne_zero.mpr fun e => hj (by rw [e]))
  have h1 : ∀ j, j ≠ sortedFrom B 0 → j ≠ sortedFrom B 1 → Before l (sortedFrom B 1) j := fun j hj hj' => by
    obtain ⟨k, rfl⟩ := sortedFrom_surjective B j
    refine before_sortedFrom l B hB 1 k ?_
    have a0 : k ≠ 0 := fun e => hj (by rw [e])
    have a1 : k ≠ 1 := fun e => hj' (by rw [e])
    rw [Fin.lt_def]
    have b0 : k.val ≠ 0 := fun e => a0 (Fin.ext e)
    have b1 : k.val ≠ 1 := fun e => a1 (Fin.ext e)
    show 1 < k.val
    omega
  refine ⟨fun j => ?_, fun j hj => ?_, fun e => ?_, fun j hj => ?_, fun j hj hj' => ?_⟩
  · by_cases e : j = sortedFrom B 0
    · rw [e]
    · exact (h0 j e).1
  · exact (h0 j hj.ne).2.resolve_left (not_lt.mpr hj.le)
  · exact absurd (sortedFrom_injective B e) (by decide)
  · by_cases e : j = sortedFrom B 1
    · rw [e]
    · exact (h1 j hj e).1
  · exact (h1 j hj hj'.ne).2.resolve_left (not_lt.mpr hj'.le)

/-- Every eight values have a pair of two largest. -/
theorem exists_isTop2 (l : Fin 8 → EReal) : ∃ a b, IsTop2 l a b :=
  ⟨_, _, isTop2_sortedFrom l (fun b c => decide (l c < l b)) fun _ _ => decide_eq_true_iff⟩

/-- The index of the largest, the lowest among equals. -/
def top1 (l : Fin 8 → EReal) : Fin 8 := (exists_isTop2 l).choose
/-- The index of the second largest, the lowest among equals. -/
def top2 (l : Fin 8 → EReal) : Fin 8 := (exists_isTop2 l).choose_spec.choose
theorem isTop2_top (l : Fin 8 → EReal) : IsTop2 l (top1 l) (top2 l) := (exists_isTop2 l).choose_spec.choose_spec

/-- The fold of `max` from the bottom over the lanes is the value at a lane that no lane exceeds. -/
theorem fold_max_eq {n : ℕ} (L : Fin n → EReal) (j : Fin n) (hj : ∀ k, L k ≤ L j) :
    (Finset.univ : Finset (Fin n)).fold max ⊥ L = L j := by
  refine le_antisymm (Finset.fold_max_le _ |>.mpr ⟨bot_le, fun k _ => hj k⟩) ?_
  exact (Finset.le_fold_max _).mpr (.inr ⟨j, Finset.mem_univ _, le_rfl⟩)

theorem minsi_eq (a b : BitVec 32) : IntOp.minsi a b = if a.slt b = true then a else b := rfl

/-- The fold of the signed minimum of words below `2³¹` is a lower bound of them, and one of them or the initial word. -/
theorem toNat_fold_minsi {S : Finset (Fin 128)} (f : Fin 128 → BitVec 32)
    [Std.Commutative (IntOp.minsi (w := 32))] [Std.Associative (IntOp.minsi (w := 32))] (hf : ∀ k, (f k).toNat < 2 ^ 31) :
    (S.fold IntOp.minsi 2147483647#32 f).toNat < 2 ^ 31 ∧ (∀ k ∈ S, (S.fold IntOp.minsi 2147483647#32 f).toNat ≤ (f k).toNat)
      ∧ (S.fold IntOp.minsi 2147483647#32 f = 2147483647#32 ∨ ∃ k ∈ S, S.fold IntOp.minsi 2147483647#32 f = f k) := by
  classical
  induction S using Finset.induction_on with
  | empty =>
    rw [Finset.fold_empty]
    exact ⟨by decide, fun k hk => absurd hk (Finset.notMem_empty k), .inl rfl⟩
  | insert a S ha ih =>
    rw [Finset.fold_insert ha]
    have e := WordArith.toNat_minsi_of_lt (f a) (S.fold IntOp.minsi 2147483647#32 f) (hf a) ih.1
    refine ⟨by rw [e]; exact lt_of_le_of_lt (min_le_left _ _) (hf a), fun k hk => ?_, ?_⟩
    · rw [e]
      rcases Finset.mem_insert.mp hk with rfl | hk'
      · exact min_le_left _ _
      · exact (min_le_right _ _).trans (ih.2.1 k hk')
    · by_cases hs : (f a).slt (S.fold IntOp.minsi 2147483647#32 f) = true
      · exact .inr ⟨a, Finset.mem_insert_self _ _, by rw [minsi_eq, if_pos hs]⟩
      · have er : IntOp.minsi (f a) (S.fold IntOp.minsi 2147483647#32 f) = S.fold IntOp.minsi 2147483647#32 f := by
          rw [minsi_eq, if_neg hs]
        rw [er]
        rcases ih.2.2 with h | ⟨k, hk, h⟩
        · exact .inl h
        · exact .inr ⟨k, Finset.mem_insert_of_mem hk, h⟩

/-- The first lane that attains the maximum, as the kernel finds it. -/
theorem fold_minsi_eq (L : Fin 128 → EReal) (j : Fin 128) (hj : ∀ k, L k ≤ L j) (hj' : ∀ k, k < j → L k < L j)
    [Std.Commutative (IntOp.minsi (w := 32))] [Std.Associative (IntOp.minsi (w := 32))] (f : Fin 128 → BitVec 32)
    (hf : ∀ k, f k = if L k = L j then BitVec.ofNat 32 k.val else 128#32) :
    (Finset.univ : Finset (Fin 128)).fold IntOp.minsi 2147483647#32 f = BitVec.ofNat 32 j.val := by
  have hb : ∀ k, (f k).toNat < 2 ^ 31 := fun k => by
    rw [hf]; split
    · rw [BitVec.toNat_ofNat]; have := k.isLt; omega
    · decide
  obtain ⟨-, h2, h3⟩ := toNat_fold_minsi (S := Finset.univ) f hb
  have hjv : (f j).toNat = j.val := by rw [hf, if_pos rfl, BitVec.toNat_ofNat]; have := j.isLt; omega
  have hle := h2 j (Finset.mem_univ _)
  rw [hjv] at hle
  have := j.isLt
  rcases h3 with h | ⟨k, -, h⟩
  · rw [h] at hle; exact absurd hle (by show ¬ 2147483647 ≤ j.val; omega)
  · have hk := hf k
    split at hk
    · rename_i hq
      have hkv : (f k).toNat = k.val := by rw [hk, BitVec.toNat_ofNat]; have := k.isLt; omega
      rw [h, hkv] at hle
      rw [h, hk]
      rcases hle.lt_or_eq with g | g
      · exact absurd hq (hj' k g).ne
      · rw [g]
    · rw [h, hk] at hle; exact absurd hle (by show ¬ 128 ≤ j.val; omega)

end Moe

end
-- ==== Proof.Spec.lean ====
module

public import proofs.«01_k».proof.Proof.Top2
public import Idealize.ShloMosaic.Lib.IdealHost
public import Idealize.ShloMosaic.Lib.Pointwise.Select

@[expose] public section

noncomputable section

/-! # The layer on one row

One row `x` of 1024 values is normalized and modulated, routed to the two experts of largest logit, sent through the
experts, normalized again and added to the row. Here each step is a function on extended reals, with the facts that let
the kernel's order of operations be exchanged for the reference's. -/

namespace Moe

open Idealize.ShloMosaic

/-- The value is a real number: neither infinity. -/
def IsReal (x : EReal) : Prop := ∃ r : ℝ, (r : EReal) = x

theorem IsReal.add {x y : EReal} (hx : IsReal x) (hy : IsReal y) : IsReal (x + y) := by
  obtain ⟨r, rfl⟩ := hx; obtain ⟨s, rfl⟩ := hy; exact ⟨r + s, EReal.coe_add r s⟩
theorem IsReal.mul {x y : EReal} (hx : IsReal x) (hy : IsReal y) : IsReal (x * y) := by
  obtain ⟨r, rfl⟩ := hx; obtain ⟨s, rfl⟩ := hy; exact ⟨r * s, EReal.coe_mul r s⟩
theorem IsReal.sum {n : ℕ} {f : Fin n → EReal} (S : Finset (Fin n)) (h : ∀ i, IsReal (f i)) : IsReal (∑ i ∈ S, f i) := by
  classical
  induction S using Finset.induction_on with
  | empty => exact ⟨0, by simp⟩
  | insert a S ha ih => rw [Finset.sum_insert ha]; exact (h a).add ih
theorem IsReal.one : IsReal 1 := ⟨1, rfl⟩
theorem IsReal.zero : IsReal 0 := ⟨0, rfl⟩
theorem IsReal.sub_self {x : EReal} (h : IsReal x) : x - x = 0 := by
  obtain ⟨r, rfl⟩ := h; rw [← EReal.coe_sub, _root_.sub_self, EReal.coe_zero]
theorem IsReal.bot_lt {x : EReal} (h : IsReal x) : ⊥ < x := by obtain ⟨r, rfl⟩ := h; exact EReal.bot_lt_coe r
theorem isReal_of_lt {x : EReal} (h : max x (-x) < ⊤) : IsReal x := by
  rw [max_lt_iff] at h
  induction x using EReal.rec with
  | bot => exact absurd h.2 (by simp)
  | coe r => exact ⟨r, rfl⟩
  | top => exact absurd h.1 (by simp)

/-- The number of features, as the programs write it. -/
def width : EReal := Ideal.ofBits .f32 0x44800000#32
/-- The constant added to the mean of squares. -/
def eps : EReal := Ideal.ofBits .f32 0x358637BD#32

theorem width_eq : width = ((1024 : ℝ) : EReal) := by
  unfold width
  simp [Ideal.ofBits, Ideal.ieee, -EReal.coe_mul]; norm_num

theorem eps_pos : ∃ r : ℝ, 0 < r ∧ eps = (r : EReal) := by
  unfold eps
  simp only [Ideal.ofBits, Ideal.ieee]
  refine ⟨_, ?_, by simp [-EReal.coe_mul]; rfl⟩
  norm_num

/-- A row over its root mean square. -/
def nrm (v : Fin 1024 → EReal) (k : Fin 1024) : EReal :=
  v k * Ideal.rsqrt (Ideal.div (∑ i, v i * v i) width + eps)

theorem mul_self_nonneg' (x : EReal) : 0 ≤ x * x := by
  induction x using EReal.rec with
  | bot => simp
  | coe r => rw [← EReal.coe_mul]; exact EReal.coe_nonneg.mpr (mul_self_nonneg r)
  | top => simp

/-- A normalized row is real whatever the row: where an entry is infinite the factor is zero. -/
theorem nrm_isReal (v : Fin 1024 → EReal) (k : Fin 1024) : IsReal (nrm v k) := by
  unfold nrm
  obtain ⟨e, he, hE⟩ := eps_pos
  rw [hE, width_eq, Ideal.div_coe (by norm_num)]
  by_cases h : ∀ i, IsReal (v i)
  · obtain ⟨s, hs⟩ := IsReal.sum Finset.univ fun i => (h i).mul (h i)
    have h0 : (0 : EReal) ≤ ∑ i, v i * v i := Finset.sum_nonneg fun i _ => mul_self_nonneg' _
    rw [← hs] at h0 ⊢
    have h0' : 0 ≤ s := EReal.coe_nonneg.mp h0
    rw [← EReal.coe_mul, ← EReal.coe_add, Ideal.rsqrt_coe]
    have hp : 0 < s * (1 / 1024) + e := by positivity
    rw [if_neg (not_lt.mpr hp.le), if_neg hp.ne']
    exact (h k).mul ⟨_, rfl⟩
  · obtain ⟨i, hi⟩ := not_forall.mp h
    have ht : v i * v i = ⊤ := by
      generalize v i = y at hi ⊢
      induction y using EReal.rec with
      | bot => simp
      | coe r => exact absurd ⟨r, rfl⟩ hi
      | top => simp
    have hS : (∑ i, v i * v i) = ⊤ := by
      refine le_antisymm le_top ?_
      rw [← ht]
      exact Finset.single_le_sum (f := fun i => v i * v i) (fun j _ => mul_self_nonneg' _) (Finset.mem_univ i)
    rw [hS, EReal.top_mul_coe_of_pos (by norm_num), EReal.top_add_coe, Ideal.rsqrt_top, mul_zero]
    exact IsReal.zero

/-- The modulated row: normalized, times the input gain, times one plus the scale, plus the shift. -/
def hid (x g s t : Fin 1024 → EReal) (k : Fin 1024) : EReal := nrm x k * g k * (1 + s k) + t k

theorem hid_isReal {x g s t : Fin 1024 → EReal} (hg : ∀ k, IsReal (g k)) (hs : ∀ k, IsReal (s k)) (ht : ∀ k, IsReal (t k))
    (k : Fin 1024) : IsReal (hid x g s t k) :=
  (((nrm_isReal x k).mul (hg k)).mul (IsReal.one.add (hs k))).add (ht k)

/-- The logits of a row: its product with the router. -/
def logit (h : Fin 1024 → EReal) (r : Fin 1024 → Fin 8 → EReal) (e : Fin 8) : EReal := ∑ k, h k * r k e

theorem logit_isReal {h : Fin 1024 → EReal} {r : Fin 1024 → Fin 8 → EReal} (hh : ∀ k, IsReal (h k)) (hr : ∀ k e, IsReal (r k e))
    (e : Fin 8) : IsReal (logit h r e) := IsReal.sum _ fun k => (hh k).mul (hr k e)

/-- The exponential of the second largest logit less the largest. -/
def second (l : Fin 8 → EReal) : EReal := Ideal.exp (l (top2 l) - l (top1 l))
/-- The weight of the largest. -/
def wt1 (l : Fin 8 → EReal) : EReal := Ideal.div 1 (1 + second l)
/-- The gates of a row: the two weights at the two experts, zero elsewhere. -/
def gate (l : Fin 8 → EReal) (e : Fin 8) : EReal :=
  (if e = top1 l then wt1 l else 0) + (if e = top2 l then second l * wt1 l else 0)

theorem second_real {l : Fin 8 → EReal} (hl : ∀ e, IsReal (l e)) : ∃ p : ℝ, 0 < p ∧ second l = (p : EReal) := by
  obtain ⟨a, ha⟩ := hl (top1 l); obtain ⟨b, hb⟩ := hl (top2 l)
  exact ⟨Real.exp (b - a), Real.exp_pos _, by unfold second; rw [← ha, ← hb, ← EReal.coe_sub, Ideal.exp_coe]⟩

theorem wt1_real {l : Fin 8 → EReal} (hl : ∀ e, IsReal (l e)) : ∃ w : ℝ, 0 ≤ w ∧ wt1 l = (w : EReal) := by
  obtain ⟨p, hp, e⟩ := second_real hl
  have hp' : 1 + p ≠ 0 := by positivity
  refine ⟨1 * (1 / (1 + p)), by positivity, ?_⟩
  unfold wt1
  rw [e, show (1 : EReal) + (p : EReal) = ((1 + p : ℝ) : EReal) by rw [EReal.coe_add, EReal.coe_one], Ideal.div_coe hp',
    EReal.coe_mul, EReal.coe_one]

theorem gate_real {l : Fin 8 → EReal} (hl : ∀ e, IsReal (l e)) (e : Fin 8) : ∃ w : ℝ, 0 ≤ w ∧ gate l e = (w : EReal) := by
  obtain ⟨p, hp, ep⟩ := second_real hl
  obtain ⟨w, hw, ew⟩ := wt1_real hl
  unfold gate
  rw [ep, ew, ← EReal.coe_mul]
  refine ⟨(if e = top1 l then w else 0) + (if e = top2 l then p * w else 0), ?_, ?_⟩
  · split <;> split <;> positivity
  · rw [EReal.coe_add]; split <;> split <;> rfl

/-- The weight of the second largest is what the softmax of the two gives it. -/
theorem second_mul_wt1 {l : Fin 8 → EReal} (hl : ∀ e, IsReal (l e)) :
    second l * wt1 l = Ideal.div (second l) (1 + second l) := by
  obtain ⟨p, hp, e⟩ := second_real hl
  have hp' : 1 + p ≠ 0 := by positivity
  unfold wt1
  rw [e, show (1 : EReal) + (p : EReal) = ((1 + p : ℝ) : EReal) by rw [EReal.coe_add, EReal.coe_one], Ideal.div_coe hp',
    Ideal.div_coe hp', one_mul]

/-- The swish of `a`. -/
def silu (a : EReal) : EReal := a * Ideal.div 1 (1 + Ideal.exp (-a))

/-- One hidden unit of an expert. -/
def act (h : Fin 1024 → EReal) (wg wu : Fin 1024 → EReal) : EReal := silu (∑ k, h k * wg k) * ∑ k, h k * wu k

/-- A nonnegative real factor moves out of a sum. -/
theorem mul_sum_of_real {n : ℕ} (S : Finset (Fin n)) (w : ℝ) (hw : 0 ≤ w) (f : Fin n → EReal) :
    ∑ i ∈ S, (w : EReal) * f i = (w : EReal) * ∑ i ∈ S, f i := by
  classical
  induction S using Finset.induction_on with
  | empty => simp
  | insert a S ha ih =>
    rw [Finset.sum_insert ha, Finset.sum_insert ha, ih,
      EReal.left_distrib_of_nonneg_of_ne_top (EReal.coe_nonneg.mpr hw) (EReal.coe_ne_top w)]

/-- One expert's output at column `n`. -/
def expert (h : Fin 1024 → EReal) (wg wu : Fin 1024 → Fin 3584 → EReal) (wd : Fin 3584 → EReal) : EReal :=
  ∑ j, act h (fun k => wg k j) (fun k => wu k j) * wd j

/-- The mixture at column `n`: the experts' outputs times the gates. -/
def mix (l : Fin 8 → EReal) (h : Fin 1024 → EReal) (wg wu : Fin 8 → Fin 1024 → Fin 3584 → EReal)
    (wd : Fin 8 → Fin 3584 → Fin 1024 → EReal) (n : Fin 1024) : EReal :=
  ∑ e, gate l e * expert h (wg e) (wu e) fun j => wd e j n

end Moe

end
-- ==== Proof.RefSide.lean ====
module

public import proofs.«01_k».proof.Proof.Gen.ReferenceIdeal.Read
public import proofs.«01_k».proof.Proof.Spec
public import Idealize.ShloMosaic.Lib.IdealHost

@[expose] public section

set_option maxRecDepth 16384

noncomputable section

/-! # The reference on one row

Each stage of the reference, read at a row, is the corresponding function of `Spec.lean` on that row. -/

namespace Cert.ReferenceIdeal.Moe

open Cert.ReferenceIdeal Cert.ReferenceIdeal.Gen Cert.ReferenceIdeal.Read Idealize.ShloMosaic.TcCoe
open Idealize.ShloMosaic

/-- A row of the input. -/
abbrev xrow (x0 : S2x8192x1024.Idx → EReal) (b : Fin 2) (r : Fin 8192) (k : Fin 1024) : EReal := x0 (ix3 b r k)

variable (x0 : (⟨S2x8192x1024, .f32⟩ : BufTy).Contents (Elt Ideal)) (x1 : (⟨S1024, .f32⟩ : BufTy).Contents (Elt Ideal))
  (x2 x3 : (⟨S2x1024, .f32⟩ : BufTy).Contents (Elt Ideal)) (x4 : (⟨S1024x8, .f32⟩ : BufTy).Contents (Elt Ideal))
  (x5 x6 : (⟨S8x1024x3584, .f32⟩ : BufTy).Contents (Elt Ideal)) (x7 : (⟨S8x3584x1024, .f32⟩ : BufTy).Contents (Elt Ideal))
  (x8 : (⟨S1024, .f32⟩ : BufTy).Contents (Elt Ideal)) (x9 : (⟨S2x1024, .f32⟩ : BufTy).Contents (Elt Ideal))
  (b : Fin 2) (r : Fin 8192)

/-- The reference's modulated row. -/
abbrev hrow : Fin 1024 → EReal :=
  Moe.hid (fun k => x0 (ix3 b r k)) (fun k => x1 (ix1 k)) (fun k => x3 (ix2 b k)) fun k => x2 (ix2 b k)

/-- The reference's logits of a row. -/
abbrev lrow : Fin 8 → EReal := Moe.logit (hrow x0 x1 x2 x3 b r) fun k e => x4 (ix2 k e)

/-- The stage that normalizes and modulates, on a row. -/
theorem v21_row (k : Fin 1024) : val_main_v21 (F := Ideal) x0 x1 x2 x3 (ix3 b r k) = hrow x0 x1 x2 x3 b r k := by
  have a1 : idx_main_v5 (idx_main_v11 (ix3 b r k)) = ix2 b r := eq_ix2 _
  have a2 : ∀ i, idx_main_v4 (ix2 b r) i = ix3 b r i := fun i => eq_ix3 _
  have a3 : idx_main_v13 (idx_main_v14 (ix3 b r k)) = ix1 k := eq_ix1 _
  have a4 : idx_main_v1 (idx_main_v18 (ix3 b r k)) = ix2 b k := eq_ix2 _
  have a5 : idx_main_v0 (idx_main_v20 (ix3 b r k)) = ix2 b k := eq_ix2 _
  rw [val_main_v21_apply, val_main_v19_apply, val_main_v20_apply, val_main_v0_apply, val_main_v18_apply, val_main_v17_apply,
    val_main_v16_apply, val_main_cst_2_apply, val_main_v1_apply, val_main_v15_apply, val_main_v14_apply, val_main_v13_apply,
    val_main_v12_apply, val_main_v11_apply, val_main_v10_apply, val_main_v9_apply, val_main_v8_apply, val_main_cst_1_apply,
    val_main_v7_apply, val_main_v6_apply, val_main_cst_0_apply, val_main_v5_apply, val_main_v4_apply, val_main_cst_apply,
    a1, a3, a4, a5]
  simp only [val_main_v3_apply, a2]
  simp only [hrow, Moe.hid, Moe.nrm, Moe.width, Moe.eps, Ideal.ofBits_def, Ideal.ofBits_one_f32, Ideal.ofBits_zero_f32, zero_add,
    Ideal.addf_def, Ideal.mulf_def, Ideal.hostUnary_rsqrt_def, Ideal.hostDivf_def]

/-- The router's logits, on a row. -/
theorem v22_row (e : Fin 8) : val_main_v22 (F := Ideal) x0 x1 x2 x3 x4 (ix3 b r e) = lrow x0 x1 x2 x3 x4 b r e := by
  rw [val_main_v22_apply]
  unfold lrow Moe.logit
  refine Finset.sum_congr rfl fun k _ => ?_
  rw [show lidx_main_v22 (ix3 b r e) k = ix3 b r k from eq_ix3 _, show ridx_main_v22 (ix3 b r e) k = ix2 k e from eq_ix2 _, v21_row]

end Cert.ReferenceIdeal.Moe

end
-- ==== Proof.TopK.lean ====
module

public import proofs.«01_k».proof.Proof.Gen.ReferenceIdeal.Read
public import proofs.«01_k».proof.Proof.Spec

@[expose] public section

set_option maxRecDepth 16384

noncomputable section

namespace Cert.ReferenceIdeal.Moe

open Cert.ReferenceIdeal Cert.ReferenceIdeal.Gen Idealize.ShloMosaic

/-- The order in which the reference sorts the logits of a row. -/
def ord (x : S2x8192x8.Idx → EReal) (b : Fin 2) (r : Fin 8192) (k k' : Fin 8) : Bool :=
  FloatOps.cmpfTotal (F := Ideal) (φ := .f32) .gt (x (ix3 b r k)) (x (ix3 b r k')) == 1#1

theorem along_row (b : Fin 2) (r : Fin 8192) (k k' : Fin 8) : (ix3 b r k : S2x8192x8.Idx).along 2 k' = ix3 b r k' := by
  funext a
  match a with
  | ⟨0, _⟩ => rfl
  | ⟨1, _⟩ => rfl
  | ⟨2, _⟩ => rfl

/-- The place in the sorted row of the `k`-th of the two that are kept. -/
abbrev two (k : Fin 2) : Fin 8 := Fin.castLE (by decide) k

theorem sort_fst (x : S2x8192x8.Idx → EReal) (y : S2x8192x8.Idx → BitVec 32) (b : Fin 2) (r : Fin 8192) (k : Fin 8) :
    (Host.sort2 S2x8192x8 2 (fun l r => FloatOps.cmpfTotal (F := Ideal) (φ := .f32) .gt l.1 r.1) x y).1 (ix3 b r k)
      = x (ix3 b r (sortedFrom (ord x b r) k)) := by
  have h2 : (2 : ℕ) < S2x8192x8.rank := by decide
  unfold Host.sort2
  rw [dif_pos h2]
  refine congrArg x ((along_row b r k _).trans (congrArg (ix3 b r) ?_))
  refine congrArg (fun B => sortedFrom B k) (funext fun c => funext fun d => ?_)
  exact congrArg₂ (fun u v => FloatOps.cmpfTotal (F := Ideal) (φ := .f32) .gt u v == 1#1) (congrArg x (along_row b r k c))
    (congrArg x (along_row b r k d))

theorem sort_snd (x : S2x8192x8.Idx → EReal) (y : S2x8192x8.Idx → BitVec 32) (b : Fin 2) (r : Fin 8192) (k : Fin 8) :
    (Host.sort2 S2x8192x8 2 (fun l r => FloatOps.cmpfTotal (F := Ideal) (φ := .f32) .gt l.1 r.1) x y).2 (ix3 b r k)
      = y (ix3 b r (sortedFrom (ord x b r) k)) := by
  have h2 : (2 : ℕ) < S2x8192x8.rank := by decide
  unfold Host.sort2
  rw [dif_pos h2]
  refine congrArg y ((along_row b r k _).trans (congrArg (ix3 b r) ?_))
  refine congrArg (fun B => sortedFrom B k) (funext fun c => funext fun d => ?_)
  exact congrArg₂ (fun u v => FloatOps.cmpfTotal (F := Ideal) (φ := .f32) .gt u v == 1#1) (congrArg x (along_row b r k c))
    (congrArg x (along_row b r k d))

theorem slice_row (b : Fin 2) (r : Fin 8192) (k : Fin 2) {α : Type} (x : S2x8192x8.Idx → α)
    (h : S2x8192x8.Slices (fun _ => 0) S2x8192x2) :
    extractStridedSlice S2x8192x2 (fun _ => 0) x h (ix3 b r k) = x (ix3 b r (two k)) := by
  unfold extractStridedSlice
  refine congrArg x (funext fun a => Fin.ext ?_)
  match a with
  | ⟨0, _⟩ => exact Nat.zero_add _
  | ⟨1, _⟩ => exact Nat.zero_add _
  | ⟨2, _⟩ => exact Nat.zero_add _

/-- The values that the reference keeps of a row are the row's at the first two places of its sort. -/
theorem topK_fst (x : S2x8192x8.Idx → EReal) (b : Fin 2) (r : Fin 8192) (k : Fin 2) (h : S2x8192x8.Slices (fun _ => 0) S2x8192x2) :
    (Host.topK S2x8192x2 2 (FloatOps.cmpfTotal (F := Ideal) (φ := .f32) .gt) x h).1 (ix3 b r k)
      = x (ix3 b r (sortedFrom (ord x b r) (two k))) := by
  unfold Host.topK
  dsimp only
  rw [slice_row, sort_fst]

/-- The indices that the reference keeps of a row are the first two places of its sort. -/
theorem topK_snd (x : S2x8192x8.Idx → EReal) (b : Fin 2) (r : Fin 8192) (k : Fin 2) (h : S2x8192x8.Slices (fun _ => 0) S2x8192x2) :
    (Host.topK S2x8192x2 2 (FloatOps.cmpfTotal (F := Ideal) (φ := .f32) .gt) x h).2 (ix3 b r k)
      = BitVec.ofNat 32 (sortedFrom (ord x b r) (two k)).val := by
  unfold Host.topK
  dsimp only
  rw [slice_row, sort_snd, dif_pos (show (2 : ℕ) < S2x8192x8.rank by decide)]
  rfl

/-- The first two places of a row's sort are its two largest. -/
theorem top_ord (x : S2x8192x8.Idx → EReal) (b : Fin 2) (r : Fin 8192) :
    sortedFrom (ord x b r) 0 = Moe.top1 (fun e => x (ix3 b r e)) ∧ sortedFrom (ord x b r) 1 = Moe.top2 (fun e => x (ix3 b r e)) := by
  refine (Moe.isTop2_sortedFrom (fun e => x (ix3 b r e)) (ord x b r) fun c d => ?_).unique (Moe.isTop2_top _)
  unfold ord
  rw [Ideal.cmpfTotal_def, beq_iff_eq]
  exact Ideal.cmp_ogt_eq_one _ _

end Cert.ReferenceIdeal.Moe

end
-- ==== Proof.RefGates.lean ====
module

public import proofs.«01_k».proof.Proof.RefSide
public import proofs.«01_k».proof.Proof.TopK
public import Idealize.ShloMosaic.Lib.Pointwise.Reduce
public import Idealize.ShloMosaic.Lib.Pointwise.Tactic

@[expose] public section

set_option maxRecDepth 16384

noncomputable section

/-! # The reference's gates on one row

The reference keeps the two largest logits of a row, takes their softmax and spreads the two weights over the experts. -/

namespace Cert.ReferenceIdeal.Moe

open Cert.ReferenceIdeal Cert.ReferenceIdeal.Gen Cert.ReferenceIdeal.Read Idealize.ShloMosaic.TcCoe
open Idealize.ShloMosaic

variable (x0 : (⟨S2x8192x1024, .f32⟩ : BufTy).Contents (Elt Ideal)) (x1 : (⟨S1024, .f32⟩ : BufTy).Contents (Elt Ideal))
  (x2 x3 : (⟨S2x1024, .f32⟩ : BufTy).Contents (Elt Ideal)) (x4 : (⟨S1024x8, .f32⟩ : BufTy).Contents (Elt Ideal))
  (b : Fin 2) (r : Fin 8192)

theorem ofBits_neg_inf : Ideal.ofBits .f32 0xFF800000#32 = ⊥ := by simp [Ideal.ofBits, Ideal.ieee]

/-- The expert kept at place `k` of a row. -/
def pick (l : Fin 8 → EReal) (k : Fin 2) : Fin 8 := if k = 0 then Moe.top1 l else Moe.top2 l

theorem sorted_two (x : S2x8192x8.Idx → EReal) (k : Fin 2) :
    sortedFrom (ord x b r) (two k) = pick (fun e => x (ix3 b r e)) k := by
  obtain ⟨h0, h1⟩ := top_ord x b r
  fin_cases k
  · exact h0
  · exact h1

theorem v22_fun : (fun e => val_main_v22 (F := Ideal) x0 x1 x2 x3 x4 (ix3 b r e)) = lrow x0 x1 x2 x3 x4 b r :=
  funext fun e => v22_row x0 x1 x2 x3 x4 b r e

theorem values_row (k : Fin 2) : val_main_values (F := Ideal) x0 x1 x2 x3 x4 (ix3 b r k)
    = lrow x0 x1 x2 x3 x4 b r (pick (lrow x0 x1 x2 x3 x4 b r) k) := by
  unfold val_main_values
  rw [topK_fst, sorted_two, v22_fun, v22_row]

theorem indices_row (k : Fin 2) : val_main_indices (F := Ideal) x0 x1 x2 x3 x4 (ix3 b r k)
    = BitVec.ofNat 32 (pick (lrow x0 x1 x2 x3 x4 b r) k).val := by
  unfold val_main_indices
  rw [topK_snd, sorted_two, v22_fun]

/-- The maximum of the two kept logits is the larger. -/
theorem v25_row : val_main_v25 (F := Ideal) x0 x1 x2 x3 x4 (ix2 b r)
    = lrow x0 x1 x2 x3 x4 b r (Moe.top1 (lrow x0 x1 x2 x3 x4 b r)) := by
  rw [val_main_v25_apply, val_main_v24_apply, val_main_cst_4_apply]
  unfold val_main_v23
  rw [Host.reduce_eq_fold, Shape.ReducesTo.fold_fiber_r3_a2]
  rw [val_main_cst_3_apply, Ideal.ofBits_def, ofBits_neg_inf, Ideal.maximumf_def, max_eq_right bot_le]
  have e : (fun k : Fin 2 => val_main_values (F := Ideal) x0 x1 x2 x3 x4 (ix3 ((ix2 b r : S2x8192.Idx) 0) ((ix2 b r : S2x8192.Idx) 1) k))
      = fun k => lrow x0 x1 x2 x3 x4 b r (pick (lrow x0 x1 x2 x3 x4 b r) k) :=
    funext fun k => values_row x0 x1 x2 x3 x4 b r k
  exact (congrArg (fun f => Finset.fold max ⊥ f Finset.univ) e).trans
    (Moe.fold_max_eq _ 0 fun k => (Moe.isTop2_top (lrow x0 x1 x2 x3 x4 b r)).le_fst _)

/-- The exponentials of the kept logits less the larger: one, and the second's. -/
theorem v29_row (hl : ∀ e, Moe.IsReal (lrow x0 x1 x2 x3 x4 b r e)) (k : Fin 2) : val_main_v29 (F := Ideal) x0 x1 x2 x3 x4 (ix3 b r k)
    = if k = 0 then 1 else Moe.second (lrow x0 x1 x2 x3 x4 b r) := by
  rw [val_main_v29_apply, val_main_v28_apply, val_main_v27_apply, val_main_v26_apply,
    show idx_main_v26 (idx_main_v27 (ix3 b r k)) = ix2 b r from eq_ix2 _, v25_row, values_row, Ideal.subf_def, Ideal.hostUnary_exp_def]
  unfold pick
  split
  · rw [(hl _).sub_self, ← EReal.coe_zero, Ideal.exp_coe, Real.exp_zero, EReal.coe_one]
  · rfl

/-- The softmax weights of the two kept experts. -/
theorem v33_row (hl : ∀ e, Moe.IsReal (lrow x0 x1 x2 x3 x4 b r e)) (k : Fin 2) : val_main_v33 (F := Ideal) x0 x1 x2 x3 x4 (ix3 b r k)
    = if k = 0 then Moe.wt1 (lrow x0 x1 x2 x3 x4 b r)
      else Moe.second (lrow x0 x1 x2 x3 x4 b r) * Moe.wt1 (lrow x0 x1 x2 x3 x4 b r) := by
  rw [val_main_v33_apply, val_main_v32_apply, val_main_v31_apply, val_main_v30_apply, val_main_cst_5_apply]
  rw [show (∑ k' : Fin 2, val_main_v29 (F := Ideal) x0 x1 x2 x3 x4 (idx_main_v30 (idx_main_v31 (idx_main_v32 (ix3 b r k))) k'))
      = 1 + Moe.second (lrow x0 x1 x2 x3 x4 b r) by
    rw [Fin.sum_univ_two, show idx_main_v30 (idx_main_v31 (idx_main_v32 (ix3 b r k))) 0 = ix3 b r 0 from eq_ix3 _,
      show idx_main_v30 (idx_main_v31 (idx_main_v32 (ix3 b r k))) 1 = ix3 b r 1 from eq_ix3 _, v29_row _ _ _ _ _ _ _ hl,
      v29_row _ _ _ _ _ _ _ hl]
    rfl]
  rw [v29_row _ _ _ _ _ _ _ hl, Ideal.ofBits_def, Ideal.ofBits_zero_f32, zero_add, Ideal.hostDivf_def]
  split
  · rfl
  · exact (Moe.second_mul_wt1 hl).symm

/-- The one-hot of a kept expert. -/
theorem v34_row (k : Fin 2) (e : Fin 8) : val_main_v34 (F := Ideal) x0 x1 x2 x3 x4 (ix4 b r k e)
    = if e = pick (lrow x0 x1 x2 x3 x4 b r) k then 1 else 0 := by
  rw [val_main_v34_apply, val_main_call0_v4_apply, val_main_call0_v2_apply, val_main_call0_v0_apply, val_main_call0_v3_apply,
    val_main_call0_v1_apply, show idx_main_call0_v0 (idx_main_call0_v2 (ix4 b r k e)) = ix3 b r k from eq_ix3 _, indices_row]
  show FloatOps.uitofp (F := Ideal) .f32 (IntOp.cmpi .eq (BitVec.ofNat 32 (pick (lrow x0 x1 x2 x3 x4 b r) k).val) (BitVec.ofNat 32 e.val)) = _
  generalize pick (lrow x0 x1 x2 x3 x4 b r) k = a
  by_cases h : e = a
  · subst h
    rw [if_pos rfl, show IntOp.cmpi .eq (BitVec.ofNat 32 e.val) (BitVec.ofNat 32 e.val) = 1#1 by simp [IntOp.cmpi]]
    show (((1#1 : BitVec 1).toNat : ℝ) : EReal) = 1
    simp
  · rw [if_neg h]
    have hne : BitVec.ofNat 32 a.val ≠ BitVec.ofNat 32 e.val := fun q => h (Fin.ext (by
      have := congrArg BitVec.toNat q
      rw [BitVec.toNat_ofNat, BitVec.toNat_ofNat] at this
      have := a.isLt; have := e.isLt
      omega))
    rw [show IntOp.cmpi .eq (BitVec.ofNat 32 a.val) (BitVec.ofNat 32 e.val) = 0#1 by simp [IntOp.cmpi, beq_eq_false_iff_ne.mpr hne]]
    show (((0#1 : BitVec 1).toNat : ℝ) : EReal) = 0
    simp

/-- The reference's gates of a row. -/
theorem v35_row (hl : ∀ e, Moe.IsReal (lrow x0 x1 x2 x3 x4 b r e)) (e : Fin 8) :
    val_main_v35 (F := Ideal) x0 x1 x2 x3 x4 (ix3 b r e) = Moe.gate (lrow x0 x1 x2 x3 x4 b r) e := by
  have e0 := (v33_row x0 x1 x2 x3 x4 b r hl 0).trans (if_pos rfl)
  have e1 := (v33_row x0 x1 x2 x3 x4 b r hl 1).trans (if_neg (by decide))
  rw [val_main_v35_apply, Fin.sum_univ_two, show lidx_main_v35 (ix3 b r e) 0 = ix4 b r 0 e from eq_ix4 _,
    show lidx_main_v35 (ix3 b r e) 1 = ix4 b r 1 e from eq_ix4 _, show ridx_main_v35 (ix3 b r e) 0 = ix3 b r 0 from eq_ix3 _,
    show ridx_main_v35 (ix3 b r e) 1 = ix3 b r 1 from eq_ix3 _, v34_row, v34_row, e0, e1, ite_mul, ite_mul, one_mul, zero_mul,
    one_mul, zero_mul]
  rfl

end Cert.ReferenceIdeal.Moe

end
-- ==== Proof.RefExperts.lean ====
module

public import proofs.«01_k».proof.Proof.RefGates

@[expose] public section

set_option maxRecDepth 16384

noncomputable section

/-! # The reference's experts on one row

The eight experts are the same function of the row at eight slabs of the weights. The sum over the experts, normalized,
is added to the row. -/

namespace Cert.ReferenceIdeal.Moe

open Cert.ReferenceIdeal Cert.ReferenceIdeal.Gen Cert.ReferenceIdeal.Read Idealize.ShloMosaic.TcCoe
open Idealize.ShloMosaic

/-- A product of the rows with a matrix of 3584 columns. -/
def up (h : FVec Ideal S2x8192x1024 .f32) (w : FVec Ideal S1024x3584 .f32) : FVec Ideal S2x8192x3584 .f32 :=
  Host.dotGeneral dot_S2x8192x1024_S1024x3584_S2x8192x3584_2_0_01_1_n_n none h w

/-- A product of the hidden units with a matrix of 1024 columns. -/
def down (a : FVec Ideal S2x8192x3584 .f32) (w : FVec Ideal S3584x1024 .f32) : FVec Ideal S2x8192x1024 .f32 :=
  Host.dotGeneral dot_S2x8192x3584_S3584x1024_S2x8192x1024_2_0_01_1_n_n none a w

/-- The reference's expert at one slab of the weights. -/
def swiglu (h : FVec Ideal S2x8192x1024 .f32) (wg wu : FVec Ideal S1024x3584 .f32) (wd : FVec Ideal S3584x1024 .f32) :
    FVec Ideal S2x8192x1024 .f32 :=
  down (mulf (mulf (up h wg) (Host.divf (val_main_call1_v4 (F := Ideal))
    (addf (val_main_call1_v2 (F := Ideal)) (Host.exp (Host.negf (up h wg)))))) (up h wu)) wd

theorem up_row (h : FVec Ideal S2x8192x1024 .f32) (w : FVec Ideal S1024x3584 .f32) (b : Fin 2) (r : Fin 8192) (j : Fin 3584) :
    up h w (ix3 b r j) = ∑ k : Fin 1024, h (ix3 b r k) * w (ix2 k j) := by
  unfold up
  simp only [Host.dotGeneral]
  rw [Ideal.dotGeneral_apply, ← Equiv.sum_comp (ValueIdx.contrEquiv1 dot_S2x8192x1024_S1024x3584_S2x8192x3584_2_0_01_1_n_n 1024 rfl rfl).symm]
  refine Finset.sum_congr rfl fun k _ => ?_
  have hk := ValueIdx.contrEquiv1_symm_val dot_S2x8192x1024_S1024x3584_S2x8192x3584_2_0_01_1_n_n 1024 rfl rfl k
  refine congrArg₂ (· * ·) (congrArg h (funext fun a => Fin.ext ?_)) (congrArg w (funext fun a => Fin.ext ?_))
  · match a with
    | ⟨0, _⟩ => exact lhs_main_v44_0 _ _
    | ⟨1, _⟩ => exact lhs_main_v44_1 _ _
    | ⟨2, _⟩ => exact (lhs_main_v44_2 _ _).trans hk
  · match a with
    | ⟨0, _⟩ => exact (rhs_main_v44_0 _ _).trans hk
    | ⟨1, _⟩ => exact rhs_main_v44_1 _ _

theorem down_row (a : FVec Ideal S2x8192x3584 .f32) (w : FVec Ideal S3584x1024 .f32) (b : Fin 2) (r : Fin 8192) (n : Fin 1024) :
    down a w (ix3 b r n) = ∑ j : Fin 3584, a (ix3 b r j) * w (ix2 j n) := by
  unfold down
  simp only [Host.dotGeneral]
  rw [Ideal.dotGeneral_apply, ← Equiv.sum_comp (ValueIdx.contrEquiv1 dot_S2x8192x3584_S3584x1024_S2x8192x1024_2_0_01_1_n_n 3584 rfl rfl).symm]
  refine Finset.sum_congr rfl fun k _ => ?_
  have hk := ValueIdx.contrEquiv1_symm_val dot_S2x8192x3584_S3584x1024_S2x8192x1024_2_0_01_1_n_n 3584 rfl rfl k
  refine congrArg₂ (· * ·) (congrArg a (funext fun c => Fin.ext ?_)) (congrArg w (funext fun c => Fin.ext ?_))
  · match c with
    | ⟨0, _⟩ => exact lhs_main_v48_0 _ _
    | ⟨1, _⟩ => exact lhs_main_v48_1 _ _
    | ⟨2, _⟩ => exact (lhs_main_v48_2 _ _).trans hk
  · match c with
    | ⟨0, _⟩ => exact (rhs_main_v48_0 _ _).trans hk
    | ⟨1, _⟩ => exact rhs_main_v48_1 _ _

/-- The reference's expert, on a row. -/
theorem swiglu_row (h : FVec Ideal S2x8192x1024 .f32) (wg wu : FVec Ideal S1024x3584 .f32) (wd : FVec Ideal S3584x1024 .f32)
    (b : Fin 2) (r : Fin 8192) (n : Fin 1024) :
    swiglu h wg wu wd (ix3 b r n)
      = Moe.expert (fun k => h (ix3 b r k)) (fun k j => wg (ix2 k j)) (fun k j => wu (ix2 k j)) fun j => wd (ix2 j n) := by
  unfold swiglu Moe.expert Moe.act Moe.silu
  rw [down_row]
  refine Finset.sum_congr rfl fun j _ => congrArg (· * _) ?_
  simp only [mulf_apply, addf_apply, Host.divf_apply, Host.exp_apply, Host.negf_apply, val_main_call1_v4_apply, val_main_call1_v2_apply,
    val_main_call1_cst_apply, val_main_call1_cst_0_apply, up_row, Ideal.ofBits_def, Ideal.ofBits_one_f32, Ideal.mulf_def, Ideal.addf_def,
    Ideal.hostDivf_def, Ideal.hostUnary_exp_def, Ideal.hostNegf_def, Ideal.negf_def]

variable (x0 : (⟨S2x8192x1024, .f32⟩ : BufTy).Contents (Elt Ideal)) (x1 : (⟨S1024, .f32⟩ : BufTy).Contents (Elt Ideal))
  (x2 x3 : (⟨S2x1024, .f32⟩ : BufTy).Contents (Elt Ideal)) (x4 : (⟨S1024x8, .f32⟩ : BufTy).Contents (Elt Ideal))
  (x5 x6 : (⟨S8x1024x3584, .f32⟩ : BufTy).Contents (Elt Ideal)) (x7 : (⟨S8x3584x1024, .f32⟩ : BufTy).Contents (Elt Ideal))
  (x8 : (⟨S1024, .f32⟩ : BufTy).Contents (Elt Ideal)) (x9 : (⟨S2x1024, .f32⟩ : BufTy).Contents (Elt Ideal))
  (b : Fin 2) (r : Fin 8192)

/-- The gated output of one expert on a row. -/
abbrev erow (e : Fin 8) (n : Fin 1024) : EReal :=
  Moe.gate (lrow x0 x1 x2 x3 x4 b r) e * Moe.expert (hrow x0 x1 x2 x3 b r) (fun k j => x5 (ix3 e k j)) (fun k j => x6 (ix3 e k j))
    fun j => x7 (ix3 e j n)

/-- A gate times an expert, where the gate's slice and the weights' slabs are read at expert `e`. -/
theorem stage (e : Fin 8) (n : Fin 1024) (hl : ∀ e, Moe.IsReal (lrow x0 x1 x2 x3 x4 b r e)) (g : EReal)
    (wg wu : FVec Ideal S1024x3584 .f32) (wd : FVec Ideal S3584x1024 .f32)
    (hg : g = val_main_v35 (F := Ideal) x0 x1 x2 x3 x4 (ix3 b r e)) (hwg : ∀ k j, wg (ix2 k j) = x5 (ix3 e k j))
    (hwu : ∀ k j, wu (ix2 k j) = x6 (ix3 e k j)) (hwd : ∀ j n, wd (ix2 j n) = x7 (ix3 e j n)) :
    FloatOps.mulf (F := Ideal) (φ := .f32) g (swiglu (val_main_v21 (F := Ideal) x0 x1 x2 x3) wg wu wd (ix3 b r n))
      = erow x0 x1 x2 x3 x4 x5 x6 x7 b r e n := by
  rw [swiglu_row, hg, v35_row _ _ _ _ _ _ _ hl, Ideal.mulf_def]
  simp only [hwg, hwu, hwd, v21_row]

/-- The reference's expert 0, gated, on a row. -/
theorem stage0 (hl : ∀ e, Moe.IsReal (lrow x0 x1 x2 x3 x4 b r e)) (n : Fin 1024) :
    val_main_v50 (F := Ideal) x0 x1 x2 x3 x4 x5 x6 x7 (ix3 b r n) = erow x0 x1 x2 x3 x4 x5 x6 x7 b r 0 n := by
  rw [val_main_v50_apply, val_main_v49_apply, val_main_v37_apply]
  exact stage x0 x1 x2 x3 x4 x5 x6 x7 b r 0 n hl _ (val_main_v39 (F := Ideal) x5) (val_main_v41 (F := Ideal) x6) (val_main_v43 (F := Ideal) x7)
    (congrArg (val_main_v35 (F := Ideal) x0 x1 x2 x3 x4) (eq_ix3 _))
    (fun c d => by
      rw [val_main_v39_apply, val_main_v38_apply]
      refine congrArg x5 (funext fun a => Fin.ext ?_)
      have hc := c.isLt
      have hd := d.isLt
      match a with
      | ⟨0, _⟩ => rfl
      | ⟨1, _⟩ => show (c.val * 3584 + d.val) / 3584 % 1024 = c.val; omega
      | ⟨2, _⟩ => show (c.val * 3584 + d.val) % 3584 = d.val; omega)
    (fun c d => by
      rw [val_main_v41_apply, val_main_v40_apply]
      refine congrArg x6 (funext fun a => Fin.ext ?_)
      have hc := c.isLt
      have hd := d.isLt
      match a with
      | ⟨0, _⟩ => rfl
      | ⟨1, _⟩ => show (c.val * 3584 + d.val) / 3584 % 1024 = c.val; omega
      | ⟨2, _⟩ => show (c.val * 3584 + d.val) % 3584 = d.val; omega)
    (fun c d => by
      rw [val_main_v43_apply, val_main_v42_apply]
      refine congrArg x7 (funext fun a => Fin.ext ?_)
      have hc := c.isLt
      have hd := d.isLt
      match a with
      | ⟨0, _⟩ => rfl
      | ⟨1, _⟩ => show (c.val * 1024 + d.val) / 1024 % 3584 = c.val; omega
      | ⟨2, _⟩ => show (c.val * 1024 + d.val) % 1024 = d.val; omega)

/-- The reference's expert 1, gated, on a row. -/
theorem stage1 (hl : ∀ e, Moe.IsReal (lrow x0 x1 x2 x3 x4 b r e)) (n : Fin 1024) :
    val_main_v65 (F := Ideal) x0 x1 x2 x3 x4 x5 x6 x7 (ix3 b r n) = erow x0 x1 x2 x3 x4 x5 x6 x7 b r 1 n := by
  rw [val_main_v65_apply, val_main_v64_apply, val_main_v52_apply]
  exact stage x0 x1 x2 x3 x4 x5 x6 x7 b r 1 n hl _ (val_main_v54 (F := Ideal) x5) (val_main_v56 (F := Ideal) x6) (val_main_v58 (F := Ideal) x7)
    (congrArg (val_main_v35 (F := Ideal) x0 x1 x2 x3 x4) (eq_ix3 _))
    (fun c d => by
      rw [val_main_v54_apply, val_main_v53_apply]
      refine congrArg x5 (funext fun a => Fin.ext ?_)
      have hc := c.isLt
      have hd := d.isLt
      match a with
      | ⟨0, _⟩ => rfl
      | ⟨1, _⟩ => show (c.val * 3584 + d.val) / 3584 % 1024 = c.val; omega
      | ⟨2, _⟩ => show (c.val * 3584 + d.val) % 3584 = d.val; omega)
    (fun c d => by
      rw [val_main_v56_apply, val_main_v55_apply]
      refine congrArg x6 (funext fun a => Fin.ext ?_)
      have hc := c.isLt
      have hd := d.isLt
      match a with
      | ⟨0, _⟩ => rfl
      | ⟨1, _⟩ => show (c.val * 3584 + d.val) / 3584 % 1024 = c.val; omega
      | ⟨2, _⟩ => show (c.val * 3584 + d.val) % 3584 = d.val; omega)
    (fun c d => by
      rw [val_main_v58_apply, val_main_v57_apply]
      refine congrArg x7 (funext fun a => Fin.ext ?_)
      have hc := c.isLt
      have hd := d.isLt
      match a with
      | ⟨0, _⟩ => rfl
      | ⟨1, _⟩ => show (c.val * 1024 + d.val) / 1024 % 3584 = c.val; omega
      | ⟨2, _⟩ => show (c.val * 1024 + d.val) % 1024 = d.val; omega)

/-- The reference's expert 2, gated, on a row. -/
theorem stage2 (hl : ∀ e, Moe.IsReal (lrow x0 x1 x2 x3 x4 b r e)) (n : Fin 1024) :
    val_main_v80 (F := Ideal) x0 x1 x2 x3 x4 x5 x6 x7 (ix3 b r n) = erow x0 x1 x2 x3 x4 x5 x6 x7 b r 2 n := by
  rw [val_main_v80_apply, val_main_v79_apply, val_main_v67_apply]
  exact stage x0 x1 x2 x3 x4 x5 x6 x7 b r 2 n hl _ (val_main_v69 (F := Ideal) x5) (val_main_v71 (F := Ideal) x6) (val_main_v73 (F := Ideal) x7)
    (congrArg (val_main_v35 (F := Ideal) x0 x1 x2 x3 x4) (eq_ix3 _))
    (fun c d => by
      rw [val_main_v69_apply, val_main_v68_apply]
      refine congrArg x5 (funext fun a => Fin.ext ?_)
      have hc := c.isLt
      have hd := d.isLt
      match a with
      | ⟨0, _⟩ => rfl
      | ⟨1, _⟩ => show (c.val * 3584 + d.val) / 3584 % 1024 = c.val; omega
      | ⟨2, _⟩ => show (c.val * 3584 + d.val) % 3584 = d.val; omega)
    (fun c d => by
      rw [val_main_v71_apply, val_main_v70_apply]
      refine congrArg x6 (funext fun a => Fin.ext ?_)
      have hc := c.isLt
      have hd := d.isLt
      match a with
      | ⟨0, _⟩ => rfl
      | ⟨1, _⟩ => show (c.val * 3584 + d.val) / 3584 % 1024 = c.val; omega
      | ⟨2, _⟩ => show (c.val * 3584 + d.val) % 3584 = d.val; omega)
    (fun c d => by
      rw [val_main_v73_apply, val_main_v72_apply]
      refine congrArg x7 (funext fun a => Fin.ext ?_)
      have hc := c.isLt
      have hd := d.isLt
      match a with
      | ⟨0, _⟩ => rfl
      | ⟨1, _⟩ => show (c.val * 1024 + d.val) / 1024 % 3584 = c.val; omega
      | ⟨2, _⟩ => show (c.val * 1024 + d.val) % 1024 = d.val; omega)

/-- The reference's expert 3, gated, on a row. -/
theorem stage3 (hl : ∀ e, Moe.IsReal (lrow x0 x1 x2 x3 x4 b r e)) (n : Fin 1024) :
    val_main_v95 (F := Ideal) x0 x1 x2 x3 x4 x5 x6 x7 (ix3 b r n) = erow x0 x1 x2 x3 x4 x5 x6 x7 b r 3 n := by
  rw [val_main_v95_apply, val_main_v94_apply, val_main_v82_apply]
  exact stage x0 x1 x2 x3 x4 x5 x6 x7 b r 3 n hl _ (val_main_v84 (F := Ideal) x5) (val_main_v86 (F := Ideal) x6) (val_main_v88 (F := Ideal) x7)
    (congrArg (val_main_v35 (F := Ideal) x0 x1 x2 x3 x4) (eq_ix3 _))
    (fun c d => by
      rw [val_main_v84_apply, val_main_v83_apply]
      refine congrArg x5 (funext fun a => Fin.ext ?_)
      have hc := c.isLt
      have hd := d.isLt
      match a with
      | ⟨0, _⟩ => rfl
      | ⟨1, _⟩ => show (c.val * 3584 + d.val) / 3584 % 1024 = c.val; omega
      | ⟨2, _⟩ => show (c.val * 3584 + d.val) % 3584 = d.val; omega)
    (fun c d => by
      rw [val_main_v86_apply, val_main_v85_apply]
      refine congrArg x6 (funext fun a => Fin.ext ?_)
      have hc := c.isLt
      have hd := d.isLt
      match a with
      | ⟨0, _⟩ => rfl
      | ⟨1, _⟩ => show (c.val * 3584 + d.val) / 3584 % 1024 = c.val; omega
      | ⟨2, _⟩ => show (c.val * 3584 + d.val) % 3584 = d.val; omega)
    (fun c d => by
      rw [val_main_v88_apply, val_main_v87_apply]
      refine congrArg x7 (funext fun a => Fin.ext ?_)
      have hc := c.isLt
      have hd := d.isLt
      match a with
      | ⟨0, _⟩ => rfl
      | ⟨1, _⟩ => show (c.val * 1024 + d.val) / 1024 % 3584 = c.val; omega
      | ⟨2, _⟩ => show (c.val * 1024 + d.val) % 1024 = d.val; omega)

/-- The reference's expert 4, gated, on a row. -/
theorem stage4 (hl : ∀ e, Moe.IsReal (lrow x0 x1 x2 x3 x4 b r e)) (n : Fin 1024) :
    val_main_v110 (F := Ideal) x0 x1 x2 x3 x4 x5 x6 x7 (ix3 b r n) = erow x0 x1 x2 x3 x4 x5 x6 x7 b r 4 n := by
  rw [val_main_v110_apply, val_main_v109_apply, val_main_v97_apply]
  exact stage x0 x1 x2 x3 x4 x5 x6 x7 b r 4 n hl _ (val_main_v99 (F := Ideal) x5) (val_main_v101 (F := Ideal) x6) (val_main_v103 (F := Ideal) x7)
    (congrArg (val_main_v35 (F := Ideal) x0 x1 x2 x3 x4) (eq_ix3 _))
    (fun c d => by
      rw [val_main_v99_apply, val_main_v98_apply]
      refine congrArg x5 (funext fun a => Fin.ext ?_)
      have hc := c.isLt
      have hd := d.isLt
      match a with
      | ⟨0, _⟩ => rfl
      | ⟨1, _⟩ => show (c.val * 3584 + d.val) / 3584 % 1024 = c.val; omega
      | ⟨2, _⟩ => show (c.val * 3584 + d.val) % 3584 = d.val; omega)
    (fun c d => by
      rw [val_main_v101_apply, val_main_v100_apply]
      refine congrArg x6 (funext fun a => Fin.ext ?_)
      have hc := c.isLt
      have hd := d.isLt
      match a with
      | ⟨0, _⟩ => rfl
      | ⟨1, _⟩ => show (c.val * 3584 + d.val) / 3584 % 1024 = c.val; omega
      | ⟨2, _⟩ => show (c.val * 3584 + d.val) % 3584 = d.val; omega)
    (fun c d => by
      rw [val_main_v103_apply, val_main_v102_apply]
      refine congrArg x7 (funext fun a => Fin.ext ?_)
      have hc := c.isLt
      have hd := d.isLt
      match a with
      | ⟨0, _⟩ => rfl
      | ⟨1, _⟩ => show (c.val * 1024 + d.val) / 1024 % 3584 = c.val; omega
      | ⟨2, _⟩ => show (c.val * 1024 + d.val) % 1024 = d.val; omega)

/-- The reference's expert 5, gated, on a row. -/
theorem stage5 (hl : ∀ e, Moe.IsReal (lrow x0 x1 x2 x3 x4 b r e)) (n : Fin 1024) :
    val_main_v125 (F := Ideal) x0 x1 x2 x3 x4 x5 x6 x7 (ix3 b r n) = erow x0 x1 x2 x3 x4 x5 x6 x7 b r 5 n := by
  rw [val_main_v125_apply, val_main_v124_apply, val_main_v112_apply]
  exact stage x0 x1 x2 x3 x4 x5 x6 x7 b r 5 n hl _ (val_main_v114 (F := Ideal) x5) (val_main_v116 (F := Ideal) x6) (val_main_v118 (F := Ideal) x7)
    (congrArg (val_main_v35 (F := Ideal) x0 x1 x2 x3 x4) (eq_ix3 _))
    (fun c d => by
      rw [val_main_v114_apply, val_main_v113_apply]
      refine congrArg x5 (funext fun a => Fin.ext ?_)
      have hc := c.isLt
      have hd := d.isLt
      match a with
      | ⟨0, _⟩ => rfl
      | ⟨1, _⟩ => show (c.val * 3584 + d.val) / 3584 % 1024 = c.val; omega
      | ⟨2, _⟩ => show (c.val * 3584 + d.val) % 3584 = d.val; omega)
    (fun c d => by
      rw [val_main_v116_apply, val_main_v115_apply]
      refine congrArg x6 (funext fun a => Fin.ext ?_)
      have hc := c.isLt
      have hd := d.isLt
      match a with
      | ⟨0, _⟩ => rfl
      | ⟨1, _⟩ => show (c.val * 3584 + d.val) / 3584 % 1024 = c.val; omega
      | ⟨2, _⟩ => show (c.val * 3584 + d.val) % 3584 = d.val; omega)
    (fun c d => by
      rw [val_main_v118_apply, val_main_v117_apply]
      refine congrArg x7 (funext fun a => Fin.ext ?_)
      have hc := c.isLt
      have hd := d.isLt
      match a with
      | ⟨0, _⟩ => rfl
      | ⟨1, _⟩ => show (c.val * 1024 + d.val) / 1024 % 3584 = c.val; omega
      | ⟨2, _⟩ => show (c.val * 1024 + d.val) % 1024 = d.val; omega)

/-- The reference's expert 6, gated, on a row. -/
theorem stage6 (hl : ∀ e, Moe.IsReal (lrow x0 x1 x2 x3 x4 b r e)) (n : Fin 1024) :
    val_main_v140 (F := Ideal) x0 x1 x2 x3 x4 x5 x6 x7 (ix3 b r n) = erow x0 x1 x2 x3 x4 x5 x6 x7 b r 6 n := by
  rw [val_main_v140_apply, val_main_v139_apply, val_main_v127_apply]
  exact stage x0 x1 x2 x3 x4 x5 x6 x7 b r 6 n hl _ (val_main_v129 (F := Ideal) x5) (val_main_v131 (F := Ideal) x6) (val_main_v133 (F := Ideal) x7)
    (congrArg (val_main_v35 (F := Ideal) x0 x1 x2 x3 x4) (eq_ix3 _))
    (fun c d => by
      rw [val_main_v129_apply, val_main_v128_apply]
      refine congrArg x5 (funext fun a => Fin.ext ?_)
      have hc := c.isLt
      have hd := d.isLt
      match a with
      | ⟨0, _⟩ => rfl
      | ⟨1, _⟩ => show (c.val * 3584 + d.val) / 3584 % 1024 = c.val; omega
      | ⟨2, _⟩ => show (c.val * 3584 + d.val) % 3584 = d.val; omega)
    (fun c d => by
      rw [val_main_v131_apply, val_main_v130_apply]
      refine congrArg x6 (funext fun a => Fin.ext ?_)
      have hc := c.isLt
      have hd := d.isLt
      match a with
      | ⟨0, _⟩ => rfl
      | ⟨1, _⟩ => show (c.val * 3584 + d.val) / 3584 % 1024 = c.val; omega
      | ⟨2, _⟩ => show (c.val * 3584 + d.val) % 3584 = d.val; omega)
    (fun c d => by
      rw [val_main_v133_apply, val_main_v132_apply]
      refine congrArg x7 (funext fun a => Fin.ext ?_)
      have hc := c.isLt
      have hd := d.isLt
      match a with
      | ⟨0, _⟩ => rfl
      | ⟨1, _⟩ => show (c.val * 1024 + d.val) / 1024 % 3584 = c.val; omega
      | ⟨2, _⟩ => show (c.val * 1024 + d.val) % 1024 = d.val; omega)

/-- The reference's expert 7, gated, on a row. -/
theorem stage7 (hl : ∀ e, Moe.IsReal (lrow x0 x1 x2 x3 x4 b r e)) (n : Fin 1024) :
    val_main_v155 (F := Ideal) x0 x1 x2 x3 x4 x5 x6 x7 (ix3 b r n) = erow x0 x1 x2 x3 x4 x5 x6 x7 b r 7 n := by
  rw [val_main_v155_apply, val_main_v154_apply, val_main_v142_apply]
  exact stage x0 x1 x2 x3 x4 x5 x6 x7 b r 7 n hl _ (val_main_v144 (F := Ideal) x5) (val_main_v146 (F := Ideal) x6) (val_main_v148 (F := Ideal) x7)
    (congrArg (val_main_v35 (F := Ideal) x0 x1 x2 x3 x4) (eq_ix3 _))
    (fun c d => by
      rw [val_main_v144_apply, val_main_v143_apply]
      refine congrArg x5 (funext fun a => Fin.ext ?_)
      have hc := c.isLt
      have hd := d.isLt
      match a with
      | ⟨0, _⟩ => rfl
      | ⟨1, _⟩ => show (c.val * 3584 + d.val) / 3584 % 1024 = c.val; omega
      | ⟨2, _⟩ => show (c.val * 3584 + d.val) % 3584 = d.val; omega)
    (fun c d => by
      rw [val_main_v146_apply, val_main_v145_apply]
      refine congrArg x6 (funext fun a => Fin.ext ?_)
      have hc := c.isLt
      have hd := d.isLt
      match a with
      | ⟨0, _⟩ => rfl
      | ⟨1, _⟩ => show (c.val * 3584 + d.val) / 3584 % 1024 = c.val; omega
      | ⟨2, _⟩ => show (c.val * 3584 + d.val) % 3584 = d.val; omega)
    (fun c d => by
      rw [val_main_v148_apply, val_main_v147_apply]
      refine congrArg x7 (funext fun a => Fin.ext ?_)
      have hc := c.isLt
      have hd := d.isLt
      match a with
      | ⟨0, _⟩ => rfl
      | ⟨1, _⟩ => show (c.val * 1024 + d.val) / 1024 % 3584 = c.val; omega
      | ⟨2, _⟩ => show (c.val * 1024 + d.val) % 1024 = d.val; omega)

/-- The reference's mixture on a row. -/
abbrev mrow : Fin 1024 → EReal :=
  Moe.mix (lrow x0 x1 x2 x3 x4 b r) (hrow x0 x1 x2 x3 b r) (fun e k j => x5 (ix3 e k j)) (fun e k j => x6 (ix3 e k j))
    fun e j n => x7 (ix3 e j n)

/-- The sum over the experts, on a row. -/
theorem v156_row (hl : ∀ e, Moe.IsReal (lrow x0 x1 x2 x3 x4 b r e)) (n : Fin 1024) :
    val_main_v156 (F := Ideal) x0 x1 x2 x3 x4 x5 x6 x7 (ix3 b r n) = mrow x0 x1 x2 x3 x4 x5 x6 x7 b r n := by
  rw [val_main_v156_apply, val_main_v141_apply, val_main_v126_apply, val_main_v111_apply, val_main_v96_apply, val_main_v81_apply, val_main_v66_apply, val_main_v51_apply,
    stage0 _ _ _ _ _ _ _ _ _ _ hl, stage1 _ _ _ _ _ _ _ _ _ _ hl, stage2 _ _ _ _ _ _ _ _ _ _ hl, stage3 _ _ _ _ _ _ _ _ _ _ hl, stage4 _ _ _ _ _ _ _ _ _ _ hl, stage5 _ _ _ _ _ _ _ _ _ _ hl, stage6 _ _ _ _ _ _ _ _ _ _ hl, stage7 _ _ _ _ _ _ _ _ _ _ hl,
    val_main_v36_apply, val_main_cst_6_apply, Ideal.ofBits_def, Ideal.ofBits_zero_f32]
  simp only [Ideal.addf_def, zero_add]
  unfold mrow Moe.mix
  rw [Fin.sum_univ_eight]

/-- The whole reference on a row. -/
theorem v172_row (hl : ∀ e, Moe.IsReal (lrow x0 x1 x2 x3 x4 b r e)) (n : Fin 1024) :
    val_main_v172 (F := Ideal) x0 x1 x2 x3 x4 x5 x6 x7 x8 x9 (ix3 b r n)
      = x0 (ix3 b r n) + x9 (ix2 b n) * (Moe.nrm (mrow x0 x1 x2 x3 x4 x5 x6 x7 b r) n * x8 (ix1 n)) := by
  have a1 : idx_main_v159 (idx_main_v165 (ix3 b r n)) = ix2 b r := eq_ix2 _
  have a2 : ∀ i, idx_main_v158 (ix2 b r) i = ix3 b r i := fun i => eq_ix3 _
  have a3 : idx_main_v167 (idx_main_v168 (ix3 b r n)) = ix1 n := eq_ix1 _
  have a4 : idx_main_v2 (idx_main_v170 (ix3 b r n)) = ix2 b n := eq_ix2 _
  rw [val_main_v172_apply, val_main_v171_apply, val_main_v170_apply, val_main_v2_apply, val_main_v169_apply, val_main_v168_apply, val_main_v167_apply, val_main_v166_apply, val_main_v165_apply, val_main_v164_apply, val_main_v163_apply, val_main_v162_apply, val_main_cst_9_apply, val_main_v161_apply, val_main_v160_apply, val_main_cst_8_apply, val_main_v159_apply, val_main_v158_apply, val_main_cst_7_apply, a1, a3, a4]
  simp only [val_main_v157_apply, a2, v156_row _ _ _ _ _ _ _ _ _ _ hl]
  simp only [Moe.nrm, Moe.width, Moe.eps, Ideal.ofBits_def, Ideal.ofBits_zero_f32, zero_add, Ideal.addf_def, Ideal.mulf_def,
    Ideal.hostUnary_rsqrt_def, Ideal.hostDivf_def]

end Cert.ReferenceIdeal.Moe

end
-- ==== Proof.Cases.lean ====
module

public import proofs.«01_k».proof.Defs
public import proofs.«01_k».proof.Proof.Gen.KernelIdeal.Value
public import Idealize.ShloMosaic.Lib.Pipeline.Value
public import Idealize.ShloMosaic.Lib.Tactic

@[expose] public section

set_option maxRecDepth 16384

noncomputable section

/-! # What one grid point of the expert kernel leaves behind

The kernel runs in three cases: the first point of a block of rows (which normalizes the rows and routes them), the
points in between, and the last point (which also normalizes the accumulator and writes the block of results). Each
theorem below reads the stores of one case as the values they leave, in the payloads of the printed body. -/

namespace Cert.KernelIdeal.Moe

open Cert.KernelIdeal Cert.KernelIdeal.Gen
open Idealize.ShloMosaic Idealize.ShloMosaic.TcCoe Idealize.SL.Sem

variable {F : FTy → Type} [FloatOps F]

theorem zeros2 : (![0, 0] : Fin 2 → Nat) = fun _ => 0 := funext fun a => by fin_cases a <;> rfl
theorem zeros3 : (![0, 0, 0] : Fin 3 → Nat) = fun _ => 0 := funext fun a => by fin_cases a <;> rfl

/-- The normalized and modulated rows, as the first point of a block of rows stores them. -/
def rowsOf (x0 : Vec F S1x1024x1024 .f32) (x1 : Vec F S1x1024 .f32) (x2 : Vec F S1x1x1024 .f32) (x3 : Vec F S1x1x1024 .f32) :
    Vec F S1024x1024 .bf16 := k0_pay5 x0 x1 x3 x2

/-- The gates of the rows over the 128 lanes, as the first point of a block of rows stores them: `h` the rows, `hr` the
    rows rounded, `w` the router padded to 128 lanes. -/
def gatesFrom (h : FVec F S1024x1024 .f32) (hr : FVec F S1024x1024 .bf16) (w : FVec F S1024x128 .f32) : Vec F S1024x128 .f32 :=
  k0_pay17 (iota .tc S1024x128 32 [1] iota_S1024x128_d1_w32) (k0_pay13 h hr w) (k0_pay14 h hr w) (k0_pay15 h hr w) (k0_pay16 h hr w)
    (Scalar.ofBits .f32 0x00000000#32)

/-- The gates of a block of rows from the blocks that the first point loads. -/
def gatesOf (x0 : Vec F S1x1024x1024 .f32) (x1 : Vec F S1x1024 .f32) (x2 : Vec F S1x1x1024 .f32) (x3 : Vec F S1x1x1024 .f32)
    (x4 : Vec F S1024x128 .f32) : Vec F S1024x128 .f32 :=
  gatesFrom (k0_pay3 x0 x1 x3 x2) (k0_pay4 x0 x1 x3 x2) (k0_pay7 x4)

/-- One point's step of the accumulator: the expert's gated product over one tile of its hidden units, added. -/
def stepOf (i : grid0.Coords) (h : Vec F S1024x1024 .bf16) (g : Vec F S1024x128 .f32) (a : Vec F S1024x1024 .f32)
    (x5 : Vec F S1x1024x512 .bf16) (x6 : Vec F S1x1024x512 .bf16) (x7 : Vec F S1x512x1024 .bf16) : Vec F S1024x1024 .f32 :=
  k0_pay1 a (k0_pay18 i h g x5 x6) x7

/-- The first point of a block of rows stores the normalized and modulated rows. -/
theorem sout0_A_0_eq (c : Dev nD) (i : grid0.Coords) (arg4 : Memref sig .tc .vmem S1x1024x1024 .f32) (harg4 : arg4.IsWhole) (arg5 : Memref sig .tc .vmem S1x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1024x128 .f32) (harg8 : arg8.IsWhole) (arg9 : Memref sig .tc .vmem S1x1024x512 .bf16) (harg9 : arg9.IsWhole) (arg10 : Memref sig .tc .vmem S1x1024x512 .bf16) (harg10 : arg10.IsWhole) (arg11 : Memref sig .tc .vmem S1x512x1024 .bf16) (harg11 : arg11.IsWhole) (arg12 : Memref sig .tc .vmem S1x1024 .f32) (harg12 : arg12.IsWhole) (arg13 : Memref sig .tc .vmem S1x1x1024 .f32) (harg13 : arg13.IsWhole) (arg14 : Memref sig .tc .vmem S1x1024x1024 .f32) (harg14 : arg14.IsWhole) (arg15 : Memref sig .tc .vmem S1024x1024 .bf16) (harg15 : arg15.IsWhole) (arg16 : Memref sig .tc .vmem S1024x128 .f32) (harg16 : arg16.IsWhole) (arg17 : Memref sig .tc .vmem S1024x1024 .f32) (harg17 : arg17.IsWhole) (hc0 : cond0_0 i) (hc1 : ¬cond0_1 i)
    (x0 : Vec F S1x1024x1024 .f32) (x1 : Vec F S1x1024 .f32) (x2 : Vec F S1x1x1024 .f32) (x3 : Vec F S1x1x1024 .f32) (x4 : Vec F S1024x128 .f32) (x5 : Vec F S1x1024x512 .bf16) (x6 : Vec F S1x1024x512 .bf16) (x7 : Vec F S1x512x1024 .bf16) (x8 : Vec F S1x1024 .f32) (x9 : Vec F S1x1x1024 .f32) :
    sout0_A_0 c i arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 = rowsOf x0 x1 x2 x3 := by
  unfold sout0_A_0
  rw [View.read_writes_eq_canon _ _ _ (scover0_A_0 c i arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9)]
  unfold kernelRun0_A
  dsimp only
  sl_unfold_words
  rw [View.canon_cons_unit_zero (S := S1024x1024) zeros2]
  simp only [View.readCov_unit_zero (S := S1024x1024) _ zeros2, View.readCov_unit_zero (S := S1024x128) _ zeros2, View.readAt_eq_ld, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.ld_unit_zero (S := S1024x1024) zeros2, View.ld_unit_zero (S := S1024x128) zeros2, View.ld_unit_zero (S := S1x1024) zeros2, View.ld_unit_zero (S := S1x1024x1024) zeros3, View.ld_unit_zero (S := S1x1x1024) zeros3, View.ld_unit_zero (S := S1x1024x512) zeros3, View.ld_unit_zero (S := S1x512x1024) zeros3]
  rfl

/-- The first point of a block of rows stores the gates of its rows. -/
theorem sout0_A_1_eq (c : Dev nD) (i : grid0.Coords) (arg4 : Memref sig .tc .vmem S1x1024x1024 .f32) (harg4 : arg4.IsWhole) (arg5 : Memref sig .tc .vmem S1x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1024x128 .f32) (harg8 : arg8.IsWhole) (arg9 : Memref sig .tc .vmem S1x1024x512 .bf16) (harg9 : arg9.IsWhole) (arg10 : Memref sig .tc .vmem S1x1024x512 .bf16) (harg10 : arg10.IsWhole) (arg11 : Memref sig .tc .vmem S1x512x1024 .bf16) (harg11 : arg11.IsWhole) (arg12 : Memref sig .tc .vmem S1x1024 .f32) (harg12 : arg12.IsWhole) (arg13 : Memref sig .tc .vmem S1x1x1024 .f32) (harg13 : arg13.IsWhole) (arg14 : Memref sig .tc .vmem S1x1024x1024 .f32) (harg14 : arg14.IsWhole) (arg15 : Memref sig .tc .vmem S1024x1024 .bf16) (harg15 : arg15.IsWhole) (arg16 : Memref sig .tc .vmem S1024x128 .f32) (harg16 : arg16.IsWhole) (arg17 : Memref sig .tc .vmem S1024x1024 .f32) (harg17 : arg17.IsWhole) (hc0 : cond0_0 i) (hc1 : ¬cond0_1 i)
    (x0 : Vec F S1x1024x1024 .f32) (x1 : Vec F S1x1024 .f32) (x2 : Vec F S1x1x1024 .f32) (x3 : Vec F S1x1x1024 .f32) (x4 : Vec F S1024x128 .f32) (x5 : Vec F S1x1024x512 .bf16) (x6 : Vec F S1x1024x512 .bf16) (x7 : Vec F S1x512x1024 .bf16) (x8 : Vec F S1x1024 .f32) (x9 : Vec F S1x1x1024 .f32) :
    sout0_A_1 c i arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 = gatesOf x0 x1 x2 x3 x4 := by
  unfold sout0_A_1
  rw [View.read_writes_eq_canon _ _ _ (scover0_A_1 c i arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9)]
  unfold kernelRun0_A
  dsimp only
  sl_unfold_words
  rw [View.canon_cons_unit_zero (S := S1024x128) zeros2]
  simp only [View.readCov_unit_zero (S := S1024x1024) _ zeros2, View.readCov_unit_zero (S := S1024x128) _ zeros2, View.readAt_eq_ld, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.ld_unit_zero (S := S1024x1024) zeros2, View.ld_unit_zero (S := S1024x128) zeros2, View.ld_unit_zero (S := S1x1024) zeros2, View.ld_unit_zero (S := S1x1024x1024) zeros3, View.ld_unit_zero (S := S1x1x1024) zeros3, View.ld_unit_zero (S := S1x1024x512) zeros3, View.ld_unit_zero (S := S1x512x1024) zeros3]
  rfl

/-- The first point of a block of rows leaves the first step from the zero accumulator. -/
theorem sout0_A_2_eq (c : Dev nD) (i : grid0.Coords) (arg4 : Memref sig .tc .vmem S1x1024x1024 .f32) (harg4 : arg4.IsWhole) (arg5 : Memref sig .tc .vmem S1x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1024x128 .f32) (harg8 : arg8.IsWhole) (arg9 : Memref sig .tc .vmem S1x1024x512 .bf16) (harg9 : arg9.IsWhole) (arg10 : Memref sig .tc .vmem S1x1024x512 .bf16) (harg10 : arg10.IsWhole) (arg11 : Memref sig .tc .vmem S1x512x1024 .bf16) (harg11 : arg11.IsWhole) (arg12 : Memref sig .tc .vmem S1x1024 .f32) (harg12 : arg12.IsWhole) (arg13 : Memref sig .tc .vmem S1x1x1024 .f32) (harg13 : arg13.IsWhole) (arg14 : Memref sig .tc .vmem S1x1024x1024 .f32) (harg14 : arg14.IsWhole) (arg15 : Memref sig .tc .vmem S1024x1024 .bf16) (harg15 : arg15.IsWhole) (arg16 : Memref sig .tc .vmem S1024x128 .f32) (harg16 : arg16.IsWhole) (arg17 : Memref sig .tc .vmem S1024x1024 .f32) (harg17 : arg17.IsWhole) (hc0 : cond0_0 i) (hc1 : ¬cond0_1 i)
    (x0 : Vec F S1x1024x1024 .f32) (x1 : Vec F S1x1024 .f32) (x2 : Vec F S1x1x1024 .f32) (x3 : Vec F S1x1x1024 .f32) (x4 : Vec F S1024x128 .f32) (x5 : Vec F S1x1024x512 .bf16) (x6 : Vec F S1x1024x512 .bf16) (x7 : Vec F S1x512x1024 .bf16) (x8 : Vec F S1x1024 .f32) (x9 : Vec F S1x1x1024 .f32) :
    sout0_A_2 c i arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 = stepOf i (rowsOf x0 x1 x2 x3) (gatesOf x0 x1 x2 x3 x4) k0_pay6 x5 x6 x7 := by
  unfold sout0_A_2
  rw [View.read_writes_eq_canon _ _ _ (scover0_A_2 c i arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9)]
  unfold kernelRun0_A
  dsimp only
  sl_unfold_words
  rw [View.canon_cons_unit_zero (S := S1024x1024) zeros2]
  simp only [View.readCov_unit_zero (S := S1024x1024) _ zeros2, View.readCov_unit_zero (S := S1024x128) _ zeros2, View.readAt_eq_ld, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.ld_unit_zero (S := S1024x1024) zeros2, View.ld_unit_zero (S := S1024x128) zeros2, View.ld_unit_zero (S := S1x1024) zeros2, View.ld_unit_zero (S := S1x1024x1024) zeros3, View.ld_unit_zero (S := S1x1x1024) zeros3, View.ld_unit_zero (S := S1x1024x512) zeros3, View.ld_unit_zero (S := S1x512x1024) zeros3]
  rfl

/-- A point in between leaves one step over the accumulator it finds. -/
theorem sout0_B_2_eq (c : Dev nD) (i : grid0.Coords) (arg4 : Memref sig .tc .vmem S1x1024x1024 .f32) (harg4 : arg4.IsWhole) (arg5 : Memref sig .tc .vmem S1x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1024x128 .f32) (harg8 : arg8.IsWhole) (arg9 : Memref sig .tc .vmem S1x1024x512 .bf16) (harg9 : arg9.IsWhole) (arg10 : Memref sig .tc .vmem S1x1024x512 .bf16) (harg10 : arg10.IsWhole) (arg11 : Memref sig .tc .vmem S1x512x1024 .bf16) (harg11 : arg11.IsWhole) (arg12 : Memref sig .tc .vmem S1x1024 .f32) (harg12 : arg12.IsWhole) (arg13 : Memref sig .tc .vmem S1x1x1024 .f32) (harg13 : arg13.IsWhole) (arg14 : Memref sig .tc .vmem S1x1024x1024 .f32) (harg14 : arg14.IsWhole) (arg15 : Memref sig .tc .vmem S1024x1024 .bf16) (harg15 : arg15.IsWhole) (arg16 : Memref sig .tc .vmem S1024x128 .f32) (harg16 : arg16.IsWhole) (arg17 : Memref sig .tc .vmem S1024x1024 .f32) (harg17 : arg17.IsWhole) (hc0 : ¬cond0_0 i) (hc1 : ¬cond0_1 i)
    (x0 : Vec F S1x1024x1024 .f32) (x1 : Vec F S1x1024 .f32) (x2 : Vec F S1x1x1024 .f32) (x3 : Vec F S1x1x1024 .f32) (x4 : Vec F S1024x128 .f32) (x5 : Vec F S1x1024x512 .bf16) (x6 : Vec F S1x1024x512 .bf16) (x7 : Vec F S1x512x1024 .bf16) (x8 : Vec F S1x1024 .f32) (x9 : Vec F S1x1x1024 .f32) (xs0 : Vec F S1024x1024 .bf16) (xs1 : Vec F S1024x128 .f32) (xs2 : Vec F S1024x1024 .f32) :
    sout0_B_2 c i arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 = stepOf i xs0 xs1 xs2 x5 x6 x7 := by
  unfold sout0_B_2
  rw [View.read_writes_eq_canon _ _ _ (scover0_B_2 c i arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2)]
  unfold kernelRun0_B
  dsimp only
  sl_unfold_words
  rw [View.canon_cons_unit_zero (S := S1024x1024) zeros2]
  simp only [View.readCov_unit_zero (S := S1024x1024) _ zeros2, View.readCov_unit_zero (S := S1024x128) _ zeros2, View.readAt_eq_ld, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.ld_unit_zero (S := S1024x1024) zeros2, View.ld_unit_zero (S := S1024x128) zeros2, View.ld_unit_zero (S := S1x1024) zeros2, View.ld_unit_zero (S := S1x1024x1024) zeros3, View.ld_unit_zero (S := S1x1x1024) zeros3, View.ld_unit_zero (S := S1x1024x512) zeros3, View.ld_unit_zero (S := S1x512x1024) zeros3]
  rfl

/-- The last point of a block of rows leaves one step over the accumulator it finds. -/
theorem sout0_C_2_eq (c : Dev nD) (i : grid0.Coords) (arg4 : Memref sig .tc .vmem S1x1024x1024 .f32) (harg4 : arg4.IsWhole) (arg5 : Memref sig .tc .vmem S1x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1024x128 .f32) (harg8 : arg8.IsWhole) (arg9 : Memref sig .tc .vmem S1x1024x512 .bf16) (harg9 : arg9.IsWhole) (arg10 : Memref sig .tc .vmem S1x1024x512 .bf16) (harg10 : arg10.IsWhole) (arg11 : Memref sig .tc .vmem S1x512x1024 .bf16) (harg11 : arg11.IsWhole) (arg12 : Memref sig .tc .vmem S1x1024 .f32) (harg12 : arg12.IsWhole) (arg13 : Memref sig .tc .vmem S1x1x1024 .f32) (harg13 : arg13.IsWhole) (arg14 : Memref sig .tc .vmem S1x1024x1024 .f32) (harg14 : arg14.IsWhole) (arg15 : Memref sig .tc .vmem S1024x1024 .bf16) (harg15 : arg15.IsWhole) (arg16 : Memref sig .tc .vmem S1024x128 .f32) (harg16 : arg16.IsWhole) (arg17 : Memref sig .tc .vmem S1024x1024 .f32) (harg17 : arg17.IsWhole) (hc0 : ¬cond0_0 i) (hc1 : cond0_1 i)
    (x0 : Vec F S1x1024x1024 .f32) (x1 : Vec F S1x1024 .f32) (x2 : Vec F S1x1x1024 .f32) (x3 : Vec F S1x1x1024 .f32) (x4 : Vec F S1024x128 .f32) (x5 : Vec F S1x1024x512 .bf16) (x6 : Vec F S1x1024x512 .bf16) (x7 : Vec F S1x512x1024 .bf16) (x8 : Vec F S1x1024 .f32) (x9 : Vec F S1x1x1024 .f32) (xs0 : Vec F S1024x1024 .bf16) (xs1 : Vec F S1024x128 .f32) (xs2 : Vec F S1024x1024 .f32) :
    sout0_C_2 c i arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 = stepOf i xs0 xs1 xs2 x5 x6 x7 := by
  unfold sout0_C_2
  rw [View.read_writes_eq_canon _ _ _ (scover0_C_2 c i arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2)]
  unfold kernelRun0_C
  dsimp only
  sl_unfold_words
  rw [View.canon_cons_unit_zero (S := S1024x1024) zeros2]
  simp only [View.readCov_unit_zero (S := S1024x1024) _ zeros2, View.readCov_unit_zero (S := S1024x128) _ zeros2, View.readAt_eq_ld, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.ld_unit_zero (S := S1024x1024) zeros2, View.ld_unit_zero (S := S1024x128) zeros2, View.ld_unit_zero (S := S1x1024) zeros2, View.ld_unit_zero (S := S1x1024x1024) zeros3, View.ld_unit_zero (S := S1x1x1024) zeros3, View.ld_unit_zero (S := S1x1024x512) zeros3, View.ld_unit_zero (S := S1x512x1024) zeros3]
  rfl

/-- The last point of a block of rows writes the residual with the normalized accumulator. -/
theorem out0_C_10_eq (c : Dev nD) (i : grid0.Coords) (arg4 : Memref sig .tc .vmem S1x1024x1024 .f32) (harg4 : arg4.IsWhole) (arg5 : Memref sig .tc .vmem S1x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1024x128 .f32) (harg8 : arg8.IsWhole) (arg9 : Memref sig .tc .vmem S1x1024x512 .bf16) (harg9 : arg9.IsWhole) (arg10 : Memref sig .tc .vmem S1x1024x512 .bf16) (harg10 : arg10.IsWhole) (arg11 : Memref sig .tc .vmem S1x512x1024 .bf16) (harg11 : arg11.IsWhole) (arg12 : Memref sig .tc .vmem S1x1024 .f32) (harg12 : arg12.IsWhole) (arg13 : Memref sig .tc .vmem S1x1x1024 .f32) (harg13 : arg13.IsWhole) (arg14 : Memref sig .tc .vmem S1x1024x1024 .f32) (harg14 : arg14.IsWhole) (arg15 : Memref sig .tc .vmem S1024x1024 .bf16) (harg15 : arg15.IsWhole) (arg16 : Memref sig .tc .vmem S1024x128 .f32) (harg16 : arg16.IsWhole) (arg17 : Memref sig .tc .vmem S1024x1024 .f32) (harg17 : arg17.IsWhole) (hc0 : ¬cond0_0 i) (hc1 : cond0_1 i)
    (x0 : Vec F S1x1024x1024 .f32) (x1 : Vec F S1x1024 .f32) (x2 : Vec F S1x1x1024 .f32) (x3 : Vec F S1x1x1024 .f32) (x4 : Vec F S1024x128 .f32) (x5 : Vec F S1x1024x512 .bf16) (x6 : Vec F S1x1024x512 .bf16) (x7 : Vec F S1x512x1024 .bf16) (x8 : Vec F S1x1024 .f32) (x9 : Vec F S1x1x1024 .f32) (xs0 : Vec F S1024x1024 .bf16) (xs1 : Vec F S1024x128 .f32) (xs2 : Vec F S1024x1024 .f32) :
    out0_C_10 c i arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 = k0_pay2 x0 x9 (stepOf i xs0 xs1 xs2 x5 x6 x7) x8 := by
  unfold out0_C_10
  rw [View.read_writes_eq_canon _ _ _ (cover0_C_10 c i arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2)]
  unfold kernelRun0_C
  dsimp only
  sl_unfold_words
  rw [View.canon_cons_unit_zero (S := S1x1024x1024) zeros3]
  simp only [View.readCov_unit_zero (S := S1024x1024) _ zeros2, View.readCov_unit_zero (S := S1024x128) _ zeros2, View.readAt_eq_ld, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.ld_unit_zero (S := S1024x1024) zeros2, View.ld_unit_zero (S := S1024x128) zeros2, View.ld_unit_zero (S := S1x1024) zeros2, View.ld_unit_zero (S := S1x1024x1024) zeros3, View.ld_unit_zero (S := S1x1x1024) zeros3, View.ld_unit_zero (S := S1x1024x512) zeros3, View.ld_unit_zero (S := S1x512x1024) zeros3]
  rfl

end Cert.KernelIdeal.Moe

end
-- ==== Proof.KernelRows.lean ====
module

public import proofs.«01_k».proof.Proof.Cases
public import proofs.«01_k».proof.Proof.Spec
public import Idealize.ShloMosaic.Lib.Pointwise

@[expose] public section

set_option maxRecDepth 16384

noncomputable section

/-! # The kernel's stored values, row by row

Each value that the kernel computes from its blocks, read at one row, as the function of `Spec.lean` of that row. -/

namespace Cert.KernelIdeal.Moe

open Cert.KernelIdeal Cert.KernelIdeal.Gen Idealize.ShloMosaic.TcCoe
open Idealize.ShloMosaic

theorem bits_neg_inf : Ideal.ofBits .f32 4286578688#32 = ⊥ := by simp [Ideal.ofBits, Ideal.ieee]

/-- The normalized and modulated rows. -/
theorem pay3_row (x : FVec Ideal S1x1024x1024 .f32) (g : FVec Ideal S1x1024 .f32) (s t : FVec Ideal S1x1x1024 .f32) (p k : Fin 1024) :
    k0_pay3 (F := Ideal) x g s t (ix2 p k)
      = Moe.hid (fun k => x (ix3 0 p k)) (fun k => g (ix2 0 k)) (fun k => s (ix3 0 0 k)) (fun k => t (ix3 0 0 k)) k := by
  unfold k0_pay3
  pointwise
  rfl

/-- Rounding changes nothing here. -/
theorem pay4_row (x : FVec Ideal S1x1024x1024 .f32) (g : FVec Ideal S1x1024 .f32) (s t : FVec Ideal S1x1x1024 .f32) (p k : Fin 1024) :
    k0_pay4 (F := Ideal) x g s t (ix2 p k)
      = Moe.hid (fun k => x (ix3 0 p k)) (fun k => g (ix2 0 k)) (fun k => s (ix3 0 0 k)) (fun k => t (ix3 0 0 k)) k := by
  unfold k0_pay4
  pointwise
  exact pay3_row x g s t p k

/-- The stored rows. -/
theorem rowsOf_row (x : FVec Ideal S1x1024x1024 .f32) (g : FVec Ideal S1x1024 .f32) (t s : FVec Ideal S1x1x1024 .f32) (p k : Fin 1024) :
    rowsOf (F := Ideal) x g t s (ix2 p k)
      = Moe.hid (fun k => x (ix3 0 p k)) (fun k => g (ix2 0 k)) (fun k => s (ix3 0 0 k)) (fun k => t (ix3 0 0 k)) k := by
  unfold rowsOf k0_pay5
  pointwise
  exact pay4_row x g s t p k

/-- Eight values followed by `⊥`, over 128 lanes. -/
def pad (l : Fin 8 → EReal) (j : Fin 128) : EReal := if hj : j.val < 8 then l ⟨j.val, hj⟩ else ⊥

/-- The lane of an expert. -/
abbrev lane (e : Fin 8) : Fin 128 := ⟨e.val, by omega⟩

theorem pad_lane (l : Fin 8 → EReal) (e : Fin 8) : pad l (lane e) = l e := dif_pos e.isLt

/-- The accumulator after one point: the product of the hidden units with the third weight is added. -/
theorem pay1_row (a : FVec Ideal S1024x1024 .f32) (u : FVec Ideal S1024x512 .bf16) (w : FVec Ideal S1x512x1024 .bf16) (p n : Fin 1024) :
    k0_pay1 (F := Ideal) a u w (ix2 p n) = a (ix2 p n) + ∑ j : Fin 512, u (ix2 p j) * w (ix3 0 j n) := by
  unfold k0_pay1
  pointwise

/-- The accumulator before the first point. -/
theorem pay6_row (p n : Fin 1024) : k0_pay6 (F := Ideal) (ix2 p n) = 0 := by
  unfold k0_pay6
  pointwise

/-- The block of results: the accumulator normalized, times the output gain and the gate, added to the row. -/
theorem pay2_row (x : FVec Ideal S1x1024x1024 .f32) (q : FVec Ideal S1x1x1024 .f32) (a : FVec Ideal S1024x1024 .f32)
    (g : FVec Ideal S1x1024 .f32) (p n : Fin 1024) :
    k0_pay2 (F := Ideal) x q a g (ix3 0 p n)
      = x (ix3 0 p n) + q (ix3 0 0 n) * (Moe.nrm (fun k => a (ix2 p k)) n * g (ix2 0 n)) := by
  unfold k0_pay2
  pointwise
  rfl

/-- Words below 128 differ when their values do. -/
theorem word_eq (a b : ℕ) (ha : a < 128) (hb : b < 128) : BitVec.ofNat 32 a = BitVec.ofNat 32 b ↔ a = b := by
  rw [← BitVec.toNat_inj, BitVec.toNat_ofNat, BitVec.toNat_ofNat, Nat.mod_eq_of_lt (by omega), Nat.mod_eq_of_lt (by omega)]

theorem select_word {α : Type} (a b : ℕ) (ha : a < 128) (hb : b < 128) (x y : α) :
    Scalar.select (IntOp.cmpi .eq (BitVec.ofNat 32 a) (BitVec.ofNat 32 b)) x y = if a = b then x else y := by
  show (if BitVec.ofBool (BitVec.ofNat 32 a == BitVec.ofNat 32 b) = 1#1 then x else y) = _
  rcases eq_or_ne a b with h | h
  · rw [if_pos h, h, beq_self_eq_true]; rfl
  · rw [if_neg h, beq_eq_false_iff_ne.2 fun e => h ((word_eq a b ha hb).1 e)]; rfl

/-- The hidden units of one expert on a row, times the expert's gate. -/
theorem pay18_row (i : grid0.Coords) (h : FVec Ideal S1024x1024 .bf16) (g : FVec Ideal S1024x128 .f32)
    (wg wu : FVec Ideal S1x1024x512 .bf16) (e : Fin 8) (he : (i 2).val = e.val) (p : Fin 1024) (j : Fin 512) :
    k0_pay18 (F := Ideal) i h g wg wu (ix2 p j)
      = Moe.act (fun k => h (ix2 p k)) (fun k => wg (ix3 0 k j)) (fun k => wu (ix3 0 k j)) * g (ix2 p (lane e)) := by
  unfold k0_pay18
  pointwise
  unfold Moe.act Moe.silu
  rw [zero_sub, he]
  congr 1
  rw [Finset.sum_eq_single (lane e)]
  · rw [select_word _ _ (lane e).isLt (lane e).isLt, if_pos rfl]
  · intro x _ hx
    rw [select_word _ _ x.isLt (lane e).isLt, if_neg fun h => hx (Fin.ext h)]
  · exact fun h => absurd (Finset.mem_univ _) h

/-- One grid point on a row. -/
theorem stepOf_row (i : grid0.Coords) (h : FVec Ideal S1024x1024 .bf16) (g : FVec Ideal S1024x128 .f32) (a : FVec Ideal S1024x1024 .f32)
    (wg wu : FVec Ideal S1x1024x512 .bf16) (wd : FVec Ideal S1x512x1024 .bf16) (e : Fin 8) (he : (i 2).val = e.val) (p n : Fin 1024) :
    stepOf (F := Ideal) i h g a wg wu wd (ix2 p n)
      = a (ix2 p n) + ∑ j : Fin 512, Moe.act (fun k => h (ix2 p k)) (fun k => wg (ix3 0 k j)) (fun k => wu (ix3 0 k j))
          * g (ix2 p (lane e)) * wd (ix3 0 j n) := by
  unfold stepOf
  rw [pay1_row]
  simp only [pay18_row i h g wg wu e he]

section gates

variable (h : FVec Ideal S1024x1024 .f32) (hr : FVec Ideal S1024x1024 .bf16) (w : FVec Ideal S1024x128 .f32) (p : Fin 1024)
  (H : Fin 1024 → EReal) (R : Fin 1024 → Fin 8 → EReal)

/-- What the router's part of the kernel reads at a row: the row twice, the router padded with zeros, all real. -/
structure Routed : Prop where
  row : ∀ k, h (ix2 p k) = H k
  rounded : ∀ k, hr (ix2 p k) = H k
  router : ∀ k e, w (ix2 k (lane e)) = R k e
  rowReal : ∀ k, Moe.IsReal (H k)
  routerReal : ∀ k e, Moe.IsReal (R k e)

variable {h hr w p H R}

/-- The logits over the lanes. -/
theorem pay8_row (c : Routed h hr w p H R) (l : Fin 128) : k0_pay8 (F := Ideal) h hr w (ix2 p l) = pad (Moe.logit H R) l := by
  unfold k0_pay8
  pointwise
  rw [bits_neg_inf]
  unfold pad Scalar.select
  by_cases hl : l.val < 8
  · have h1 : IntOp.cmpi .slt (BitVec.ofNat 32 l.val) 8#32 = 1#1 := by
      obtain ⟨v, hv⟩ := l
      have hv' : v < 8 := hl
      clear hl
      show IntOp.cmpi .slt (BitVec.ofNat 32 v) 8#32 = 1#1
      clear hv
      interval_cases v <;> rfl
    obtain ⟨e, rfl⟩ : ∃ e : Fin 8, lane e = l := ⟨⟨l.val, hl⟩, rfl⟩
    rw [if_pos (show IntOp.cmpi .slt (BitVec.ofNat 32 (lane e).val) 8#32 = 1 from h1), dif_pos hl]
    simp only [c.row, c.rounded, c.router, (c.rowReal _).sub_self, (c.routerReal _ _).sub_self, mul_zero, zero_mul,
      Finset.sum_const_zero, add_zero]
    rfl
  · have h1 : IntOp.cmpi .slt (BitVec.ofNat 32 l.val) 8#32 ≠ 1#1 := by
      unfold IntOp.cmpi
      have : BitVec.slt (BitVec.ofNat 32 l.val) 8#32 = false := by
        have := l.isLt
        have e8 : (8#32).toInt = 8 := rfl
        rw [BitVec.slt_eq_decide, e8, BitVec.toInt_eq_toNat_of_lt (by rw [BitVec.toNat_ofNat]; omega), BitVec.toNat_ofNat,
          decide_eq_false_iff_not]
        omega
      simp [this]
    rw [if_neg (show ¬ IntOp.cmpi .slt (BitVec.ofNat 32 l.val) 8#32 = 1 from h1), dif_neg hl]

theorem logitReal (c : Routed h hr w p H R) (e : Fin 8) : Moe.IsReal (Moe.logit H R e) := Moe.logit_isReal c.rowReal c.routerReal e

/-- The lanes' largest value. -/
theorem pad_le {l : Fin 8 → EReal} (k : Fin 128) : pad l k ≤ pad l (lane (Moe.top1 l)) := by
  rw [pad_lane]; unfold pad; split
  · exact (Moe.isTop2_top l).le_fst _
  · exact bot_le

theorem pad_lt {l : Fin 8 → EReal} (k : Fin 128) (hk : k < lane (Moe.top1 l)) : pad l k < pad l (lane (Moe.top1 l)) := by
  have : k.val < (Moe.top1 l).val := hk
  rw [pad_lane, pad, dif_pos (by omega)]
  exact (Moe.isTop2_top l).lt_fst _ hk

/-- The lanes without the first choice. -/
def pad2 (l : Fin 8 → EReal) (k : Fin 128) : EReal := if k.val = (Moe.top1 l).val then ⊥ else pad l k

theorem pad2_snd (l : Fin 8 → EReal) : pad2 l (lane (Moe.top2 l)) = l (Moe.top2 l) := by
  rw [pad2, if_neg fun h => (Moe.isTop2_top l).ne (Fin.ext h), pad_lane]

theorem pad2_le {l : Fin 8 → EReal} (k : Fin 128) : pad2 l k ≤ pad2 l (lane (Moe.top2 l)) := by
  rw [pad2_snd]; unfold pad2 pad; split
  · exact bot_le
  · split
    · exact (Moe.isTop2_top l).le_snd _ fun h => by simp_all [Fin.ext_iff]
    · exact bot_le

theorem pad2_lt {l : Fin 8 → EReal} (hl : ∀ e, Moe.IsReal (l e)) (k : Fin 128) (hk : k < lane (Moe.top2 l)) :
    pad2 l k < pad2 l (lane (Moe.top2 l)) := by
  have : k.val < (Moe.top2 l).val := hk
  rw [pad2_snd, pad2]; split
  · exact (hl _).bot_lt
  · rw [pad, dif_pos (by omega)]
    exact (Moe.isTop2_top l).lt_snd _ (fun h => by simp_all [Fin.ext_iff]) hk

/-- The largest logit. -/
theorem pay9_row (c : Routed h hr w p H R) : k0_pay9 (F := Ideal) h hr w (ix2 p 0) = Moe.logit H R (Moe.top1 (Moe.logit H R)) := by
  unfold k0_pay9
  pointwise
  simp only [pay8_row c, bits_neg_inf]
  rw [Moe.fold_max_eq _ _ pad_le, pad_lane]

/-- Its lane. -/
theorem pay10_row (c : Routed h hr w p H R) :
    k0_pay10 (F := Ideal) h hr w (ix2 p 0) = BitVec.ofNat 32 (Moe.top1 (Moe.logit H R)).val := by
  unfold k0_pay10
  pointwise
  exact Moe.fold_minsi_eq (pad (Moe.logit H R)) (lane (Moe.top1 (Moe.logit H R))) pad_le pad_lt _ fun k => by
    rw [pay8_row c, pay9_row c, pad_lane]

/-- The logits without the first choice. -/
theorem pay11_row (c : Routed h hr w p H R) (l : Fin 128) : k0_pay11 (F := Ideal) h hr w (ix2 p l) = pad2 (Moe.logit H R) l := by
  unfold k0_pay11
  pointwise
  rw [pay10_row c, select_word _ _ l.isLt (by omega), bits_neg_inf, pay8_row c]
  rfl

/-- The second largest logit. -/
theorem pay12_row (c : Routed h hr w p H R) : k0_pay12 (F := Ideal) h hr w (ix2 p 0) = Moe.logit H R (Moe.top2 (Moe.logit H R)) := by
  unfold k0_pay12
  pointwise
  simp only [pay11_row c, bits_neg_inf]
  rw [Moe.fold_max_eq _ _ pad2_le, pad2_snd]

/-- Its lane. -/
theorem pay13_row (c : Routed h hr w p H R) :
    k0_pay13 (F := Ideal) h hr w (ix2 p 0) = BitVec.ofNat 32 (Moe.top2 (Moe.logit H R)).val := by
  unfold k0_pay13
  pointwise
  exact Moe.fold_minsi_eq (pad2 (Moe.logit H R)) (lane (Moe.top2 (Moe.logit H R))) pad2_le (pad2_lt (logitReal c)) _ fun k => by
    rw [pay11_row c, pay12_row c, pad2_snd]

theorem pay14_row (c : Routed h hr w p H R) : k0_pay14 (F := Ideal) h hr w (ix2 p 0) = Moe.second (Moe.logit H R) := by
  unfold k0_pay14
  pointwise
  rw [pay12_row c, pay9_row c]
  rfl

theorem pay15_row (c : Routed h hr w p H R) : k0_pay15 (F := Ideal) h hr w (ix2 p 0) = Moe.wt1 (Moe.logit H R) := by
  unfold k0_pay15
  pointwise
  rw [pay14_row c]
  rfl

/-- The gates of a row at the lane of an expert. -/
theorem gatesFrom_row (c : Routed h hr w p H R) (e : Fin 8) :
    gatesFrom (F := Ideal) h hr w (ix2 p (lane e)) = Moe.gate (Moe.logit H R) e := by
  unfold gatesFrom k0_pay17 k0_pay16
  pointwise
  rw [pay10_row c, pay13_row c, pay14_row c, pay15_row c, select_word _ _ (by omega) (by omega), select_word _ _ (by omega) (by omega)]
  unfold Moe.gate
  simp only [Fin.ext_iff]

end gates

/-- The gates that the first point of a block of rows stores, at a row and the lane of an expert. -/
theorem gatesOf_row (x : FVec Ideal S1x1024x1024 .f32) (g : FVec Ideal S1x1024 .f32) (t s : FVec Ideal S1x1x1024 .f32)
    (w : FVec Ideal S1024x128 .f32) (R : Fin 1024 → Fin 8 → EReal) (hw : ∀ k e, w (ix2 k (lane e)) = R k e)
    (hg : ∀ k, Moe.IsReal (g (ix2 0 k))) (hs : ∀ k, Moe.IsReal (s (ix3 0 0 k))) (ht : ∀ k, Moe.IsReal (t (ix3 0 0 k)))
    (hR : ∀ k e, Moe.IsReal (R k e)) (p : Fin 1024) (e : Fin 8) :
    gatesOf (F := Ideal) x g t s w (ix2 p (lane e))
      = Moe.gate (Moe.logit (Moe.hid (fun k => x (ix3 0 p k)) (fun k => g (ix2 0 k)) (fun k => s (ix3 0 0 k)) fun k => t (ix3 0 0 k)) R) e := by
  unfold gatesOf
  refine gatesFrom_row ⟨fun k => pay3_row x g s t p k, fun k => pay4_row x g s t p k, fun k e => ?_, fun k => Moe.hid_isReal hg hs ht k, hR⟩ e
  rw [← hw]
  unfold k0_pay7
  pointwise

end Cert.KernelIdeal.Moe

end
-- ==== Proof.KernelBlocks.lean ====
module

public import proofs.«01_k».proof.Proof.Cases
public import Idealize.ShloMosaic.Lib.Pointwise
public import Idealize.ShloMosaic.Lib.Pipeline.ValueKit
public import Idealize.ShloMosaic.Lib.Claim
public import Idealize.ShloMosaic.Lib.Routing.OpsSet
public import Idealize.ShloMosaic.Lib.Routing.OpsPair

@[expose] public section

set_option maxRecDepth 16384

noncomputable section

/-! # The blocks of the kernel's windows

Every window's block at a grid point, read at an element, as an element of the kernel's argument. -/

namespace Cert.KernelIdeal.Moe

open Cert.KernelIdeal Cert.KernelIdeal.Gen Idealize.ShloMosaic.TcCoe
open Idealize.ShloMosaic

variable (m : (ℓ : Loc nD τ sig) → Buf (Elt Ideal) ℓ) (c : Dev nD)

/-! ## The arguments, as arrays of extended reals -/

/-- Argument 0. -/
abbrev A0 : S2x8192x1024.Idx → EReal := m ((c : Thread nD τ).loc main_arg0)
/-- Argument 1. -/
abbrev A1 : S1024.Idx → EReal := m ((c : Thread nD τ).loc main_arg1)
/-- Argument 2. -/
abbrev A2 : S2x1024.Idx → EReal := m ((c : Thread nD τ).loc main_arg2)
/-- Argument 3. -/
abbrev A3 : S2x1024.Idx → EReal := m ((c : Thread nD τ).loc main_arg3)
/-- Argument 4. -/
abbrev A4 : S1024x8.Idx → EReal := m ((c : Thread nD τ).loc main_arg4)
/-- Argument 5. -/
abbrev A5 : S8x1024x3584.Idx → EReal := m ((c : Thread nD τ).loc main_arg5)
/-- Argument 6. -/
abbrev A6 : S8x1024x3584.Idx → EReal := m ((c : Thread nD τ).loc main_arg6)
/-- Argument 7. -/
abbrev A7 : S8x3584x1024.Idx → EReal := m ((c : Thread nD τ).loc main_arg7)
/-- Argument 8. -/
abbrev A8 : S1024.Idx → EReal := m ((c : Thread nD τ).loc main_arg8)
/-- Argument 9. -/
abbrev A9 : S2x1024.Idx → EReal := m ((c : Thread nD τ).loc main_arg9)

/-- A grid point's coordinates. -/
theorem coords_val : ∀ t : Fin cfg0.N, ((grid0.coords t) 0).val = t.val / 448 ∧ ((grid0.coords t) 1).val = t.val / 56 % 8
    ∧ ((grid0.coords t) 2).val = t.val / 7 % 8 ∧ ((grid0.coords t) 3).val = t.val % 7 := by decide +kernel

/-- The windows' block indices at a grid point. -/
theorem index_val : ∀ t : Fin cfg0.N, win0_0.index t = ![t.val / 448, t.val / 56 % 8, 0] ∧ win0_1.index t = ![0, 0]
    ∧ win0_2.index t = ![t.val / 448, 0, 0] ∧ win0_3.index t = ![t.val / 448, 0, 0] ∧ win0_4.index t = ![0, 0]
    ∧ win0_5.index t = ![t.val / 7 % 8, 0, t.val % 7] ∧ win0_6.index t = ![t.val / 7 % 8, 0, t.val % 7]
    ∧ win0_7.index t = ![t.val / 7 % 8, t.val % 7, 0] ∧ win0_8.index t = ![0, 0] ∧ win0_9.index t = ![t.val / 448, 0, 0] := by
  decide +kernel

/-! ## The arrays that the host operations before the call leave -/

theorem host6 (k : Fin 1024) : V m c main_v6 (ix2 0 k) = A1 m c (ix1 k) := by
  entry_read
  pointwise

theorem host7 (b : Fin 2) (k : Fin 1024) : V m c main_v7 (ix3 b 0 k) = A2 m c (ix2 b k) := by
  entry_read
  pointwise

theorem host8 (b : Fin 2) (k : Fin 1024) : V m c main_v8 (ix3 b 0 k) = A3 m c (ix2 b k) := by
  entry_read
  pointwise

theorem host9 (k : Fin 1024) : V m c main_v9 (ix2 0 k) = A8 m c (ix1 k) := by
  entry_read
  pointwise

theorem host10 (b : Fin 2) (k : Fin 1024) : V m c main_v10 (ix3 b 0 k) = A9 m c (ix2 b k) := by
  entry_read
  pointwise

/-- Where an element of the router lands in the padded router. -/
theorem pad_lands (idx : IVec S1 32) (h0 : ∀ i, idx i = 0#32) (u : S1024x8.Idx) (k : Fin 1024) (l : Fin 128) :
    scatter_S1024x128_S1_S1024x8_01_n_1_0.resultIdx? u idx = some (ix2 k l) ↔ (u 0).val = k.val ∧ (u 1).val = l.val := by
  have w0 : scatter_S1024x128_S1_S1024x8_01_n_1_0.window u 0 = (u 0).val := rfl
  have w1 : scatter_S1024x128_S1_S1024x8_01_n_1_0.window u 1 = (u 1).val := rfl
  have s0 : scatter_S1024x128_S1_S1024x8_01_n_1_0.start u idx 0 = 0 := rfl
  have s1 : scatter_S1024x128_S1_S1024x8_01_n_1_0.start u idx 1 = 0 :=
    (show scatter_S1024x128_S1_S1024x8_01_n_1_0.start u idx 1 = (idx _).toInt from rfl).trans (by rw [h0]; rfl)
  rw [show (some (ix2 k l) : Option S1024x128.Idx) = some (ix2 k l) from rfl]
  refine (Routing.resultIdx?_ix2 scatter_S1024x128_S1_S1024x8_01_n_1_0 u idx k l).trans ?_
  rw [w0, w1, s0, s1]
  omega

/-- The padded router, at the lane of an expert. -/
theorem host5 (k : Fin 1024) (e : Fin 8) : V m c main_v5 (ix2 k (⟨e.val, by omega⟩ : Fin 128))
    = A4 m c (ix2 k e) := by
  entry_read
  refine Routing.scatter_set_hit scatter_S1024x128_S1_S1024x8_01_n_1_0 _ _ _ _ _ (fun u hu => ?_) (ix2 k e) ?_
  · have h := (pad_lands _ (fun _ => rfl) u k _).1 hu
    exact congrArg _ ((eq_ix2 u).trans (by rw [Fin.ext h.1, Fin.ext h.2]))
  · exact (pad_lands _ (fun _ => rfl) (ix2 k e) k _).2 ⟨rfl, rfl⟩

/-! ## The blocks -/

/-- The rows. -/
theorem blk0 (t : Fin cfg0.N) (b : Fin 2) (hb : t.val / 448 = b.val) (q : Fin 8) (hq : t.val / 56 % 8 = q.val) (p k : Fin 1024) : iblk m c 0 t (ix3 0 p k)
    = A0 m c (ix3 b (⟨q.val * 1024 + p.val, by omega⟩ : Fin 8192) k) := by
  have h := (index_val t).1
  blk_ext [iblk, V, h]

/-- The input gain. -/
theorem blk1 (t : Fin cfg0.N)  (k : Fin 1024) : iblk m c 1 t (ix2 0 k) = A1 m c (ix1 k) := by
  have h := (index_val t).2.1
  refine Eq.trans ?_ (host6 m c k)
  show V m c main_v6 (((cfg0.win 1).blk t).view.emb (ix2 0 k)) = V m c main_v6 (ix2 0 k)
  refine congrArg (V m c main_v6) ?_
  blk_ext [h]

/-- The shift. -/
theorem blk2 (t : Fin cfg0.N) (b : Fin 2) (hb : t.val / 448 = b.val) (k : Fin 1024) : iblk m c 2 t (ix3 0 0 k) = A2 m c (ix2 b k) := by
  have h := (index_val t).2.2.1
  refine Eq.trans ?_ (host7 m c b k)
  show V m c main_v7 (((cfg0.win 2).blk t).view.emb (ix3 0 0 k)) = V m c main_v7 (ix3 b 0 k)
  refine congrArg (V m c main_v7) ?_
  blk_ext [h]

/-- The scale. -/
theorem blk3 (t : Fin cfg0.N) (b : Fin 2) (hb : t.val / 448 = b.val) (k : Fin 1024) : iblk m c 3 t (ix3 0 0 k) = A3 m c (ix2 b k) := by
  have h := (index_val t).2.2.2.1
  refine Eq.trans ?_ (host8 m c b k)
  show V m c main_v8 (((cfg0.win 3).blk t).view.emb (ix3 0 0 k)) = V m c main_v8 (ix3 b 0 k)
  refine congrArg (V m c main_v8) ?_
  blk_ext [h]

/-- The router, at the lane of an expert. -/
theorem blk4 (t : Fin cfg0.N)  (k : Fin 1024) (e : Fin 8) : iblk m c 4 t (ix2 k (⟨e.val, by omega⟩ : Fin 128)) = A4 m c (ix2 k e) := by
  have h := (index_val t).2.2.2.2.1
  refine Eq.trans ?_ (host5 m c k e)
  show V m c main_v5 (((cfg0.win 4).blk t).view.emb (ix2 k (⟨e.val, by omega⟩ : Fin 128))) = V m c main_v5 (ix2 k (⟨e.val, by omega⟩ : Fin 128))
  refine congrArg (V m c main_v5) ?_
  blk_ext [h]

/-- The first weight. -/
theorem blk5 (t : Fin cfg0.N) (e : Fin 8) (he : t.val / 7 % 8 = e.val) (f : Fin 7) (hf : t.val % 7 = f.val) (k : Fin 1024) (j : Fin 512) : iblk m c 5 t (ix3 0 k j)
    = A5 m c (ix3 e k (⟨f.val * 512 + j.val, by omega⟩ : Fin 3584)) := by
  have h := (index_val t).2.2.2.2.2.1
  blk_ext [iblk, V, h]

/-- The second weight. -/
theorem blk6 (t : Fin cfg0.N) (e : Fin 8) (he : t.val / 7 % 8 = e.val) (f : Fin 7) (hf : t.val % 7 = f.val) (k : Fin 1024) (j : Fin 512) : iblk m c 6 t (ix3 0 k j)
    = A6 m c (ix3 e k (⟨f.val * 512 + j.val, by omega⟩ : Fin 3584)) := by
  have h := (index_val t).2.2.2.2.2.2.1
  blk_ext [iblk, V, h]

/-- The third weight. -/
theorem blk7 (t : Fin cfg0.N) (e : Fin 8) (he : t.val / 7 % 8 = e.val) (f : Fin 7) (hf : t.val % 7 = f.val) (j : Fin 512) (n : Fin 1024) : iblk m c 7 t (ix3 0 j n)
    = A7 m c (ix3 e (⟨f.val * 512 + j.val, by omega⟩ : Fin 3584) n) := by
  have h := (index_val t).2.2.2.2.2.2.2.1
  blk_ext [iblk, V, h]

/-- The output gain. -/
theorem blk8 (t : Fin cfg0.N)  (k : Fin 1024) : iblk m c 8 t (ix2 0 k) = A8 m c (ix1 k) := by
  have h := (index_val t).2.2.2.2.2.2.2.2.1
  refine Eq.trans ?_ (host9 m c k)
  show V m c main_v9 (((cfg0.win 8).blk t).view.emb (ix2 0 k)) = V m c main_v9 (ix2 0 k)
  refine congrArg (V m c main_v9) ?_
  blk_ext [h]

/-- The gate of the residual. -/
theorem blk9 (t : Fin cfg0.N) (b : Fin 2) (hb : t.val / 448 = b.val) (k : Fin 1024) : iblk m c 9 t (ix3 0 0 k) = A9 m c (ix2 b k) := by
  have h := (index_val t).2.2.2.2.2.2.2.2.2
  refine Eq.trans ?_ (host10 m c b k)
  show V m c main_v10 (((cfg0.win 9).blk t).view.emb (ix3 0 0 k)) = V m c main_v10 (ix3 b 0 k)
  refine congrArg (V m c main_v10) ?_
  blk_ext [h]

end Cert.KernelIdeal.Moe

end
-- ==== Proof.KernelSum.lean ====
module

public import proofs.«01_k».proof.Proof.KernelRows
public import proofs.«01_k».proof.Proof.KernelBlocks

@[expose] public section

set_option maxRecDepth 16384

noncomputable section

/-! # The kernel's accumulator over a block of rows

The 56 grid points of a block of rows visit the eight experts in turn, seven tiles of hidden units each. After each
point the scratch holds the rows, their gates, and the sum of the pieces visited so far. -/

namespace Cert.KernelIdeal.Moe

open Cert.KernelIdeal Cert.KernelIdeal.Gen Idealize.ShloMosaic.TcCoe
open Idealize.ShloMosaic

variable (m : (ℓ : Loc nD τ sig) → Buf (Elt Ideal) ℓ) (c : Dev nD)

/-! ## What a point leaves, from what it finds -/

theorem rows_first (t : Fin cfg0.N) (h0 : t.val % 56 = 0) :
    (outsAt0 m c t.val t.isLt).2.1 = rowsOf (iblk m c 0 t) (iblk m c 1 t) (iblk m c 2 t) (iblk m c 3 t) := by
  have e := congrArg (fun s => s.2.1) (outsAt0_A m c t h0 (by omega))
  dsimp only at e
  rw [sout0_A_0_eq] at e
  exact e

theorem gates_first (t : Fin cfg0.N) (h0 : t.val % 56 = 0) :
    (outsAt0 m c t.val t.isLt).2.2.1 = gatesOf (iblk m c 0 t) (iblk m c 1 t) (iblk m c 2 t) (iblk m c 3 t) (iblk m c 4 t) := by
  have e := congrArg (fun s => s.2.2.1) (outsAt0_A m c t h0 (by omega))
  dsimp only at e
  rw [sout0_A_1_eq] at e
  exact e

theorem acc_first (t : Fin cfg0.N) (h0 : t.val % 56 = 0) :
    (outsAt0 m c t.val t.isLt).2.2.2 = stepOf (grid0.coords t) (outsAt0 m c t.val t.isLt).2.1 (outsAt0 m c t.val t.isLt).2.2.1 (k0_pay6 (F := Ideal))
      (iblk m c 5 t) (iblk m c 6 t) (iblk m c 7 t) := by
  rw [rows_first m c t h0, gates_first m c t h0]
  have e := congrArg (fun s => s.2.2.2) (outsAt0_A m c t h0 (by omega))
  dsimp only at e
  rw [sout0_A_2_eq] at e
  exact e

theorem rows_next (t : Fin cfg0.N) (h0 : ¬t.val % 56 = 0) :
    (outsAt0 m c t.val t.isLt).2.1 = (outsAt0 m c (t.val - 1) (Nat.lt_of_le_of_lt (Nat.sub_le _ _) t.isLt)).2.1 := by
  by_cases h1 : t.val % 56 = 55
  · rw [outsAt0_C m c t h0 h1]; dsimp only; unfold sout0_C_0; rfl
  · rw [outsAt0_B m c t h0 h1]; dsimp only; unfold sout0_B_0; rfl

theorem gates_next (t : Fin cfg0.N) (h0 : ¬t.val % 56 = 0) :
    (outsAt0 m c t.val t.isLt).2.2.1 = (outsAt0 m c (t.val - 1) (Nat.lt_of_le_of_lt (Nat.sub_le _ _) t.isLt)).2.2.1 := by
  by_cases h1 : t.val % 56 = 55
  · rw [outsAt0_C m c t h0 h1]; dsimp only; unfold sout0_C_1; rfl
  · rw [outsAt0_B m c t h0 h1]; dsimp only; unfold sout0_B_1; rfl

theorem acc_next (t : Fin cfg0.N) (h0 : ¬t.val % 56 = 0) :
    (outsAt0 m c t.val t.isLt).2.2.2 = stepOf (grid0.coords t) (outsAt0 m c t.val t.isLt).2.1 (outsAt0 m c t.val t.isLt).2.2.1
      (outsAt0 m c (t.val - 1) (Nat.lt_of_le_of_lt (Nat.sub_le _ _) t.isLt)).2.2.2 (iblk m c 5 t) (iblk m c 6 t) (iblk m c 7 t) := by
  rw [rows_next m c t h0, gates_next m c t h0]
  by_cases h1 : t.val % 56 = 55
  · have e := congrArg (fun s => s.2.2.2) (outsAt0_C m c t h0 h1)
    dsimp only at e
    rw [sout0_C_2_eq] at e
    exact e
  · have e := congrArg (fun s => s.2.2.2) (outsAt0_B m c t h0 h1)
    dsimp only at e
    rw [sout0_B_2_eq] at e
    exact e

theorem out_last (t : Fin cfg0.N) (h1 : t.val % 56 = 55) :
    (outsAt0 m c t.val t.isLt).1 = k0_pay2 (iblk m c 0 t) (iblk m c 9 t) (outsAt0 m c t.val t.isLt).2.2.2 (iblk m c 8 t) := by
  rw [acc_next m c t (by omega), rows_next m c t (by omega), gates_next m c t (by omega)]
  have e := congrArg (fun s => s.1) (outsAt0_C m c t (by omega) h1)
  dsimp only at e
  rw [out0_C_10_eq] at e
  exact e

/-! ## The pieces of a row -/

/-- The modulated row of the kernel's arguments. -/
abbrev hrow (b : Fin 2) (r : Fin 8192) : Fin 1024 → EReal :=
  Moe.hid (fun k => A0 m c (ix3 b r k)) (fun k => A1 m c (ix1 k))
    (fun k => A3 m c (ix2 b k)) fun k => A2 m c (ix2 b k)

/-- Its logits. -/
abbrev lrow (b : Fin 2) (r : Fin 8192) : Fin 8 → EReal :=
  Moe.logit (hrow m c b r) fun k e => A4 m c (ix2 k e)

/-- One hidden unit's part of the row's mixture. -/
def piece (b : Fin 2) (r : Fin 8192) (n : Fin 1024) (e : Fin 8) (j : Fin 3584) : EReal :=
  Moe.act (hrow m c b r) (fun k => A5 m c (ix3 e k j)) (fun k => A6 m c (ix3 e k j))
    * Moe.gate (lrow m c b r) e * A7 m c (ix3 e j n)

/-- The part that the `i`-th point of the block adds. -/
def part (b : Fin 2) (r : Fin 8192) (n : Fin 1024) (i : ℕ) : EReal :=
  ∑ j : Fin 512, piece m c b r n ⟨i / 7 % 8, by omega⟩ ⟨i % 7 * 512 + j.val, by omega⟩

/-- The arguments that the routing reads are real. -/
structure Finite : Prop where
  gain : ∀ k, Moe.IsReal (A1 m c (ix1 k))
  shift : ∀ b k, Moe.IsReal (A2 m c (ix2 b k))
  scale : ∀ b k, Moe.IsReal (A3 m c (ix2 b k))
  router : ∀ k e, Moe.IsReal (A4 m c (ix2 k e))

/-- Row `p` of block `q`. -/
abbrev rowAt (q : Fin 8) (p : Fin 1024) : Fin 8192 := ⟨q.val * 1024 + p.val, by omega⟩

/-- What the scratch holds after point `i` of a block. -/
structure Held (b : Fin 2) (q : Fin 8) (i : ℕ) (t : Fin cfg0.N) : Prop where
  rows : ∀ p k, (outsAt0 m c t.val t.isLt).2.1 (ix2 p k) = hrow m c b (rowAt q p) k
  gates : ∀ p e, (outsAt0 m c t.val t.isLt).2.2.1 (ix2 p (lane e)) = Moe.gate (lrow m c b (rowAt q p)) e
  acc : ∀ p n, (outsAt0 m c t.val t.isLt).2.2.2 (ix2 p n) = ∑ i' ∈ Finset.range (i + 1), part m c b (rowAt q p) n i'

/-- One point adds its part. -/
theorem step_part (b : Fin 2) (q : Fin 8) (i : ℕ) (hi : i < 56) (t : Fin cfg0.N) (ht : t.val = 56 * (8 * b.val + q.val) + i)
    (h : FVec Ideal S1024x1024 .bf16) (g : FVec Ideal S1024x128 .f32) (a : FVec Ideal S1024x1024 .f32) (p n : Fin 1024)
    (hh : ∀ k, h (ix2 p k) = hrow m c b (rowAt q p) k) (hg : ∀ e, g (ix2 p (lane e)) = Moe.gate (lrow m c b (rowAt q p)) e) :
    stepOf (F := Ideal) (grid0.coords t) h g a (iblk m c 5 t) (iblk m c 6 t) (iblk m c 7 t) (ix2 p n)
      = a (ix2 p n) + part m c b (rowAt q p) n i := by
  have he : t.val / 7 % 8 = i / 7 % 8 := by omega
  have hf : t.val % 7 = i % 7 := by omega
  rw [stepOf_row _ _ _ _ _ _ _ (⟨i / 7 % 8, by omega⟩ : Fin 8) ((coords_val t).2.2.1.trans he)]
  refine congrArg (a (ix2 p n) + ·) (Finset.sum_congr rfl fun j _ => ?_)
  rw [hg, blk7 m c t ⟨i / 7 % 8, by omega⟩ he ⟨i % 7, by omega⟩ hf]
  simp only [hh, blk5 m c t ⟨i / 7 % 8, by omega⟩ he ⟨i % 7, by omega⟩ hf, blk6 m c t ⟨i / 7 % 8, by omega⟩ he ⟨i % 7, by omega⟩ hf]
  rfl

/-- The scratch after every point of a block. -/
theorem held (hF : Finite m c) (b : Fin 2) (q : Fin 8) : ∀ (i : ℕ), i < 56 → ∀ t : Fin cfg0.N, t.val = 56 * (8 * b.val + q.val) + i →
    Held m c b q i t
  | 0, hi, t, ht => by
    have h0 : t.val % 56 = 0 := by omega
    have hb : t.val / 448 = b.val := by omega
    have hq : t.val / 56 % 8 = q.val := by omega
    have R : ∀ p k, (outsAt0 m c t.val t.isLt).2.1 (ix2 p k) = hrow m c b (rowAt q p) k := fun p k => by
      rw [rows_first m c t h0, rowsOf_row]
      simp only [blk0 m c t b hb q hq, blk1 m c t, blk2 m c t b hb, blk3 m c t b hb]
    have G : ∀ p e, (outsAt0 m c t.val t.isLt).2.2.1 (ix2 p (lane e)) = Moe.gate (lrow m c b (rowAt q p)) e := fun p e => by
      rw [gates_first m c t h0, gatesOf_row (iblk m c 0 t) (iblk m c 1 t) (iblk m c 2 t) (iblk m c 3 t) (iblk m c 4 t)
        (fun k e => A4 m c (ix2 k e)) (fun k e => blk4 m c t k e) (fun k => ?_) (fun k => ?_) (fun k => ?_) hF.router]
      · simp only [blk0 m c t b hb q hq, blk1 m c t, blk2 m c t b hb, blk3 m c t b hb]
      · rw [blk1]; exact hF.gain k
      · rw [blk3 m c t b hb]; exact hF.scale b k
      · rw [blk2 m c t b hb]; exact hF.shift b k
    refine ⟨R, G, fun p n => ?_⟩
    rw [acc_first m c t h0, step_part m c b q 0 hi t ht _ _ _ p n (R p) (G p), pay6_row, zero_add, Finset.sum_range_one]
  | i + 1, hi, t, ht => by
    have h0 : ¬t.val % 56 = 0 := by omega
    have H := held hF b q i (by omega) ⟨t.val - 1, Nat.lt_of_le_of_lt (Nat.sub_le _ _) t.isLt⟩ (by show t.val - 1 = _; omega)
    have R : ∀ p k, (outsAt0 m c t.val t.isLt).2.1 (ix2 p k) = hrow m c b (rowAt q p) k := fun p k => by
      rw [rows_next m c t h0]; exact H.rows p k
    have G : ∀ p e, (outsAt0 m c t.val t.isLt).2.2.1 (ix2 p (lane e)) = Moe.gate (lrow m c b (rowAt q p)) e := fun p e => by
      rw [gates_next m c t h0]; exact H.gates p e
    refine ⟨R, G, fun p n => ?_⟩
    rw [acc_next m c t h0, step_part m c b q (i + 1) hi t ht _ _ _ p n (R p) (G p), Finset.sum_range_succ]
    exact congrArg (· + _) (H.acc p n)

/-- The mixture of the kernel's arguments at a row. -/
abbrev mrow (b : Fin 2) (r : Fin 8192) : Fin 1024 → EReal :=
  Moe.mix (lrow m c b r) (hrow m c b r) (fun e k j => A5 m c (ix3 e k j))
    (fun e k j => A6 m c (ix3 e k j)) fun e j n => A7 m c (ix3 e j n)

theorem lrow_real (hF : Finite m c) (b : Fin 2) (r : Fin 8192) (e : Fin 8) : Moe.IsReal (lrow m c b r e) :=
  Moe.logit_isReal (Moe.hid_isReal hF.gain (hF.scale b) (hF.shift b)) hF.router e

/-- All the parts of a row are its mixture: the gate moves out of the sum over the hidden units. -/
theorem parts_eq (hF : Finite m c) (b : Fin 2) (r : Fin 8192) (n : Fin 1024) :
    ∑ i ∈ Finset.range 56, part m c b r n i = mrow m c b r n := by
  rw [Finset.sum_range]
  have h1 : ∑ i : Fin 56, part m c b r n i.val = ∑ e : Fin 8, ∑ j : Fin 3584, piece m c b r n e j := by
    refine Eq.trans ?_ (Fin.sum_points_lanes_fin (N := 56) (n := 512) 7 (piece m c b r n))
    refine Finset.sum_congr rfl fun i _ => Finset.sum_congr rfl fun j _ => ?_
    exact congrArg₂ (piece m c b r n) (Fin.ext (Nat.mod_eq_of_lt (by omega))) rfl
  rw [h1]
  refine Finset.sum_congr rfl fun e _ => ?_
  obtain ⟨w, hw, ew⟩ := Moe.gate_real (lrow_real m c hF b r) e
  rw [ew]
  refine Eq.trans ?_ (Moe.mul_sum_of_real Finset.univ w hw _)
  refine Finset.sum_congr rfl fun j _ => ?_
  unfold piece
  rw [ew, mul_comm (Moe.act _ _ _) (w : EReal), mul_assoc]

/-- The kernel's result at an element. -/
theorem result_row (hF : Finite m c) (b : Fin 2) (r : Fin 8192) (n : Fin 1024) :
    Cert.KernelIdeal.Value.G10 m c (ix3 b r n) = A0 m c (ix3 b r n)
      + A9 m c (ix2 b n)
        * (Moe.nrm (mrow m c b r) n * A8 m c (ix1 n)) := by
  obtain ⟨q, p, rfl⟩ : ∃ (q : Fin 8) (p : Fin 1024), r = rowAt q p :=
    ⟨⟨r.val / 1024, by omega⟩, ⟨r.val % 1024, by omega⟩, Fin.ext (by show r.val = r.val / 1024 * 1024 + r.val % 1024; omega)⟩
  have hpt : Cert.KernelIdeal.Value.pt10Of (ix3 b (rowAt q p) n) = 56 * (8 * b.val + q.val) + 55 := by
    show 56 * (8 * (b.val / 1 - 0) + 1 * ((q.val * 1024 + p.val) / 1024 - 0) + 1 * (n.val / 1024 - 0)) + 55 = _
    omega
  have hN : 56 * (8 * b.val + q.val) + 55 < cfg0.N := lt_of_lt_of_eq (by omega) (show cfg0.N = 896 from N_0).symm
  have hloc : Cert.KernelIdeal.Value.loc10Of (ix3 b (rowAt q p) n) = ix3 0 p n := by
    refine funext fun a => Fin.ext ?_
    match a with
    | ⟨0, _⟩ => show b.val % 1 = 0; omega
    | ⟨1, _⟩ => show (q.val * 1024 + p.val) % 1024 = p.val; omega
    | ⟨2, _⟩ => show n.val % 1024 = n.val; omega
  unfold Cert.KernelIdeal.Value.G10
  rw [dif_pos (lt_of_eq_of_lt hpt hN), ← Cert.KernelIdeal.Value.outsAt0_sweep m c _ (lt_of_eq_of_lt hpt hN), hloc]
  have key : ∀ (k : ℕ) (hk : k < cfg0.N), k = 56 * (8 * b.val + q.val) + 55 → (outsAt0 m c k hk).1 (ix3 0 p n)
      = A0 m c (ix3 b (rowAt q p) n) + A9 m c (ix2 b n)
        * (Moe.nrm (mrow m c b (rowAt q p)) n * A8 m c (ix1 n)) := fun k hk ek => by
    have hb : k / 448 = b.val := by omega
    have hq : k / 56 % 8 = q.val := by omega
    have H := held m c hF b q 55 (by omega) ⟨k, hk⟩ ek
    rw [out_last m c ⟨k, hk⟩ (by show k % 56 = 55; omega), pay2_row, blk0 m c ⟨k, hk⟩ b hb q hq, blk9 m c ⟨k, hk⟩ b hb, blk8]
    simp only [H.acc, parts_eq m c hF]
  exact key _ _ hpt

end Cert.KernelIdeal.Moe

end
-- ==== Proof.PreFinite.lean ====
module

public import proofs.«01_k».proof.Defs
public import proofs.«01_k».proof.Proof.KernelSum
public import Idealize.ShloMosaic.Lib.ReduceAll
public import Idealize.ShloMosaic.Lib.StableHlo.Predicate

@[expose] public section

noncomputable section

/-! # What the precondition says

`routing_finite` holds of the ten arguments exactly when the norm's gain, the shift, the scale and the router have no
infinite element. -/

namespace Cert.Pre_routing_finite

open Idealize.ShloMosaic

/-- The side conditions of the predicate's operations. -/
instance facts : Cert.Pre_routing_finite.Facts where
  bcast_S_S1024 := by decide
  reducesTo_S1024_S_d0 := by decide
  h_S_ := by decide
  bcast_S_S2x1024 := by decide
  reducesTo_S2x1024_S_d0_1 := by decide
  bcast_S_S1024x8 := by decide
  reducesTo_S1024x8_S_d0_1 := by decide

/-- A scalar array has one index. -/
instance : Subsingleton S_.Idx := ⟨fun i j => funext fun a => Fin.elim0 a⟩

/-- Where every element of an array compares below the bound `⊤` in absolute value, each of them is a real number. -/
theorem all_real {s : Shape} (axes : List (Fin s.rank)) (hb : S_.BroadcastsInDim s (![] : Fin 0 → Fin s.rank)) (hr : s.ReducesTo axes S_)
    (h0 : 0 < S_.numel) (x : FVec Ideal s .f32)
    (h : Host.reduce IntOp.andi (cmpf .olt (Host.absf x) (broadcastInDim s ![] hb (constant S_ .f32 0x7F800000#32))) (constantI S_ 1 1#1) hr h0
      (Shape.Idx.first h0) = 1#1) (i : s.Idx) : Moe.IsReal (x i) := by
  have e := Host.reduce_andi_all _ _ hr h0 _ h i
  rw [cmpf, Ideal.cmpf_def] at e
  have hlt : max (x i) (-(x i)) < (broadcastInDim s ![] hb (constant (F := Ideal) S_ .f32 0x7F800000#32)) i := by
    by_contra hc
    have h2 : Ideal.cmp .olt (Host.absf x i) (broadcastInDim s ![] hb (constant (F := Ideal) S_ .f32 0x7F800000#32) i) = 0#1 :=
      congrArg BitVec.ofBool (decide_eq_false hc)
    rw [h2] at e
    exact absurd e (by decide)
  exact Moe.isReal_of_lt (hlt.trans_le le_top)

end Cert.Pre_routing_finite

namespace Cert.KernelIdeal.Moe

open Idealize.ShloMosaic

/-- The precondition makes the gain, the shift, the scale and the router real on every device. -/
theorem finite_of_pre (m : (ℓ : Loc nD τ sig) → Buf (Elt Ideal) ℓ) (h : Cert.Pre_KernelIdeal_routing_finite m) (c : Dev nD) : Finite m c := by
  have e := congrFun (h c) (Shape.Idx.first Cert.Pre_routing_finite.facts.h_S_)
  unfold Cert.Pre_routing_finite.fn Cert.Pre_routing_finite.fn_part1 at e
  obtain ⟨e, e4⟩ := IntOp.andi_eq_one.1 e
  obtain ⟨e, e3⟩ := IntOp.andi_eq_one.1 e
  obtain ⟨e1, e2⟩ := IntOp.andi_eq_one.1 e
  exact ⟨fun k => Cert.Pre_routing_finite.all_real _ _ _ _ _ e1 _, fun b k => Cert.Pre_routing_finite.all_real _ _ _ _ _ e2 _,
    fun b k => Cert.Pre_routing_finite.all_real _ _ _ _ _ e3 _, fun k e => Cert.Pre_routing_finite.all_real _ _ _ _ _ e4 _⟩

end Cert.KernelIdeal.Moe

end
-- ==== Proof.FfnCtxCases.lean ====
module

public import proofs.«01_k».proof.Defs
public import proofs.«01_k».proof.Proof.Gen.Kernel14Ideal.Value
public import Idealize.ShloMosaic.Lib.Pipeline.Value
public import Idealize.ShloMosaic.Lib.Tactic

@[expose] public section

set_option maxRecDepth 16384

noncomputable section

/-! # What one grid point of the feed-forward kernel leaves behind, at the context's rows

The kernel runs in three cases: the first point of a block of rows (which normalizes the rows and clears the
accumulator), the points in between, and the last point (which also normalizes the accumulator and writes the block of
results). Each theorem reads the stores of one case as the values they leave, in the payloads of the printed body. -/

namespace Cert.Kernel14Ideal.Ffn

open Cert.Kernel14Ideal Cert.Kernel14Ideal.Gen
open Idealize.ShloMosaic Idealize.ShloMosaic.TcCoe Idealize.SL.Sem

variable {F : FTy → Type} [FloatOps F]

theorem zeros2 : (![0, 0] : Fin 2 → Nat) = fun _ => 0 := funext fun a => by fin_cases a <;> rfl
theorem zeros3 : (![0, 0, 0] : Fin 3 → Nat) = fun _ => 0 := funext fun a => by fin_cases a <;> rfl

variable (c : Dev nD) (i : grid0.Coords) (arg3 : Memref sig .tc .vmem S1x256x1024 .f32) (harg3 : arg3.IsWhole)
  (arg4 : Memref sig .tc .vmem S1x1024 .f32) (harg4 : arg4.IsWhole)
  (arg5 : Memref sig .tc .vmem S1x1x1024 .f32) (harg5 : arg5.IsWhole)
  (arg6 : Memref sig .tc .vmem S1x1x1024 .f32) (harg6 : arg6.IsWhole)
  (arg7 : Memref sig .tc .vmem S1024x256 .bf16) (harg7 : arg7.IsWhole)
  (arg8 : Memref sig .tc .vmem S1024x256 .bf16) (harg8 : arg8.IsWhole)
  (arg9 : Memref sig .tc .vmem S256x1024 .bf16) (harg9 : arg9.IsWhole)
  (arg10 : Memref sig .tc .vmem S1x1024 .f32) (harg10 : arg10.IsWhole)
  (arg11 : Memref sig .tc .vmem S1x1x1024 .f32) (harg11 : arg11.IsWhole)
  (arg12 : Memref sig .tc .vmem S1x256x1024 .f32) (harg12 : arg12.IsWhole)
  (arg13 : Memref sig .tc .vmem S256x1024 .bf16) (harg13 : arg13.IsWhole)
  (arg14 : Memref sig .tc .vmem S256x1024 .f32) (harg14 : arg14.IsWhole)
  (x0 : Vec F S1x256x1024 .f32) (x1 : Vec F S1x1024 .f32) (x2 : Vec F S1x1x1024 .f32) (x3 : Vec F S1x1x1024 .f32) (x4 : Vec F S1024x256 .bf16)
  (x5 : Vec F S1024x256 .bf16) (x6 : Vec F S256x1024 .bf16) (x7 : Vec F S1x1024 .f32) (x8 : Vec F S1x1x1024 .f32)
  (xs0 : Vec F S256x1024 .bf16) (xs1 : Vec F S256x1024 .f32)

/-- The first point of a block of rows stores the normalized and modulated rows. -/
theorem sout0_A_0_eq (hc0 : cond0_0 i) (hc1 : ¬cond0_1 i) :
    sout0_A_0 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8
      = k0_pay1 x0 x1 x3 x2 := by
  unfold sout0_A_0
  rw [View.read_writes_eq_canon _ _ _ (scover0_A_0 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8)]
  unfold kernelRun0_A
  dsimp only
  sl_unfold_words
  rw [View.canon_cons_unit_zero (S := S256x1024) zeros2]
  simp only [View.readCov_unit_zero (S := S256x1024) _ zeros2, View.readAt_eq_ld, harg3.read_unread, harg4.read_unread, harg5.read_unread, harg6.read_unread, harg7.read_unread, harg8.read_unread, harg9.read_unread, harg10.read_unread, harg11.read_unread, harg12.read_unread, harg13.read_unread, harg14.read_unread,
    View.ld_unit_zero (S := S256x1024) zeros2, View.ld_unit_zero (S := S1x1024) zeros2, View.ld_unit_zero (S := S1x256x1024) zeros3, View.ld_unit_zero (S := S1x1x1024) zeros3, View.ld_unit_zero (S := S1024x256) zeros2]

/-- It leaves the first tile's step from the zero accumulator. -/
theorem sout0_A_1_eq (hc0 : cond0_0 i) (hc1 : ¬cond0_1 i) :
    sout0_A_1 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8
      = k0_pay3 (k0_pay1 x0 x1 x3 x2) x4 x5 (k0_pay2 (F := F)) x6 := by
  unfold sout0_A_1
  rw [View.read_writes_eq_canon _ _ _ (scover0_A_1 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8)]
  unfold kernelRun0_A
  dsimp only
  sl_unfold_words
  rw [View.canon_cons_unit_zero (S := S256x1024) zeros2]
  simp only [View.readCov_unit_zero (S := S256x1024) _ zeros2, View.readAt_eq_ld, harg3.read_unread, harg4.read_unread, harg5.read_unread, harg6.read_unread, harg7.read_unread, harg8.read_unread, harg9.read_unread, harg10.read_unread, harg11.read_unread, harg12.read_unread, harg13.read_unread, harg14.read_unread,
    View.ld_unit_zero (S := S256x1024) zeros2, View.ld_unit_zero (S := S1x1024) zeros2, View.ld_unit_zero (S := S1x256x1024) zeros3, View.ld_unit_zero (S := S1x1x1024) zeros3, View.ld_unit_zero (S := S1024x256) zeros2]

/-- A point in between leaves one step over the accumulator it finds. -/
theorem sout0_B_1_eq (hc0 : ¬cond0_0 i) (hc1 : ¬cond0_1 i) :
    sout0_B_1 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1
      = k0_pay3 xs0 x4 x5 xs1 x6 := by
  unfold sout0_B_1
  rw [View.read_writes_eq_canon _ _ _ (scover0_B_1 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1)]
  unfold kernelRun0_B
  dsimp only
  sl_unfold_words
  rw [View.canon_cons_unit_zero (S := S256x1024) zeros2]
  simp only [View.readCov_unit_zero (S := S256x1024) _ zeros2, View.readAt_eq_ld, harg3.read_unread, harg4.read_unread, harg5.read_unread, harg6.read_unread, harg7.read_unread, harg8.read_unread, harg9.read_unread, harg10.read_unread, harg11.read_unread, harg12.read_unread, harg13.read_unread, harg14.read_unread,
    View.ld_unit_zero (S := S256x1024) zeros2, View.ld_unit_zero (S := S1x1024) zeros2, View.ld_unit_zero (S := S1x256x1024) zeros3, View.ld_unit_zero (S := S1x1x1024) zeros3, View.ld_unit_zero (S := S1024x256) zeros2]

/-- The last point of a block of rows leaves one step over the accumulator it finds. -/
theorem sout0_C_1_eq (hc0 : ¬cond0_0 i) (hc1 : cond0_1 i) :
    sout0_C_1 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1
      = k0_pay3 xs0 x4 x5 xs1 x6 := by
  unfold sout0_C_1
  rw [View.read_writes_eq_canon _ _ _ (scover0_C_1 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1)]
  unfold kernelRun0_C
  dsimp only
  sl_unfold_words
  rw [View.canon_cons_unit_zero (S := S256x1024) zeros2]
  simp only [View.readCov_unit_zero (S := S256x1024) _ zeros2, View.readAt_eq_ld, harg3.read_unread, harg4.read_unread, harg5.read_unread, harg6.read_unread, harg7.read_unread, harg8.read_unread, harg9.read_unread, harg10.read_unread, harg11.read_unread, harg12.read_unread, harg13.read_unread, harg14.read_unread,
    View.ld_unit_zero (S := S256x1024) zeros2, View.ld_unit_zero (S := S1x1024) zeros2, View.ld_unit_zero (S := S1x256x1024) zeros3, View.ld_unit_zero (S := S1x1x1024) zeros3, View.ld_unit_zero (S := S1024x256) zeros2]

/-- It writes the residual with the normalized accumulator. -/
theorem out0_C_9_eq (hc0 : ¬cond0_0 i) (hc1 : cond0_1 i) :
    out0_C_9 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1
      = k0_pay4 x0 x8 (k0_pay3 xs0 x4 x5 xs1 x6) x7 := by
  unfold out0_C_9
  rw [View.read_writes_eq_canon _ _ _ (cover0_C_9 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1)]
  unfold kernelRun0_C
  dsimp only
  sl_unfold_words
  rw [View.canon_cons_unit_zero (S := S1x256x1024) zeros3]
  simp only [View.readCov_unit_zero (S := S256x1024) _ zeros2, View.readAt_eq_ld, harg3.read_unread, harg4.read_unread, harg5.read_unread, harg6.read_unread, harg7.read_unread, harg8.read_unread, harg9.read_unread, harg10.read_unread, harg11.read_unread, harg12.read_unread, harg13.read_unread, harg14.read_unread,
    View.ld_unit_zero (S := S256x1024) zeros2, View.ld_unit_zero (S := S1x1024) zeros2, View.ld_unit_zero (S := S1x256x1024) zeros3, View.ld_unit_zero (S := S1x1x1024) zeros3, View.ld_unit_zero (S := S1024x256) zeros2]

end Cert.Kernel14Ideal.Ffn

end
-- ==== Proof.FfnCases.lean ====
module

public import proofs.«01_k».proof.Defs
public import proofs.«01_k».proof.Proof.Gen.Kernel2Ideal.Value
public import Idealize.ShloMosaic.Lib.Pipeline.Value
public import Idealize.ShloMosaic.Lib.Tactic

@[expose] public section

set_option maxRecDepth 16384

noncomputable section

/-! # What one grid point of the feed-forward kernel leaves behind

The kernel runs in three cases: the first point of a block of rows (which normalizes the rows and clears the
accumulator), the points in between, and the last point (which also normalizes the accumulator and writes the block of
results). Each theorem reads the stores of one case as the values they leave, in the payloads of the printed body. -/

namespace Cert.Kernel2Ideal.Ffn

open Cert.Kernel2Ideal Cert.Kernel2Ideal.Gen
open Idealize.ShloMosaic Idealize.ShloMosaic.TcCoe Idealize.SL.Sem

variable {F : FTy → Type} [FloatOps F]

theorem zeros2 : (![0, 0] : Fin 2 → Nat) = fun _ => 0 := funext fun a => by fin_cases a <;> rfl
theorem zeros3 : (![0, 0, 0] : Fin 3 → Nat) = fun _ => 0 := funext fun a => by fin_cases a <;> rfl

variable (c : Dev nD) (i : grid0.Coords) (arg3 : Memref sig .tc .vmem S1x1024x1024 .f32) (harg3 : arg3.IsWhole)
  (arg4 : Memref sig .tc .vmem S1x1024 .f32) (harg4 : arg4.IsWhole)
  (arg5 : Memref sig .tc .vmem S1x1x1024 .f32) (harg5 : arg5.IsWhole)
  (arg6 : Memref sig .tc .vmem S1x1x1024 .f32) (harg6 : arg6.IsWhole)
  (arg7 : Memref sig .tc .vmem S1024x256 .bf16) (harg7 : arg7.IsWhole)
  (arg8 : Memref sig .tc .vmem S1024x256 .bf16) (harg8 : arg8.IsWhole)
  (arg9 : Memref sig .tc .vmem S256x1024 .bf16) (harg9 : arg9.IsWhole)
  (arg10 : Memref sig .tc .vmem S1x1024 .f32) (harg10 : arg10.IsWhole)
  (arg11 : Memref sig .tc .vmem S1x1x1024 .f32) (harg11 : arg11.IsWhole)
  (arg12 : Memref sig .tc .vmem S1x1024x1024 .f32) (harg12 : arg12.IsWhole)
  (arg13 : Memref sig .tc .vmem S1024x1024 .bf16) (harg13 : arg13.IsWhole)
  (arg14 : Memref sig .tc .vmem S1024x1024 .f32) (harg14 : arg14.IsWhole)
  (x0 : Vec F S1x1024x1024 .f32) (x1 : Vec F S1x1024 .f32) (x2 : Vec F S1x1x1024 .f32) (x3 : Vec F S1x1x1024 .f32) (x4 : Vec F S1024x256 .bf16)
  (x5 : Vec F S1024x256 .bf16) (x6 : Vec F S256x1024 .bf16) (x7 : Vec F S1x1024 .f32) (x8 : Vec F S1x1x1024 .f32)
  (xs0 : Vec F S1024x1024 .bf16) (xs1 : Vec F S1024x1024 .f32)

/-- The first point of a block of rows stores the normalized and modulated rows. -/
theorem sout0_A_0_eq (hc0 : cond0_0 i) (hc1 : ¬cond0_1 i) :
    sout0_A_0 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8
      = k0_pay1 x0 x1 x3 x2 := by
  unfold sout0_A_0
  rw [View.read_writes_eq_canon _ _ _ (scover0_A_0 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8)]
  unfold kernelRun0_A
  dsimp only
  sl_unfold_words
  rw [View.canon_cons_unit_zero (S := S1024x1024) zeros2]
  simp only [View.readCov_unit_zero (S := S1024x1024) _ zeros2, View.readAt_eq_ld, harg3.read_unread, harg4.read_unread, harg5.read_unread, harg6.read_unread, harg7.read_unread, harg8.read_unread, harg9.read_unread, harg10.read_unread, harg11.read_unread, harg12.read_unread, harg13.read_unread, harg14.read_unread,
    View.ld_unit_zero (S := S1024x1024) zeros2, View.ld_unit_zero (S := S1x1024) zeros2, View.ld_unit_zero (S := S1x1024x1024) zeros3, View.ld_unit_zero (S := S1x1x1024) zeros3, View.ld_unit_zero (S := S1024x256) zeros2, View.ld_unit_zero (S := S256x1024) zeros2]

/-- It leaves the first tile's step from the zero accumulator. -/
theorem sout0_A_1_eq (hc0 : cond0_0 i) (hc1 : ¬cond0_1 i) :
    sout0_A_1 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8
      = k0_pay3 (k0_pay1 x0 x1 x3 x2) x4 x5 (k0_pay2 (F := F)) x6 := by
  unfold sout0_A_1
  rw [View.read_writes_eq_canon _ _ _ (scover0_A_1 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8)]
  unfold kernelRun0_A
  dsimp only
  sl_unfold_words
  rw [View.canon_cons_unit_zero (S := S1024x1024) zeros2]
  simp only [View.readCov_unit_zero (S := S1024x1024) _ zeros2, View.readAt_eq_ld, harg3.read_unread, harg4.read_unread, harg5.read_unread, harg6.read_unread, harg7.read_unread, harg8.read_unread, harg9.read_unread, harg10.read_unread, harg11.read_unread, harg12.read_unread, harg13.read_unread, harg14.read_unread,
    View.ld_unit_zero (S := S1024x1024) zeros2, View.ld_unit_zero (S := S1x1024) zeros2, View.ld_unit_zero (S := S1x1024x1024) zeros3, View.ld_unit_zero (S := S1x1x1024) zeros3, View.ld_unit_zero (S := S1024x256) zeros2, View.ld_unit_zero (S := S256x1024) zeros2]

/-- A point in between leaves one step over the accumulator it finds. -/
theorem sout0_B_1_eq (hc0 : ¬cond0_0 i) (hc1 : ¬cond0_1 i) :
    sout0_B_1 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1
      = k0_pay3 xs0 x4 x5 xs1 x6 := by
  unfold sout0_B_1
  rw [View.read_writes_eq_canon _ _ _ (scover0_B_1 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1)]
  unfold kernelRun0_B
  dsimp only
  sl_unfold_words
  rw [View.canon_cons_unit_zero (S := S1024x1024) zeros2]
  simp only [View.readCov_unit_zero (S := S1024x1024) _ zeros2, View.readAt_eq_ld, harg3.read_unread, harg4.read_unread, harg5.read_unread, harg6.read_unread, harg7.read_unread, harg8.read_unread, harg9.read_unread, harg10.read_unread, harg11.read_unread, harg12.read_unread, harg13.read_unread, harg14.read_unread,
    View.ld_unit_zero (S := S1024x1024) zeros2, View.ld_unit_zero (S := S1x1024) zeros2, View.ld_unit_zero (S := S1x1024x1024) zeros3, View.ld_unit_zero (S := S1x1x1024) zeros3, View.ld_unit_zero (S := S1024x256) zeros2, View.ld_unit_zero (S := S256x1024) zeros2]

/-- The last point of a block of rows leaves one step over the accumulator it finds. -/
theorem sout0_C_1_eq (hc0 : ¬cond0_0 i) (hc1 : cond0_1 i) :
    sout0_C_1 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1
      = k0_pay3 xs0 x4 x5 xs1 x6 := by
  unfold sout0_C_1
  rw [View.read_writes_eq_canon _ _ _ (scover0_C_1 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1)]
  unfold kernelRun0_C
  dsimp only
  sl_unfold_words
  rw [View.canon_cons_unit_zero (S := S1024x1024) zeros2]
  simp only [View.readCov_unit_zero (S := S1024x1024) _ zeros2, View.readAt_eq_ld, harg3.read_unread, harg4.read_unread, harg5.read_unread, harg6.read_unread, harg7.read_unread, harg8.read_unread, harg9.read_unread, harg10.read_unread, harg11.read_unread, harg12.read_unread, harg13.read_unread, harg14.read_unread,
    View.ld_unit_zero (S := S1024x1024) zeros2, View.ld_unit_zero (S := S1x1024) zeros2, View.ld_unit_zero (S := S1x1024x1024) zeros3, View.ld_unit_zero (S := S1x1x1024) zeros3, View.ld_unit_zero (S := S1024x256) zeros2, View.ld_unit_zero (S := S256x1024) zeros2]

/-- It writes the residual with the normalized accumulator. -/
theorem out0_C_9_eq (hc0 : ¬cond0_0 i) (hc1 : cond0_1 i) :
    out0_C_9 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1
      = k0_pay4 x0 x8 (k0_pay3 xs0 x4 x5 xs1 x6) x7 := by
  unfold out0_C_9
  rw [View.read_writes_eq_canon _ _ _ (cover0_C_9 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1)]
  unfold kernelRun0_C
  dsimp only
  sl_unfold_words
  rw [View.canon_cons_unit_zero (S := S1x1024x1024) zeros3]
  simp only [View.readCov_unit_zero (S := S1024x1024) _ zeros2, View.readAt_eq_ld, harg3.read_unread, harg4.read_unread, harg5.read_unread, harg6.read_unread, harg7.read_unread, harg8.read_unread, harg9.read_unread, harg10.read_unread, harg11.read_unread, harg12.read_unread, harg13.read_unread, harg14.read_unread,
    View.ld_unit_zero (S := S1024x1024) zeros2, View.ld_unit_zero (S := S1x1024) zeros2, View.ld_unit_zero (S := S1x1024x1024) zeros3, View.ld_unit_zero (S := S1x1x1024) zeros3, View.ld_unit_zero (S := S1024x256) zeros2, View.ld_unit_zero (S := S256x1024) zeros2]

end Cert.Kernel2Ideal.Ffn

end
-- ==== Proof.Ffn.lean ====
module

public import proofs.«01_k».proof.Proof.FfnCases
public import proofs.«01_k».proof.Proof.Spec
public import proofs.«01_k».proof.Proof.Gen.Reference2Ideal.Run
public import proofs.«01_k».proof.Proof.Gen.Reference2Ideal.Read
public import Idealize.ShloMosaic.Lib.Pointwise
public import Idealize.ShloMosaic.Lib.Pipeline.ValueKit
public import Idealize.ShloMosaic.Lib.Claim
public import Idealize.ShloMosaic.Lib.Quiescent
public import Idealize.ShloMosaic.Lib.Tactic.ValueTie

@[expose] public section

set_option maxRecDepth 16384

noncomputable section

/-! # The dense feed-forward layer

One row is normalized and modulated, sent through 2816 gated hidden units, normalized and added to itself through a gate.
The kernel visits the hidden units in eleven tiles of 256 and adds each tile's part to an accumulator; the reference takes
one sum over all of them. -/

namespace Ffn

open Idealize.ShloMosaic

/-- The part of one hidden unit in column `n` of a row's product. -/
def unit (h : Fin 1024 → EReal) (wg wu : Fin 1024 → Fin 2816 → EReal) (wd : Fin 2816 → Fin 1024 → EReal) (n : Fin 1024)
    (j : Fin 2816) : EReal :=
  Moe.act h (fun k => wg k j) (fun k => wu k j) * wd j n

end Ffn

namespace Cert.Kernel2Ideal.Ffn

open Cert.Kernel2Ideal Cert.Kernel2Ideal.Gen Idealize.ShloMosaic.TcCoe
open Idealize.ShloMosaic

/-! ## The kernel's stored values, row by row -/

/-- The normalized and modulated rows. -/
theorem pay1_row (x : FVec Ideal S1x1024x1024 .f32) (g : FVec Ideal S1x1024 .f32) (s t : FVec Ideal S1x1x1024 .f32) (p k : Fin 1024) :
    k0_pay1 (F := Ideal) x g s t (ix2 p k)
      = Moe.hid (fun k => x (ix3 0 p k)) (fun k => g (ix2 0 k)) (fun k => s (ix3 0 0 k)) (fun k => t (ix3 0 0 k)) k := by
  unfold k0_pay1
  pointwise
  rfl

/-- The accumulator before the first tile. -/
theorem pay2_row (p n : Fin 1024) : k0_pay2 (F := Ideal) (ix2 p n) = 0 := by
  unfold k0_pay2
  pointwise

/-- The accumulator after one tile: the tile's hidden units times the third weight are added. -/
theorem pay3_row (h : FVec Ideal S1024x1024 .bf16) (wg wu : FVec Ideal S1024x256 .bf16) (a : FVec Ideal S1024x1024 .f32)
    (wd : FVec Ideal S256x1024 .bf16) (p n : Fin 1024) :
    k0_pay3 (F := Ideal) h wg wu a wd (ix2 p n)
      = a (ix2 p n) + ∑ j : Fin 256, Moe.act (fun k => h (ix2 p k)) (fun k => wg (ix2 k j)) (fun k => wu (ix2 k j)) * wd (ix2 j n) := by
  unfold k0_pay3
  pointwise
  unfold Moe.act Moe.silu
  simp only [zero_sub]

/-- The block of results: the accumulator normalized, times the output gain and the gate, added to the row. -/
theorem pay4_row (x : FVec Ideal S1x1024x1024 .f32) (q : FVec Ideal S1x1x1024 .f32) (a : FVec Ideal S1024x1024 .f32)
    (g : FVec Ideal S1x1024 .f32) (p n : Fin 1024) :
    k0_pay4 (F := Ideal) x q a g (ix3 0 p n)
      = x (ix3 0 p n) + q (ix3 0 0 n) * (Moe.nrm (fun k => a (ix2 p k)) n * g (ix2 0 n)) := by
  unfold k0_pay4
  pointwise
  rfl

variable (m : (ℓ : Loc nD τ sig) → Buf (Elt Ideal) ℓ) (c : Dev nD)

/-! ## The blocks of the windows, as elements of the arguments -/

/-- The rows. -/
abbrev A0 : S2x8192x1024.Idx → EReal := m ((c : Thread nD τ).loc main_arg0)
/-- The input gain. -/
abbrev A1 : S1024.Idx → EReal := m ((c : Thread nD τ).loc main_arg1)
/-- The shift. -/
abbrev A2 : S2x1024.Idx → EReal := m ((c : Thread nD τ).loc main_arg2)
/-- The scale. -/
abbrev A3 : S2x1024.Idx → EReal := m ((c : Thread nD τ).loc main_arg3)
/-- The weight of the units' gates. -/
abbrev A4 : S1024x2816.Idx → EReal := m ((c : Thread nD τ).loc main_arg4)
/-- The weight of the units. -/
abbrev A5 : S1024x2816.Idx → EReal := m ((c : Thread nD τ).loc main_arg5)
/-- The weight of the product back. -/
abbrev A6 : S2816x1024.Idx → EReal := m ((c : Thread nD τ).loc main_arg6)
/-- The output gain. -/
abbrev A7 : S1024.Idx → EReal := m ((c : Thread nD τ).loc main_arg7)
/-- The gate of the layer. -/
abbrev A8 : S2x1024.Idx → EReal := m ((c : Thread nD τ).loc main_arg8)

/-- The windows' block indices at a grid point. -/
theorem index_val : ∀ t : Fin cfg0.N, win0_0.index t = ![t.val / 88, t.val / 11 % 8, 0] ∧ win0_1.index t = ![0, 0]
    ∧ win0_2.index t = ![t.val / 88, 0, 0] ∧ win0_3.index t = ![t.val / 88, 0, 0] ∧ win0_4.index t = ![0, t.val % 11]
    ∧ win0_5.index t = ![0, t.val % 11] ∧ win0_6.index t = ![t.val % 11, 0] ∧ win0_7.index t = ![0, 0]
    ∧ win0_8.index t = ![t.val / 88, 0, 0] := by
  decide +kernel

/-- The rounding of a weight changes nothing here. -/
theorem host0 (k : Fin 1024) (j : Fin 2816) : V m c main_v0 (ix2 k j) = A4 m c (ix2 k j) := by
  entry_read
  pointwise

theorem host1 (k : Fin 1024) (j : Fin 2816) : V m c main_v1 (ix2 k j) = A5 m c (ix2 k j) := by
  entry_read
  pointwise

theorem host2 (j : Fin 2816) (n : Fin 1024) : V m c main_v2 (ix2 j n) = A6 m c (ix2 j n) := by
  entry_read
  pointwise

/-- The input gain as a one-row array. -/
theorem host3 (k : Fin 1024) : V m c main_v3 (ix2 0 k) = A1 m c (ix1 k) := by
  entry_read
  pointwise

/-- The shift with a row axis. -/
theorem host4 (b : Fin 2) (k : Fin 1024) : V m c main_v4 (ix3 b 0 k) = A2 m c (ix2 b k) := by
  entry_read
  pointwise

/-- The scale with a row axis. -/
theorem host5 (b : Fin 2) (k : Fin 1024) : V m c main_v5 (ix3 b 0 k) = A3 m c (ix2 b k) := by
  entry_read
  pointwise

/-- The output gain as a one-row array. -/
theorem host6 (k : Fin 1024) : V m c main_v6 (ix2 0 k) = A7 m c (ix1 k) := by
  entry_read
  pointwise

/-- The gate with a row axis. -/
theorem host7 (b : Fin 2) (k : Fin 1024) : V m c main_v7 (ix3 b 0 k) = A8 m c (ix2 b k) := by
  entry_read
  pointwise

/-- Row `p` of block `q`. -/
abbrev rowAt (q : Fin 8) (p : Fin 1024) : Fin 8192 := ⟨q.val * 1024 + p.val, by omega⟩

/-- Unit `j` of tile `f`. -/
abbrev unitAt (f : Fin 11) (j : Fin 256) : Fin 2816 := ⟨f.val * 256 + j.val, by omega⟩

theorem blk0 (t : Fin cfg0.N) (b : Fin 2) (hb : t.val / 88 = b.val) (q : Fin 8) (hq : t.val / 11 % 8 = q.val) (p k : Fin 1024) :
    iblk m c 0 t (ix3 0 p k) = A0 m c (ix3 b (rowAt q p) k) := by
  have h := (index_val t).1
  blk_ext [iblk, V, h]

theorem blk1 (t : Fin cfg0.N) (k : Fin 1024) : iblk m c 1 t (ix2 0 k) = A1 m c (ix1 k) := by
  have h := (index_val t).2.1
  refine Eq.trans ?_ (host3 m c k)
  show V m c main_v3 (((cfg0.win 1).blk t).view.emb (ix2 0 k)) = V m c main_v3 (ix2 0 k)
  refine congrArg (V m c main_v3) ?_
  blk_ext [h]

theorem blk2 (t : Fin cfg0.N) (b : Fin 2) (hb : t.val / 88 = b.val) (k : Fin 1024) :
    iblk m c 2 t (ix3 0 0 k) = A2 m c (ix2 b k) := by
  have h := (index_val t).2.2.1
  refine Eq.trans ?_ (host4 m c b k)
  show V m c main_v4 (((cfg0.win 2).blk t).view.emb (ix3 0 0 k)) = V m c main_v4 (ix3 b 0 k)
  refine congrArg (V m c main_v4) ?_
  blk_ext [h]

theorem blk3 (t : Fin cfg0.N) (b : Fin 2) (hb : t.val / 88 = b.val) (k : Fin 1024) :
    iblk m c 3 t (ix3 0 0 k) = A3 m c (ix2 b k) := by
  have h := (index_val t).2.2.2.1
  refine Eq.trans ?_ (host5 m c b k)
  show V m c main_v5 (((cfg0.win 3).blk t).view.emb (ix3 0 0 k)) = V m c main_v5 (ix3 b 0 k)
  refine congrArg (V m c main_v5) ?_
  blk_ext [h]

theorem blk4 (t : Fin cfg0.N) (f : Fin 11) (hf : t.val % 11 = f.val) (k : Fin 1024) (j : Fin 256) :
    iblk m c 4 t (ix2 k j) = A4 m c (ix2 k (unitAt f j)) := by
  have h := (index_val t).2.2.2.2.1
  refine Eq.trans ?_ (host0 m c k (unitAt f j))
  show V m c main_v0 (((cfg0.win 4).blk t).view.emb (ix2 k j)) = V m c main_v0 (ix2 k (unitAt f j))
  refine congrArg (V m c main_v0) ?_
  blk_ext [h]

theorem blk5 (t : Fin cfg0.N) (f : Fin 11) (hf : t.val % 11 = f.val) (k : Fin 1024) (j : Fin 256) :
    iblk m c 5 t (ix2 k j) = A5 m c (ix2 k (unitAt f j)) := by
  have h := (index_val t).2.2.2.2.2.1
  refine Eq.trans ?_ (host1 m c k (unitAt f j))
  show V m c main_v1 (((cfg0.win 5).blk t).view.emb (ix2 k j)) = V m c main_v1 (ix2 k (unitAt f j))
  refine congrArg (V m c main_v1) ?_
  blk_ext [h]

theorem blk6 (t : Fin cfg0.N) (f : Fin 11) (hf : t.val % 11 = f.val) (j : Fin 256) (n : Fin 1024) :
    iblk m c 6 t (ix2 j n) = A6 m c (ix2 (unitAt f j) n) := by
  have h := (index_val t).2.2.2.2.2.2.1
  refine Eq.trans ?_ (host2 m c (unitAt f j) n)
  show V m c main_v2 (((cfg0.win 6).blk t).view.emb (ix2 j n)) = V m c main_v2 (ix2 (unitAt f j) n)
  refine congrArg (V m c main_v2) ?_
  blk_ext [h]

theorem blk7 (t : Fin cfg0.N) (k : Fin 1024) : iblk m c 7 t (ix2 0 k) = A7 m c (ix1 k) := by
  have h := (index_val t).2.2.2.2.2.2.2.1
  refine Eq.trans ?_ (host6 m c k)
  show V m c main_v6 (((cfg0.win 7).blk t).view.emb (ix2 0 k)) = V m c main_v6 (ix2 0 k)
  refine congrArg (V m c main_v6) ?_
  blk_ext [h]

theorem blk8 (t : Fin cfg0.N) (b : Fin 2) (hb : t.val / 88 = b.val) (k : Fin 1024) :
    iblk m c 8 t (ix3 0 0 k) = A8 m c (ix2 b k) := by
  have h := (index_val t).2.2.2.2.2.2.2.2
  refine Eq.trans ?_ (host7 m c b k)
  show V m c main_v7 (((cfg0.win 8).blk t).view.emb (ix3 0 0 k)) = V m c main_v7 (ix3 b 0 k)
  refine congrArg (V m c main_v7) ?_
  blk_ext [h]

/-! ## What a point leaves, from what it finds -/

theorem rows_first (t : Fin cfg0.N) (h0 : t.val % 11 = 0) :
    (outsAt0 m c t.val t.isLt).2.1 = k0_pay1 (iblk m c 0 t) (iblk m c 1 t) (iblk m c 3 t) (iblk m c 2 t) := by
  have e := congrArg (fun s => s.2.1) (outsAt0_A m c t h0 (by omega))
  dsimp only at e
  rw [sout0_A_0_eq] at e
  exact e

theorem acc_first (t : Fin cfg0.N) (h0 : t.val % 11 = 0) :
    (outsAt0 m c t.val t.isLt).2.2 = k0_pay3 (outsAt0 m c t.val t.isLt).2.1 (iblk m c 4 t) (iblk m c 5 t) (k0_pay2 (F := Ideal))
      (iblk m c 6 t) := by
  rw [rows_first m c t h0]
  have e := congrArg (fun s => s.2.2) (outsAt0_A m c t h0 (by omega))
  dsimp only at e
  rw [sout0_A_1_eq] at e
  exact e

theorem rows_next (t : Fin cfg0.N) (h0 : ¬t.val % 11 = 0) :
    (outsAt0 m c t.val t.isLt).2.1 = (outsAt0 m c (t.val - 1) (Nat.lt_of_le_of_lt (Nat.sub_le _ _) t.isLt)).2.1 := by
  by_cases h1 : t.val % 11 = 10
  · rw [outsAt0_C m c t h0 h1]; dsimp only; unfold sout0_C_0; rfl
  · rw [outsAt0_B m c t h0 h1]; dsimp only; unfold sout0_B_0; rfl

theorem acc_next (t : Fin cfg0.N) (h0 : ¬t.val % 11 = 0) :
    (outsAt0 m c t.val t.isLt).2.2 = k0_pay3 (outsAt0 m c t.val t.isLt).2.1 (iblk m c 4 t) (iblk m c 5 t)
      (outsAt0 m c (t.val - 1) (Nat.lt_of_le_of_lt (Nat.sub_le _ _) t.isLt)).2.2 (iblk m c 6 t) := by
  rw [rows_next m c t h0]
  by_cases h1 : t.val % 11 = 10
  · have e := congrArg (fun s => s.2.2) (outsAt0_C m c t h0 h1)
    dsimp only at e
    rw [sout0_C_1_eq] at e
    exact e
  · have e := congrArg (fun s => s.2.2) (outsAt0_B m c t h0 h1)
    dsimp only at e
    rw [sout0_B_1_eq] at e
    exact e

theorem out_last (t : Fin cfg0.N) (h1 : t.val % 11 = 10) :
    (outsAt0 m c t.val t.isLt).1 = k0_pay4 (iblk m c 0 t) (iblk m c 8 t) (outsAt0 m c t.val t.isLt).2.2 (iblk m c 7 t) := by
  rw [acc_next m c t (by omega), rows_next m c t (by omega)]
  have e := congrArg (fun s => s.1) (outsAt0_C m c t (by omega) h1)
  dsimp only at e
  rw [out0_C_9_eq] at e
  exact e

/-! ## The accumulator over a block of rows -/

/-- The modulated row of the arguments. -/
abbrev hrow (b : Fin 2) (r : Fin 8192) : Fin 1024 → EReal :=
  Moe.hid (fun k => A0 m c (ix3 b r k)) (fun k => A1 m c (ix1 k)) (fun k => A3 m c (ix2 b k)) fun k => A2 m c (ix2 b k)

/-- One hidden unit's part of a row. -/
abbrev piece (b : Fin 2) (r : Fin 8192) (n : Fin 1024) : Fin 2816 → EReal :=
  _root_.Ffn.unit (hrow m c b r) (fun k j => A4 m c (ix2 k j)) (fun k j => A5 m c (ix2 k j)) (fun j n => A6 m c (ix2 j n)) n

/-- The part that the `i`-th tile adds. -/
def part (b : Fin 2) (r : Fin 8192) (n : Fin 1024) (i : ℕ) : EReal :=
  ∑ j : Fin 256, piece m c b r n (unitAt ⟨i % 11, by omega⟩ j)

/-- What the scratch holds after tile `i` of a block of rows. -/
structure Held (b : Fin 2) (q : Fin 8) (i : ℕ) (t : Fin cfg0.N) : Prop where
  rows : ∀ p k, (outsAt0 m c t.val t.isLt).2.1 (ix2 p k) = hrow m c b (rowAt q p) k
  acc : ∀ p n, (outsAt0 m c t.val t.isLt).2.2 (ix2 p n) = ∑ i' ∈ Finset.range (i + 1), part m c b (rowAt q p) n i'

/-- One point adds its tile's part. -/
theorem step_part (b : Fin 2) (q : Fin 8) (i : ℕ) (hi : i < 11) (t : Fin cfg0.N) (ht : t.val = 11 * (8 * b.val + q.val) + i)
    (h : FVec Ideal S1024x1024 .bf16) (a : FVec Ideal S1024x1024 .f32) (p n : Fin 1024)
    (hh : ∀ k, h (ix2 p k) = hrow m c b (rowAt q p) k) :
    k0_pay3 (F := Ideal) h (iblk m c 4 t) (iblk m c 5 t) a (iblk m c 6 t) (ix2 p n)
      = a (ix2 p n) + part m c b (rowAt q p) n i := by
  have hf : t.val % 11 = i % 11 := by omega
  rw [pay3_row]
  refine congrArg (a (ix2 p n) + ·) (Finset.sum_congr rfl fun j _ => ?_)
  rw [blk6 m c t ⟨i % 11, by omega⟩ hf]
  simp only [hh, blk4 m c t ⟨i % 11, by omega⟩ hf, blk5 m c t ⟨i % 11, by omega⟩ hf]
  rfl

/-- The scratch after every tile of a block of rows. -/
theorem held (b : Fin 2) (q : Fin 8) : ∀ (i : ℕ), i < 11 → ∀ t : Fin cfg0.N, t.val = 11 * (8 * b.val + q.val) + i →
    Held m c b q i t
  | 0, hi, t, ht => by
    have h0 : t.val % 11 = 0 := by omega
    have hb : t.val / 88 = b.val := by omega
    have hq : t.val / 11 % 8 = q.val := by omega
    have R : ∀ p k, (outsAt0 m c t.val t.isLt).2.1 (ix2 p k) = hrow m c b (rowAt q p) k := fun p k => by
      rw [rows_first m c t h0, pay1_row]
      simp only [blk0 m c t b hb q hq, blk1 m c t, blk2 m c t b hb, blk3 m c t b hb]
    refine ⟨R, fun p n => ?_⟩
    rw [acc_first m c t h0, step_part m c b q 0 hi t ht _ _ p n (R p), pay2_row, zero_add, Finset.sum_range_one]
  | i + 1, hi, t, ht => by
    have h0 : ¬t.val % 11 = 0 := by omega
    have H := held b q i (by omega) ⟨t.val - 1, Nat.lt_of_le_of_lt (Nat.sub_le _ _) t.isLt⟩ (by show t.val - 1 = _; omega)
    have R : ∀ p k, (outsAt0 m c t.val t.isLt).2.1 (ix2 p k) = hrow m c b (rowAt q p) k := fun p k => by
      rw [rows_next m c t h0]; exact H.rows p k
    refine ⟨R, fun p n => ?_⟩
    rw [acc_next m c t h0, step_part m c b q (i + 1) hi t ht _ _ p n (R p), Finset.sum_range_succ]
    exact congrArg (· + _) (H.acc p n)

/-- The eleven tiles of a row are all of its hidden units. -/
theorem parts_eq (b : Fin 2) (r : Fin 8192) (n : Fin 1024) :
    ∑ i ∈ Finset.range 11, part m c b r n i = ∑ j, piece m c b r n j := by
  rw [Finset.sum_range]
  refine Eq.trans ?_ (Fin.sum_mul_add_fin (S := 11) (n := 256) (piece m c b r n))
  refine Finset.sum_congr rfl fun i _ => Finset.sum_congr rfl fun j _ => ?_
  refine congrArg (piece m c b r n) (Fin.ext ?_)
  show i.val % 11 * 256 + j.val = i.val * 256 + j.val
  rw [Nat.mod_eq_of_lt i.isLt]

/-- The kernel's result at an element. -/
theorem result_row (b : Fin 2) (r : Fin 8192) (n : Fin 1024) :
    Cert.Kernel2Ideal.Value.G9 m c (ix3 b r n) = A0 m c (ix3 b r n)
      + A8 m c (ix2 b n) * (Moe.nrm (fun n => ∑ j, piece m c b r n j) n * A7 m c (ix1 n)) := by
  obtain ⟨q, p, rfl⟩ : ∃ (q : Fin 8) (p : Fin 1024), r = rowAt q p :=
    ⟨⟨r.val / 1024, by omega⟩, ⟨r.val % 1024, by omega⟩, Fin.ext (by show r.val = r.val / 1024 * 1024 + r.val % 1024; omega)⟩
  have hpt : Cert.Kernel2Ideal.Value.pt9Of (ix3 b (rowAt q p) n) = 11 * (8 * b.val + q.val) + 10 := by
    show 11 * (8 * (b.val / 1 - 0) + 1 * ((q.val * 1024 + p.val) / 1024 - 0) + 1 * (n.val / 1024 - 0)) + 10 = _
    omega
  have hN : 11 * (8 * b.val + q.val) + 10 < cfg0.N := lt_of_lt_of_eq (by omega) (show cfg0.N = 176 from N_0).symm
  have hloc : Cert.Kernel2Ideal.Value.loc9Of (ix3 b (rowAt q p) n) = ix3 0 p n := by
    refine funext fun a => Fin.ext ?_
    match a with
    | ⟨0, _⟩ => show b.val % 1 = 0; omega
    | ⟨1, _⟩ => show (q.val * 1024 + p.val) % 1024 = p.val; omega
    | ⟨2, _⟩ => show n.val % 1024 = n.val; omega
  unfold Cert.Kernel2Ideal.Value.G9
  rw [dif_pos (lt_of_eq_of_lt hpt hN), ← Cert.Kernel2Ideal.Value.outsAt0_sweep m c _ (lt_of_eq_of_lt hpt hN), hloc]
  have key : ∀ (k : ℕ) (hk : k < cfg0.N), k = 11 * (8 * b.val + q.val) + 10 → (outsAt0 m c k hk).1 (ix3 0 p n)
      = A0 m c (ix3 b (rowAt q p) n) + A8 m c (ix2 b n)
        * (Moe.nrm (fun n => ∑ j, piece m c b (rowAt q p) n j) n * A7 m c (ix1 n)) := fun k hk ek => by
    have hb : k / 88 = b.val := by omega
    have hq : k / 11 % 8 = q.val := by omega
    have H := held m c b q 10 (by omega) ⟨k, hk⟩ ek
    rw [out_last m c ⟨k, hk⟩ (by show k % 11 = 10; omega), pay4_row, blk0 m c ⟨k, hk⟩ b hb q hq, blk8 m c ⟨k, hk⟩ b hb, blk7]
    simp only [H.acc, parts_eq m c]
  exact key _ _ hpt

end Cert.Kernel2Ideal.Ffn

namespace Cert.Reference2Ideal.Ffn

open Cert.Reference2Ideal Cert.Reference2Ideal.Gen Cert.Reference2Ideal.Read Idealize.ShloMosaic.TcCoe
open Idealize.ShloMosaic

/-! ## The reference -/

variable (x0 : (⟨S2x8192x1024, .f32⟩ : BufTy).Contents (Elt Ideal)) (x1 : (⟨S1024, .f32⟩ : BufTy).Contents (Elt Ideal))
  (x2 x3 : (⟨S2x1024, .f32⟩ : BufTy).Contents (Elt Ideal)) (x4 x5 : (⟨S1024x2816, .f32⟩ : BufTy).Contents (Elt Ideal))
  (x6 : (⟨S2816x1024, .f32⟩ : BufTy).Contents (Elt Ideal)) (x7 : (⟨S1024, .f32⟩ : BufTy).Contents (Elt Ideal))
  (x8 : (⟨S2x1024, .f32⟩ : BufTy).Contents (Elt Ideal)) (b : Fin 2) (r : Fin 8192)

/-- The reference's modulated row. -/
abbrev hrow : Fin 1024 → EReal :=
  Moe.hid (fun k => x0 (ix3 b r k)) (fun k => x1 (ix1 k)) (fun k => x3 (ix2 b k)) fun k => x2 (ix2 b k)

/-- The stage that normalizes and modulates, on a row. -/
theorem v21_row (k : Fin 1024) : val_main_v21 (F := Ideal) x0 x1 x2 x3 (ix3 b r k) = hrow x0 x1 x2 x3 b r k := by
  have a1 : idx_main_v5 (idx_main_v11 (ix3 b r k)) = ix2 b r := eq_ix2 _
  have a2 : ∀ i, idx_main_v4 (ix2 b r) i = ix3 b r i := fun i => eq_ix3 _
  have a3 : idx_main_v13 (idx_main_v14 (ix3 b r k)) = ix1 k := eq_ix1 _
  have a4 : idx_main_v1 (idx_main_v18 (ix3 b r k)) = ix2 b k := eq_ix2 _
  have a5 : idx_main_v0 (idx_main_v20 (ix3 b r k)) = ix2 b k := eq_ix2 _
  rw [val_main_v21_apply, val_main_v19_apply, val_main_v20_apply, val_main_v0_apply, val_main_v18_apply, val_main_v17_apply,
    val_main_v16_apply, val_main_cst_2_apply, val_main_v1_apply, val_main_v15_apply, val_main_v14_apply, val_main_v13_apply,
    val_main_v12_apply, val_main_v11_apply, val_main_v10_apply, val_main_v9_apply, val_main_v8_apply, val_main_cst_1_apply,
    val_main_v7_apply, val_main_v6_apply, val_main_cst_0_apply, val_main_v5_apply, val_main_v4_apply, val_main_cst_apply,
    a1, a3, a4, a5]
  simp only [val_main_v3_apply, a2]
  simp only [hrow, Moe.hid, Moe.nrm, Moe.width, Moe.eps, Ideal.ofBits_def, Ideal.ofBits_one_f32, Ideal.ofBits_zero_f32, zero_add,
    Ideal.addf_def, Ideal.mulf_def, Ideal.hostUnary_rsqrt_def, Ideal.hostDivf_def]

/-- The product with the weight of the units' gates. -/
theorem v22_row (j : Fin 2816) : val_main_v22 (F := Ideal) x0 x1 x2 x3 x4 (ix3 b r j)
    = ∑ k, hrow x0 x1 x2 x3 b r k * x4 (ix2 k j) := by
  rw [val_main_v22_apply]
  refine Finset.sum_congr rfl fun k _ => ?_
  rw [show lidx_main_v22 (ix3 b r j) k = ix3 b r k from eq_ix3 _, show ridx_main_v22 (ix3 b r j) k = ix2 k j from eq_ix2 _, v21_row]

/-- The product with the weight of the units. -/
theorem v24_row (j : Fin 2816) : val_main_v24 (F := Ideal) x0 x1 x2 x3 x5 (ix3 b r j)
    = ∑ k, hrow x0 x1 x2 x3 b r k * x5 (ix2 k j) := by
  rw [val_main_v24_apply]
  refine Finset.sum_congr rfl fun k _ => ?_
  rw [show lidx_main_v24 (ix3 b r j) k = ix3 b r k from eq_ix3 _, show ridx_main_v24 (ix3 b r j) k = ix2 k j from eq_ix2 _, v21_row]

/-- The hidden units of a row. -/
theorem v25_row (j : Fin 2816) : val_main_v25 (F := Ideal) x0 x1 x2 x3 x4 x5 (ix3 b r j)
    = Moe.act (hrow x0 x1 x2 x3 b r) (fun k => x4 (ix2 k j)) fun k => x5 (ix2 k j) := by
  rw [val_main_v25_apply, val_main_v23_apply, val_main_call0_v5_apply, val_main_call0_v4_apply, val_main_call0_cst_0_apply,
    val_main_call0_v3_apply, val_main_call0_v2_apply, val_main_call0_cst_apply, val_main_call0_v1_apply, val_main_call0_v0_apply,
    v22_row, v24_row]
  simp only [Moe.act, Moe.silu, Ideal.ofBits_def, Ideal.ofBits_one_f32, Ideal.mulf_def, Ideal.addf_def,
    Ideal.hostDivf_def, Ideal.hostUnary_exp_def, Ideal.hostNegf_def, Ideal.negf_def]

/-- The product back to a row's width. -/
theorem v26_row (n : Fin 1024) : val_main_v26 (F := Ideal) x0 x1 x2 x3 x4 x5 x6 (ix3 b r n)
    = ∑ j, _root_.Ffn.unit (hrow x0 x1 x2 x3 b r) (fun k j => x4 (ix2 k j)) (fun k j => x5 (ix2 k j)) (fun j n => x6 (ix2 j n)) n j := by
  rw [val_main_v26_apply]
  refine Finset.sum_congr rfl fun j _ => ?_
  rw [show lidx_main_v26 (ix3 b r n) j = ix3 b r j from eq_ix3 _, show ridx_main_v26 (ix3 b r n) j = ix2 j n from eq_ix2 _, v25_row]
  rfl

/-- The reference's result, at one element. -/
theorem v42_row (n : Fin 1024) : val_main_v42 (F := Ideal) x0 x1 x2 x3 x4 x5 x6 x7 x8 (ix3 b r n)
    = x0 (ix3 b r n) + x8 (ix2 b n)
        * (Moe.nrm (fun n => ∑ j, _root_.Ffn.unit (hrow x0 x1 x2 x3 b r) (fun k j => x4 (ix2 k j)) (fun k j => x5 (ix2 k j))
            (fun j n => x6 (ix2 j n)) n j) n * x7 (ix1 n)) := by
  have a1 : idx_main_v29 (idx_main_v35 (ix3 b r n)) = ix2 b r := eq_ix2 _
  have a2 : ∀ i, idx_main_v28 (ix2 b r) i = ix3 b r i := fun i => eq_ix3 _
  have a3 : idx_main_v37 (idx_main_v38 (ix3 b r n)) = ix1 n := eq_ix1 _
  have a4 : idx_main_v2 (idx_main_v40 (ix3 b r n)) = ix2 b n := eq_ix2 _
  rw [val_main_v42_apply, val_main_v41_apply, val_main_v40_apply, val_main_v2_apply, val_main_v39_apply, val_main_v38_apply,
    val_main_v37_apply, val_main_v36_apply, val_main_v35_apply, val_main_v34_apply, val_main_v33_apply, val_main_v32_apply,
    val_main_cst_5_apply, val_main_v31_apply, val_main_v30_apply, val_main_cst_4_apply, val_main_v29_apply, val_main_v28_apply,
    val_main_cst_3_apply, a1, a3, a4]
  simp only [val_main_v27_apply, a2, v26_row]
  simp only [Moe.nrm, Moe.width, Moe.eps, Ideal.ofBits_def, Ideal.ofBits_zero_f32, zero_add,
    Ideal.addf_def, Ideal.mulf_def, Ideal.hostUnary_rsqrt_def, Ideal.hostDivf_def]

end Cert.Reference2Ideal.Ffn

namespace Cert.Proof

open Idealize.ShloMosaic Idealize.SL.Sem

/-- The reference runs, leaves its arguments as they were, and ends with no semaphore raised. -/
theorem quiescent_Reference2Ideal : quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The reference's result depends on its arguments alone. -/
theorem ffn_congr {x0 y0 : FVec Ideal Cert.Reference2Ideal.S2x8192x1024 .f32} {x1 y1 : FVec Ideal Cert.Reference2Ideal.S1024 .f32}
    {x2 y2 x3 y3 : FVec Ideal Cert.Reference2Ideal.S2x1024 .f32} {x4 y4 x5 y5 : FVec Ideal Cert.Reference2Ideal.S1024x2816 .f32}
    {x6 y6 : FVec Ideal Cert.Reference2Ideal.S2816x1024 .f32} {x7 y7 : FVec Ideal Cert.Reference2Ideal.S1024 .f32}
    {x8 y8 : FVec Ideal Cert.Reference2Ideal.S2x1024 .f32} (h0 : x0 = y0) (h1 : x1 = y1) (h2 : x2 = y2) (h3 : x3 = y3)
    (h4 : x4 = y4) (h5 : x5 = y5) (h6 : x6 = y6) (h7 : x7 = y7) (h8 : x8 = y8) :
    Cert.Reference2Ideal.Read.val_main_v42 (F := Ideal) x0 x1 x2 x3 x4 x5 x6 x7 x8
      = Cert.Reference2Ideal.Read.val_main_v42 (F := Ideal) y0 y1 y2 y3 y4 y5 y6 y7 y8 := by
  rw [h0, h1, h2, h3, h4, h5, h6, h7, h8]

/-- The idealized kernel and the reference, started on the same arguments, return the same array. -/
theorem algebraic2 : algebraic_Kernel2Ideal_Reference2Ideal := by
  intro m ρ m' ρ' hpre hagree
  refine ⟨_, Cert.Kernel2Ideal.Value.run (F := Ideal) m ρ, ?_⟩
  refine (θ_run Cert.Reference2Ideal.defs _ _).mono (fun _ h c => ⟨?_, (h c).2⟩) (Cert.Reference2Ideal.Value.run (F := Ideal) m' ρ')
  refine (h c).1.trans ((Cert.Reference2Ideal.Read.val_main_v42_eq _ _).trans ?_)
  obtain ⟨h0, h1, h2, h3, h4, h5, h6, h7, h8⟩ := hagree c
  refine (ffn_congr h0 h1 h2 h3 h4 h5 h6 h7 h8).trans ?_
  funext i
  rw [eq_ix3 i]
  exact (Cert.Reference2Ideal.Ffn.v42_row _ _ _ _ _ _ _ _ _ _ _ _).trans (Cert.Kernel2Ideal.Ffn.result_row m c _ _ _).symm

end Cert.Proof

end
-- ==== Proof.FfnCtx.lean ====
module

public import proofs.«01_k».proof.Proof.FfnCtxCases
public import proofs.«01_k».proof.Proof.Ffn
public import proofs.«01_k».proof.Proof.Gen.Reference14Ideal.Run
public import proofs.«01_k».proof.Proof.Gen.Reference14Ideal.Read
public import Idealize.ShloMosaic.Lib.Pointwise
public import Idealize.ShloMosaic.Lib.Pipeline.ValueKit
public import Idealize.ShloMosaic.Lib.Claim
public import Idealize.ShloMosaic.Lib.Quiescent
public import Idealize.ShloMosaic.Lib.Tactic.ValueTie

@[expose] public section

set_option maxRecDepth 16384

noncomputable section

/-! # The dense feed-forward layer on the context's rows

One row is normalized and modulated, sent through 2816 gated hidden units, normalized and added to itself through a gate.
The kernel visits the hidden units in eleven tiles of 256 and adds each tile's part to an accumulator; the reference takes
one sum over all of them. -/

namespace Cert.Kernel14Ideal.Ffn

open Cert.Kernel14Ideal Cert.Kernel14Ideal.Gen Idealize.ShloMosaic.TcCoe
open Idealize.ShloMosaic

/-! ## The kernel's stored values, row by row -/

/-- The normalized and modulated rows. -/
theorem pay1_row (x : FVec Ideal S1x256x1024 .f32) (g : FVec Ideal S1x1024 .f32) (s t : FVec Ideal S1x1x1024 .f32) (p : Fin 256) (k : Fin 1024) :
    k0_pay1 (F := Ideal) x g s t (ix2 p k)
      = Moe.hid (fun k => x (ix3 0 p k)) (fun k => g (ix2 0 k)) (fun k => s (ix3 0 0 k)) (fun k => t (ix3 0 0 k)) k := by
  unfold k0_pay1
  pointwise
  rfl

/-- The accumulator before the first tile. -/
theorem pay2_row (p : Fin 256) (n : Fin 1024) : k0_pay2 (F := Ideal) (ix2 p n) = 0 := by
  unfold k0_pay2
  pointwise

/-- The accumulator after one tile: the tile's hidden units times the third weight are added. -/
theorem pay3_row (h : FVec Ideal S256x1024 .bf16) (wg wu : FVec Ideal S1024x256 .bf16) (a : FVec Ideal S256x1024 .f32)
    (wd : FVec Ideal S256x1024 .bf16) (p : Fin 256) (n : Fin 1024) :
    k0_pay3 (F := Ideal) h wg wu a wd (ix2 p n)
      = a (ix2 p n) + ∑ j : Fin 256, Moe.act (fun k => h (ix2 p k)) (fun k => wg (ix2 k j)) (fun k => wu (ix2 k j)) * wd (ix2 j n) := by
  unfold k0_pay3
  pointwise
  unfold Moe.act Moe.silu
  simp only [zero_sub]

/-- The block of results: the accumulator normalized, times the output gain and the gate, added to the row. -/
theorem pay4_row (x : FVec Ideal S1x256x1024 .f32) (q : FVec Ideal S1x1x1024 .f32) (a : FVec Ideal S256x1024 .f32)
    (g : FVec Ideal S1x1024 .f32) (p : Fin 256) (n : Fin 1024) :
    k0_pay4 (F := Ideal) x q a g (ix3 0 p n)
      = x (ix3 0 p n) + q (ix3 0 0 n) * (Moe.nrm (fun k => a (ix2 p k)) n * g (ix2 0 n)) := by
  unfold k0_pay4
  pointwise
  rfl

variable (m : (ℓ : Loc nD τ sig) → Buf (Elt Ideal) ℓ) (c : Dev nD)

/-! ## The blocks of the windows, as elements of the arguments -/

/-- The rows. -/
abbrev A0 : S2x256x1024.Idx → EReal := m ((c : Thread nD τ).loc main_arg0)
/-- The input gain. -/
abbrev A1 : S1024.Idx → EReal := m ((c : Thread nD τ).loc main_arg1)
/-- The shift. -/
abbrev A2 : S2x1024.Idx → EReal := m ((c : Thread nD τ).loc main_arg2)
/-- The scale. -/
abbrev A3 : S2x1024.Idx → EReal := m ((c : Thread nD τ).loc main_arg3)
/-- The weight of the units' gates. -/
abbrev A4 : S1024x2816.Idx → EReal := m ((c : Thread nD τ).loc main_arg4)
/-- The weight of the units. -/
abbrev A5 : S1024x2816.Idx → EReal := m ((c : Thread nD τ).loc main_arg5)
/-- The weight of the product back. -/
abbrev A6 : S2816x1024.Idx → EReal := m ((c : Thread nD τ).loc main_arg6)
/-- The output gain. -/
abbrev A7 : S1024.Idx → EReal := m ((c : Thread nD τ).loc main_arg7)
/-- The gate of the layer. -/
abbrev A8 : S2x1024.Idx → EReal := m ((c : Thread nD τ).loc main_arg8)

/-- The windows' block indices at a grid point. -/
theorem index_val : ∀ t : Fin cfg0.N, win0_0.index t = ![t.val / 11, 0, 0] ∧ win0_1.index t = ![0, 0]
    ∧ win0_2.index t = ![t.val / 11, 0, 0] ∧ win0_3.index t = ![t.val / 11, 0, 0] ∧ win0_4.index t = ![0, t.val % 11]
    ∧ win0_5.index t = ![0, t.val % 11] ∧ win0_6.index t = ![t.val % 11, 0] ∧ win0_7.index t = ![0, 0]
    ∧ win0_8.index t = ![t.val / 11, 0, 0] := by
  decide +kernel

/-- The rounding of a weight changes nothing here. -/
theorem host0 (k : Fin 1024) (j : Fin 2816) : V m c main_v0 (ix2 k j) = A4 m c (ix2 k j) := by
  entry_read
  pointwise

theorem host1 (k : Fin 1024) (j : Fin 2816) : V m c main_v1 (ix2 k j) = A5 m c (ix2 k j) := by
  entry_read
  pointwise

theorem host2 (j : Fin 2816) (n : Fin 1024) : V m c main_v2 (ix2 j n) = A6 m c (ix2 j n) := by
  entry_read
  pointwise

/-- The input gain as a one-row array. -/
theorem host3 (k : Fin 1024) : V m c main_v3 (ix2 0 k) = A1 m c (ix1 k) := by
  entry_read
  pointwise

/-- The shift with a row axis. -/
theorem host4 (b : Fin 2) (k : Fin 1024) : V m c main_v4 (ix3 b 0 k) = A2 m c (ix2 b k) := by
  entry_read
  pointwise

/-- The scale with a row axis. -/
theorem host5 (b : Fin 2) (k : Fin 1024) : V m c main_v5 (ix3 b 0 k) = A3 m c (ix2 b k) := by
  entry_read
  pointwise

/-- The output gain as a one-row array. -/
theorem host6 (k : Fin 1024) : V m c main_v6 (ix2 0 k) = A7 m c (ix1 k) := by
  entry_read
  pointwise

/-- The gate with a row axis. -/
theorem host7 (b : Fin 2) (k : Fin 1024) : V m c main_v7 (ix3 b 0 k) = A8 m c (ix2 b k) := by
  entry_read
  pointwise

/-- Row `p` of block `q`. -/
abbrev rowAt (q : Fin 1) (p : Fin 256) : Fin 256 := ⟨q.val * 256 + p.val, by omega⟩

/-- Unit `j` of tile `f`. -/
abbrev unitAt (f : Fin 11) (j : Fin 256) : Fin 2816 := ⟨f.val * 256 + j.val, by omega⟩

theorem blk0 (t : Fin cfg0.N) (b : Fin 2) (hb : t.val / 11 = b.val) (q : Fin 1) (hq : 0 = q.val) (p : Fin 256) (k : Fin 1024) :
    iblk m c 0 t (ix3 0 p k) = A0 m c (ix3 b (rowAt q p) k) := by
  have h := (index_val t).1
  blk_ext [iblk, V, h]

theorem blk1 (t : Fin cfg0.N) (k : Fin 1024) : iblk m c 1 t (ix2 0 k) = A1 m c (ix1 k) := by
  have h := (index_val t).2.1
  refine Eq.trans ?_ (host3 m c k)
  show V m c main_v3 (((cfg0.win 1).blk t).view.emb (ix2 0 k)) = V m c main_v3 (ix2 0 k)
  refine congrArg (V m c main_v3) ?_
  blk_ext [h]

theorem blk2 (t : Fin cfg0.N) (b : Fin 2) (hb : t.val / 11 = b.val) (k : Fin 1024) :
    iblk m c 2 t (ix3 0 0 k) = A2 m c (ix2 b k) := by
  have h := (index_val t).2.2.1
  refine Eq.trans ?_ (host4 m c b k)
  show V m c main_v4 (((cfg0.win 2).blk t).view.emb (ix3 0 0 k)) = V m c main_v4 (ix3 b 0 k)
  refine congrArg (V m c main_v4) ?_
  blk_ext [h]

theorem blk3 (t : Fin cfg0.N) (b : Fin 2) (hb : t.val / 11 = b.val) (k : Fin 1024) :
    iblk m c 3 t (ix3 0 0 k) = A3 m c (ix2 b k) := by
  have h := (index_val t).2.2.2.1
  refine Eq.trans ?_ (host5 m c b k)
  show V m c main_v5 (((cfg0.win 3).blk t).view.emb (ix3 0 0 k)) = V m c main_v5 (ix3 b 0 k)
  refine congrArg (V m c main_v5) ?_
  blk_ext [h]

theorem blk4 (t : Fin cfg0.N) (f : Fin 11) (hf : t.val % 11 = f.val) (k : Fin 1024) (j : Fin 256) :
    iblk m c 4 t (ix2 k j) = A4 m c (ix2 k (unitAt f j)) := by
  have h := (index_val t).2.2.2.2.1
  refine Eq.trans ?_ (host0 m c k (unitAt f j))
  show V m c main_v0 (((cfg0.win 4).blk t).view.emb (ix2 k j)) = V m c main_v0 (ix2 k (unitAt f j))
  refine congrArg (V m c main_v0) ?_
  blk_ext [h]

theorem blk5 (t : Fin cfg0.N) (f : Fin 11) (hf : t.val % 11 = f.val) (k : Fin 1024) (j : Fin 256) :
    iblk m c 5 t (ix2 k j) = A5 m c (ix2 k (unitAt f j)) := by
  have h := (index_val t).2.2.2.2.2.1
  refine Eq.trans ?_ (host1 m c k (unitAt f j))
  show V m c main_v1 (((cfg0.win 5).blk t).view.emb (ix2 k j)) = V m c main_v1 (ix2 k (unitAt f j))
  refine congrArg (V m c main_v1) ?_
  blk_ext [h]

theorem blk6 (t : Fin cfg0.N) (f : Fin 11) (hf : t.val % 11 = f.val) (j : Fin 256) (n : Fin 1024) :
    iblk m c 6 t (ix2 j n) = A6 m c (ix2 (unitAt f j) n) := by
  have h := (index_val t).2.2.2.2.2.2.1
  refine Eq.trans ?_ (host2 m c (unitAt f j) n)
  show V m c main_v2 (((cfg0.win 6).blk t).view.emb (ix2 j n)) = V m c main_v2 (ix2 (unitAt f j) n)
  refine congrArg (V m c main_v2) ?_
  blk_ext [h]

theorem blk7 (t : Fin cfg0.N) (k : Fin 1024) : iblk m c 7 t (ix2 0 k) = A7 m c (ix1 k) := by
  have h := (index_val t).2.2.2.2.2.2.2.1
  refine Eq.trans ?_ (host6 m c k)
  show V m c main_v6 (((cfg0.win 7).blk t).view.emb (ix2 0 k)) = V m c main_v6 (ix2 0 k)
  refine congrArg (V m c main_v6) ?_
  blk_ext [h]

theorem blk8 (t : Fin cfg0.N) (b : Fin 2) (hb : t.val / 11 = b.val) (k : Fin 1024) :
    iblk m c 8 t (ix3 0 0 k) = A8 m c (ix2 b k) := by
  have h := (index_val t).2.2.2.2.2.2.2.2
  refine Eq.trans ?_ (host7 m c b k)
  show V m c main_v7 (((cfg0.win 8).blk t).view.emb (ix3 0 0 k)) = V m c main_v7 (ix3 b 0 k)
  refine congrArg (V m c main_v7) ?_
  blk_ext [h]

/-! ## What a point leaves, from what it finds -/

theorem rows_first (t : Fin cfg0.N) (h0 : t.val % 11 = 0) :
    (outsAt0 m c t.val t.isLt).2.1 = k0_pay1 (iblk m c 0 t) (iblk m c 1 t) (iblk m c 3 t) (iblk m c 2 t) := by
  have e := congrArg (fun s => s.2.1) (outsAt0_A m c t h0 (by omega))
  dsimp only at e
  rw [sout0_A_0_eq] at e
  exact e

theorem acc_first (t : Fin cfg0.N) (h0 : t.val % 11 = 0) :
    (outsAt0 m c t.val t.isLt).2.2 = k0_pay3 (outsAt0 m c t.val t.isLt).2.1 (iblk m c 4 t) (iblk m c 5 t) (k0_pay2 (F := Ideal))
      (iblk m c 6 t) := by
  rw [rows_first m c t h0]
  have e := congrArg (fun s => s.2.2) (outsAt0_A m c t h0 (by omega))
  dsimp only at e
  rw [sout0_A_1_eq] at e
  exact e

theorem rows_next (t : Fin cfg0.N) (h0 : ¬t.val % 11 = 0) :
    (outsAt0 m c t.val t.isLt).2.1 = (outsAt0 m c (t.val - 1) (Nat.lt_of_le_of_lt (Nat.sub_le _ _) t.isLt)).2.1 := by
  by_cases h1 : t.val % 11 = 10
  · rw [outsAt0_C m c t h0 h1]; dsimp only; unfold sout0_C_0; rfl
  · rw [outsAt0_B m c t h0 h1]; dsimp only; unfold sout0_B_0; rfl

theorem acc_next (t : Fin cfg0.N) (h0 : ¬t.val % 11 = 0) :
    (outsAt0 m c t.val t.isLt).2.2 = k0_pay3 (outsAt0 m c t.val t.isLt).2.1 (iblk m c 4 t) (iblk m c 5 t)
      (outsAt0 m c (t.val - 1) (Nat.lt_of_le_of_lt (Nat.sub_le _ _) t.isLt)).2.2 (iblk m c 6 t) := by
  rw [rows_next m c t h0]
  by_cases h1 : t.val % 11 = 10
  · have e := congrArg (fun s => s.2.2) (outsAt0_C m c t h0 h1)
    dsimp only at e
    rw [sout0_C_1_eq] at e
    exact e
  · have e := congrArg (fun s => s.2.2) (outsAt0_B m c t h0 h1)
    dsimp only at e
    rw [sout0_B_1_eq] at e
    exact e

theorem out_last (t : Fin cfg0.N) (h1 : t.val % 11 = 10) :
    (outsAt0 m c t.val t.isLt).1 = k0_pay4 (iblk m c 0 t) (iblk m c 8 t) (outsAt0 m c t.val t.isLt).2.2 (iblk m c 7 t) := by
  rw [acc_next m c t (by omega), rows_next m c t (by omega)]
  have e := congrArg (fun s => s.1) (outsAt0_C m c t (by omega) h1)
  dsimp only at e
  rw [out0_C_9_eq] at e
  exact e

/-! ## The accumulator over a block of rows -/

/-- The modulated row of the arguments. -/
abbrev hrow (b : Fin 2) (r : Fin 256) : Fin 1024 → EReal :=
  Moe.hid (fun k => A0 m c (ix3 b r k)) (fun k => A1 m c (ix1 k)) (fun k => A3 m c (ix2 b k)) fun k => A2 m c (ix2 b k)

/-- One hidden unit's part of a row. -/
abbrev piece (b : Fin 2) (r : Fin 256) (n : Fin 1024) : Fin 2816 → EReal :=
  _root_.Ffn.unit (hrow m c b r) (fun k j => A4 m c (ix2 k j)) (fun k j => A5 m c (ix2 k j)) (fun j n => A6 m c (ix2 j n)) n

/-- The part that the `i`-th tile adds. -/
def part (b : Fin 2) (r : Fin 256) (n : Fin 1024) (i : ℕ) : EReal :=
  ∑ j : Fin 256, piece m c b r n (unitAt ⟨i % 11, by omega⟩ j)

/-- What the scratch holds after tile `i` of a block of rows. -/
structure Held (b : Fin 2) (q : Fin 1) (i : ℕ) (t : Fin cfg0.N) : Prop where
  rows : ∀ p k, (outsAt0 m c t.val t.isLt).2.1 (ix2 p k) = hrow m c b (rowAt q p) k
  acc : ∀ p n, (outsAt0 m c t.val t.isLt).2.2 (ix2 p n) = ∑ i' ∈ Finset.range (i + 1), part m c b (rowAt q p) n i'

/-- One point adds its tile's part. -/
theorem step_part (b : Fin 2) (q : Fin 1) (i : ℕ) (hi : i < 11) (t : Fin cfg0.N) (ht : t.val = 11 * (1 * b.val + q.val) + i)
    (h : FVec Ideal S256x1024 .bf16) (a : FVec Ideal S256x1024 .f32) (p : Fin 256) (n : Fin 1024)
    (hh : ∀ k, h (ix2 p k) = hrow m c b (rowAt q p) k) :
    k0_pay3 (F := Ideal) h (iblk m c 4 t) (iblk m c 5 t) a (iblk m c 6 t) (ix2 p n)
      = a (ix2 p n) + part m c b (rowAt q p) n i := by
  have hf : t.val % 11 = i % 11 := by omega
  rw [pay3_row]
  refine congrArg (a (ix2 p n) + ·) (Finset.sum_congr rfl fun j _ => ?_)
  rw [blk6 m c t ⟨i % 11, by omega⟩ hf]
  simp only [hh, blk4 m c t ⟨i % 11, by omega⟩ hf, blk5 m c t ⟨i % 11, by omega⟩ hf]
  rfl

/-- The scratch after every tile of a block of rows. -/
theorem held (b : Fin 2) (q : Fin 1) : ∀ (i : ℕ), i < 11 → ∀ t : Fin cfg0.N, t.val = 11 * (1 * b.val + q.val) + i →
    Held m c b q i t
  | 0, hi, t, ht => by
    have h0 : t.val % 11 = 0 := by omega
    have hb : t.val / 11 = b.val := by omega
    have hq : 0 = q.val := by omega
    have R : ∀ p k, (outsAt0 m c t.val t.isLt).2.1 (ix2 p k) = hrow m c b (rowAt q p) k := fun p k => by
      rw [rows_first m c t h0, pay1_row]
      simp only [blk0 m c t b hb q hq, blk1 m c t, blk2 m c t b hb, blk3 m c t b hb]
    refine ⟨R, fun p n => ?_⟩
    rw [acc_first m c t h0, step_part m c b q 0 hi t ht _ _ p n (R p), pay2_row, zero_add, Finset.sum_range_one]
  | i + 1, hi, t, ht => by
    have h0 : ¬t.val % 11 = 0 := by omega
    have H := held b q i (by omega) ⟨t.val - 1, Nat.lt_of_le_of_lt (Nat.sub_le _ _) t.isLt⟩ (by show t.val - 1 = _; omega)
    have R : ∀ p k, (outsAt0 m c t.val t.isLt).2.1 (ix2 p k) = hrow m c b (rowAt q p) k := fun p k => by
      rw [rows_next m c t h0]; exact H.rows p k
    refine ⟨R, fun p n => ?_⟩
    rw [acc_next m c t h0, step_part m c b q (i + 1) hi t ht _ _ p n (R p), Finset.sum_range_succ]
    exact congrArg (· + _) (H.acc p n)

/-- The eleven tiles of a row are all of its hidden units. -/
theorem parts_eq (b : Fin 2) (r : Fin 256) (n : Fin 1024) :
    ∑ i ∈ Finset.range 11, part m c b r n i = ∑ j, piece m c b r n j := by
  rw [Finset.sum_range]
  refine Eq.trans ?_ (Fin.sum_mul_add_fin (S := 11) (n := 256) (piece m c b r n))
  refine Finset.sum_congr rfl fun i _ => Finset.sum_congr rfl fun j _ => ?_
  refine congrArg (piece m c b r n) (Fin.ext ?_)
  show i.val % 11 * 256 + j.val = i.val * 256 + j.val
  rw [Nat.mod_eq_of_lt i.isLt]

/-- The kernel's result at an element. -/
theorem result_row (b : Fin 2) (r : Fin 256) (n : Fin 1024) :
    Cert.Kernel14Ideal.Value.G9 m c (ix3 b r n) = A0 m c (ix3 b r n)
      + A8 m c (ix2 b n) * (Moe.nrm (fun n => ∑ j, piece m c b r n j) n * A7 m c (ix1 n)) := by
  obtain ⟨q, p, rfl⟩ : ∃ (q : Fin 1) (p : Fin 256), r = rowAt q p :=
    ⟨⟨r.val / 256, by omega⟩, ⟨r.val % 256, by omega⟩, Fin.ext (by show r.val = r.val / 256 * 256 + r.val % 256; omega)⟩
  have hpt : Cert.Kernel14Ideal.Value.pt9Of (ix3 b (rowAt q p) n) = 11 * (1 * b.val + q.val) + 10 := by
    show 11 * (1 * (b.val / 1 - 0) + 1 * ((q.val * 256 + p.val) / 256 - 0) + 1 * (n.val / 1024 - 0)) + 10 = _
    omega
  have hN : 11 * (1 * b.val + q.val) + 10 < cfg0.N := lt_of_lt_of_eq (by omega) (show cfg0.N = 22 from N_0).symm
  have hloc : Cert.Kernel14Ideal.Value.loc9Of (ix3 b (rowAt q p) n) = ix3 0 p n := by
    refine funext fun a => Fin.ext ?_
    match a with
    | ⟨0, _⟩ => show b.val % 1 = 0; omega
    | ⟨1, _⟩ => show (q.val * 256 + p.val) % 256 = p.val; omega
    | ⟨2, _⟩ => show n.val % 1024 = n.val; omega
  unfold Cert.Kernel14Ideal.Value.G9
  rw [dif_pos (lt_of_eq_of_lt hpt hN), ← Cert.Kernel14Ideal.Value.outsAt0_sweep m c _ (lt_of_eq_of_lt hpt hN), hloc]
  have key : ∀ (k : ℕ) (hk : k < cfg0.N), k = 11 * (1 * b.val + q.val) + 10 → (outsAt0 m c k hk).1 (ix3 0 p n)
      = A0 m c (ix3 b (rowAt q p) n) + A8 m c (ix2 b n)
        * (Moe.nrm (fun n => ∑ j, piece m c b (rowAt q p) n j) n * A7 m c (ix1 n)) := fun k hk ek => by
    have hb : k / 11 = b.val := by omega
    have hq : 0 = q.val := by omega
    have H := held m c b q 10 (by omega) ⟨k, hk⟩ ek
    rw [out_last m c ⟨k, hk⟩ (by show k % 11 = 10; omega), pay4_row, blk0 m c ⟨k, hk⟩ b hb q hq, blk8 m c ⟨k, hk⟩ b hb, blk7]
    simp only [H.acc, parts_eq m c]
  exact key _ _ hpt

end Cert.Kernel14Ideal.Ffn

namespace Cert.Reference14Ideal.Ffn

open Cert.Reference14Ideal Cert.Reference14Ideal.Gen Cert.Reference14Ideal.Read Idealize.ShloMosaic.TcCoe
open Idealize.ShloMosaic

/-! ## The reference -/

variable (x0 : (⟨S2x256x1024, .f32⟩ : BufTy).Contents (Elt Ideal)) (x1 : (⟨S1024, .f32⟩ : BufTy).Contents (Elt Ideal))
  (x2 x3 : (⟨S2x1024, .f32⟩ : BufTy).Contents (Elt Ideal)) (x4 x5 : (⟨S1024x2816, .f32⟩ : BufTy).Contents (Elt Ideal))
  (x6 : (⟨S2816x1024, .f32⟩ : BufTy).Contents (Elt Ideal)) (x7 : (⟨S1024, .f32⟩ : BufTy).Contents (Elt Ideal))
  (x8 : (⟨S2x1024, .f32⟩ : BufTy).Contents (Elt Ideal)) (b : Fin 2) (r : Fin 256)

/-- The reference's modulated row. -/
abbrev hrow : Fin 1024 → EReal :=
  Moe.hid (fun k => x0 (ix3 b r k)) (fun k => x1 (ix1 k)) (fun k => x3 (ix2 b k)) fun k => x2 (ix2 b k)

/-- The stage that normalizes and modulates, on a row. -/
theorem v21_row (k : Fin 1024) : val_main_v21 (F := Ideal) x0 x1 x2 x3 (ix3 b r k) = hrow x0 x1 x2 x3 b r k := by
  have a1 : idx_main_v5 (idx_main_v11 (ix3 b r k)) = ix2 b r := eq_ix2 _
  have a2 : ∀ i, idx_main_v4 (ix2 b r) i = ix3 b r i := fun i => eq_ix3 _
  have a3 : idx_main_v13 (idx_main_v14 (ix3 b r k)) = ix1 k := eq_ix1 _
  have a4 : idx_main_v1 (idx_main_v18 (ix3 b r k)) = ix2 b k := eq_ix2 _
  have a5 : idx_main_v0 (idx_main_v20 (ix3 b r k)) = ix2 b k := eq_ix2 _
  rw [val_main_v21_apply, val_main_v19_apply, val_main_v20_apply, val_main_v0_apply, val_main_v18_apply, val_main_v17_apply,
    val_main_v16_apply, val_main_cst_2_apply, val_main_v1_apply, val_main_v15_apply, val_main_v14_apply, val_main_v13_apply,
    val_main_v12_apply, val_main_v11_apply, val_main_v10_apply, val_main_v9_apply, val_main_v8_apply, val_main_cst_1_apply,
    val_main_v7_apply, val_main_v6_apply, val_main_cst_0_apply, val_main_v5_apply, val_main_v4_apply, val_main_cst_apply,
    a1, a3, a4, a5]
  simp only [val_main_v3_apply, a2]
  simp only [hrow, Moe.hid, Moe.nrm, Moe.width, Moe.eps, Ideal.ofBits_def, Ideal.ofBits_one_f32, Ideal.ofBits_zero_f32, zero_add,
    Ideal.addf_def, Ideal.mulf_def, Ideal.hostUnary_rsqrt_def, Ideal.hostDivf_def]

/-- The product with the weight of the units' gates. -/
theorem v22_row (j : Fin 2816) : val_main_v22 (F := Ideal) x0 x1 x2 x3 x4 (ix3 b r j)
    = ∑ k, hrow x0 x1 x2 x3 b r k * x4 (ix2 k j) := by
  rw [val_main_v22_apply]
  refine Finset.sum_congr rfl fun k _ => ?_
  rw [show lidx_main_v22 (ix3 b r j) k = ix3 b r k from eq_ix3 _, show ridx_main_v22 (ix3 b r j) k = ix2 k j from eq_ix2 _, v21_row]

/-- The product with the weight of the units. -/
theorem v24_row (j : Fin 2816) : val_main_v24 (F := Ideal) x0 x1 x2 x3 x5 (ix3 b r j)
    = ∑ k, hrow x0 x1 x2 x3 b r k * x5 (ix2 k j) := by
  rw [val_main_v24_apply]
  refine Finset.sum_congr rfl fun k _ => ?_
  rw [show lidx_main_v24 (ix3 b r j) k = ix3 b r k from eq_ix3 _, show ridx_main_v24 (ix3 b r j) k = ix2 k j from eq_ix2 _, v21_row]

/-- The hidden units of a row. -/
theorem v25_row (j : Fin 2816) : val_main_v25 (F := Ideal) x0 x1 x2 x3 x4 x5 (ix3 b r j)
    = Moe.act (hrow x0 x1 x2 x3 b r) (fun k => x4 (ix2 k j)) fun k => x5 (ix2 k j) := by
  rw [val_main_v25_apply, val_main_v23_apply, val_main_call0_v5_apply, val_main_call0_v4_apply, val_main_call0_cst_0_apply,
    val_main_call0_v3_apply, val_main_call0_v2_apply, val_main_call0_cst_apply, val_main_call0_v1_apply, val_main_call0_v0_apply,
    v22_row, v24_row]
  simp only [Moe.act, Moe.silu, Ideal.ofBits_def, Ideal.ofBits_one_f32, Ideal.mulf_def, Ideal.addf_def,
    Ideal.hostDivf_def, Ideal.hostUnary_exp_def, Ideal.hostNegf_def, Ideal.negf_def]

/-- The product back to a row's width. -/
theorem v26_row (n : Fin 1024) : val_main_v26 (F := Ideal) x0 x1 x2 x3 x4 x5 x6 (ix3 b r n)
    = ∑ j, _root_.Ffn.unit (hrow x0 x1 x2 x3 b r) (fun k j => x4 (ix2 k j)) (fun k j => x5 (ix2 k j)) (fun j n => x6 (ix2 j n)) n j := by
  rw [val_main_v26_apply]
  refine Finset.sum_congr rfl fun j _ => ?_
  rw [show lidx_main_v26 (ix3 b r n) j = ix3 b r j from eq_ix3 _, show ridx_main_v26 (ix3 b r n) j = ix2 j n from eq_ix2 _, v25_row]
  rfl

/-- The reference's result, at one element. -/
theorem v42_row (n : Fin 1024) : val_main_v42 (F := Ideal) x0 x1 x2 x3 x4 x5 x6 x7 x8 (ix3 b r n)
    = x0 (ix3 b r n) + x8 (ix2 b n)
        * (Moe.nrm (fun n => ∑ j, _root_.Ffn.unit (hrow x0 x1 x2 x3 b r) (fun k j => x4 (ix2 k j)) (fun k j => x5 (ix2 k j))
            (fun j n => x6 (ix2 j n)) n j) n * x7 (ix1 n)) := by
  have a1 : idx_main_v29 (idx_main_v35 (ix3 b r n)) = ix2 b r := eq_ix2 _
  have a2 : ∀ i, idx_main_v28 (ix2 b r) i = ix3 b r i := fun i => eq_ix3 _
  have a3 : idx_main_v37 (idx_main_v38 (ix3 b r n)) = ix1 n := eq_ix1 _
  have a4 : idx_main_v2 (idx_main_v40 (ix3 b r n)) = ix2 b n := eq_ix2 _
  rw [val_main_v42_apply, val_main_v41_apply, val_main_v40_apply, val_main_v2_apply, val_main_v39_apply, val_main_v38_apply,
    val_main_v37_apply, val_main_v36_apply, val_main_v35_apply, val_main_v34_apply, val_main_v33_apply, val_main_v32_apply,
    val_main_cst_5_apply, val_main_v31_apply, val_main_v30_apply, val_main_cst_4_apply, val_main_v29_apply, val_main_v28_apply,
    val_main_cst_3_apply, a1, a3, a4]
  simp only [val_main_v27_apply, a2, v26_row]
  simp only [Moe.nrm, Moe.width, Moe.eps, Ideal.ofBits_def, Ideal.ofBits_zero_f32, zero_add,
    Ideal.addf_def, Ideal.mulf_def, Ideal.hostUnary_rsqrt_def, Ideal.hostDivf_def]

end Cert.Reference14Ideal.Ffn

namespace Cert.Proof

open Idealize.ShloMosaic Idealize.SL.Sem

/-- The reference runs, leaves its arguments as they were, and ends with no semaphore raised. -/
theorem quiescent_Reference14Ideal : quiescent_Reference14Ideal := fun m ρ _ =>
  (θ_run Cert.Reference14Ideal.defs _ _).mono (fun r h => ⟨fun c => (h c).2, sem_eq_zero_of_no_sems (by decide) r.2⟩)
    (Cert.Reference14Ideal.Value.run (F := Ideal) m ρ)

/-- The reference's result depends on its arguments alone. -/
theorem ffn14_congr {x0 y0 : FVec Ideal Cert.Reference14Ideal.S2x256x1024 .f32} {x1 y1 : FVec Ideal Cert.Reference14Ideal.S1024 .f32}
    {x2 y2 x3 y3 : FVec Ideal Cert.Reference14Ideal.S2x1024 .f32} {x4 y4 x5 y5 : FVec Ideal Cert.Reference14Ideal.S1024x2816 .f32}
    {x6 y6 : FVec Ideal Cert.Reference14Ideal.S2816x1024 .f32} {x7 y7 : FVec Ideal Cert.Reference14Ideal.S1024 .f32}
    {x8 y8 : FVec Ideal Cert.Reference14Ideal.S2x1024 .f32} (h0 : x0 = y0) (h1 : x1 = y1) (h2 : x2 = y2) (h3 : x3 = y3)
    (h4 : x4 = y4) (h5 : x5 = y5) (h6 : x6 = y6) (h7 : x7 = y7) (h8 : x8 = y8) :
    Cert.Reference14Ideal.Read.val_main_v42 (F := Ideal) x0 x1 x2 x3 x4 x5 x6 x7 x8
      = Cert.Reference14Ideal.Read.val_main_v42 (F := Ideal) y0 y1 y2 y3 y4 y5 y6 y7 y8 := by
  rw [h0, h1, h2, h3, h4, h5, h6, h7, h8]

/-- The idealized kernel and the reference, started on the same arguments, return the same array. -/
theorem algebraic14 : algebraic_Kernel14Ideal_Reference14Ideal := by
  intro m ρ m' ρ' hpre hagree
  refine ⟨_, Cert.Kernel14Ideal.Value.run (F := Ideal) m ρ, ?_⟩
  refine (θ_run Cert.Reference14Ideal.defs _ _).mono (fun _ h c => ⟨?_, (h c).2⟩) (Cert.Reference14Ideal.Value.run (F := Ideal) m' ρ')
  refine (h c).1.trans ((Cert.Reference14Ideal.Read.val_main_v42_eq _ _).trans ?_)
  obtain ⟨h0, h1, h2, h3, h4, h5, h6, h7, h8⟩ := hagree c
  refine (ffn14_congr h0 h1 h2 h3 h4 h5 h6 h7 h8).trans ?_
  funext i
  rw [eq_ix3 i]
  exact (Cert.Reference14Ideal.Ffn.v42_row _ _ _ _ _ _ _ _ _ _ _ _).trans (Cert.Kernel14Ideal.Ffn.result_row m c _ _ _).symm

end Cert.Proof

end
-- ==== Proof.Attn.lean ====
module

public import proofs.«01_k».proof.Proof.Spec

@[expose] public section

noncomputable section

/-! # One row of an attention

A row of scores `s` weighs the rows of `v` by the softmax of the scores. The kernel divides the weighted sum by the sum
of the exponentials, the reference divides each exponential first; on real scores the two are equal. -/

namespace Attn

open Idealize.ShloMosaic

variable {n : ℕ}

/-- The largest score. -/
def top (s : Fin n → EReal) : EReal := Finset.univ.fold max ⊥ s

/-- The exponential of a score less the largest. -/
def pw (s : Fin n → EReal) (j : Fin n) : EReal := Ideal.exp (s j - top s)

/-- The kernel's order: the weighted sum over the sum of the weights. -/
def row (s v : Fin n → EReal) : EReal := Ideal.div (∑ j, pw s j * v j) (∑ j, pw s j)

/-- The scores of a query against every key, times a factor. -/
def scores {d : ℕ} (a : EReal) (q : Fin d → EReal) (k : Fin n → Fin d → EReal) (j : Fin n) : EReal := (∑ i, q i * k j i) * a

/-- A factor that is a nonnegative real may be applied to the query instead of the score. -/
theorem scores_eq {d : ℕ} (r : ℝ) (hr : 0 ≤ r) (q : Fin d → EReal) (k : Fin n → Fin d → EReal) (j : Fin n) :
    (∑ i, q i * (r : EReal) * k j i) = scores (r : EReal) q k j := by
  unfold scores
  rw [mul_comm, ← Moe.mul_sum_of_real Finset.univ r hr]
  exact Finset.sum_congr rfl fun i _ => by rw [mul_comm (q i), mul_assoc]

theorem scores_isReal {d : ℕ} {a : EReal} (ha : Moe.IsReal a) {q : Fin d → EReal} (hq : ∀ i, Moe.IsReal (q i))
    {k : Fin n → Fin d → EReal} (hk : ∀ j i, Moe.IsReal (k j i)) (j : Fin n) : Moe.IsReal (scores a q k j) :=
  (Moe.IsReal.sum _ fun i => (hq i).mul (hk j i)).mul ha

/-- The largest of finitely many real scores is real. -/
theorem top_isReal (hn : 0 < n) {s : Fin n → EReal} (hs : ∀ j, Moe.IsReal (s j)) : Moe.IsReal (top s) := by
  obtain ⟨j, -, hj⟩ := Finset.exists_max_image Finset.univ s ⟨⟨0, hn⟩, Finset.mem_univ _⟩
  have e : top s = s j := le_antisymm ((Finset.fold_max_le _).2 ⟨bot_le, fun i hi => hj i hi⟩)
    ((Finset.le_fold_max _).2 (.inr ⟨j, Finset.mem_univ _, le_rfl⟩))
  rw [e]; exact hs j

theorem pw_real (hn : 0 < n) {s : Fin n → EReal} (hs : ∀ j, Moe.IsReal (s j)) (j : Fin n) :
    ∃ r : ℝ, 0 < r ∧ pw s j = (r : EReal) := by
  obtain ⟨a, ha⟩ := hs j; obtain ⟨b, hb⟩ := top_isReal hn hs
  exact ⟨Real.exp (a - b), Real.exp_pos _, by unfold pw; rw [← ha, ← hb, ← EReal.coe_sub, Ideal.exp_coe]⟩

theorem coe_sum (S : Finset (Fin n)) (f : Fin n → ℝ) : ∑ j ∈ S, (f j : EReal) = ((∑ j ∈ S, f j : ℝ) : EReal) := by
  classical
  induction S using Finset.induction_on with
  | empty => simp
  | insert a S ha ih => rw [Finset.sum_insert ha, Finset.sum_insert ha, ih, EReal.coe_add]

/-- The reference's order: each weight over the sum of the weights, then the weighted sum. On real scores it is the
    kernel's. -/
theorem row_eq (hn : 0 < n) {s : Fin n → EReal} (hs : ∀ j, Moe.IsReal (s j)) (v : Fin n → EReal) :
    ∑ j, Ideal.div (pw s j) (∑ i, pw s i) * v j = row s v := by
  choose e he hE using pw_real hn hs
  have hL : ∑ i, pw s i = ((∑ i, e i : ℝ) : EReal) := by simp only [hE]; exact coe_sum _ _
  have hp : 0 < ∑ i, e i := Finset.sum_pos (fun i _ => he i) ⟨⟨0, hn⟩, Finset.mem_univ _⟩
  unfold row
  rw [hL, Ideal.div_coe hp.ne', mul_comm]
  rw [← Moe.mul_sum_of_real Finset.univ _ (by positivity)]
  exact Finset.sum_congr rfl fun j _ => by rw [Ideal.div_coe hp.ne', mul_comm (pw s j), mul_assoc]

end Attn

end
-- ==== Proof.AttnEven.lean ====
module

public import proofs.«01_k».proof.Defs
public import proofs.«01_k».proof.Proof.Attn
public import proofs.«01_k».proof.Proof.PreFinite
public import proofs.«01_k».proof.Proof.Gen.Kernel3Ideal.Value
public import proofs.«01_k».proof.Proof.Gen.Reference3Ideal.Run
public import proofs.«01_k».proof.Proof.Gen.Reference3Ideal.Read
public import Idealize.ShloMosaic.Lib.Pointwise
public import Idealize.ShloMosaic.Lib.Pipeline.ValueKit
public import Idealize.ShloMosaic.Lib.Claim
public import Idealize.ShloMosaic.Lib.Quiescent
public import Idealize.ShloMosaic.Lib.Tactic.ValueTie

@[expose] public section

set_option maxRecDepth 16384

noncomputable section

/-! # The attention of the even layer's latent rows

Two query heads share a head of keys and of values. Both programs weigh the values of a query's head by the softmax of the
query's scores; the kernel takes 256 queries of one head at each grid point. -/

namespace Attn

open Idealize.ShloMosaic

/-- The factor of the scores, as the programs write it. -/
def factor3 : EReal := Ideal.ofBits .f32 0x3DB504F3#32

theorem factor3_real : ∃ r : ℝ, 0 ≤ r ∧ factor3 = (r : EReal) := by
  unfold factor3
  simp only [Ideal.ofBits, Ideal.ieee]
  refine ⟨_, ?_, by simp [-EReal.coe_mul]; rfl⟩
  norm_num

end Attn

namespace Cert.Kernel3Ideal.Att

open Cert.Kernel3Ideal Cert.Kernel3Ideal.Gen Idealize.ShloMosaic.TcCoe
open Idealize.ShloMosaic

variable (m : (ℓ : Loc nD τ sig) → Buf (Elt Ideal) ℓ) (c : Dev nD)

/-! ## The kernel -/

/-- The queries. -/
abbrev A0 : S2x4x8192x128.Idx → EReal := m ((c : Thread nD τ).loc main_arg0)
/-- The keys. -/
abbrev A1 : S2x2x8448x128.Idx → EReal := m ((c : Thread nD τ).loc main_arg1)
/-- The values. -/
abbrev A2 : S2x2x8448x128.Idx → EReal := m ((c : Thread nD τ).loc main_arg2)

/-- The keys' head that a query head reads. -/
abbrev kHead (h : Fin 4) : Fin 2 := ⟨h.val / 2, by omega⟩
/-- The values' head that a query head reads. -/
abbrev vHead (h : Fin 4) : Fin 2 := ⟨h.val / 2, by omega⟩

/-- The scores of a query. -/
def srow (b : Fin 2) (h : Fin 4) (r : Fin 8192) : Fin 8448 → EReal :=
  Attn.scores Attn.factor3 (fun d => A0 m c (ix4 b h r d)) fun j d => A1 m c (ix4 b (kHead h) j d)

/-- The attention of every query. -/
def att : S2x4x8192x128.Idx → EReal := fun i =>
  Attn.row (srow m c (i 0) (i 1) (i 2)) fun j => A2 m c (ix4 (i 0) (vHead (i 1)) j (i 3))

/-- The windows' block indices at a grid point. -/
theorem index_val : ∀ t : Fin cfg0.N, win0_0.index t = ![t.val / 128, t.val / 32 % 4, t.val % 32, 0]
    ∧ win0_1.index t = ![t.val / 128, t.val / 32 % 4 / 2, 0, 0] ∧ win0_2.index t = ![t.val / 128, t.val / 32 % 4 / 2, 0, 0]
    ∧ win0_3.index t = ![t.val / 128, t.val / 32 % 4, t.val % 32, 0] := by
  decide +kernel

/-- The queries times the factor. -/
theorem host0 (b : Fin 2) (h : Fin 4) (r : Fin 8192) (d : Fin 128) :
    V m c main_v2 (ix4 b h r d) = A0 m c (ix4 b h r d) * Attn.factor3 := by
  unfold Attn.factor3
  entry_read
  pointwise

/-- The keys, whose rounding changes nothing here. -/
theorem host1 (b : Fin 2) (h : Fin 2) (j : Fin 8448) (d : Fin 128) : V m c main_v3 (ix4 b h j d) = A1 m c (ix4 b h j d) := by
  entry_read
  pointwise

/-- The values, whose rounding changes nothing here. -/
theorem host2 (b : Fin 2) (h : Fin 2) (j : Fin 8448) (d : Fin 128) : V m c main_v4 (ix4 b h j d) = A2 m c (ix4 b h j d) := by
  entry_read
  pointwise

/-- The queries of a grid point. -/
theorem blk0 (t : Fin cfg0.N) (b : Fin 2) (hb : t.val / 128 = b.val) (h : Fin 4) (hh : t.val / 32 % 4 = h.val) (p : Fin 256)
    (r : Fin 8192) (hr : r.val = t.val % 32 * 256 + p.val) (d : Fin 128) :
    iblk m c 0 t (ix4 0 0 p d) = A0 m c (ix4 b h r d) * Attn.factor3 := by
  have hi := (index_val t).1
  refine Eq.trans ?_ (host0 m c b h r d)
  show V m c main_v2 (((cfg0.win 0).blk t).view.emb (ix4 0 0 p d)) = V m c main_v2 (ix4 b h r d)
  refine congrArg (V m c main_v2) ?_
  blk_ext [hi]

/-- The keys of a grid point. -/
theorem blk1 (t : Fin cfg0.N) (b : Fin 2) (hb : t.val / 128 = b.val) (h : Fin 2) (hh : t.val / 32 % 4 / 2 = h.val)
    (j : Fin 8448) (d : Fin 128) : iblk m c 1 t (ix4 0 0 j d) = A1 m c (ix4 b h j d) := by
  have hi := (index_val t).2.1
  refine Eq.trans ?_ (host1 m c b h j d)
  show V m c main_v3 (((cfg0.win 1).blk t).view.emb (ix4 0 0 j d)) = V m c main_v3 (ix4 b h j d)
  refine congrArg (V m c main_v3) ?_
  blk_ext [hi]

/-- The values of a grid point. -/
theorem blk2 (t : Fin cfg0.N) (b : Fin 2) (hb : t.val / 128 = b.val) (h : Fin 2) (hh : t.val / 32 % 4 / 2 = h.val)
    (j : Fin 8448) (d : Fin 128) : iblk m c 2 t (ix4 0 0 j d) = A2 m c (ix4 b h j d) := by
  have hi := (index_val t).2.2.1
  refine Eq.trans ?_ (host2 m c b h j d)
  show V m c main_v4 (((cfg0.win 2).blk t).view.emb (ix4 0 0 j d)) = V m c main_v4 (ix4 b h j d)
  refine congrArg (V m c main_v4) ?_
  blk_ext [hi]

theorem bits_neg_inf : Ideal.ofBits .f32 4286578688#32 = ⊥ := by simp [Ideal.ofBits, Ideal.ieee]

/-- What the kernel stores, at one element. -/
theorem pay1_row (q : FVec Ideal S1x1x256x128 .bf16) (k : FVec Ideal S1x1x8448x128 .bf16) (v : FVec Ideal S1x1x8448x128 .bf16)
    (p : Fin 256) (n : Fin 128) :
    k0_pay1 (F := Ideal) q k v (ix4 0 0 p n)
      = Attn.row (fun j => ∑ d, q (ix4 0 0 p d) * k (ix4 0 0 j d)) fun j => v (ix4 0 0 j n) := by
  unfold k0_pay1
  pointwise
  rw [bits_neg_inf]
  rfl

/-- What a grid point stores at row `p` of its block is the attention of query `r` of the array. -/
theorem stored (t : Fin cfg0.N) (b : Fin 2) (hb : t.val / 128 = b.val) (h : Fin 4) (hh : t.val / 32 % 4 = h.val) (p : Fin 256)
    (r : Fin 8192) (hr : r.val = t.val % 32 * 256 + p.val) (n : Fin 128) :
    k0_pay1 (F := Ideal) (iblk m c 0 t) (iblk m c 1 t) (iblk m c 2 t) (ix4 0 0 p n) = att m c (ix4 b h r n) := by
  refine (pay1_row _ _ _ p n).trans ?_
  show _ = Attn.row (srow m c b h r) fun j => A2 m c (ix4 b (vHead h) j n)
  refine congrArg₂ Attn.row (funext fun j => ?_) (funext fun j => blk2 m c t b hb _ (congrArg (· / 2) hh) j n)
  obtain ⟨f, hf, e⟩ := Attn.factor3_real
  refine Eq.trans ?_ ((Attn.scores_eq f hf (fun d => A0 m c (ix4 b h r d)) (fun j d => A1 m c (ix4 b (kHead h) j d)) j).trans ?_)
  · rw [← e]
    exact Finset.sum_congr rfl fun d _ => congrArg₂ (fun y z => y * z) (blk0 m c t b hb h hh p r hr d)
      (blk1 m c t b hb _ (congrArg (· / 2) hh) j d)
  · rw [← e]; rfl

/-- The kernel's array after the run. -/
theorem final : (dats m 0 c).arrAt 3 cfg0.N = att m c := by
  refine (dats m 0 c).arrAt_eq_of_covers 3 _ (by decide +kernel) fun t hf y => ?_
  blk_simp
  rw [after0_3]
  frame_out
  have h3 := (index_val t).2.2.2
  have ht : t.val < 256 := t.isLt
  have e : (win0_3.blk t).view.emb y = ix4 (⟨t.val / 128, by omega⟩ : Fin 2) (⟨t.val / 32 % 4, by omega⟩ : Fin 4)
      (⟨t.val % 32 * 256 + (y 2).val, by idx_bounds y; omega⟩ : Fin 8192) (y 3) := by blk_ext [h3]
  rw [e]
  exact (congrArg _ (show y = ix4 0 0 (y 2) (y 3) by blk_ext)).trans (stored m c t _ rfl _ rfl (y 2) _ rfl (y 3))

end Cert.Kernel3Ideal.Att

namespace Cert.Reference3Ideal.Att

open Cert.Reference3Ideal Cert.Reference3Ideal.Gen Cert.Reference3Ideal.Read Idealize.ShloMosaic.TcCoe
open Idealize.ShloMosaic

/-! ## The reference -/

variable (x0 : (⟨S2x4x8192x128, .f32⟩ : BufTy).Contents (Elt Ideal)) (x1 : (⟨S2x2x8448x128, .f32⟩ : BufTy).Contents (Elt Ideal))
  (x2 : (⟨S2x2x8448x128, .f32⟩ : BufTy).Contents (Elt Ideal))
  (b : Fin 2) (h : Fin 4) (g : Fin 2) (u : Fin 2) (hg : h.val = g.val * 2 + u.val) (r : Fin 8192)

/-- The reference's scores of a query. -/
def srow : Fin 8448 → EReal :=
  Attn.scores Attn.factor3 (fun d => x0 (ix4 b h r d)) fun j d => x1 (ix4 b g j d)

include hg in
/-- The product of the queries and the keys, times the factor. -/
theorem scores_row (j : Fin 8448) : val_main_v3 (F := Ideal) x0 x1 (ix5 b g u r j) = srow x0 x1 b h g r j := by
  rw [val_main_v3_apply, val_main_v1_apply, val_main_v2_apply, val_main_cst_apply, Ideal.mulf_def, Ideal.ofBits_def]
  refine congrArg₂ (fun y z => y * z) (Finset.sum_congr rfl fun d _ => congrArg₂ (fun y z => y * z) ?_ ?_) rfl
  · rw [show lidx_main_v1 (ix5 b g u r j) d = ix5 b g u r d from eq_ix5 _, val_main_v0_apply]
    refine congrArg x0 ?_
    blk_ext
  · rw [show ridx_main_v1 (ix5 b g u r j) d = ix4 b g j d from eq_ix4 _]

include hg in
/-- The largest score of a query. -/
theorem top_row : val_main_v6 (F := Ideal) x0 x1 (ix4 b g u r) = Attn.top (srow x0 x1 b h g r) := by
  rw [val_main_v6_apply, val_main_v5_apply, val_main_cst_1_apply, Ideal.ofBits_def, Cert.Kernel3Ideal.Att.bits_neg_inf]
  refine (max_eq_right bot_le).trans ?_
  rw [show srow x0 x1 b h g r = fun j => val_main_v3 (F := Ideal) x0 x1 (ix5 b g u r j) from
    funext fun j => (scores_row x0 x1 b h g u hg r j).symm]
  unfold val_main_v4
  generalize val_main_v3 (F := Ideal) x0 x1 = y
  pointwise
  rw [val_main_cst_0_apply, Ideal.ofBits_def, Cert.Kernel3Ideal.Att.bits_neg_inf]
  rfl

include hg in
/-- The weight of a key. -/
theorem pw_row (j : Fin 8448) : val_main_v10 (F := Ideal) x0 x1 (ix5 b g u r j) = Attn.pw (srow x0 x1 b h g r) j := by
  rw [val_main_v10_apply, val_main_v9_apply, val_main_v8_apply, val_main_v7_apply,
    show idx_main_v7 (idx_main_v8 (ix5 b g u r j)) = ix4 b g u r from eq_ix4 _, top_row x0 x1 b h g u hg r,
    scores_row x0 x1 b h g u hg r j, Ideal.subf_def, Ideal.hostUnary_exp_def]
  rfl

include hg in
/-- The reference's result, at one element. -/
theorem result_row (n : Fin 128) : val_main_v16 (F := Ideal) x0 x1 x2 (ix4 b h r n)
    = ∑ j, Ideal.div (Attn.pw (srow x0 x1 b h g r) j) (∑ i, Attn.pw (srow x0 x1 b h g r) i) * x2 (ix4 b g j n) := by
  have a1 : idx_main_v16 (ix4 b h r n) = ix5 b g u r n := by blk_ext
  rw [val_main_v16_apply, a1, val_main_v15_apply]
  refine Finset.sum_congr rfl fun j _ => ?_
  rw [show lidx_main_v15 (ix5 b g u r n) j = ix5 b g u r j from eq_ix5 _,
    show ridx_main_v15 (ix5 b g u r n) j = ix4 b g j n from eq_ix4 _,
    val_main_v14_apply, val_main_v13_apply, val_main_v12_apply,
    show idx_main_v12 (idx_main_v13 (ix5 b g u r j)) = ix4 b g u r from eq_ix4 _, val_main_v11_apply, val_main_cst_2_apply,
    pw_row x0 x1 b h g u hg r j, Ideal.ofBits_def, Ideal.ofBits_zero_f32, zero_add, Ideal.hostDivf_def]
  refine congrArg (fun z => Ideal.div _ z * _) (Finset.sum_congr rfl fun i _ => ?_)
  rw [show idx_main_v11 (ix4 b g u r) i = ix5 b g u r i from eq_ix5 _, pw_row x0 x1 b h g u hg r i]

end Cert.Reference3Ideal.Att

namespace Cert.Pre_gqa_finite

open Idealize.ShloMosaic

/-- The side conditions of the predicate's operations. -/
instance facts : Cert.Pre_gqa_finite.Facts where
  bcast_S_S2x4x8192x128 := by decide
  reducesTo_S2x4x8192x128_S_d0_1_2_3 := by decide
  h_S_ := by decide
  bcast_S_S2x2x8448x128 := by decide
  reducesTo_S2x2x8448x128_S_d0_1_2_3 := by decide

end Cert.Pre_gqa_finite

namespace Cert.Kernel3Ideal.Att

open Idealize.ShloMosaic

/-- The precondition makes the queries and the keys real on every device. -/
theorem finite_of_pre (m : (ℓ : Loc nD τ sig) → Buf (Elt Ideal) ℓ) (h : Cert.Pre_Kernel3Ideal_gqa_finite m) (c : Dev nD) :
    (∀ i, Moe.IsReal (A0 m c i)) ∧ ∀ i, Moe.IsReal (A1 m c i) := by
  have e := congrFun (h c) (Shape.Idx.first Cert.Pre_gqa_finite.facts.h_S_)
  unfold Cert.Pre_gqa_finite.fn at e
  obtain ⟨e1, e2⟩ := IntOp.andi_eq_one.1 e
  exact ⟨fun i => Cert.Pre_routing_finite.all_real _ _ _ _ _ e1 _, fun i => Cert.Pre_routing_finite.all_real _ _ _ _ _ e2 _⟩

end Cert.Kernel3Ideal.Att

namespace Cert.Proof

open Idealize.ShloMosaic Idealize.SL.Sem

/-- The reference runs, leaves its arguments as they were, and ends with no semaphore raised. -/
theorem quiescent_Reference3Ideal : quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- The reference's result depends on its arguments alone. -/
theorem att3_congr {x0 y0 : FVec Ideal Cert.Reference3Ideal.S2x4x8192x128 .f32}
    {x1 y1 : FVec Ideal Cert.Reference3Ideal.S2x2x8448x128 .f32} {x2 y2 : FVec Ideal Cert.Reference3Ideal.S2x2x8448x128 .f32}
    (h0 : x0 = y0) (h1 : x1 = y1) (h2 : x2 = y2) :
    Cert.Reference3Ideal.Read.val_main_v16 (F := Ideal) x0 x1 x2 = Cert.Reference3Ideal.Read.val_main_v16 (F := Ideal) y0 y1 y2 := by
  rw [h0, h1, h2]

/-- On real queries and keys the two programs' arrays are one. -/
theorem att3_eq (m : (ℓ : Loc Cert.Kernel3Ideal.nD Cert.Kernel3Ideal.τ Cert.Kernel3Ideal.sig) → Buf (Elt Ideal) ℓ)
    (c : Dev Cert.Kernel3Ideal.nD)
    (hF : (∀ i, Moe.IsReal (Cert.Kernel3Ideal.Att.A0 m c i)) ∧ ∀ i, Moe.IsReal (Cert.Kernel3Ideal.Att.A1 m c i)) :
    Cert.Reference3Ideal.Read.val_main_v16 (F := Ideal) (Cert.Kernel3Ideal.Att.A0 m c) (Cert.Kernel3Ideal.Att.A1 m c)
      (Cert.Kernel3Ideal.Att.A2 m c) = Cert.Kernel3Ideal.Att.att m c := by
  funext i
  rw [eq_ix4 i]
  have hh : (i 1).val < 4 := (i 1).isLt
  refine (Cert.Reference3Ideal.Att.result_row _ _ _ (i 0) (i 1) ⟨(i 1).val / 2, by omega⟩ ⟨(i 1).val % 2, by omega⟩
    (by show (i 1).val = (i 1).val / 2 * 2 + (i 1).val % 2; omega) (i 2) (i 3)).trans ?_
  obtain ⟨f, -, e⟩ := Attn.factor3_real
  exact Attn.row_eq (by decide) (Attn.scores_isReal ⟨f, e.symm⟩ (fun _ => hF.1 _) fun _ _ => hF.2 _) _

/-- The idealized kernel and the reference, started on the same arguments, return the same array. -/
theorem algebraic3 : algebraic_Kernel3Ideal_Reference3Ideal_pre_gqa_finite := by
  intro m ρ m' ρ' hpre hagree
  refine ⟨_, Cert.Kernel3Ideal.Value.run_blocks (F := Ideal) m ρ, ?_⟩
  refine (θ_run Cert.Reference3Ideal.defs _ _).mono (fun _ h c => ⟨?_, (h c).2⟩) (Cert.Reference3Ideal.Value.run (F := Ideal) m' ρ')
  refine (h c).1.trans ((Cert.Reference3Ideal.Read.val_main_v16_eq _ _ _).trans ?_)
  refine Eq.trans ?_ ((att3_eq m c (Cert.Kernel3Ideal.Att.finite_of_pre m hpre c)).trans (Cert.Kernel3Ideal.Att.final m c).symm)
  obtain ⟨h0, h1, h2⟩ := hagree c
  exact att3_congr h0 h1 h2

end Cert.Proof

end
-- ==== Proof.AttnEvenCtx.lean ====
module

public import proofs.«01_k».proof.Defs
public import proofs.«01_k».proof.Proof.AttnEven
public import proofs.«01_k».proof.Proof.PreFinite
public import proofs.«01_k».proof.Proof.Gen.Kernel15Ideal.Value
public import proofs.«01_k».proof.Proof.Gen.Reference15Ideal.Run
public import proofs.«01_k».proof.Proof.Gen.Reference15Ideal.Read
public import Idealize.ShloMosaic.Lib.Pointwise
public import Idealize.ShloMosaic.Lib.Pipeline.ValueKit
public import Idealize.ShloMosaic.Lib.Claim
public import Idealize.ShloMosaic.Lib.Quiescent
public import Idealize.ShloMosaic.Lib.Tactic.ValueTie

@[expose] public section

set_option maxRecDepth 16384

noncomputable section

/-! # The attention of the even layer's context rows, over the context

Two query heads share a head of keys and of values. Both programs weigh the values of a query's head by the softmax of the
query's scores; the kernel takes 256 queries of one head at each grid point. -/

namespace Cert.Kernel15Ideal.Att

open Cert.Kernel15Ideal Cert.Kernel15Ideal.Gen Idealize.ShloMosaic.TcCoe
open Idealize.ShloMosaic

variable (m : (ℓ : Loc nD τ sig) → Buf (Elt Ideal) ℓ) (c : Dev nD)

/-! ## The kernel -/

/-- The queries. -/
abbrev A0 : S2x4x256x128.Idx → EReal := m ((c : Thread nD τ).loc main_arg0)
/-- The keys. -/
abbrev A1 : S2x2x256x128.Idx → EReal := m ((c : Thread nD τ).loc main_arg1)
/-- The values. -/
abbrev A2 : S2x2x256x128.Idx → EReal := m ((c : Thread nD τ).loc main_arg2)

/-- The keys' head that a query head reads. -/
abbrev kHead (h : Fin 4) : Fin 2 := ⟨h.val / 2, by omega⟩
/-- The values' head that a query head reads. -/
abbrev vHead (h : Fin 4) : Fin 2 := ⟨h.val / 2, by omega⟩

/-- The scores of a query. -/
def srow (b : Fin 2) (h : Fin 4) (r : Fin 256) : Fin 256 → EReal :=
  Attn.scores Attn.factor3 (fun d => A0 m c (ix4 b h r d)) fun j d => A1 m c (ix4 b (kHead h) j d)

/-- The attention of every query. -/
def att : S2x4x256x128.Idx → EReal := fun i =>
  Attn.row (srow m c (i 0) (i 1) (i 2)) fun j => A2 m c (ix4 (i 0) (vHead (i 1)) j (i 3))

/-- The windows' block indices at a grid point. -/
theorem index_val : ∀ t : Fin cfg0.N, win0_0.index t = ![t.val / 4, t.val % 4, 0, 0]
    ∧ win0_1.index t = ![t.val / 4, t.val % 4 / 2, 0, 0] ∧ win0_2.index t = ![t.val / 4, t.val % 4 / 2, 0, 0]
    ∧ win0_3.index t = ![t.val / 4, t.val % 4, 0, 0] := by
  decide +kernel

/-- The queries times the factor. -/
theorem host0 (b : Fin 2) (h : Fin 4) (r : Fin 256) (d : Fin 128) :
    V m c main_v2 (ix4 b h r d) = A0 m c (ix4 b h r d) * Attn.factor3 := by
  unfold Attn.factor3
  entry_read
  pointwise

/-- The keys, whose rounding changes nothing here. -/
theorem host1 (b : Fin 2) (h : Fin 2) (j : Fin 256) (d : Fin 128) : V m c main_v3 (ix4 b h j d) = A1 m c (ix4 b h j d) := by
  entry_read
  pointwise

/-- The values, whose rounding changes nothing here. -/
theorem host2 (b : Fin 2) (h : Fin 2) (j : Fin 256) (d : Fin 128) : V m c main_v4 (ix4 b h j d) = A2 m c (ix4 b h j d) := by
  entry_read
  pointwise

/-- The queries of a grid point. -/
theorem blk0 (t : Fin cfg0.N) (b : Fin 2) (hb : t.val / 4 = b.val) (h : Fin 4) (hh : t.val % 4 = h.val) (p : Fin 256)
    (r : Fin 256) (hr : r.val = p.val) (d : Fin 128) :
    iblk m c 0 t (ix4 0 0 p d) = A0 m c (ix4 b h r d) * Attn.factor3 := by
  have hi := (index_val t).1
  refine Eq.trans ?_ (host0 m c b h r d)
  show V m c main_v2 (((cfg0.win 0).blk t).view.emb (ix4 0 0 p d)) = V m c main_v2 (ix4 b h r d)
  refine congrArg (V m c main_v2) ?_
  blk_ext [hi]

/-- The keys of a grid point. -/
theorem blk1 (t : Fin cfg0.N) (b : Fin 2) (hb : t.val / 4 = b.val) (h : Fin 2) (hh : t.val % 4 / 2 = h.val)
    (j : Fin 256) (d : Fin 128) : iblk m c 1 t (ix4 0 0 j d) = A1 m c (ix4 b h j d) := by
  have hi := (index_val t).2.1
  refine Eq.trans ?_ (host1 m c b h j d)
  show V m c main_v3 (((cfg0.win 1).blk t).view.emb (ix4 0 0 j d)) = V m c main_v3 (ix4 b h j d)
  refine congrArg (V m c main_v3) ?_
  blk_ext [hi]

/-- The values of a grid point. -/
theorem blk2 (t : Fin cfg0.N) (b : Fin 2) (hb : t.val / 4 = b.val) (h : Fin 2) (hh : t.val % 4 / 2 = h.val)
    (j : Fin 256) (d : Fin 128) : iblk m c 2 t (ix4 0 0 j d) = A2 m c (ix4 b h j d) := by
  have hi := (index_val t).2.2.1
  refine Eq.trans ?_ (host2 m c b h j d)
  show V m c main_v4 (((cfg0.win 2).blk t).view.emb (ix4 0 0 j d)) = V m c main_v4 (ix4 b h j d)
  refine congrArg (V m c main_v4) ?_
  blk_ext [hi]

theorem bits_neg_inf : Ideal.ofBits .f32 4286578688#32 = ⊥ := by simp [Ideal.ofBits, Ideal.ieee]

/-- What the kernel stores, at one element. -/
theorem pay1_row (q : FVec Ideal S1x1x256x128 .bf16) (k : FVec Ideal S1x1x256x128 .bf16) (v : FVec Ideal S1x1x256x128 .bf16)
    (p : Fin 256) (n : Fin 128) :
    k0_pay1 (F := Ideal) q k v (ix4 0 0 p n)
      = Attn.row (fun j => ∑ d, q (ix4 0 0 p d) * k (ix4 0 0 j d)) fun j => v (ix4 0 0 j n) := by
  unfold k0_pay1
  pointwise
  rw [bits_neg_inf]
  rfl

/-- What a grid point stores at row `p` of its block is the attention of query `r` of the array. -/
theorem stored (t : Fin cfg0.N) (b : Fin 2) (hb : t.val / 4 = b.val) (h : Fin 4) (hh : t.val % 4 = h.val) (p : Fin 256)
    (r : Fin 256) (hr : r.val = p.val) (n : Fin 128) :
    k0_pay1 (F := Ideal) (iblk m c 0 t) (iblk m c 1 t) (iblk m c 2 t) (ix4 0 0 p n) = att m c (ix4 b h r n) := by
  refine (pay1_row _ _ _ p n).trans ?_
  show _ = Attn.row (srow m c b h r) fun j => A2 m c (ix4 b (vHead h) j n)
  refine congrArg₂ Attn.row (funext fun j => ?_) (funext fun j => blk2 m c t b hb _ (congrArg (· / 2) hh) j n)
  obtain ⟨f, hf, e⟩ := Attn.factor3_real
  refine Eq.trans ?_ ((Attn.scores_eq f hf (fun d => A0 m c (ix4 b h r d)) (fun j d => A1 m c (ix4 b (kHead h) j d)) j).trans ?_)
  · rw [← e]
    exact Finset.sum_congr rfl fun d _ => congrArg₂ (fun y z => y * z) (blk0 m c t b hb h hh p r hr d)
      (blk1 m c t b hb _ (congrArg (· / 2) hh) j d)
  · rw [← e]; rfl

/-- The kernel's array after the run. -/
theorem final : (dats m 0 c).arrAt 3 cfg0.N = att m c := by
  refine (dats m 0 c).arrAt_eq_of_covers 3 _ (by decide +kernel) fun t hf y => ?_
  blk_simp
  rw [after0_3]
  frame_out
  have h3 := (index_val t).2.2.2
  have ht : t.val < 8 := t.isLt
  have e : (win0_3.blk t).view.emb y = ix4 (⟨t.val / 4, by omega⟩ : Fin 2) (⟨t.val % 4, by omega⟩ : Fin 4)
      (⟨(y 2).val, by idx_bounds y; omega⟩ : Fin 256) (y 3) := by blk_ext [h3]
  rw [e]
  exact (congrArg _ (show y = ix4 0 0 (y 2) (y 3) by blk_ext)).trans (stored m c t _ rfl _ rfl (y 2) _ rfl (y 3))

end Cert.Kernel15Ideal.Att

namespace Cert.Reference15Ideal.Att

open Cert.Reference15Ideal Cert.Reference15Ideal.Gen Cert.Reference15Ideal.Read Idealize.ShloMosaic.TcCoe
open Idealize.ShloMosaic

/-! ## The reference -/

variable (x0 : (⟨S2x4x256x128, .f32⟩ : BufTy).Contents (Elt Ideal)) (x1 : (⟨S2x2x256x128, .f32⟩ : BufTy).Contents (Elt Ideal))
  (x2 : (⟨S2x2x256x128, .f32⟩ : BufTy).Contents (Elt Ideal))
  (b : Fin 2) (h : Fin 4) (g : Fin 2) (u : Fin 2) (hg : h.val = g.val * 2 + u.val) (r : Fin 256)

/-- The reference's scores of a query. -/
def srow : Fin 256 → EReal :=
  Attn.scores Attn.factor3 (fun d => x0 (ix4 b h r d)) fun j d => x1 (ix4 b g j d)

include hg in
/-- The product of the queries and the keys, times the factor. -/
theorem scores_row (j : Fin 256) : val_main_v3 (F := Ideal) x0 x1 (ix5 b g u r j) = srow x0 x1 b h g r j := by
  rw [val_main_v3_apply, val_main_v1_apply, val_main_v2_apply, val_main_cst_apply, Ideal.mulf_def, Ideal.ofBits_def]
  refine congrArg₂ (fun y z => y * z) (Finset.sum_congr rfl fun d _ => congrArg₂ (fun y z => y * z) ?_ ?_) rfl
  · rw [show lidx_main_v1 (ix5 b g u r j) d = ix5 b g u r d from eq_ix5 _, val_main_v0_apply]
    refine congrArg x0 ?_
    blk_ext
  · rw [show ridx_main_v1 (ix5 b g u r j) d = ix4 b g j d from eq_ix4 _]

include hg in
/-- The largest score of a query. -/
theorem top_row : val_main_v6 (F := Ideal) x0 x1 (ix4 b g u r) = Attn.top (srow x0 x1 b h g r) := by
  rw [val_main_v6_apply, val_main_v5_apply, val_main_cst_1_apply, Ideal.ofBits_def, Cert.Kernel15Ideal.Att.bits_neg_inf]
  refine (max_eq_right bot_le).trans ?_
  rw [show srow x0 x1 b h g r = fun j => val_main_v3 (F := Ideal) x0 x1 (ix5 b g u r j) from
    funext fun j => (scores_row x0 x1 b h g u hg r j).symm]
  unfold val_main_v4
  generalize val_main_v3 (F := Ideal) x0 x1 = y
  pointwise
  rw [val_main_cst_0_apply, Ideal.ofBits_def, Cert.Kernel15Ideal.Att.bits_neg_inf]
  rfl

include hg in
/-- The weight of a key. -/
theorem pw_row (j : Fin 256) : val_main_v10 (F := Ideal) x0 x1 (ix5 b g u r j) = Attn.pw (srow x0 x1 b h g r) j := by
  rw [val_main_v10_apply, val_main_v9_apply, val_main_v8_apply, val_main_v7_apply,
    show idx_main_v7 (idx_main_v8 (ix5 b g u r j)) = ix4 b g u r from eq_ix4 _, top_row x0 x1 b h g u hg r,
    scores_row x0 x1 b h g u hg r j, Ideal.subf_def, Ideal.hostUnary_exp_def]
  rfl

include hg in
/-- The reference's result, at one element. -/
theorem result_row (n : Fin 128) : val_main_v16 (F := Ideal) x0 x1 x2 (ix4 b h r n)
    = ∑ j, Ideal.div (Attn.pw (srow x0 x1 b h g r) j) (∑ i, Attn.pw (srow x0 x1 b h g r) i) * x2 (ix4 b g j n) := by
  have a1 : idx_main_v16 (ix4 b h r n) = ix5 b g u r n := by blk_ext
  rw [val_main_v16_apply, a1, val_main_v15_apply]
  refine Finset.sum_congr rfl fun j _ => ?_
  rw [show lidx_main_v15 (ix5 b g u r n) j = ix5 b g u r j from eq_ix5 _,
    show ridx_main_v15 (ix5 b g u r n) j = ix4 b g j n from eq_ix4 _,
    val_main_v14_apply, val_main_v13_apply, val_main_v12_apply,
    show idx_main_v12 (idx_main_v13 (ix5 b g u r j)) = ix4 b g u r from eq_ix4 _, val_main_v11_apply, val_main_cst_2_apply,
    pw_row x0 x1 b h g u hg r j, Ideal.ofBits_def, Ideal.ofBits_zero_f32, zero_add, Ideal.hostDivf_def]
  refine congrArg (fun z => Ideal.div _ z * _) (Finset.sum_congr rfl fun i _ => ?_)
  rw [show idx_main_v11 (ix4 b g u r) i = ix5 b g u r i from eq_ix5 _, pw_row x0 x1 b h g u hg r i]

end Cert.Reference15Ideal.Att

namespace Cert.Pre_gqa_context_finite

open Idealize.ShloMosaic

/-- The side conditions of the predicate's operations. -/
instance facts : Cert.Pre_gqa_context_finite.Facts where
  bcast_S_S2x4x256x128 := by decide
  reducesTo_S2x4x256x128_S_d0_1_2_3 := by decide
  h_S_ := by decide
  bcast_S_S2x2x256x128 := by decide
  reducesTo_S2x2x256x128_S_d0_1_2_3 := by decide

end Cert.Pre_gqa_context_finite

namespace Cert.Kernel15Ideal.Att

open Idealize.ShloMosaic

/-- The precondition makes the queries and the keys real on every device. -/
theorem finite_of_pre (m : (ℓ : Loc nD τ sig) → Buf (Elt Ideal) ℓ) (h : Cert.Pre_Kernel15Ideal_gqa_context_finite m) (c : Dev nD) :
    (∀ i, Moe.IsReal (A0 m c i)) ∧ ∀ i, Moe.IsReal (A1 m c i) := by
  have e := congrFun (h c) (Shape.Idx.first Cert.Pre_gqa_context_finite.facts.h_S_)
  unfold Cert.Pre_gqa_context_finite.fn at e
  obtain ⟨e1, e2⟩ := IntOp.andi_eq_one.1 e
  exact ⟨fun i => Cert.Pre_routing_finite.all_real _ _ _ _ _ e1 _, fun i => Cert.Pre_routing_finite.all_real _ _ _ _ _ e2 _⟩

end Cert.Kernel15Ideal.Att

namespace Cert.Proof

open Idealize.ShloMosaic Idealize.SL.Sem

/-- The reference runs, leaves its arguments as they were, and ends with no semaphore raised. -/
theorem quiescent_Reference15Ideal : quiescent_Reference15Ideal := fun m ρ _ =>
  (θ_run Cert.Reference15Ideal.defs _ _).mono (fun r h => ⟨fun c => (h c).2, sem_eq_zero_of_no_sems (by decide) r.2⟩)
    (Cert.Reference15Ideal.Value.run (F := Ideal) m ρ)

/-- The reference's result depends on its arguments alone. -/
theorem att15_congr {x0 y0 : FVec Ideal Cert.Reference15Ideal.S2x4x256x128 .f32}
    {x1 y1 : FVec Ideal Cert.Reference15Ideal.S2x2x256x128 .f32} {x2 y2 : FVec Ideal Cert.Reference15Ideal.S2x2x256x128 .f32}
    (h0 : x0 = y0) (h1 : x1 = y1) (h2 : x2 = y2) :
    Cert.Reference15Ideal.Read.val_main_v16 (F := Ideal) x0 x1 x2 = Cert.Reference15Ideal.Read.val_main_v16 (F := Ideal) y0 y1 y2 := by
  rw [h0, h1, h2]

/-- On real queries and keys the two programs' arrays are one. -/
theorem att15_eq (m : (ℓ : Loc Cert.Kernel15Ideal.nD Cert.Kernel15Ideal.τ Cert.Kernel15Ideal.sig) → Buf (Elt Ideal) ℓ)
    (c : Dev Cert.Kernel15Ideal.nD)
    (hF : (∀ i, Moe.IsReal (Cert.Kernel15Ideal.Att.A0 m c i)) ∧ ∀ i, Moe.IsReal (Cert.Kernel15Ideal.Att.A1 m c i)) :
    Cert.Reference15Ideal.Read.val_main_v16 (F := Ideal) (Cert.Kernel15Ideal.Att.A0 m c) (Cert.Kernel15Ideal.Att.A1 m c)
      (Cert.Kernel15Ideal.Att.A2 m c) = Cert.Kernel15Ideal.Att.att m c := by
  funext i
  rw [eq_ix4 i]
  have hh : (i 1).val < 4 := (i 1).isLt
  refine (Cert.Reference15Ideal.Att.result_row _ _ _ (i 0) (i 1) ⟨(i 1).val / 2, by omega⟩ ⟨(i 1).val % 2, by omega⟩
    (by show (i 1).val = (i 1).val / 2 * 2 + (i 1).val % 2; omega) (i 2) (i 3)).trans ?_
  obtain ⟨f, -, e⟩ := Attn.factor3_real
  exact Attn.row_eq (by decide) (Attn.scores_isReal ⟨f, e.symm⟩ (fun _ => hF.1 _) fun _ _ => hF.2 _) _

/-- The idealized kernel and the reference, started on the same arguments, return the same array. -/
theorem algebraic15 : algebraic_Kernel15Ideal_Reference15Ideal_pre_gqa_context_finite := by
  intro m ρ m' ρ' hpre hagree
  refine ⟨_, Cert.Kernel15Ideal.Value.run_blocks (F := Ideal) m ρ, ?_⟩
  refine (θ_run Cert.Reference15Ideal.defs _ _).mono (fun _ h c => ⟨?_, (h c).2⟩) (Cert.Reference15Ideal.Value.run (F := Ideal) m' ρ')
  refine (h c).1.trans ((Cert.Reference15Ideal.Read.val_main_v16_eq _ _ _).trans ?_)
  refine Eq.trans ?_ ((att15_eq m c (Cert.Kernel15Ideal.Att.finite_of_pre m hpre c)).trans (Cert.Kernel15Ideal.Att.final m c).symm)
  obtain ⟨h0, h1, h2⟩ := hagree c
  exact att15_congr h0 h1 h2

end Cert.Proof

end
-- ==== Proof.ProjOutCtx.lean ====
module

public import proofs.«01_k».proof.Defs
public import proofs.«01_k».proof.Proof.Spec
public import proofs.«01_k».proof.Proof.Gen.Kernel13Ideal.Value
public import proofs.«01_k».proof.Proof.Gen.Reference13Ideal.Run
public import proofs.«01_k».proof.Proof.Gen.Reference13Ideal.Read
public import Idealize.ShloMosaic.Lib.Pointwise
public import Idealize.ShloMosaic.Lib.Pipeline.ValueKit
public import Idealize.ShloMosaic.Lib.Claim
public import Idealize.ShloMosaic.Lib.Quiescent
public import Idealize.ShloMosaic.Lib.Tactic.ValueTie

@[expose] public section

set_option maxRecDepth 16384

noncomputable section

/-! # The output projection, on the context's rows

One row of the mixed heads is multiplied by the weight, normalized, and added to the input's row through a gate. Both
programs compute this row; the kernel takes 256 rows at each grid point. -/

namespace Cert.Kernel13Ideal.Proj

open Cert.Kernel13Ideal Cert.Kernel13Ideal.Gen Idealize.ShloMosaic.TcCoe
open Idealize.ShloMosaic

variable (m : (ℓ : Loc nD τ sig) → Buf (Elt Ideal) ℓ) (c : Dev nD)

/-! ## The kernel -/

/-- The mixed heads. -/
abbrev A0 : S2x256x1024.Idx → EReal := m ((c : Thread nD τ).loc main_arg0)
/-- The weight. -/
abbrev A1 : S1024x1024.Idx → EReal := m ((c : Thread nD τ).loc main_arg1)
/-- The rows that the result is added to. -/
abbrev A2 : S2x256x1024.Idx → EReal := m ((c : Thread nD τ).loc main_arg2)
/-- The gain. -/
abbrev A3 : S1024.Idx → EReal := m ((c : Thread nD τ).loc main_arg3)
/-- The gate. -/
abbrev A4 : S2x1024.Idx → EReal := m ((c : Thread nD τ).loc main_arg4)

/-- The layer's rows after the projection: the input plus the gated, normalized product. -/
def proj : S2x256x1024.Idx → EReal := fun i =>
  A2 m c i + A4 m c (ix2 (i 0) (i 2))
    * (Moe.nrm (fun n => ∑ k, A0 m c (ix3 (i 0) (i 1) k) * A1 m c (ix2 k n)) (i 2) * A3 m c (ix1 (i 2)))

/-- The windows' block indices at a grid point. -/
theorem index_val : ∀ t : Fin cfg0.N, win0_0.index t = ![t.val, 0, 0] ∧ win0_1.index t = ![0, 0]
    ∧ win0_2.index t = ![t.val, 0, 0] ∧ win0_3.index t = ![0, 0] ∧ win0_4.index t = ![t.val, 0, 0]
    ∧ win0_5.index t = ![t.val, 0, 0] := by
  decide +kernel

/-- The mixed heads, whose rounding changes nothing here. -/
theorem host0 (b : Fin 2) (r : Fin 256) (k : Fin 1024) : V m c main_v0 (ix3 b r k) = A0 m c (ix3 b r k) := by
  entry_read
  pointwise

/-- The weight, whose rounding changes nothing here. -/
theorem host1 (k n : Fin 1024) : V m c main_v1 (ix2 k n) = A1 m c (ix2 k n) := by
  entry_read
  pointwise

/-- The gain as a one-row array. -/
theorem host3 (k : Fin 1024) : V m c main_v2 (ix2 0 k) = A3 m c (ix1 k) := by
  entry_read
  pointwise

/-- The gate with a row axis. -/
theorem host4 (b : Fin 2) (k : Fin 1024) : V m c main_v3 (ix3 b 0 k) = A4 m c (ix2 b k) := by
  entry_read
  pointwise

/-- The mixed heads' rows of a grid point. -/
theorem blk0 (t : Fin cfg0.N) (b : Fin 2) (hb : t.val = b.val) (p : Fin 256) (r : Fin 256)
    (hr : r.val = p.val) (k : Fin 1024) : iblk m c 0 t (ix3 0 p k) = A0 m c (ix3 b r k) := by
  have h := (index_val t).1
  refine Eq.trans ?_ (host0 m c b r k)
  show V m c main_v0 (((cfg0.win 0).blk t).view.emb (ix3 0 p k)) = V m c main_v0 (ix3 b r k)
  refine congrArg (V m c main_v0) ?_
  blk_ext [h]

/-- The weight. -/
theorem blk1 (t : Fin cfg0.N) (k n : Fin 1024) : iblk m c 1 t (ix2 k n) = A1 m c (ix2 k n) := by
  have h := (index_val t).2.1
  refine Eq.trans ?_ (host1 m c k n)
  show V m c main_v1 (((cfg0.win 1).blk t).view.emb (ix2 k n)) = V m c main_v1 (ix2 k n)
  refine congrArg (V m c main_v1) ?_
  blk_ext [h]

/-- The input's rows of a grid point. -/
theorem blk2 (t : Fin cfg0.N) (b : Fin 2) (hb : t.val = b.val) (p : Fin 256) (r : Fin 256)
    (hr : r.val = p.val) (k : Fin 1024) : iblk m c 2 t (ix3 0 p k) = A2 m c (ix3 b r k) := by
  have h := (index_val t).2.2.1
  blk_ext [iblk, V, h]

/-- The gain. -/
theorem blk3 (t : Fin cfg0.N) (k : Fin 1024) : iblk m c 3 t (ix2 0 k) = A3 m c (ix1 k) := by
  have h := (index_val t).2.2.2.1
  refine Eq.trans ?_ (host3 m c k)
  show V m c main_v2 (((cfg0.win 3).blk t).view.emb (ix2 0 k)) = V m c main_v2 (ix2 0 k)
  refine congrArg (V m c main_v2) ?_
  blk_ext [h]

/-- The gate. -/
theorem blk4 (t : Fin cfg0.N) (b : Fin 2) (hb : t.val = b.val) (k : Fin 1024) :
    iblk m c 4 t (ix3 0 0 k) = A4 m c (ix2 b k) := by
  have h := (index_val t).2.2.2.2.1
  refine Eq.trans ?_ (host4 m c b k)
  show V m c main_v3 (((cfg0.win 4).blk t).view.emb (ix3 0 0 k)) = V m c main_v3 (ix3 b 0 k)
  refine congrArg (V m c main_v3) ?_
  blk_ext [h]

/-- What the kernel stores, at one element. -/
theorem pay1_row (a : FVec Ideal S1x256x1024 .bf16) (w : FVec Ideal S1024x1024 .bf16) (x : FVec Ideal S1x256x1024 .f32)
    (q : FVec Ideal S1x1x1024 .f32) (g : FVec Ideal S1x1024 .f32) (p : Fin 256) (n : Fin 1024) :
    k0_pay1 (F := Ideal) a w x q g (ix3 0 p n)
      = x (ix3 0 p n) + q (ix3 0 0 n) * (Moe.nrm (fun n => ∑ k, a (ix3 0 p k) * w (ix2 k n)) n * g (ix2 0 n)) := by
  unfold k0_pay1
  pointwise
  rfl

/-- What a grid point stores at row `p` of its block is row `r` of the array. -/
theorem stored (t : Fin cfg0.N) (b : Fin 2) (hb : t.val = b.val) (p : Fin 256) (r : Fin 256)
    (hr : r.val = p.val) (n : Fin 1024) :
    k0_pay1 (F := Ideal) (iblk m c 0 t) (iblk m c 1 t) (iblk m c 2 t) (iblk m c 4 t) (iblk m c 3 t) (ix3 0 p n)
      = proj m c (ix3 b r n) := by
  refine (pay1_row _ _ _ _ _ p n).trans ?_
  show _ = A2 m c (ix3 b r n) + A4 m c (ix2 b n)
    * (Moe.nrm (fun n => ∑ k, A0 m c (ix3 b r k) * A1 m c (ix2 k n)) n * A3 m c (ix1 n))
  refine congrArg₂ (fun y z => y + z) (blk2 m c t b hb p r hr n) ?_
  refine congrArg₂ (fun y z => y * z) (blk4 m c t b hb n) ?_
  refine congrArg₂ (fun y z => y * z) (congrArg (Moe.nrm · n) ?_) (blk3 m c t n)
  funext n
  exact Finset.sum_congr rfl fun k _ => congrArg₂ (fun y z => y * z) (blk0 m c t b hb p r hr k) (blk1 m c t k n)

/-- The kernel's array after the run. -/
theorem final : (dats m 0 c).arrAt 5 cfg0.N = proj m c := by
  refine (dats m 0 c).arrAt_eq_of_covers 5 _ (by decide +kernel) fun t hf y => ?_
  blk_simp
  rw [after0_5]
  frame_out
  have h5 := (index_val t).2.2.2.2.2
  have ht : t.val < 2 := t.isLt
  have e : (win0_5.blk t).view.emb y = ix3 (⟨t.val, by omega⟩ : Fin 2)
      (⟨(y 1).val, by idx_bounds y; omega⟩ : Fin 256) (y 2) := by blk_ext [h5]
  rw [e]
  exact (congrArg _ (show y = ix3 0 (y 1) (y 2) by blk_ext)).trans (stored m c t _ rfl (y 1) _ rfl (y 2))

end Cert.Kernel13Ideal.Proj

namespace Cert.Reference13Ideal.Proj

open Cert.Reference13Ideal Cert.Reference13Ideal.Gen Cert.Reference13Ideal.Read Idealize.ShloMosaic.TcCoe
open Idealize.ShloMosaic

/-! ## The reference -/

variable (x0 : (⟨S2x256x1024, .f32⟩ : BufTy).Contents (Elt Ideal)) (x1 : (⟨S1024x1024, .f32⟩ : BufTy).Contents (Elt Ideal))
  (x2 : (⟨S2x256x1024, .f32⟩ : BufTy).Contents (Elt Ideal)) (x3 : (⟨S1024, .f32⟩ : BufTy).Contents (Elt Ideal))
  (x4 : (⟨S2x1024, .f32⟩ : BufTy).Contents (Elt Ideal)) (b : Fin 2) (r : Fin 256)

/-- The reference's product, at one element. -/
theorem v1_row (n : Fin 1024) : val_main_v1 (F := Ideal) x0 x1 (ix3 b r n) = ∑ k, x0 (ix3 b r k) * x1 (ix2 k n) := by
  rw [val_main_v1_apply]
  refine Finset.sum_congr rfl fun k _ => ?_
  rw [show lidx_main_v1 (ix3 b r n) k = ix3 b r k from eq_ix3 _, show ridx_main_v1 (ix3 b r n) k = ix2 k n from eq_ix2 _]

/-- The reference's result, at one element. -/
theorem v17_row (n : Fin 1024) : val_main_v17 (F := Ideal) x0 x1 x2 x3 x4 (ix3 b r n)
    = x2 (ix3 b r n) + x4 (ix2 b n)
        * (Moe.nrm (fun n => ∑ k, x0 (ix3 b r k) * x1 (ix2 k n)) n * x3 (ix1 n)) := by
  have a1 : idx_main_v4 (idx_main_v10 (ix3 b r n)) = ix2 b r := eq_ix2 _
  have a2 : ∀ i, idx_main_v3 (ix2 b r) i = ix3 b r i := fun i => eq_ix3 _
  have a3 : idx_main_v12 (idx_main_v13 (ix3 b r n)) = ix1 n := eq_ix1 _
  have a4 : idx_main_v0 (idx_main_v15 (ix3 b r n)) = ix2 b n := eq_ix2 _
  rw [val_main_v17_apply, val_main_v16_apply, val_main_v15_apply, val_main_v0_apply, val_main_v14_apply, val_main_v13_apply,
    val_main_v12_apply, val_main_v11_apply, val_main_v10_apply, val_main_v9_apply, val_main_v8_apply, val_main_v7_apply,
    val_main_cst_1_apply, val_main_v6_apply, val_main_v5_apply, val_main_cst_0_apply, val_main_v4_apply, val_main_v3_apply,
    val_main_cst_apply, a1, a3, a4]
  simp only [val_main_v2_apply, a2, v1_row]
  simp only [Moe.nrm, Moe.width, Moe.eps, Ideal.ofBits_def, Ideal.ofBits_zero_f32, zero_add,
    Ideal.addf_def, Ideal.mulf_def, Ideal.hostUnary_rsqrt_def, Ideal.hostDivf_def]

end Cert.Reference13Ideal.Proj

namespace Cert.Proof

open Idealize.ShloMosaic Idealize.SL.Sem

/-- The reference runs, leaves its arguments as they were, and ends with no semaphore raised. -/
theorem quiescent_Reference13Ideal : quiescent_Reference13Ideal := fun m ρ _ =>
  (θ_run Cert.Reference13Ideal.defs _ _).mono (fun r h => ⟨fun c => (h c).2, sem_eq_zero_of_no_sems (by decide) r.2⟩)
    (Cert.Reference13Ideal.Value.run (F := Ideal) m ρ)

/-- The reference's result depends on its arguments alone. -/
theorem proj13_congr {x0 y0 x2 y2 : FVec Ideal Cert.Reference13Ideal.S2x256x1024 .f32}
    {x1 y1 : FVec Ideal Cert.Reference13Ideal.S1024x1024 .f32}
    {x3 y3 : FVec Ideal Cert.Reference13Ideal.S1024 .f32}
    {x4 y4 : FVec Ideal Cert.Reference13Ideal.S2x1024 .f32}
    (h0 : x0 = y0) (h1 : x1 = y1) (h2 : x2 = y2) (h3 : x3 = y3) (h4 : x4 = y4) :
    Cert.Reference13Ideal.Read.val_main_v17 (F := Ideal) x0 x1 x2 x3 x4
      = Cert.Reference13Ideal.Read.val_main_v17 (F := Ideal) y0 y1 y2 y3 y4 := by
  rw [h0, h1, h2, h3, h4]

/-- The idealized kernel and the reference, started on the same arguments, return the same array. -/
theorem algebraic13 : algebraic_Kernel13Ideal_Reference13Ideal := by
  intro m ρ m' ρ' hpre hagree
  refine ⟨_, Cert.Kernel13Ideal.Value.run_blocks (F := Ideal) m ρ, ?_⟩
  refine (θ_run Cert.Reference13Ideal.defs _ _).mono (fun _ h c => ⟨?_, (h c).2⟩) (Cert.Reference13Ideal.Value.run (F := Ideal) m' ρ')
  refine (h c).1.trans ((Cert.Reference13Ideal.Read.val_main_v17_eq _ _ _ _ _).trans ?_)
  refine Eq.trans ?_ (Cert.Kernel13Ideal.Proj.final m c).symm
  obtain ⟨h0, h1, h2, h3, h4⟩ := hagree c
  refine (proj13_congr h0 h1 h2 h3 h4).trans ?_
  funext i
  rw [eq_ix3 i]
  exact Cert.Reference13Ideal.Proj.v17_row _ _ _ _ _ _ _ _

end Cert.Proof

end
-- ==== Proof.ProjInOddCtx.lean ====
module

public import proofs.«01_k».proof.Defs
public import proofs.«01_k».proof.Proof.Spec
public import proofs.«01_k».proof.Proof.Gen.Kernel12Ideal.Value
public import proofs.«01_k».proof.Proof.Gen.Reference12Ideal.Run
public import proofs.«01_k».proof.Proof.Gen.Reference12Ideal.Read
public import Idealize.ShloMosaic.Lib.Pointwise
public import Idealize.ShloMosaic.Lib.Pipeline.ValueKit
public import Idealize.ShloMosaic.Lib.Claim
public import Idealize.ShloMosaic.Lib.Quiescent
public import Idealize.ShloMosaic.Lib.Tactic.ValueTie

@[expose] public section

set_option maxRecDepth 16384

noncomputable section

/-! # The input projection of the odd layer, on the context's rows

One row of the input is normalized, modulated and multiplied by the weight. Both programs compute this row; the kernel
takes 256 rows at each grid point. -/

namespace Cert.Kernel12Ideal.Proj

open Cert.Kernel12Ideal Cert.Kernel12Ideal.Gen Idealize.ShloMosaic.TcCoe
open Idealize.ShloMosaic

variable (m : (ℓ : Loc nD τ sig) → Buf (Elt Ideal) ℓ) (c : Dev nD)

/-! ## The kernel -/

/-- The input rows. -/
abbrev A0 : S2x256x1024.Idx → EReal := m ((c : Thread nD τ).loc main_arg0)
/-- The gain. -/
abbrev A1 : S1024.Idx → EReal := m ((c : Thread nD τ).loc main_arg1)
/-- The shift. -/
abbrev A2 : S2x1024.Idx → EReal := m ((c : Thread nD τ).loc main_arg2)
/-- The scale. -/
abbrev A3 : S2x1024.Idx → EReal := m ((c : Thread nD τ).loc main_arg3)
/-- The weight. -/
abbrev A4 : S1024x3456.Idx → EReal := m ((c : Thread nD τ).loc main_arg4)

/-- The projection of every row: the modulated row times the weight. -/
def proj : S2x256x3456.Idx → EReal := fun i =>
  ∑ k, Moe.hid (fun k => A0 m c (ix3 (i 0) (i 1) k)) (fun k => A1 m c (ix1 k)) (fun k => A3 m c (ix2 (i 0) k))
    (fun k => A2 m c (ix2 (i 0) k)) k * A4 m c (ix2 k (i 2))

/-- The windows' block indices at a grid point. -/
theorem index_val : ∀ t : Fin cfg0.N, win0_0.index t = ![t.val, 0, 0] ∧ win0_1.index t = ![0, 0]
    ∧ win0_2.index t = ![t.val, 0, 0] ∧ win0_3.index t = ![t.val, 0, 0] ∧ win0_4.index t = ![0, 0]
    ∧ win0_5.index t = ![t.val, 0, 0] := by
  decide +kernel

/-- The gain as a one-row array. -/
theorem host1 (k : Fin 1024) : V m c main_v1 (ix2 0 k) = A1 m c (ix1 k) := by
  entry_read
  pointwise

/-- The shift with a row axis. -/
theorem host2 (b : Fin 2) (k : Fin 1024) : V m c main_v2 (ix3 b 0 k) = A2 m c (ix2 b k) := by
  entry_read
  pointwise

/-- The scale with a row axis. -/
theorem host3 (b : Fin 2) (k : Fin 1024) : V m c main_v3 (ix3 b 0 k) = A3 m c (ix2 b k) := by
  entry_read
  pointwise

/-- The weight, whose rounding changes nothing here. -/
theorem host4 (k : Fin 1024) (n : Fin 3456) : V m c main_v0 (ix2 k n) = A4 m c (ix2 k n) := by
  entry_read
  pointwise

/-- The rows of a grid point. -/
theorem blk0 (t : Fin cfg0.N) (b : Fin 2) (hb : t.val = b.val) (p : Fin 256) (r : Fin 256)
    (hr : r.val = p.val) (k : Fin 1024) : iblk m c 0 t (ix3 0 p k) = A0 m c (ix3 b r k) := by
  have h := (index_val t).1
  blk_ext [iblk, V, h]

/-- The gain. -/
theorem blk1 (t : Fin cfg0.N) (k : Fin 1024) : iblk m c 1 t (ix2 0 k) = A1 m c (ix1 k) := by
  have h := (index_val t).2.1
  refine Eq.trans ?_ (host1 m c k)
  show V m c main_v1 (((cfg0.win 1).blk t).view.emb (ix2 0 k)) = V m c main_v1 (ix2 0 k)
  refine congrArg (V m c main_v1) ?_
  blk_ext [h]

/-- The shift. -/
theorem blk2 (t : Fin cfg0.N) (b : Fin 2) (hb : t.val = b.val) (k : Fin 1024) :
    iblk m c 2 t (ix3 0 0 k) = A2 m c (ix2 b k) := by
  have h := (index_val t).2.2.1
  refine Eq.trans ?_ (host2 m c b k)
  show V m c main_v2 (((cfg0.win 2).blk t).view.emb (ix3 0 0 k)) = V m c main_v2 (ix3 b 0 k)
  refine congrArg (V m c main_v2) ?_
  blk_ext [h]

/-- The scale. -/
theorem blk3 (t : Fin cfg0.N) (b : Fin 2) (hb : t.val = b.val) (k : Fin 1024) :
    iblk m c 3 t (ix3 0 0 k) = A3 m c (ix2 b k) := by
  have h := (index_val t).2.2.2.1
  refine Eq.trans ?_ (host3 m c b k)
  show V m c main_v3 (((cfg0.win 3).blk t).view.emb (ix3 0 0 k)) = V m c main_v3 (ix3 b 0 k)
  refine congrArg (V m c main_v3) ?_
  blk_ext [h]

/-- The weight. -/
theorem blk4 (t : Fin cfg0.N) (k : Fin 1024) (n : Fin 3456) : iblk m c 4 t (ix2 k n) = A4 m c (ix2 k n) := by
  have h := (index_val t).2.2.2.2.1
  refine Eq.trans ?_ (host4 m c k n)
  show V m c main_v0 (((cfg0.win 4).blk t).view.emb (ix2 k n)) = V m c main_v0 (ix2 k n)
  refine congrArg (V m c main_v0) ?_
  blk_ext [h]

/-- What the kernel stores, at one element. -/
theorem pay1_row (x : FVec Ideal S1x256x1024 .f32) (g : FVec Ideal S1x1024 .f32) (s t : FVec Ideal S1x1x1024 .f32)
    (w : FVec Ideal S1024x3456 .bf16) (p : Fin 256) (n : Fin 3456) :
    k0_pay1 (F := Ideal) x g s t w (ix3 0 p n)
      = ∑ k, Moe.hid (fun k => x (ix3 0 p k)) (fun k => g (ix2 0 k)) (fun k => s (ix3 0 0 k)) (fun k => t (ix3 0 0 k)) k
          * w (ix2 k n) := by
  unfold k0_pay1
  pointwise
  rfl

/-- What a grid point stores at row `p` of its block is the projection of row `r` of the array. -/
theorem stored (t : Fin cfg0.N) (b : Fin 2) (hb : t.val = b.val) (p : Fin 256) (r : Fin 256)
    (hr : r.val = p.val) (n : Fin 3456) :
    k0_pay1 (F := Ideal) (iblk m c 0 t) (iblk m c 1 t) (iblk m c 3 t) (iblk m c 2 t) (iblk m c 4 t) (ix3 0 p n)
      = proj m c (ix3 b r n) := by
  refine (pay1_row _ _ _ _ _ p n).trans ?_
  show _ = ∑ k, Moe.hid (fun k => A0 m c (ix3 b r k)) (fun k => A1 m c (ix1 k)) (fun k => A3 m c (ix2 b k))
    (fun k => A2 m c (ix2 b k)) k * A4 m c (ix2 k n)
  refine Finset.sum_congr rfl fun k _ => congrArg₂ (fun y z => y * z) ?_ (blk4 m c t k n)
  congr 1 <;> funext k
  · exact blk0 m c t b hb p r hr k
  · exact blk1 m c t k
  · exact blk3 m c t b hb k
  · exact blk2 m c t b hb k

/-- The kernel's array after the run. -/
theorem final : (dats m 0 c).arrAt 5 cfg0.N = proj m c := by
  refine (dats m 0 c).arrAt_eq_of_covers 5 _ (by decide +kernel) fun t hf y => ?_
  blk_simp
  rw [after0_5]
  frame_out
  have h5 := (index_val t).2.2.2.2.2
  have ht : t.val < 2 := t.isLt
  have e : (win0_5.blk t).view.emb y = ix3 (⟨t.val, by omega⟩ : Fin 2)
      (⟨(y 1).val, by idx_bounds y; omega⟩ : Fin 256) (y 2) := by blk_ext [h5]
  rw [e]
  exact (congrArg _ (show y = ix3 0 (y 1) (y 2) by blk_ext)).trans (stored m c t _ rfl (y 1) _ rfl (y 2))

end Cert.Kernel12Ideal.Proj

namespace Cert.Reference12Ideal.Proj

open Cert.Reference12Ideal Cert.Reference12Ideal.Gen Cert.Reference12Ideal.Read Idealize.ShloMosaic.TcCoe
open Idealize.ShloMosaic

/-! ## The reference -/

variable (x0 : (⟨S2x256x1024, .f32⟩ : BufTy).Contents (Elt Ideal)) (x1 : (⟨S1024, .f32⟩ : BufTy).Contents (Elt Ideal))
  (x2 x3 : (⟨S2x1024, .f32⟩ : BufTy).Contents (Elt Ideal)) (x4 : (⟨S1024x3456, .f32⟩ : BufTy).Contents (Elt Ideal))
  (b : Fin 2) (r : Fin 256)

/-- The reference's modulated row. -/
theorem v20_row (k : Fin 1024) : val_main_v20 (F := Ideal) x0 x1 x2 x3 (ix3 b r k)
    = Moe.hid (fun k => x0 (ix3 b r k)) (fun k => x1 (ix1 k)) (fun k => x3 (ix2 b k)) (fun k => x2 (ix2 b k)) k := by
  have a1 : idx_main_v2 (idx_main_v8 (ix3 b r k)) = ix2 b r := eq_ix2 _
  have a2 : ∀ i, idx_main_v1 (ix2 b r) i = ix3 b r i := fun i => eq_ix3 _
  have a3 : idx_main_v10 (idx_main_v11 (ix3 b r k)) = ix1 k := eq_ix1 _
  have a4 : idx_main_v14 (idx_main_v17 (ix3 b r k)) = ix2 b k := eq_ix2 _
  have a5 : idx_main_v13 (idx_main_v19 (ix3 b r k)) = ix2 b k := eq_ix2 _
  rw [val_main_v20_apply, val_main_v19_apply, val_main_v18_apply, val_main_v17_apply, val_main_v16_apply, val_main_v15_apply,
    val_main_cst_2_apply, val_main_v14_apply, val_main_v13_apply, val_main_v12_apply, val_main_v11_apply, val_main_v10_apply,
    val_main_v9_apply, val_main_v8_apply, val_main_v7_apply, val_main_v6_apply, val_main_v5_apply, val_main_cst_1_apply,
    val_main_v4_apply, val_main_v3_apply, val_main_cst_0_apply, val_main_v2_apply, val_main_v1_apply, val_main_cst_apply,
    a1, a3, a4, a5]
  simp only [val_main_v0_apply, a2]
  simp only [Moe.hid, Moe.nrm, Moe.width, Moe.eps, Ideal.ofBits_def, Ideal.ofBits_one_f32, Ideal.ofBits_zero_f32, zero_add,
    Ideal.addf_def, Ideal.mulf_def, Ideal.hostUnary_rsqrt_def, Ideal.hostDivf_def]

/-- The reference's result, at one element. -/
theorem v21_row (n : Fin 3456) : val_main_v21 (F := Ideal) x0 x1 x2 x3 x4 (ix3 b r n)
    = ∑ k, Moe.hid (fun k => x0 (ix3 b r k)) (fun k => x1 (ix1 k)) (fun k => x3 (ix2 b k)) (fun k => x2 (ix2 b k)) k
        * x4 (ix2 k n) := by
  rw [val_main_v21_apply]
  refine Finset.sum_congr rfl fun k _ => ?_
  rw [show lidx_main_v21 (ix3 b r n) k = ix3 b r k from eq_ix3 _, show ridx_main_v21 (ix3 b r n) k = ix2 k n from eq_ix2 _, v20_row]

end Cert.Reference12Ideal.Proj

namespace Cert.Proof

open Idealize.ShloMosaic Idealize.SL.Sem

/-- The reference runs, leaves its arguments as they were, and ends with no semaphore raised. -/
theorem quiescent_Reference12Ideal : quiescent_Reference12Ideal := fun m ρ _ =>
  (θ_run Cert.Reference12Ideal.defs _ _).mono (fun r h => ⟨fun c => (h c).2, sem_eq_zero_of_no_sems (by decide) r.2⟩)
    (Cert.Reference12Ideal.Value.run (F := Ideal) m ρ)

/-- The reference's result depends on its arguments alone. -/
theorem proj12_congr {x0 y0 : FVec Ideal Cert.Reference12Ideal.S2x256x1024 .f32}
    {x1 y1 : FVec Ideal Cert.Reference12Ideal.S1024 .f32}
    {x2 y2 x3 y3 : FVec Ideal Cert.Reference12Ideal.S2x1024 .f32}
    {x4 y4 : FVec Ideal Cert.Reference12Ideal.S1024x3456 .f32}
    (h0 : x0 = y0) (h1 : x1 = y1) (h2 : x2 = y2) (h3 : x3 = y3) (h4 : x4 = y4) :
    Cert.Reference12Ideal.Read.val_main_v21 (F := Ideal) x0 x1 x2 x3 x4
      = Cert.Reference12Ideal.Read.val_main_v21 (F := Ideal) y0 y1 y2 y3 y4 := by
  rw [h0, h1, h2, h3, h4]

/-- The idealized kernel and the reference, started on the same arguments, return the same array. -/
theorem algebraic12 : algebraic_Kernel12Ideal_Reference12Ideal := by
  intro m ρ m' ρ' hpre hagree
  refine ⟨_, Cert.Kernel12Ideal.Value.run_blocks (F := Ideal) m ρ, ?_⟩
  refine (θ_run Cert.Reference12Ideal.defs _ _).mono (fun _ h c => ⟨?_, (h c).2⟩) (Cert.Reference12Ideal.Value.run (F := Ideal) m' ρ')
  refine (h c).1.trans ((Cert.Reference12Ideal.Read.val_main_v21_eq _ _ _ _ _).trans ?_)
  refine Eq.trans ?_ (Cert.Kernel12Ideal.Proj.final m c).symm
  obtain ⟨h0, h1, h2, h3, h4⟩ := hagree c
  refine (proj12_congr h0 h1 h2 h3 h4).trans ?_
  funext i
  rw [eq_ix3 i]
  exact Cert.Reference12Ideal.Proj.v21_row _ _ _ _ _ _ _ _

end Cert.Proof

end
-- ==== Proof.ProjInEvenCtx.lean ====
module

public import proofs.«01_k».proof.Defs
public import proofs.«01_k».proof.Proof.Spec
public import proofs.«01_k».proof.Proof.Gen.Kernel11Ideal.Value
public import proofs.«01_k».proof.Proof.Gen.Reference11Ideal.Run
public import proofs.«01_k».proof.Proof.Gen.Reference11Ideal.Read
public import Idealize.ShloMosaic.Lib.Pointwise
public import Idealize.ShloMosaic.Lib.Pipeline.ValueKit
public import Idealize.ShloMosaic.Lib.Claim
public import Idealize.ShloMosaic.Lib.Quiescent
public import Idealize.ShloMosaic.Lib.Tactic.ValueTie

@[expose] public section

set_option maxRecDepth 16384

noncomputable section

/-! # The input projection of the even layer, on the context's rows

One row of the input is normalized, modulated and multiplied by the weight. Both programs compute this row; the kernel
takes 256 rows at each grid point. -/

namespace Cert.Kernel11Ideal.Proj

open Cert.Kernel11Ideal Cert.Kernel11Ideal.Gen Idealize.ShloMosaic.TcCoe
open Idealize.ShloMosaic

variable (m : (ℓ : Loc nD τ sig) → Buf (Elt Ideal) ℓ) (c : Dev nD)

/-! ## The kernel -/

/-- The input rows. -/
abbrev A0 : S2x256x1024.Idx → EReal := m ((c : Thread nD τ).loc main_arg0)
/-- The gain. -/
abbrev A1 : S1024.Idx → EReal := m ((c : Thread nD τ).loc main_arg1)
/-- The shift. -/
abbrev A2 : S2x1024.Idx → EReal := m ((c : Thread nD τ).loc main_arg2)
/-- The scale. -/
abbrev A3 : S2x1024.Idx → EReal := m ((c : Thread nD τ).loc main_arg3)
/-- The weight. -/
abbrev A4 : S1024x3072.Idx → EReal := m ((c : Thread nD τ).loc main_arg4)

/-- The projection of every row: the modulated row times the weight. -/
def proj : S2x256x3072.Idx → EReal := fun i =>
  ∑ k, Moe.hid (fun k => A0 m c (ix3 (i 0) (i 1) k)) (fun k => A1 m c (ix1 k)) (fun k => A3 m c (ix2 (i 0) k))
    (fun k => A2 m c (ix2 (i 0) k)) k * A4 m c (ix2 k (i 2))

/-- The windows' block indices at a grid point. -/
theorem index_val : ∀ t : Fin cfg0.N, win0_0.index t = ![t.val, 0, 0] ∧ win0_1.index t = ![0, 0]
    ∧ win0_2.index t = ![t.val, 0, 0] ∧ win0_3.index t = ![t.val, 0, 0] ∧ win0_4.index t = ![0, 0]
    ∧ win0_5.index t = ![t.val, 0, 0] := by
  decide +kernel

/-- The gain as a one-row array. -/
theorem host1 (k : Fin 1024) : V m c main_v1 (ix2 0 k) = A1 m c (ix1 k) := by
  entry_read
  pointwise

/-- The shift with a row axis. -/
theorem host2 (b : Fin 2) (k : Fin 1024) : V m c main_v2 (ix3 b 0 k) = A2 m c (ix2 b k) := by
  entry_read
  pointwise

/-- The scale with a row axis. -/
theorem host3 (b : Fin 2) (k : Fin 1024) : V m c main_v3 (ix3 b 0 k) = A3 m c (ix2 b k) := by
  entry_read
  pointwise

/-- The weight, whose rounding changes nothing here. -/
theorem host4 (k : Fin 1024) (n : Fin 3072) : V m c main_v0 (ix2 k n) = A4 m c (ix2 k n) := by
  entry_read
  pointwise

/-- The rows of a grid point. -/
theorem blk0 (t : Fin cfg0.N) (b : Fin 2) (hb : t.val = b.val) (p : Fin 256) (r : Fin 256)
    (hr : r.val = p.val) (k : Fin 1024) : iblk m c 0 t (ix3 0 p k) = A0 m c (ix3 b r k) := by
  have h := (index_val t).1
  blk_ext [iblk, V, h]

/-- The gain. -/
theorem blk1 (t : Fin cfg0.N) (k : Fin 1024) : iblk m c 1 t (ix2 0 k) = A1 m c (ix1 k) := by
  have h := (index_val t).2.1
  refine Eq.trans ?_ (host1 m c k)
  show V m c main_v1 (((cfg0.win 1).blk t).view.emb (ix2 0 k)) = V m c main_v1 (ix2 0 k)
  refine congrArg (V m c main_v1) ?_
  blk_ext [h]

/-- The shift. -/
theorem blk2 (t : Fin cfg0.N) (b : Fin 2) (hb : t.val = b.val) (k : Fin 1024) :
    iblk m c 2 t (ix3 0 0 k) = A2 m c (ix2 b k) := by
  have h := (index_val t).2.2.1
  refine Eq.trans ?_ (host2 m c b k)
  show V m c main_v2 (((cfg0.win 2).blk t).view.emb (ix3 0 0 k)) = V m c main_v2 (ix3 b 0 k)
  refine congrArg (V m c main_v2) ?_
  blk_ext [h]

/-- The scale. -/
theorem blk3 (t : Fin cfg0.N) (b : Fin 2) (hb : t.val = b.val) (k : Fin 1024) :
    iblk m c 3 t (ix3 0 0 k) = A3 m c (ix2 b k) := by
  have h := (index_val t).2.2.2.1
  refine Eq.trans ?_ (host3 m c b k)
  show V m c main_v3 (((cfg0.win 3).blk t).view.emb (ix3 0 0 k)) = V m c main_v3 (ix3 b 0 k)
  refine congrArg (V m c main_v3) ?_
  blk_ext [h]

/-- The weight. -/
theorem blk4 (t : Fin cfg0.N) (k : Fin 1024) (n : Fin 3072) : iblk m c 4 t (ix2 k n) = A4 m c (ix2 k n) := by
  have h := (index_val t).2.2.2.2.1
  refine Eq.trans ?_ (host4 m c k n)
  show V m c main_v0 (((cfg0.win 4).blk t).view.emb (ix2 k n)) = V m c main_v0 (ix2 k n)
  refine congrArg (V m c main_v0) ?_
  blk_ext [h]

/-- What the kernel stores, at one element. -/
theorem pay1_row (x : FVec Ideal S1x256x1024 .f32) (g : FVec Ideal S1x1024 .f32) (s t : FVec Ideal S1x1x1024 .f32)
    (w : FVec Ideal S1024x3072 .bf16) (p : Fin 256) (n : Fin 3072) :
    k0_pay1 (F := Ideal) x g s t w (ix3 0 p n)
      = ∑ k, Moe.hid (fun k => x (ix3 0 p k)) (fun k => g (ix2 0 k)) (fun k => s (ix3 0 0 k)) (fun k => t (ix3 0 0 k)) k
          * w (ix2 k n) := by
  unfold k0_pay1
  pointwise
  rfl

/-- What a grid point stores at row `p` of its block is the projection of row `r` of the array. -/
theorem stored (t : Fin cfg0.N) (b : Fin 2) (hb : t.val = b.val) (p : Fin 256) (r : Fin 256)
    (hr : r.val = p.val) (n : Fin 3072) :
    k0_pay1 (F := Ideal) (iblk m c 0 t) (iblk m c 1 t) (iblk m c 3 t) (iblk m c 2 t) (iblk m c 4 t) (ix3 0 p n)
      = proj m c (ix3 b r n) := by
  refine (pay1_row _ _ _ _ _ p n).trans ?_
  show _ = ∑ k, Moe.hid (fun k => A0 m c (ix3 b r k)) (fun k => A1 m c (ix1 k)) (fun k => A3 m c (ix2 b k))
    (fun k => A2 m c (ix2 b k)) k * A4 m c (ix2 k n)
  refine Finset.sum_congr rfl fun k _ => congrArg₂ (fun y z => y * z) ?_ (blk4 m c t k n)
  congr 1 <;> funext k
  · exact blk0 m c t b hb p r hr k
  · exact blk1 m c t k
  · exact blk3 m c t b hb k
  · exact blk2 m c t b hb k

/-- The kernel's array after the run. -/
theorem final : (dats m 0 c).arrAt 5 cfg0.N = proj m c := by
  refine (dats m 0 c).arrAt_eq_of_covers 5 _ (by decide +kernel) fun t hf y => ?_
  blk_simp
  rw [after0_5]
  frame_out
  have h5 := (index_val t).2.2.2.2.2
  have ht : t.val < 2 := t.isLt
  have e : (win0_5.blk t).view.emb y = ix3 (⟨t.val, by omega⟩ : Fin 2)
      (⟨(y 1).val, by idx_bounds y; omega⟩ : Fin 256) (y 2) := by blk_ext [h5]
  rw [e]
  exact (congrArg _ (show y = ix3 0 (y 1) (y 2) by blk_ext)).trans (stored m c t _ rfl (y 1) _ rfl (y 2))

end Cert.Kernel11Ideal.Proj

namespace Cert.Reference11Ideal.Proj

open Cert.Reference11Ideal Cert.Reference11Ideal.Gen Cert.Reference11Ideal.Read Idealize.ShloMosaic.TcCoe
open Idealize.ShloMosaic

/-! ## The reference -/

variable (x0 : (⟨S2x256x1024, .f32⟩ : BufTy).Contents (Elt Ideal)) (x1 : (⟨S1024, .f32⟩ : BufTy).Contents (Elt Ideal))
  (x2 x3 : (⟨S2x1024, .f32⟩ : BufTy).Contents (Elt Ideal)) (x4 : (⟨S1024x3072, .f32⟩ : BufTy).Contents (Elt Ideal))
  (b : Fin 2) (r : Fin 256)

/-- The reference's modulated row. -/
theorem v20_row (k : Fin 1024) : val_main_v20 (F := Ideal) x0 x1 x2 x3 (ix3 b r k)
    = Moe.hid (fun k => x0 (ix3 b r k)) (fun k => x1 (ix1 k)) (fun k => x3 (ix2 b k)) (fun k => x2 (ix2 b k)) k := by
  have a1 : idx_main_v2 (idx_main_v8 (ix3 b r k)) = ix2 b r := eq_ix2 _
  have a2 : ∀ i, idx_main_v1 (ix2 b r) i = ix3 b r i := fun i => eq_ix3 _
  have a3 : idx_main_v10 (idx_main_v11 (ix3 b r k)) = ix1 k := eq_ix1 _
  have a4 : idx_main_v14 (idx_main_v17 (ix3 b r k)) = ix2 b k := eq_ix2 _
  have a5 : idx_main_v13 (idx_main_v19 (ix3 b r k)) = ix2 b k := eq_ix2 _
  rw [val_main_v20_apply, val_main_v19_apply, val_main_v18_apply, val_main_v17_apply, val_main_v16_apply, val_main_v15_apply,
    val_main_cst_2_apply, val_main_v14_apply, val_main_v13_apply, val_main_v12_apply, val_main_v11_apply, val_main_v10_apply,
    val_main_v9_apply, val_main_v8_apply, val_main_v7_apply, val_main_v6_apply, val_main_v5_apply, val_main_cst_1_apply,
    val_main_v4_apply, val_main_v3_apply, val_main_cst_0_apply, val_main_v2_apply, val_main_v1_apply, val_main_cst_apply,
    a1, a3, a4, a5]
  simp only [val_main_v0_apply, a2]
  simp only [Moe.hid, Moe.nrm, Moe.width, Moe.eps, Ideal.ofBits_def, Ideal.ofBits_one_f32, Ideal.ofBits_zero_f32, zero_add,
    Ideal.addf_def, Ideal.mulf_def, Ideal.hostUnary_rsqrt_def, Ideal.hostDivf_def]

/-- The reference's result, at one element. -/
theorem v21_row (n : Fin 3072) : val_main_v21 (F := Ideal) x0 x1 x2 x3 x4 (ix3 b r n)
    = ∑ k, Moe.hid (fun k => x0 (ix3 b r k)) (fun k => x1 (ix1 k)) (fun k => x3 (ix2 b k)) (fun k => x2 (ix2 b k)) k
        * x4 (ix2 k n) := by
  rw [val_main_v21_apply]
  refine Finset.sum_congr rfl fun k _ => ?_
  rw [show lidx_main_v21 (ix3 b r n) k = ix3 b r k from eq_ix3 _, show ridx_main_v21 (ix3 b r n) k = ix2 k n from eq_ix2 _, v20_row]

end Cert.Reference11Ideal.Proj

namespace Cert.Proof

open Idealize.ShloMosaic Idealize.SL.Sem

/-- The reference runs, leaves its arguments as they were, and ends with no semaphore raised. -/
theorem quiescent_Reference11Ideal : quiescent_Reference11Ideal := fun m ρ _ =>
  (θ_run Cert.Reference11Ideal.defs _ _).mono (fun r h => ⟨fun c => (h c).2, sem_eq_zero_of_no_sems (by decide) r.2⟩)
    (Cert.Reference11Ideal.Value.run (F := Ideal) m ρ)

/-- The reference's result depends on its arguments alone. -/
theorem proj11_congr {x0 y0 : FVec Ideal Cert.Reference11Ideal.S2x256x1024 .f32}
    {x1 y1 : FVec Ideal Cert.Reference11Ideal.S1024 .f32}
    {x2 y2 x3 y3 : FVec Ideal Cert.Reference11Ideal.S2x1024 .f32}
    {x4 y4 : FVec Ideal Cert.Reference11Ideal.S1024x3072 .f32}
    (h0 : x0 = y0) (h1 : x1 = y1) (h2 : x2 = y2) (h3 : x3 = y3) (h4 : x4 = y4) :
    Cert.Reference11Ideal.Read.val_main_v21 (F := Ideal) x0 x1 x2 x3 x4
      = Cert.Reference11Ideal.Read.val_main_v21 (F := Ideal) y0 y1 y2 y3 y4 := by
  rw [h0, h1, h2, h3, h4]

/-- The idealized kernel and the reference, started on the same arguments, return the same array. -/
theorem algebraic11 : algebraic_Kernel11Ideal_Reference11Ideal := by
  intro m ρ m' ρ' hpre hagree
  refine ⟨_, Cert.Kernel11Ideal.Value.run_blocks (F := Ideal) m ρ, ?_⟩
  refine (θ_run Cert.Reference11Ideal.defs _ _).mono (fun _ h c => ⟨?_, (h c).2⟩) (Cert.Reference11Ideal.Value.run (F := Ideal) m' ρ')
  refine (h c).1.trans ((Cert.Reference11Ideal.Read.val_main_v21_eq _ _ _ _ _).trans ?_)
  refine Eq.trans ?_ (Cert.Kernel11Ideal.Proj.final m c).symm
  obtain ⟨h0, h1, h2, h3, h4⟩ := hagree c
  refine (proj11_congr h0 h1 h2 h3 h4).trans ?_
  funext i
  rw [eq_ix3 i]
  exact Cert.Reference11Ideal.Proj.v21_row _ _ _ _ _ _ _ _

end Cert.Proof

end
-- ==== Proof.RetentionCases.lean ====
module

public import proofs.«01_k».proof.Defs
public import proofs.«01_k».proof.Proof.Gen.Kernel8Ideal.Value
public import Idealize.ShloMosaic.Lib.Pipeline.Value
public import Idealize.ShloMosaic.Lib.Pointwise
public import Idealize.ShloMosaic.Lib.Tactic

@[expose] public section

set_option maxRecDepth 16384

noncomputable section

/-! # What one grid point of the retention kernel leaves behind

The kernel runs in two cases: the first chunk of a direction (which clears the state), and every later one. Each theorem
reads the stores of one case as the values they leave, in the payloads of the printed body. -/

namespace Cert.Kernel8Ideal.Ret

open Cert.Kernel8Ideal Cert.Kernel8Ideal.Gen
open Idealize.ShloMosaic Idealize.ShloMosaic.TcCoe Idealize.SL.Sem

variable {F : FTy → Type} [FloatOps F]

theorem zeros2 : (![0, 0] : Fin 2 → Nat) = fun _ => 0 := funext fun a => by fin_cases a <;> rfl
theorem zeros4 : (![0, 0, 0, 0] : Fin 4 → Nat) = fun _ => 0 := funext fun a => by fin_cases a <;> rfl
theorem zeros5 : (![0, 0, 0, 0, 0] : Fin 5 → Nat) = fun _ => 0 := funext fun a => by fin_cases a <;> rfl

/-- The rate of the point's direction and head, as the body reads it. -/
def rate (i : grid0.Coords) (x0 : Vec F S2x4 .f32) : Elt F .f32 :=
  View.ld x0 (Rect.unit (s := S2x4) (k0_off1 i) S1x1.size (k0_off1_inb i)) (Shape.Idx.first (show 0 < S1x1.numel by decide))

/-- A small coordinate, as a word and back. -/
theorem word_val (n : ℕ) (h : n < 4) : BitVec.toNat (Scalar.indexCast (BitVec.ofNat 32 n)) = n := by
  interval_cases n <;> rfl

/-- It is the rate at the direction and the head. -/
theorem rate_eq (i : grid0.Coords) (x0 : Vec F S2x4 .f32) : rate i x0 = x0 (ix2 (i 2) (i 1)) := by
  have h2 : (i 2).val < 4 := lt_trans (i 2).isLt (by decide)
  have h1 : (i 1).val < 4 := (i 1).isLt
  unfold rate
  show x0 _ = x0 _
  refine congrArg x0 (funext fun a => Fin.ext ?_)
  match a with
  | ⟨0, _⟩ => exact (congrArg (· + 0) (word_val _ h2))
  | ⟨1, _⟩ => exact (congrArg (· + 0) (word_val _ h1))

variable (c : Dev nD) (i : grid0.Coords) (arg4 : Memref sig .tc .smem S2x4 .f32) (harg4 : arg4.IsWhole)
  (arg5 : Memref sig .tc .vmem S1x1x128x128 .f32) (harg5 : arg5.IsWhole)
  (arg6 : Memref sig .tc .vmem S1x1x128x128 .f32) (harg6 : arg6.IsWhole)
  (arg7 : Memref sig .tc .vmem S1x1x128x128 .f32) (harg7 : arg7.IsWhole)
  (arg8 : Memref sig .tc .vmem S1x1x1x128x128 .f32) (harg8 : arg8.IsWhole)
  (arg9 : Memref sig .tc .vmem S128x128 .f32) (harg9 : arg9.IsWhole)
  (x0 : Vec F S2x4 .f32) (x1 x2 x3 : Vec F S1x1x128x128 .f32) (xs0 : Vec F S128x128 .f32)

/-- The state after the first chunk. -/
theorem sout0_A_0_eq (hc0 : cond0_0 i) :
    sout0_A_0 c i arg4 harg4 arg5 harg5 arg6 harg6 arg7 harg7 arg8 harg8 arg9 harg9 hc0 x0 x1 x2 x3
      = k0_pay4 (k0_pay9 i (rate i x0)) (k0_pay10 (rate i x0)) x2 x3 (k0_pay5 (F := F)) := by
  unfold sout0_A_0
  rw [View.read_writes_eq_canon _ _ _ (scover0_A_0 c i arg4 harg4 arg5 harg5 arg6 harg6 arg7 harg7 arg8 harg8 arg9 harg9 hc0 x0 x1 x2 x3)]
  unfold kernelRun0_A
  dsimp only
  sl_unfold_words
  rw [View.canon_cons_unit_zero (S := S128x128) zeros2]
  simp only [View.readCov_unit_zero (S := S128x128) _ zeros2, View.readAt_eq_ld, harg4.read_unread, harg5.read_unread, harg6.read_unread, harg7.read_unread, harg8.read_unread, harg9.read_unread,
    View.ld_unit_zero (S := S128x128) zeros2, View.ld_unit_zero (S := S1x1x128x128) zeros4]
  rfl

/-- The results of the first chunk. -/
theorem out0_A_4_eq (hc0 : cond0_0 i) :
    out0_A_4 c i arg4 harg4 arg5 harg5 arg6 harg6 arg7 harg7 arg8 harg8 arg9 harg9 hc0 x0 x1 x2 x3
      = k0_pay3 (k0_pay6 i (rate i x0)) (k0_pay8 i (rate i x0)) x1 x2 x3 (k0_pay5 (F := F)) := by
  unfold out0_A_4
  rw [View.read_writes_eq_canon _ _ _ (cover0_A_4 c i arg4 harg4 arg5 harg5 arg6 harg6 arg7 harg7 arg8 harg8 arg9 harg9 hc0 x0 x1 x2 x3)]
  unfold kernelRun0_A
  dsimp only
  sl_unfold_words
  rw [View.canon_cons_unit_zero (S := S1x1x1x128x128) zeros5]
  simp only [View.readCov_unit_zero (S := S128x128) _ zeros2, View.readAt_eq_ld, harg4.read_unread, harg5.read_unread, harg6.read_unread, harg7.read_unread, harg8.read_unread, harg9.read_unread,
    View.ld_unit_zero (S := S128x128) zeros2, View.ld_unit_zero (S := S1x1x128x128) zeros4]
  rfl

/-- The state after a later chunk. -/
theorem sout0_B_0_eq (hc0 : ¬cond0_0 i) :
    sout0_B_0 c i arg4 harg4 arg5 harg5 arg6 harg6 arg7 harg7 arg8 harg8 arg9 harg9 hc0 x0 x1 x2 x3 xs0
      = k0_pay4 (k0_pay9 i (rate i x0)) (k0_pay10 (rate i x0)) x2 x3 xs0 := by
  unfold sout0_B_0
  rw [View.read_writes_eq_canon _ _ _ (scover0_B_0 c i arg4 harg4 arg5 harg5 arg6 harg6 arg7 harg7 arg8 harg8 arg9 harg9 hc0 x0 x1 x2 x3 xs0)]
  unfold kernelRun0_B
  dsimp only
  sl_unfold_words
  rw [View.canon_cons_unit_zero (S := S128x128) zeros2]
  simp only [View.readCov_unit_zero (S := S128x128) _ zeros2, View.readAt_eq_ld, harg4.read_unread, harg5.read_unread, harg6.read_unread, harg7.read_unread, harg8.read_unread, harg9.read_unread,
    View.ld_unit_zero (S := S128x128) zeros2, View.ld_unit_zero (S := S1x1x128x128) zeros4]
  rfl

/-- The results of a later chunk. -/
theorem out0_B_4_eq (hc0 : ¬cond0_0 i) :
    out0_B_4 c i arg4 harg4 arg5 harg5 arg6 harg6 arg7 harg7 arg8 harg8 arg9 harg9 hc0 x0 x1 x2 x3 xs0
      = k0_pay3 (k0_pay6 i (rate i x0)) (k0_pay8 i (rate i x0)) x1 x2 x3 xs0 := by
  unfold out0_B_4
  rw [View.read_writes_eq_canon _ _ _ (cover0_B_4 c i arg4 harg4 arg5 harg5 arg6 harg6 arg7 harg7 arg8 harg8 arg9 harg9 hc0 x0 x1 x2 x3 xs0)]
  unfold kernelRun0_B
  dsimp only
  sl_unfold_words
  rw [View.canon_cons_unit_zero (S := S1x1x1x128x128) zeros5]
  simp only [View.readCov_unit_zero (S := S128x128) _ zeros2, View.readAt_eq_ld, harg4.read_unread, harg5.read_unread, harg6.read_unread, harg7.read_unread, harg8.read_unread, harg9.read_unread,
    View.ld_unit_zero (S := S128x128) zeros2, View.ld_unit_zero (S := S1x1x128x128) zeros4]
  rfl

end Cert.Kernel8Ideal.Ret

end
-- ==== Proof.RetentionSpec.lean ====
module

public import proofs.«01_k».proof.Defs
public import Idealize.ShloMosaic.Lib.Pointwise

@[expose] public section

noncomputable section

/-! # Retention in the order of its scan

A direction walks 66 chunks of 128 rows. The forward direction takes them in the array's order; the backward direction takes
the two context chunks backwards, then the 64 latent chunks backwards, and turns the rows of each chunk around. A step of the
scan reads its chunk against itself with a decay, and against the state that the earlier chunks left. -/

namespace Retain

open Idealize.ShloMosaic

/-- The array's row of a chunk at a position of the scan, and the position at a row. -/
def turn (d : Fin 2) (n : Fin 128) : Fin 128 := if d = 0 then n else n.rev

theorem turn_turn (d : Fin 2) (n : Fin 128) : turn d (turn d n) = n := by
  unfold turn
  split <;> simp

/-- The turn as a permutation. -/
def turnEquiv (d : Fin 2) : Equiv.Perm (Fin 128) := ⟨turn d, turn d, turn_turn d, turn_turn d⟩

/-- A sum over the rows is the sum over the positions. -/
theorem sum_turn (d : Fin 2) (f : Fin 128 → EReal) : ∑ p, f p = ∑ n, f (turn d n) :=
  (Equiv.sum_comp (turnEquiv d) f).symm

/-- The array's chunk at a step of the scan, and the step at a chunk. -/
def chunk (d : Fin 2) (t : ℕ) : ℕ := if d = 0 then t else if t < 2 then 1 - t else 67 - t

theorem chunk_lt (d : Fin 2) (t : ℕ) (h : t < 66) : chunk d t < 66 := by
  unfold chunk
  split
  · exact h
  · split <;> omega

theorem chunk_chunk (d : Fin 2) (t : ℕ) (h : t < 66) : chunk d (chunk d t) = t := by
  unfold chunk
  split
  · rfl
  · split
    · split <;> omega
    · split <;> omega

/-- The array's row at a step and a position of the scan. -/
def row (d : Fin 2) (t : ℕ) (n : Fin 128) : Fin 8448 := Fin.ofNat 8448 (chunk d t * 128 + (turn d n).val)

theorem row_val (d : Fin 2) (t : ℕ) (h : t < 66) (n : Fin 128) : (row d t n).val = chunk d t * 128 + (turn d n).val := by
  have hc := chunk_lt d t h
  have hn := (turn d n).isLt
  exact Nat.mod_eq_of_lt (by omega)

/-- The array's row at a step and at the position of a chunk's row. -/
theorem row_turn_val (d : Fin 2) (t : ℕ) (h : t < 66) (p : Fin 128) : (row d t (turn d p)).val = chunk d t * 128 + p.val := by
  rw [row_val d t h, turn_turn]

/-- The distance of two positions. -/
def gap (n m : Fin 128) : ℤ := (n.val : ℤ) - m.val

/-- The decay between two positions of a chunk; the backward direction leaves a row's own value out. -/
def decay (g : EReal) (d : Fin 2) (n m : Fin 128) : EReal :=
  if (d.val : ℤ) ≤ gap n m then Ideal.exp (g * (((max (gap n m) 0 : ℤ) : ℝ) : EReal)) else 0

/-- The decay of the state at a position. -/
def qDecay (g : EReal) (n : Fin 128) : EReal := Ideal.exp (g * (((n.val : ℤ) : ℝ) + 1))

/-- The decay of a row into the state at the end of its chunk. -/
def kDecay (g : EReal) (n : Fin 128) : EReal := Ideal.exp (g * (Ideal.ofBits .f32 0x42FE0000#32 - ((n.val : ℤ) : ℝ)))

/-- The decay of the state over a chunk. -/
def chunkDecay (g : EReal) : EReal := Ideal.exp (g * Ideal.ofBits .f32 0x43000000#32)

variable (g : EReal) (Q K V : Fin 8448 → Fin 128 → EReal) (d : Fin 2)

/-- The state before a step. -/
def state : ℕ → Fin 128 → Fin 128 → EReal
  | 0 => fun _ _ => 0
  | t + 1 => fun x j => state t x j * chunkDecay g + ∑ n, K (row d t n) x * kDecay g n * V (row d t n) j

/-- The results of a step. -/
def out (t : ℕ) (n j : Fin 128) : EReal :=
  ∑ m, (∑ x, Q (row d t n) x * K (row d t m) x) * decay g d n m * V (row d t m) j
    + ∑ x, Q (row d t n) x * qDecay g n * state g K V d t x j

/-- The results at a row of the array. -/
def result (r : Fin 8448) (j : Fin 128) : EReal :=
  out g Q K V d (chunk d (r.val / 128)) (turn d ⟨r.val % 128, Nat.mod_lt _ (by decide)⟩) j

/-- The results at the row of a step and a position. -/
theorem result_row (t : ℕ) (h : t < 66) (n j : Fin 128) : result g Q K V d (row d t n) j = out g Q K V d t n j := by
  have hn := (turn d n).isLt
  have e1 : (row d t n).val / 128 = chunk d t := by rw [row_val d t h]; omega
  have e2 : (⟨(row d t n).val % 128, Nat.mod_lt _ (by decide)⟩ : Fin 128) = turn d n :=
    Fin.ext (by show (row d t n).val % 128 = _; rw [row_val d t h]; omega)
  unfold result
  rw [e1, e2, turn_turn, chunk_chunk d t h]

end Retain

end
-- ==== Proof.RetentionKernel.lean ====
module

public import proofs.«01_k».proof.Defs
public import proofs.«01_k».proof.Proof.RetentionCases
public import proofs.«01_k».proof.Proof.RetentionSpec
public import Idealize.ShloMosaic.Lib.Pointwise
public import Idealize.ShloMosaic.Lib.Pipeline.ValueKit
public import Idealize.ShloMosaic.Lib.Tactic.ValueTie

@[expose] public section

set_option maxRecDepth 16384

noncomputable section

/-! # The retention kernel's array

A grid point takes one chunk of one head in one direction: the chunks of a direction follow one another, and the state stays
in the scratch between them. -/

namespace Cert.Kernel8Ideal.Ret

open Cert.Kernel8Ideal Cert.Kernel8Ideal.Gen Idealize.ShloMosaic.TcCoe
open Idealize.ShloMosaic

/-! ## The payloads, at one element -/

/-- A small word, as a number. -/
theorem small_toInt (a : Fin 128) : (BitVec.ofNat 32 a.val).toInt = (a.val : ℤ) := by
  have ha := a.isLt
  have e : a.val % 2 ^ 32 = a.val := Nat.mod_eq_of_lt (by omega)
  rw [BitVec.toInt_eq_toNat_cond, BitVec.toNat_ofNat, e, if_pos (by omega)]

/-- The difference of two small words, as a number. -/
theorem sub_toInt (a b : Fin 128) : (BitVec.ofNat 32 a.val - BitVec.ofNat 32 b.val).toInt = Retain.gap a b := by
  have ha := a.isLt
  have hb := b.isLt
  unfold Retain.gap
  rw [BitVec.toInt_sub, small_toInt, small_toInt]
  simp only [Int.bmod_def]
  omega

/-- The larger of a word and zero, as a number. -/
theorem max_toInt (a : BitVec 32) : (IntOp.maxsi a 0#32).toInt = max a.toInt 0 := by
  unfold IntOp.maxsi
  have h0 : (0#32 : BitVec 32).toInt = 0 := by decide
  simp only [BitVec.slt, h0, decide_eq_true_eq]
  split
  · exact (max_eq_left (by omega)).symm
  · rw [h0]; exact (max_eq_right (by omega)).symm

/-- A comparison that selects. -/
theorem select_sge (a b : BitVec 32) (x y : EReal) :
    Scalar.select (IntOp.cmpi .sge a b) x y = if b.toInt ≤ a.toInt then x else y := by
  unfold Scalar.select IntOp.cmpi
  simp only [BitVec.sle]
  by_cases h : b.toInt ≤ a.toInt
  · simp [h]
  · simp [h]

/-- The gap of two turned positions. -/
theorem gap_rev (r c : Fin 128) : Retain.gap r.rev c.rev = Retain.gap c r := by
  have hr := r.isLt
  have hc := c.isLt
  unfold Retain.gap
  rw [Fin.val_rev, Fin.val_rev]
  omega

/-- The gap of two rows in a direction, as the words compute it. -/
theorem gap_word (d : Fin 2) (r c : Fin 128) :
    (Scalar.select (Scalar.cmpi CmpIPredicate.eq (BitVec.ofNat 32 d.val) 0#32)
      (IntOp.subi (BitVec.ofNat 32 r.val) (BitVec.ofNat 32 c.val)) (IntOp.subi (BitVec.ofNat 32 c.val) (BitVec.ofNat 32 r.val))).toInt
      = Retain.gap (Retain.turn d r) (Retain.turn d c) := by
  match d with
  | ⟨0, _⟩ => exact sub_toInt r c
  | ⟨1, _⟩ => exact (sub_toInt c r).trans (gap_rev r c).symm

/-- The least gap of a direction, as the words compute it. -/
theorem low_word (d : Fin 2) :
    (Scalar.select (Scalar.cmpi CmpIPredicate.eq (BitVec.ofNat 32 d.val) 0#32) (0#32 : BitVec 32) 1#32).toInt = (d.val : ℤ) := by
  match d with
  | ⟨0, _⟩ => rfl
  | ⟨1, _⟩ => rfl

/-- The decays of a chunk. -/
theorem pay6_row (i : grid0.Coords) (d : Fin 2) (hd : (i 2).val = d.val) (g : EReal) (r c : Fin 128) :
    k0_pay6 (F := Ideal) i g (ix2 r c) = Retain.decay g d (Retain.turn d r) (Retain.turn d c) := by
  unfold k0_pay6
  pointwise
  rw [hd, select_sge, show ∀ b : BitVec 32, FloatOps.sitofp (F := Ideal) FTy.f32 b = ((b.toInt : ℝ) : EReal) from fun _ => rfl,
    max_toInt]
  simp only [gap_word, low_word]
  rfl

/-- The positions of a chunk's rows. -/
theorem pay7_row (i : grid0.Coords) (d : Fin 2) (hd : (i 2).val = d.val) (r : Fin 128) :
    k0_pay7 (F := Ideal) i (ix2 r 0) = ((((Retain.turn d r).val : ℤ) : ℝ) : EReal) := by
  have hr := r.isLt
  unfold k0_pay7
  pointwise
  rw [hd, show ∀ b : BitVec 32, FloatOps.sitofp (F := Ideal) FTy.f32 b = ((b.toInt : ℝ) : EReal) from fun _ => rfl]
  refine congrArg (fun z : ℤ => ((z : ℝ) : EReal)) ?_
  match d with
  | ⟨0, _⟩ => exact small_toInt r
  | ⟨1, _⟩ =>
    show (BitVec.ofNat 32 (127 : Fin 128).val - BitVec.ofNat 32 r.val).toInt = (r.rev.val : ℤ)
    rw [sub_toInt, Fin.val_rev]
    unfold Retain.gap
    show (127 : ℤ) - _ = _
    omega

/-- The decays of the state at a chunk's rows. -/
theorem pay8_row (i : grid0.Coords) (d : Fin 2) (hd : (i 2).val = d.val) (g : EReal) (r : Fin 128) :
    k0_pay8 (F := Ideal) i g (ix2 r 0) = Retain.qDecay g (Retain.turn d r) := by
  have e := pay7_row i d hd r
  unfold k0_pay8
  generalize k0_pay7 (F := Ideal) i = y at e
  pointwise
  rw [e]
  rfl

/-- The decays of a chunk's rows into the state. -/
theorem pay9_row (i : grid0.Coords) (d : Fin 2) (hd : (i 2).val = d.val) (g : EReal) (r : Fin 128) :
    k0_pay9 (F := Ideal) i g (ix2 r 0) = Retain.kDecay g (Retain.turn d r) := by
  have e := pay7_row i d hd r
  unfold k0_pay9
  generalize k0_pay7 (F := Ideal) i = y at e
  pointwise
  rw [e]
  rfl

/-- The decay of the state over a chunk. -/
theorem pay10_row (g : EReal) : k0_pay10 (F := Ideal) g (ix2 0 0) = Retain.chunkDecay g := by
  unfold k0_pay10
  pointwise
  rfl

/-- The cleared state. -/
theorem pay5_row (a b : Fin 128) : k0_pay5 (F := Ideal) (ix2 a b) = 0 := by
  unfold k0_pay5
  pointwise

/-- The results of a chunk. -/
theorem pay3_row (D : FVec Ideal S128x128 .f32) (w : FVec Ideal S128x1 .f32) (q k v : Vec Ideal S1x1x128x128 .f32)
    (s : Vec Ideal S128x128 .f32) (r n : Fin 128) : k0_pay3 (F := Ideal) D w q k v s (ix5 0 0 0 r n)
      = ∑ p, (∑ x, q (ix4 0 0 r x) * k (ix4 0 0 p x)) * D (ix2 r p) * v (ix4 0 0 p n)
        + ∑ x, q (ix4 0 0 r x) * w (ix2 r 0) * s (ix2 x n) := by
  unfold k0_pay3 k0_pay1 k0_pay2
  pointwise

/-- The state after a chunk. -/
theorem pay4_row (w : FVec Ideal S128x1 .f32) (u : FVec Ideal S1x1 .f32) (k v : Vec Ideal S1x1x128x128 .f32)
    (s : Vec Ideal S128x128 .f32) (x n : Fin 128) : k0_pay4 (F := Ideal) w u k v s (ix2 x n)
      = s (ix2 x n) * u (ix2 0 0) + ∑ p, k (ix4 0 0 p x) * w (ix2 p 0) * v (ix4 0 0 p n) := by
  unfold k0_pay4 k0_pay1 k0_pay2
  pointwise

/-! ## The blocks of a grid point -/

variable (m : (ℓ : Loc nD τ sig) → Buf (Elt Ideal) ℓ) (c : Dev nD)

/-- The queries. -/
abbrev A0 : S2x4x8448x128.Idx → EReal := m ((c : Thread nD τ).loc main_arg0)
/-- The keys. -/
abbrev A1 : S2x4x8448x128.Idx → EReal := m ((c : Thread nD τ).loc main_arg1)
/-- The values. -/
abbrev A2 : S2x4x8448x128.Idx → EReal := m ((c : Thread nD τ).loc main_arg2)
/-- The rates. -/
abbrev A3 : S2x4.Idx → EReal := m ((c : Thread nD τ).loc main_arg3)

/-- The chunk of a grid point, as the index maps compute it. -/
theorem index_val : ∀ t : Fin cfg0.N, win0_1.index t = ![t.val / 528, t.val / 132 % 4, Retain.chunk ⟨t.val / 66 % 2, Nat.mod_lt _ (by decide)⟩ (t.val % 66), 0]
    ∧ win0_2.index t = win0_1.index t ∧ win0_3.index t = win0_1.index t
    ∧ win0_4.index t = ![t.val / 66 % 2, t.val / 528, t.val / 132 % 4, Retain.chunk ⟨t.val / 66 % 2, Nat.mod_lt _ (by decide)⟩ (t.val % 66), 0]
    ∧ win0_0.index t = ![0, 0]
    ∧ (grid0.coords t 2).val = t.val / 66 % 2 ∧ (grid0.coords t 1).val = t.val / 132 % 4 := by
  decide +kernel

/-- The rates at every grid point. -/
theorem blk0 (t : Fin cfg0.N) (d : Fin 2) (h : Fin 4) : iblk m c 0 t (ix2 d h) = A3 m c (ix2 d h) := by
  have hi := (index_val t).2.2.2.2.1
  show V m c main_arg3 (((cfg0.win 0).blk t).view.emb (ix2 d h)) = _
  rw [V_main_arg3]
  refine congrArg (A3 m c) ?_
  blk_ext [hi]

section

variable (t : Fin cfg0.N) (b : Fin 2) (hb : t.val / 528 = b.val) (h : Fin 4) (hh : t.val / 132 % 4 = h.val)
  (d : Fin 2) (hd : t.val / 66 % 2 = d.val) (p : Fin 128) (x : Fin 128)

include hd in
/-- The direction of a grid point. -/
theorem dir_eq : (⟨t.val / 66 % 2, Nat.mod_lt _ (by decide)⟩ : Fin 2) = d := Fin.ext hd

include hb hh hd in
/-- The queries of a grid point. -/
theorem blk1 : iblk m c 1 t (ix4 0 0 p x) = A0 m c (ix4 b h (Retain.row d (t.val % 66) (Retain.turn d p)) x) := by
  have hi := (index_val t).1
  rw [dir_eq t d hd] at hi
  have hr := Retain.row_turn_val d (t.val % 66) (Nat.mod_lt _ (by decide)) p
  show V m c main_arg0 (((cfg0.win 1).blk t).view.emb (ix4 0 0 p x)) = _
  rw [V_main_arg0]
  refine congrArg (A0 m c) ?_
  blk_ext [hi]

include hb hh hd in
/-- The keys of a grid point. -/
theorem blk2 : iblk m c 2 t (ix4 0 0 p x) = A1 m c (ix4 b h (Retain.row d (t.val % 66) (Retain.turn d p)) x) := by
  have hi := (index_val t).2.1.trans (index_val t).1
  rw [dir_eq t d hd] at hi
  have hr := Retain.row_turn_val d (t.val % 66) (Nat.mod_lt _ (by decide)) p
  show V m c main_arg1 (((cfg0.win 2).blk t).view.emb (ix4 0 0 p x)) = _
  rw [V_main_arg1]
  refine congrArg (A1 m c) ?_
  blk_ext [hi]

include hb hh hd in
/-- The values of a grid point. -/
theorem blk3 : iblk m c 3 t (ix4 0 0 p x) = A2 m c (ix4 b h (Retain.row d (t.val % 66) (Retain.turn d p)) x) := by
  have hi := (index_val t).2.2.1.trans (index_val t).1
  rw [dir_eq t d hd] at hi
  have hr := Retain.row_turn_val d (t.val % 66) (Nat.mod_lt _ (by decide)) p
  show V m c main_arg2 (((cfg0.win 3).blk t).view.emb (ix4 0 0 p x)) = _
  rw [V_main_arg2]
  refine congrArg (A2 m c) ?_
  blk_ext [hi]

end

/-! ## The state and the results, chunk by chunk -/

/-- The rate of a direction and a head. -/
def g (d : Fin 2) (h : Fin 4) : EReal := A3 m c (ix2 d h)
/-- The queries of a head. -/
def Q (b : Fin 2) (h : Fin 4) (r : Fin 8448) (x : Fin 128) : EReal := A0 m c (ix4 b h r x)
/-- The keys of a head. -/
def K (b : Fin 2) (h : Fin 4) (r : Fin 8448) (x : Fin 128) : EReal := A1 m c (ix4 b h r x)
/-- The values of a head. -/
def W (b : Fin 2) (h : Fin 4) (r : Fin 8448) (x : Fin 128) : EReal := A2 m c (ix4 b h r x)

/-- The retention of every row in both directions. -/
def ret : S2x2x4x8448x128.Idx → EReal := fun i =>
  Retain.result (g m c (i 0) (i 2)) (Q m c (i 1) (i 2)) (K m c (i 1) (i 2)) (W m c (i 1) (i 2)) (i 0) (i 3) (i 4)

section

variable (t : Fin cfg0.N) (b : Fin 2) (hb : t.val / 528 = b.val) (h : Fin 4) (hh : t.val / 132 % 4 = h.val)
  (d : Fin 2) (hd : t.val / 66 % 2 = d.val)

include hh hd in
/-- The rate that a grid point reads. -/
theorem rate_point : rate (grid0.coords t) (iblk m c 0 t) = g m c d h := by
  have hi := (index_val t).2.2.2.2.2
  rw [rate_eq]
  refine Eq.trans ?_ (blk0 m c t d h)
  refine congrArg (iblk m c 0 t) ?_
  refine congrArg₂ (fun a e => ix2 a e) (Fin.ext ?_) (Fin.ext ?_)
  · exact hi.1.trans hd
  · exact hi.2.trans hh

include hb hh hd in
/-- A chunk carries the state on by one step. -/
theorem carried (s : Vec Ideal S128x128 .f32)
    (hs : ∀ x j, s (ix2 x j) = Retain.state (g m c d h) (K m c b h) (W m c b h) d (t.val % 66) x j) (x j : Fin 128) :
    k0_pay4 (F := Ideal) (k0_pay9 (grid0.coords t) (rate (grid0.coords t) (iblk m c 0 t))) (k0_pay10 (rate (grid0.coords t) (iblk m c 0 t)))
      (iblk m c 2 t) (iblk m c 3 t) s (ix2 x j)
      = Retain.state (g m c d h) (K m c b h) (W m c b h) d (t.val % 66 + 1) x j := by
  have h2 : (grid0.coords t 2).val = d.val := (index_val t).2.2.2.2.2.1.trans hd
  rw [pay4_row, rate_point m c t h hh d hd, pay10_row, hs, Retain.sum_turn d]
  refine congrArg (fun z => _ + z) (Finset.sum_congr rfl fun n _ => ?_)
  rw [blk2 m c t b hb h hh d hd, blk3 m c t b hb h hh d hd, pay9_row _ d h2, Retain.turn_turn]
  rfl

include hb hh hd in
/-- A chunk's results are those of its step. -/
theorem made (s : Vec Ideal S128x128 .f32)
    (hs : ∀ x j, s (ix2 x j) = Retain.state (g m c d h) (K m c b h) (W m c b h) d (t.val % 66) x j) (p j : Fin 128) :
    k0_pay3 (F := Ideal) (k0_pay6 (grid0.coords t) (rate (grid0.coords t) (iblk m c 0 t))) (k0_pay8 (grid0.coords t) (rate (grid0.coords t) (iblk m c 0 t)))
      (iblk m c 1 t) (iblk m c 2 t) (iblk m c 3 t) s (ix5 0 0 0 p j)
      = Retain.out (g m c d h) (Q m c b h) (K m c b h) (W m c b h) d (t.val % 66) (Retain.turn d p) j := by
  have h2 : (grid0.coords t 2).val = d.val := (index_val t).2.2.2.2.2.1.trans hd
  rw [pay3_row, rate_point m c t h hh d hd, pay8_row _ d h2, Retain.sum_turn d]
  unfold Retain.out
  refine congrArg₂ (fun y z => y + z) (Finset.sum_congr rfl fun n _ => ?_) (Finset.sum_congr rfl fun x _ => ?_)
  · rw [blk3 m c t b hb h hh d hd, pay6_row _ d h2, Retain.turn_turn]
    refine congrArg (fun z => z * _ * _) (Finset.sum_congr rfl fun x _ => ?_)
    rw [blk1 m c t b hb h hh d hd, blk2 m c t b hb h hh d hd, Retain.turn_turn]
    rfl
  · rw [blk1 m c t b hb h hh d hd, hs]
    rfl

end

/-- The state that the point before left is the state before the point's step. -/
theorem state_before : ∀ (n : ℕ) (hn : n < cfg0.N) (b : Fin 2) (_ : n / 528 = b.val) (h : Fin 4) (_ : n / 132 % 4 = h.val)
    (d : Fin 2) (_ : n / 66 % 2 = d.val) (x j : Fin 128),
    (outsAt0 m c n hn).2 (ix2 x j) = Retain.state (g m c d h) (K m c b h) (W m c b h) d (n % 66 + 1) x j := by
  intro n
  induction n with
  | zero =>
    intro hn b hb h hh d hd x j
    have e := congrArg Prod.snd (outsAt0_A m c ⟨0, hn⟩ (Nat.zero_mod 66))
    refine (congrFun e _).trans ?_
    dsimp only
    rw [sout0_A_0_eq]
    exact carried m c ⟨0, hn⟩ b hb h hh d hd _ (fun x j => pay5_row x j) x j
  | succ n ih =>
    intro hn b hb h hh d hd x j
    by_cases h0 : (n + 1) % 66 = 0
    · have e := congrArg Prod.snd (outsAt0_A m c ⟨n + 1, hn⟩ h0)
      refine (congrFun e _).trans ?_
      dsimp only
      rw [sout0_A_0_eq]
      refine carried m c ⟨n + 1, hn⟩ b hb h hh d hd _ (fun x j => (pay5_row x j).trans ?_) x j
      show _ = Retain.state _ _ _ _ ((n + 1) % 66) x j
      rw [h0]
      rfl
    · have e := congrArg Prod.snd (outsAt0_B m c ⟨n + 1, hn⟩ h0)
      refine (congrFun e _).trans ?_
      dsimp only
      rw [sout0_B_0_eq]
      refine carried m c ⟨n + 1, hn⟩ b hb h hh d hd _ (fun x j => ?_) x j
      refine (ih (by omega) b (by omega) h (by omega) d (by omega) x j).trans ?_
      show Retain.state _ _ _ _ (n % 66 + 1) x j = Retain.state _ _ _ _ ((n + 1) % 66) x j
      rw [show n % 66 + 1 = (n + 1) % 66 by omega]

/-- What a grid point stores at row `p` of its block. -/
theorem stored (t : Fin cfg0.N) (b : Fin 2) (hb : t.val / 528 = b.val) (h : Fin 4) (hh : t.val / 132 % 4 = h.val)
    (d : Fin 2) (hd : t.val / 66 % 2 = d.val) (p j : Fin 128) :
    (outsAt0 m c t.val t.isLt).1 (ix5 0 0 0 p j)
      = ret m c (ix5 d b h (Retain.row d (t.val % 66) (Retain.turn d p)) j) := by
  have hr : ret m c (ix5 d b h (Retain.row d (t.val % 66) (Retain.turn d p)) j)
      = Retain.out (g m c d h) (Q m c b h) (K m c b h) (W m c b h) d (t.val % 66) (Retain.turn d p) j :=
    Retain.result_row _ _ _ _ d _ (Nat.mod_lt _ (by decide)) _ j
  rw [hr]
  by_cases h0 : t.val % 66 = 0
  · have e := congrArg Prod.fst (outsAt0_A m c t h0)
    refine (congrFun e _).trans ?_
    dsimp only
    rw [out0_A_4_eq]
    refine made m c t b hb h hh d hd _ (fun x j => (pay5_row x j).trans ?_) p j
    rw [h0]
    rfl
  · have e := congrArg Prod.fst (outsAt0_B m c t h0)
    refine (congrFun e _).trans ?_
    dsimp only
    rw [out0_B_4_eq]
    refine made m c t b hb h hh d hd _ (fun x j => ?_) p j
    refine (state_before m c (t.val - 1) _ b (by omega) h (by omega) d (by omega) x j).trans ?_
    rw [show (t.val - 1) % 66 + 1 = t.val % 66 by omega]

/-- The kernel's array after the run. -/
theorem final : (dats m 0 c).arrAt 4 cfg0.N = ret m c := by
  refine (dats m 0 c).arrAt_eq_of_covers 4 _ (by decide +kernel) fun t hf y => ?_
  blk_simp
  rw [after0_4]
  have h4 := (index_val t).2.2.2.1
  have ht : t.val < 1056 := t.isLt
  have hd : t.val / 66 % 2 = (⟨t.val / 66 % 2, Nat.mod_lt _ (by decide)⟩ : Fin 2).val := rfl
  generalize (⟨t.val / 66 % 2, Nat.mod_lt _ (by decide)⟩ : Fin 2) = d at h4 hd
  have hr := Retain.row_turn_val d (t.val % 66) (Nat.mod_lt _ (by decide)) (y 3)
  have e : (win0_4.blk t).view.emb y = ix5 d (⟨t.val / 528, by omega⟩ : Fin 2) (⟨t.val / 132 % 4, by omega⟩ : Fin 4)
      (Retain.row d (t.val % 66) (Retain.turn d (y 3))) (y 4) := by blk_ext [h4]
  rw [e]
  exact (congrArg _ (show y = ix5 0 0 0 (y 3) (y 4) by blk_ext)).trans (stored m c t _ rfl _ rfl d hd (y 3) (y 4))

end Cert.Kernel8Ideal.Ret

end
-- ==== Proof.RetentionRun.lean ====
module

public import proofs.«01_k».proof.Defs
public import proofs.«01_k».proof.Proof.Gen.Reference8Ideal.Run
public import proofs.«01_k».proof.Proof.Gen.Reference8Ideal.Step

@[expose] public section

set_option maxRecDepth 16384

noncomputable section

/-! # The scan of the retention's reference, trip by trip

The reference's loop carries the state and the results made so far. A valuation of the loop's buffers carries a trip's state
when every buffer holds its field; a trip takes it to one that carries the next. -/

namespace Cert.Reference8Ideal.Scan

open Idealize.ShloMosaic Idealize.ShloMosaic.TcCoe Idealize.SL.Sem Idealize.ShloMosaic.StableHlo
open Cert.Reference8Ideal Cert.Reference8Ideal.Gen Cert.Reference8Ideal.Value
open Cert.Reference8Ideal.Step (State step init)

variable {F : FTy → Type} [FloatOps F]

/-- The state that a valuation of the loop's buffers holds. -/
def held (V : Valuation τ sig (Elt F)) : State F where
  main_v78_8 := V (Proc.devRef .tc main_v78_8)
  main_v78_9 := V (Proc.devRef .tc main_v78_9)
  main_v78_0 := V (Proc.devRef .tc main_v78_0)
  main_v78_1 := V (Proc.devRef .tc main_v78_1)
  main_v78_2 := V (Proc.devRef .tc main_v78_2)
  main_v78_3 := V (Proc.devRef .tc main_v78_3)
  main_v78_4 := V (Proc.devRef .tc main_v78_4)
  main_v78_5 := V (Proc.devRef .tc main_v78_5)
  main_v78_6 := V (Proc.devRef .tc main_v78_6)

/-- The trip's number, in the loop's counter. -/
def Counts (V : Valuation τ sig (Elt F)) (j : ℕ) : Prop :=
  V (Proc.devRef .tc main_v78_7) = constantI S_ 32 (BitVec.ofNat 32 j)

variable {V : Valuation τ sig (Elt F)} {j : ℕ}

theorem chunk0 (h : Counts V j) : res_main_while0b_v93 V = Step.b6 j (held V) := by
  unfold res_main_while0b_v93
  rw [show V (Proc.devRef .tc main_v78_7) = _ from h]
  rfl

theorem chunk1 (h : Counts V j) : res_main_while0b_v94 V = Step.b13 j (held V) := by
  unfold res_main_while0b_v94
  rw [show V (Proc.devRef .tc main_v78_7) = _ from h]
  rfl

theorem chunk2 (h : Counts V j) : res_main_while0b_v95 V = Step.b20 j (held V) := by
  unfold res_main_while0b_v95
  rw [show V (Proc.devRef .tc main_v78_7) = _ from h]
  rfl

theorem step_state (h : Counts V j) : step_main_v78_8 V = Step.b34 j (held V) := by
  unfold step_main_v78_8
  rw [chunk1 h, chunk2 h]
  rfl

theorem step_results (h : Counts V j) : step_main_v78_9 V = Step.b41 j (held V) := by
  unfold step_main_v78_9
  rw [chunk0 h, chunk1 h, chunk2 h, show V (Proc.devRef .tc main_v78_7) = _ from h]
  rfl

theorem step_counts (h : Counts V j) : Counts (STEP V) (j + 1) := by
  refine (STEP_main_v78_7 V).trans ?_
  unfold step_main_v78_7
  rw [show V (Proc.devRef .tc main_v78_7) = _ from h]
  funext i
  show BitVec.ofNat 32 j + 1#32 = BitVec.ofNat 32 (j + 1)
  simp only [BitVec.ofNat_add]

/-- A trip takes the state that a valuation holds to the next. -/
theorem held_step (h : Counts V j) : held (STEP V) = step j (held V) := by
  unfold held Step.step
  rw [State.mk.injEq]
  exact ⟨(STEP_main_v78_8 V).trans (step_state h), (STEP_main_v78_9 V).trans (step_results h), STEP_main_v78_0 V, STEP_main_v78_1 V,
    STEP_main_v78_2 V, STEP_main_v78_3 V, STEP_main_v78_4 V, STEP_main_v78_5 V, STEP_main_v78_6 V⟩

variable (m : (ℓ : Loc nD τ sig) → Buf (Elt F) ℓ) (c : Dev nD)

/-- The state before the first trip, of the arguments. -/
abbrev start : State F :=
  init (m ((c.tc : Thread nD τ).loc main_arg0)) (m ((c.tc : Thread nD τ).loc main_arg1)) (m ((c.tc : Thread nD τ).loc main_arg2))
    (m ((c.tc : Thread nD τ).loc main_arg3))

set_option maxRecDepth 65536 in
set_option maxHeartbeats 1000000 in
/-- Before the loop: the state, which is zero. -/
theorem entry8 : entryContents preI m c (Proc.devRef .tc main_v78_8) = (start m c).main_v78_8 := by
  simp only [entryContents, afterL_cons, afterL_nil]; after_reads_simp
  rfl

set_option maxRecDepth 65536 in
set_option maxHeartbeats 1000000 in
/-- Before the loop: the results, which are zero. -/
theorem entry9 : entryContents preI m c (Proc.devRef .tc main_v78_9) = (start m c).main_v78_9 := by
  simp only [entryContents, afterL_cons, afterL_nil]; after_reads_simp
  rfl

set_option maxRecDepth 65536 in
set_option maxHeartbeats 1000000 in
/-- Before the loop: the chunks of the queries. -/
theorem entry0 : entryContents preI m c (Proc.devRef .tc main_v78_0) = (start m c).main_v78_0 := by
  simp only [entryContents, afterL_cons, afterL_nil]; after_reads_simp
  rfl

set_option maxRecDepth 65536 in
set_option maxHeartbeats 1000000 in
/-- Before the loop: the chunks of the keys. -/
theorem entry1 : entryContents preI m c (Proc.devRef .tc main_v78_1) = (start m c).main_v78_1 := by
  simp only [entryContents, afterL_cons, afterL_nil]; after_reads_simp
  rfl

set_option maxRecDepth 65536 in
set_option maxHeartbeats 1000000 in
/-- Before the loop: the chunks of the values. -/
theorem entry2 : entryContents preI m c (Proc.devRef .tc main_v78_2) = (start m c).main_v78_2 := by
  simp only [entryContents, afterL_cons, afterL_nil]; after_reads_simp
  rfl

set_option maxRecDepth 65536 in
set_option maxHeartbeats 1000000 in
/-- Before the loop: the decays inside a chunk. -/
theorem entry3 : entryContents preI m c (Proc.devRef .tc main_v78_3) = (start m c).main_v78_3 := by
  simp only [entryContents, afterL_cons, afterL_nil]; after_reads_simp
  rfl

set_option maxRecDepth 65536 in
set_option maxHeartbeats 1000000 in
/-- Before the loop: the decays of the state. -/
theorem entry4 : entryContents preI m c (Proc.devRef .tc main_v78_4) = (start m c).main_v78_4 := by
  simp only [entryContents, afterL_cons, afterL_nil]; after_reads_simp
  rfl

set_option maxRecDepth 65536 in
set_option maxHeartbeats 1000000 in
/-- Before the loop: the decay of the state over a chunk. -/
theorem entry5 : entryContents preI m c (Proc.devRef .tc main_v78_5) = (start m c).main_v78_5 := by
  simp only [entryContents, afterL_cons, afterL_nil]; after_reads_simp
  rfl

set_option maxRecDepth 65536 in
set_option maxHeartbeats 1000000 in
/-- Before the loop: the decays of the rows into the state. -/
theorem entry6 : entryContents preI m c (Proc.devRef .tc main_v78_6) = (start m c).main_v78_6 := by
  simp only [entryContents, afterL_cons, afterL_nil]; after_reads_simp
  rfl

/-- The valuation before the loop holds the first state. -/
theorem held_entry : held (entryContents preI m c) = start m c := by
  show _ = State.mk (start m c).main_v78_8 (start m c).main_v78_9 (start m c).main_v78_0 (start m c).main_v78_1
    (start m c).main_v78_2 (start m c).main_v78_3 (start m c).main_v78_4 (start m c).main_v78_5 (start m c).main_v78_6
  unfold held
  rw [State.mk.injEq]
  exact ⟨entry8 m c, entry9 m c, entry0 m c, entry1 m c, entry2 m c, entry3 m c, entry4 m c, entry5 m c, entry6 m c⟩

/-- The states of the scan. -/
def iter (s : State F) : ℕ → State F
  | 0 => s
  | n + 1 => step n (iter s n)

/-- Before every trip the valuation holds the trip's state and counts the trips. -/
theorem held_iter : ∀ k, held (STEP^[k] (entryContents preI m c)) = iter (start m c) k
    ∧ Counts (STEP^[k] (entryContents preI m c)) k
  | 0 => ⟨held_entry m c, ctr_entry m c⟩
  | k + 1 => by
    obtain ⟨e, h⟩ := held_iter k
    rw [Function.iterate_succ_apply']
    exact ⟨(held_step h).trans (congrArg (step k) e), step_counts h⟩

/-- The result, of the last state. -/
theorem out_held (V : Valuation τ sig (Elt F)) : out_main_v92 V = Step.R_main_v92 (held V) := by
  unfold out_main_v92
  rfl

/-- The reference's run: its result is that of the last state, and its arguments stay. -/
theorem run_scan (ρ : Dev nD → PrngReg) :
    θ_run (defs (F := F)) (onTc (τ := τ) (main (F := F))) ⟨m, fun _ => 0, ρ⟩ fun r => ∀ c : Dev nD,
      r.2.mem ((c.tc : Thread nD τ).loc main_v92) = Step.R_main_v92 (iter (start m c) 66)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨(h c).1.trans ((out_held _).trans (congrArg Step.R_main_v92 (held_iter m c 66).1)), (h c).2⟩) (Value.run m ρ)

end Cert.Reference8Ideal.Scan

end
-- ==== Proof.RetentionInput.lean ====
module

public import proofs.«01_k».proof.Defs
public import proofs.«01_k».proof.Proof.RetentionRun
public import proofs.«01_k».proof.Proof.RetentionSpec
public import Idealize.ShloMosaic.Lib.Pointwise
public import Idealize.ShloMosaic.Lib.ValueIdxRank6
public import Idealize.ShloMosaic.Lib.Tactic.ValueTie

@[expose] public section

set_option maxRecDepth 16384

noncomputable section

/-! # The chunks that the scan of the retention's reference reads

The reference turns the context and the latent rows around for the backward direction, puts the two directions side by side and
cuts the rows into chunks. So a chunk's row is the array's row that the scan visits then. -/

namespace Cert.Reference8Ideal.Scan

open Idealize.ShloMosaic Idealize.ShloMosaic.TcCoe Idealize.SL.Sem Idealize.ShloMosaic.StableHlo
open Cert.Reference8Ideal Cert.Reference8Ideal.Gen Cert.Reference8Ideal.Step

/-- The array's row that the backward direction reads at a row. -/
def back (r : ℕ) : ℕ := if r < 256 then 255 - r else 8703 - r

theorem back_lt {r : ℕ} (h : r < 8448) : back r < 8448 := by
  unfold back
  split <;> omega

/-- The scan's row of the forward direction. -/
theorem row_forward (t : Fin 66) (n : Fin 128) (r : Fin 8448) (hr : r.val = t.val * 128 + n.val) : Retain.row 0 t.val n = r :=
  Fin.ext ((Retain.row_val 0 t.val t.isLt n).trans hr.symm)

/-- The scan's row of the backward direction. -/
theorem row_backward (t : Fin 66) (n : Fin 128) (r : Fin 8448) (hr : r.val = t.val * 128 + n.val) :
    (Retain.row 1 t.val n).val = back r.val := by
  have ht := t.isLt
  have hn := n.isLt
  have e : (Retain.turn 1 n).val = 127 - n.val := by
    show (n.rev).val = _
    rw [Fin.val_rev]
    omega
  rw [Retain.row_val 1 t.val ht n, e]
  unfold back Retain.chunk
  rw [if_neg (by decide)]
  split <;> split <;> omega

variable (x0 x1 x2 : (⟨S2x4x8448x128, .f32⟩ : BufTy).Contents (Elt Ideal)) (x3 : (⟨S2x4, .f32⟩ : BufTy).Contents (Elt Ideal))

/-- The turned queries. -/
theorem query_back (b : Fin 2) (h : Fin 4) (r : Fin 8448) (x : Fin 128) :
    A_main_v51 x0 x1 x2 x3 (ix4 b h r x) = x0 (ix4 b h ⟨back r.val, back_lt r.isLt⟩ x) := by
  unfold A_main_v51 A_main_v48 A_main_v50 A_main_v47 A_main_v49
  pointwise
  by_cases hr : r.val < 256
  · rw [dif_pos hr]
    refine congrArg x0 ?_
    funext a
    refine Fin.ext ?_
    match a with
    | ⟨0, _⟩ => rfl
    | ⟨1, _⟩ => rfl
    | ⟨2, _⟩ =>
      show 256 - (r.val + 1) = back r.val
      unfold back
      rw [if_pos hr]
      omega
    | ⟨3, _⟩ => rfl
  · rw [dif_neg hr]
    refine congrArg x0 ?_
    funext a
    refine Fin.ext ?_
    match a with
    | ⟨0, _⟩ => rfl
    | ⟨1, _⟩ => rfl
    | ⟨2, _⟩ =>
      show 256 + (8192 - (r.val - 256 + 1)) = back r.val
      unfold back
      rw [if_neg hr]
      have := r.isLt
      omega
    | ⟨3, _⟩ => rfl

/-- The queries of the two directions. -/
theorem query_both (d b : Fin 2) (h : Fin 4) (r : Fin 8448) (x : Fin 128) :
    A_main_v54 x0 x1 x2 x3 (ix5 d b h r x)
      = if d.val < 1 then x0 (ix4 b h r x) else A_main_v51 x0 x1 x2 x3 (ix4 b h r x) := by
  unfold A_main_v54 A_main_v52 A_main_v53
  generalize A_main_v51 x0 x1 x2 x3 = y
  pointwise
  by_cases hd : d.val < 1
  · rw [dif_pos hd, if_pos hd]
  · rw [dif_neg hd, if_neg hd]

/-- The queries cut into chunks. -/
theorem query_cut (d b : Fin 2) (h : Fin 4) (t : Fin 66) (n : Fin 128) (x : Fin 128) (r : Fin 8448)
    (hr : r.val = t.val * 128 + n.val) :
    A_main_v55 x0 x1 x2 x3 (ix6 d b h t n x) = A_main_v54 x0 x1 x2 x3 (ix5 d b h r x) := by
  unfold A_main_v55
  generalize A_main_v54 x0 x1 x2 x3 = y
  refine shapeCast_apply _ _ _ _ ?_
  rw [Shape.rowMajor_val_six, Shape.rowMajor_val_five]
  show ((((d.val * 2 + b.val) * 4 + h.val) * 8448 + r.val) * 128 + x.val)
    = (((((d.val * 2 + b.val) * 4 + h.val) * 66 + t.val) * 128 + n.val) * 128 + x.val)
  omega

/-- The queries with the chunks first. -/
theorem query_first (t : Fin 66) (d b : Fin 2) (h : Fin 4) (n x : Fin 128) :
    A_main_v56 x0 x1 x2 x3 (ix6 t d b h n x) = A_main_v55 x0 x1 x2 x3 (ix6 d b h t n x) := by
  unfold A_main_v56
  generalize A_main_v55 x0 x1 x2 x3 = y
  refine transpose_apply _ _ _ _ _ fun a => ?_
  match a with
  | ⟨0, _⟩ => rfl
  | ⟨1, _⟩ => rfl
  | ⟨2, _⟩ => rfl
  | ⟨3, _⟩ => rfl
  | ⟨4, _⟩ => rfl
  | ⟨5, _⟩ => rfl

/-- A chunk's row of the queries is the array's row that the scan visits. -/
theorem query_row (t : Fin 66) (d b : Fin 2) (h : Fin 4) (n x : Fin 128) :
    A_main_v56 x0 x1 x2 x3 (ix6 t d b h n x) = x0 (ix4 b h (Retain.row d t.val n) x) := by
  have hlt : t.val * 128 + n.val < 8448 := by have := t.isLt; have := n.isLt; omega
  rw [query_first, query_cut x0 x1 x2 x3 d b h t n x ⟨t.val * 128 + n.val, hlt⟩ rfl, query_both]
  match d with
  | 0 =>
    rw [if_pos (by decide), row_forward t n ⟨t.val * 128 + n.val, hlt⟩ rfl]
  | 1 =>
    rw [if_neg (by decide), query_back]
    refine congrArg (fun r => x0 (ix4 b h r x)) ?_
    exact Fin.ext (row_backward t n ⟨t.val * 128 + n.val, hlt⟩ rfl).symm

/-- The turned keys. -/
theorem key_back (b : Fin 2) (h : Fin 4) (r : Fin 8448) (x : Fin 128) :
    A_main_v61 x0 x1 x2 x3 (ix4 b h r x) = x1 (ix4 b h ⟨back r.val, back_lt r.isLt⟩ x) := by
  unfold A_main_v61 A_main_v58 A_main_v60 A_main_v57 A_main_v59
  pointwise
  by_cases hr : r.val < 256
  · rw [dif_pos hr]
    refine congrArg x1 ?_
    funext a
    refine Fin.ext ?_
    match a with
    | ⟨0, _⟩ => rfl
    | ⟨1, _⟩ => rfl
    | ⟨2, _⟩ =>
      show 256 - (r.val + 1) = back r.val
      unfold back
      rw [if_pos hr]
      omega
    | ⟨3, _⟩ => rfl
  · rw [dif_neg hr]
    refine congrArg x1 ?_
    funext a
    refine Fin.ext ?_
    match a with
    | ⟨0, _⟩ => rfl
    | ⟨1, _⟩ => rfl
    | ⟨2, _⟩ =>
      show 256 + (8192 - (r.val - 256 + 1)) = back r.val
      unfold back
      rw [if_neg hr]
      have := r.isLt
      omega
    | ⟨3, _⟩ => rfl

/-- The keys of the two directions. -/
theorem key_both (d b : Fin 2) (h : Fin 4) (r : Fin 8448) (x : Fin 128) :
    A_main_v64 x0 x1 x2 x3 (ix5 d b h r x)
      = if d.val < 1 then x1 (ix4 b h r x) else A_main_v61 x0 x1 x2 x3 (ix4 b h r x) := by
  unfold A_main_v64 A_main_v62 A_main_v63
  generalize A_main_v61 x0 x1 x2 x3 = y
  pointwise
  by_cases hd : d.val < 1
  · rw [dif_pos hd, if_pos hd]
  · rw [dif_neg hd, if_neg hd]

/-- The keys cut into chunks. -/
theorem key_cut (d b : Fin 2) (h : Fin 4) (t : Fin 66) (n : Fin 128) (x : Fin 128) (r : Fin 8448)
    (hr : r.val = t.val * 128 + n.val) :
    A_main_v65 x0 x1 x2 x3 (ix6 d b h t n x) = A_main_v64 x0 x1 x2 x3 (ix5 d b h r x) := by
  unfold A_main_v65
  generalize A_main_v64 x0 x1 x2 x3 = y
  refine shapeCast_apply _ _ _ _ ?_
  rw [Shape.rowMajor_val_six, Shape.rowMajor_val_five]
  show ((((d.val * 2 + b.val) * 4 + h.val) * 8448 + r.val) * 128 + x.val)
    = (((((d.val * 2 + b.val) * 4 + h.val) * 66 + t.val) * 128 + n.val) * 128 + x.val)
  omega

/-- The keys with the chunks first. -/
theorem key_first (t : Fin 66) (d b : Fin 2) (h : Fin 4) (n x : Fin 128) :
    A_main_v66 x0 x1 x2 x3 (ix6 t d b h n x) = A_main_v65 x0 x1 x2 x3 (ix6 d b h t n x) := by
  unfold A_main_v66
  generalize A_main_v65 x0 x1 x2 x3 = y
  refine transpose_apply _ _ _ _ _ fun a => ?_
  match a with
  | ⟨0, _⟩ => rfl
  | ⟨1, _⟩ => rfl
  | ⟨2, _⟩ => rfl
  | ⟨3, _⟩ => rfl
  | ⟨4, _⟩ => rfl
  | ⟨5, _⟩ => rfl

/-- A chunk's row of the keys is the array's row that the scan visits. -/
theorem key_row (t : Fin 66) (d b : Fin 2) (h : Fin 4) (n x : Fin 128) :
    A_main_v66 x0 x1 x2 x3 (ix6 t d b h n x) = x1 (ix4 b h (Retain.row d t.val n) x) := by
  have hlt : t.val * 128 + n.val < 8448 := by have := t.isLt; have := n.isLt; omega
  rw [key_first, key_cut x0 x1 x2 x3 d b h t n x ⟨t.val * 128 + n.val, hlt⟩ rfl, key_both]
  match d with
  | 0 =>
    rw [if_pos (by decide), row_forward t n ⟨t.val * 128 + n.val, hlt⟩ rfl]
  | 1 =>
    rw [if_neg (by decide), key_back]
    refine congrArg (fun r => x1 (ix4 b h r x)) ?_
    exact Fin.ext (row_backward t n ⟨t.val * 128 + n.val, hlt⟩ rfl).symm

/-- The turned values. -/
theorem value_back (b : Fin 2) (h : Fin 4) (r : Fin 8448) (x : Fin 128) :
    A_main_v71 x0 x1 x2 x3 (ix4 b h r x) = x2 (ix4 b h ⟨back r.val, back_lt r.isLt⟩ x) := by
  unfold A_main_v71 A_main_v68 A_main_v70 A_main_v67 A_main_v69
  pointwise
  by_cases hr : r.val < 256
  · rw [dif_pos hr]
    refine congrArg x2 ?_
    funext a
    refine Fin.ext ?_
    match a with
    | ⟨0, _⟩ => rfl
    | ⟨1, _⟩ => rfl
    | ⟨2, _⟩ =>
      show 256 - (r.val + 1) = back r.val
      unfold back
      rw [if_pos hr]
      omega
    | ⟨3, _⟩ => rfl
  · rw [dif_neg hr]
    refine congrArg x2 ?_
    funext a
    refine Fin.ext ?_
    match a with
    | ⟨0, _⟩ => rfl
    | ⟨1, _⟩ => rfl
    | ⟨2, _⟩ =>
      show 256 + (8192 - (r.val - 256 + 1)) = back r.val
      unfold back
      rw [if_neg hr]
      have := r.isLt
      omega
    | ⟨3, _⟩ => rfl

/-- The values of the two directions. -/
theorem value_both (d b : Fin 2) (h : Fin 4) (r : Fin 8448) (x : Fin 128) :
    A_main_v74 x0 x1 x2 x3 (ix5 d b h r x)
      = if d.val < 1 then x2 (ix4 b h r x) else A_main_v71 x0 x1 x2 x3 (ix4 b h r x) := by
  unfold A_main_v74 A_main_v72 A_main_v73
  generalize A_main_v71 x0 x1 x2 x3 = y
  pointwise
  by_cases hd : d.val < 1
  · rw [dif_pos hd, if_pos hd]
  · rw [dif_neg hd, if_neg hd]

/-- The values cut into chunks. -/
theorem value_cut (d b : Fin 2) (h : Fin 4) (t : Fin 66) (n : Fin 128) (x : Fin 128) (r : Fin 8448)
    (hr : r.val = t.val * 128 + n.val) :
    A_main_v75 x0 x1 x2 x3 (ix6 d b h t n x) = A_main_v74 x0 x1 x2 x3 (ix5 d b h r x) := by
  unfold A_main_v75
  generalize A_main_v74 x0 x1 x2 x3 = y
  refine shapeCast_apply _ _ _ _ ?_
  rw [Shape.rowMajor_val_six, Shape.rowMajor_val_five]
  show ((((d.val * 2 + b.val) * 4 + h.val) * 8448 + r.val) * 128 + x.val)
    = (((((d.val * 2 + b.val) * 4 + h.val) * 66 + t.val) * 128 + n.val) * 128 + x.val)
  omega

/-- The values with the chunks first. -/
theorem value_first (t : Fin 66) (d b : Fin 2) (h : Fin 4) (n x : Fin 128) :
    A_main_v76 x0 x1 x2 x3 (ix6 t d b h n x) = A_main_v75 x0 x1 x2 x3 (ix6 d b h t n x) := by
  unfold A_main_v76
  generalize A_main_v75 x0 x1 x2 x3 = y
  refine transpose_apply _ _ _ _ _ fun a => ?_
  match a with
  | ⟨0, _⟩ => rfl
  | ⟨1, _⟩ => rfl
  | ⟨2, _⟩ => rfl
  | ⟨3, _⟩ => rfl
  | ⟨4, _⟩ => rfl
  | ⟨5, _⟩ => rfl

/-- A chunk's row of the values is the array's row that the scan visits. -/
theorem value_row (t : Fin 66) (d b : Fin 2) (h : Fin 4) (n x : Fin 128) :
    A_main_v76 x0 x1 x2 x3 (ix6 t d b h n x) = x2 (ix4 b h (Retain.row d t.val n) x) := by
  have hlt : t.val * 128 + n.val < 8448 := by have := t.isLt; have := n.isLt; omega
  rw [value_first, value_cut x0 x1 x2 x3 d b h t n x ⟨t.val * 128 + n.val, hlt⟩ rfl, value_both]
  match d with
  | 0 =>
    rw [if_pos (by decide), row_forward t n ⟨t.val * 128 + n.val, hlt⟩ rfl]
  | 1 =>
    rw [if_neg (by decide), value_back]
    refine congrArg (fun r => x2 (ix4 b h r x)) ?_
    exact Fin.ext (row_backward t n ⟨t.val * 128 + n.val, hlt⟩ rfl).symm

end Cert.Reference8Ideal.Scan

end
-- ==== Proof.RetentionDecay.lean ====
module

public import proofs.«01_k».proof.Defs
public import proofs.«01_k».proof.Proof.RetentionRun
public import proofs.«01_k».proof.Proof.RetentionSpec
public import Idealize.ShloMosaic.Lib.Pointwise
public import Idealize.ShloMosaic.Lib.ValueIdxRank6
public import Idealize.ShloMosaic.Lib.Tactic.ValueTie

@[expose] public section

set_option maxRecDepth 16384

noncomputable section

/-! # The decays of the retention's reference

The reference computes the decays once, before its scan, from the rates. -/

namespace Cert.Reference8Ideal.Scan

open Idealize.ShloMosaic Idealize.ShloMosaic.TcCoe Idealize.SL.Sem Idealize.ShloMosaic.StableHlo
open Cert.Reference8Ideal Cert.Reference8Ideal.Gen Cert.Reference8Ideal.Step

variable (x0 x1 x2 : (⟨S2x4x8448x128, .f32⟩ : BufTy).Contents (Elt Ideal)) (x3 : (⟨S2x4, .f32⟩ : BufTy).Contents (Elt Ideal))

/-- A position, as a number. -/
theorem position (n : Fin 128) : FloatOps.sitofp (F := Ideal) .f32 (BitVec.ofNat 32 n.val) = (((n.val : ℤ) : ℝ) : EReal) := by
  have hn := n.isLt
  have e : n.val % 2 ^ 32 = n.val := Nat.mod_eq_of_lt (by omega)
  show (((BitVec.ofNat 32 n.val).toInt : ℝ) : EReal) = _
  rw [BitVec.toInt_eq_toNat_cond, BitVec.toNat_ofNat, e, if_pos (by omega)]

/-- The difference of two positions is their distance. -/
theorem difference (n m : Fin 128) : K_main_v5 (F := Ideal) (ix2 n m) = ((Retain.gap n m : ℝ) : EReal) := by
  unfold K_main_v5 K_main_v4 K_main_v3 K_main_v2 K_main_v1 K_main_v0
  pointwise
  rw [position, position]
  unfold Retain.gap
  rw [← EReal.coe_sub, Int.cast_sub]

theorem zero_low (n m : Fin 128) : K_main_v6 (F := Ideal) (ix2 n m) = 0 := by
  unfold K_main_v6 K_main_cst
  pointwise

theorem zero_high (n m : Fin 128) : K_main_v8 (F := Ideal) (ix2 n m) = 0 := by
  unfold K_main_v8 K_main_cst_0
  pointwise

/-- Whether a row reads another: the forward direction reads its own row, the backward direction doesn't. -/
theorem reads (d : Fin 2) (n m : Fin 128) :
    K_main_v13 (F := Ideal) (ix4 d 0 n m) = BitVec.ofBool (decide ((d.val : ℤ) ≤ Retain.gap n m)) := by
  unfold K_main_v13 K_main_v12 K_main_v10 K_main_v11 K_main_v7 K_main_v9
  have h5 := difference n m
  have h6 := zero_low n m
  have h8 := zero_high n m
  revert h5 h6 h8
  generalize K_main_v5 (F := Ideal) = y5
  generalize K_main_v6 (F := Ideal) = y6
  generalize K_main_v8 (F := Ideal) = y8
  intro h5 h6 h8
  pointwise
  rw [h5, h6, h8]
  match d with
  | 0 =>
    rw [dif_pos (by decide)]
    refine congrArg BitVec.ofBool (decide_eq_decide.2 ?_)
    rw [EReal.coe_nonneg, Int.cast_nonneg_iff]
    rfl
  | 1 =>
    rw [dif_neg (by decide)]
    refine congrArg BitVec.ofBool (decide_eq_decide.2 ?_)
    rw [EReal.coe_pos, Int.cast_pos]
    rfl

/-- The decays inside a chunk. -/
theorem inside_eq (d : Fin 2) (h : Fin 4) (n m : Fin 128) :
    A_main_v23 x0 x1 x2 x3 (ix5 d 0 h n m) = Retain.decay (x3 (ix2 d h)) d n m := by
  unfold A_main_v23 A_main_v22 A_main_v21 A_main_v20 A_main_v18 A_main_v14 K_main_v19 K_main_v17 K_main_v16 K_main_v15 K_main_cst_1
    K_main_call0_v1 K_main_call0_v2 K_main_call0_v0 K_main_cst_2
  have h5 := difference n m
  have h13 := reads d n m
  revert h5 h13
  generalize K_main_v5 (F := Ideal) = y5
  generalize K_main_v13 (F := Ideal) = y13
  intro h5 h13
  pointwise
  rw [h5, h13]
  unfold Retain.decay
  have e : ((max (Retain.gap n m) 0 : ℤ) : ℝ) = max ((Retain.gap n m : ℤ) : ℝ) 0 := by push_cast; rfl
  by_cases hp : (d.val : ℤ) ≤ Retain.gap n m
  · rw [if_pos hp, decide_eq_true hp, e, EReal.coe_strictMono.monotone.map_max]
    rfl
  · rw [if_neg hp, decide_eq_false hp]
    exact Ideal.ofBits_zero .f32

/-- The decays of the state. -/
theorem state_eq (d : Fin 2) (h : Fin 4) (n : Fin 128) :
    A_main_v32 x0 x1 x2 x3 (ix5 d 0 h n 0) = Retain.qDecay (x3 (ix2 d h)) n := by
  unfold A_main_v32 A_main_v31 A_main_v30 A_main_v28 A_main_v14 K_main_v29 K_main_v27 K_main_v26 K_main_v25 K_main_v24 K_main_v0 K_main_cst_3
  pointwise
  rw [position]
  rfl

/-- The decays of the rows into the state. -/
theorem rows_eq (d : Fin 2) (h : Fin 4) (n : Fin 128) :
    A_main_v41 x0 x1 x2 x3 (ix5 d 0 h n 0) = Retain.kDecay (x3 (ix2 d h)) n := by
  unfold A_main_v41 A_main_v40 A_main_v39 A_main_v37 A_main_v14 K_main_v38 K_main_v36 K_main_v35 K_main_v34 K_main_v33 K_main_v0 K_main_cst_4
  pointwise
  rw [position]
  rfl

/-- The decay of the state over a chunk. -/
theorem chunk_eq (d : Fin 2) (h : Fin 4) : A_main_v45 x0 x1 x2 x3 (ix5 d 0 h 0 0) = Retain.chunkDecay (x3 (ix2 d h)) := by
  unfold A_main_v45 A_main_v44 A_main_v43 A_main_v14 K_main_v42 K_main_cst_5
  pointwise
  rfl

end Cert.Reference8Ideal.Scan

end
-- ==== Proof.RetentionRef.lean ====
module

public import proofs.«01_k».proof.Defs
public import proofs.«01_k».proof.Proof.RetentionRun
public import proofs.«01_k».proof.Proof.RetentionInput
public import proofs.«01_k».proof.Proof.RetentionDecay
public import proofs.«01_k».proof.Proof.RetentionSpec
public import Idealize.ShloMosaic.Lib.Pointwise
public import Idealize.ShloMosaic.Lib.ValueIdxRank6
public import Idealize.ShloMosaic.Lib.Tactic.ValueTie

@[expose] public section

set_option maxRecDepth 16384

noncomputable section

/-! # What the retention's reference returns

A trip reads its chunk of the queries, the keys and the values, and writes its results into its place; the state goes from trip
to trip. After the last trip the chunks are put back into the array's order. -/

namespace Cert.Reference8Ideal.Scan

open Idealize.ShloMosaic Idealize.ShloMosaic.TcCoe Idealize.SL.Sem Idealize.ShloMosaic.StableHlo
open Cert.Reference8Ideal Cert.Reference8Ideal.Gen Cert.Reference8Ideal.Step

/-- A trip's number, as a number. -/
theorem trip_toInt (t : Fin 66) : (BitVec.ofNat 32 t.val).toInt = (t.val : ℤ) := by
  have ht := t.isLt
  have e : t.val % 2 ^ 32 = t.val := Nat.mod_eq_of_lt (by omega)
  rw [BitVec.toInt_eq_toNat_cond, BitVec.toNat_ofNat, e, if_pos (by omega)]

section Places

variable {α : Type} (t : Fin 66) (st : Fin S66x2x2x4x128x128.rank → ℤ) (h0 : st ⟨0, by decide⟩ = t.val)
  (h1 : st ⟨1, by decide⟩ = 0) (h2 : st ⟨2, by decide⟩ = 0) (h3 : st ⟨3, by decide⟩ = 0) (h4 : st ⟨4, by decide⟩ = 0)
  (h5 : st ⟨5, by decide⟩ = 0) (hs : S66x2x2x4x128x128.Slices (fun _ => 0) S1x2x2x4x128x128)

include h0 in
/-- A trip's window begins at the trip. -/
theorem begins : Host.clampedStart S66x2x2x4x128x128 S1x2x2x4x128x128 hs.1 st ⟨0, by decide⟩ = t.val :=
  Host.clampedStart_of_le hs.1 st _ t.val h0 (by
    have ht := t.isLt
    show t.val + 1 ≤ 66
    omega)

include h1 h2 h3 h4 h5 in
/-- A trip's window begins at zero on the other axes. -/
theorem begins_zero (a : Fin S66x2x2x4x128x128.rank) (ha : a.val ≠ 0) : Host.clampedStart S66x2x2x4x128x128 S1x2x2x4x128x128 hs.1 st a = 0 := by
  match a, ha with
  | ⟨0, _⟩, h => exact absurd rfl h
  | ⟨1, _⟩, _ => exact Host.clampedStart_of_le hs.1 st _ 0 h1 (show 0 + 2 ≤ 2 by omega)
  | ⟨2, _⟩, _ => exact Host.clampedStart_of_le hs.1 st _ 0 h2 (show 0 + 2 ≤ 2 by omega)
  | ⟨3, _⟩, _ => exact Host.clampedStart_of_le hs.1 st _ 0 h3 (show 0 + 4 ≤ 4 by omega)
  | ⟨4, _⟩, _ => exact Host.clampedStart_of_le hs.1 st _ 0 h4 (show 0 + 128 ≤ 128 by omega)
  | ⟨5, _⟩, _ => exact Host.clampedStart_of_le hs.1 st _ 0 h5 (show 0 + 128 ≤ 128 by omega)

include h0 h1 h2 h3 h4 h5 in
/-- A trip's slice. -/
theorem slice_at (x : S66x2x2x4x128x128.Idx → α) (d b : Fin 2) (h : Fin 4) (n j : Fin 128) :
    Host.dynamicSlice S1x2x2x4x128x128 x st hs (ix6 0 d b h n j) = x (ix6 t d b h n j) := by
  rw [Host.dynamicSlice_apply]
  refine congrArg x (funext fun a => Fin.ext ?_)
  have e0 := begins t st h0 hs
  have ez := begins_zero st h1 h2 h3 h4 h5 hs
  match a with
  | ⟨0, _⟩ => exact (congrArg (fun k => k + 0) e0 :)
  | ⟨1, _⟩ => exact (congrArg (fun k => k + d.val) (ez ⟨1, by decide⟩ (by decide))).trans (Nat.zero_add _)
  | ⟨2, _⟩ => exact (congrArg (fun k => k + b.val) (ez ⟨2, by decide⟩ (by decide))).trans (Nat.zero_add _)
  | ⟨3, _⟩ => exact (congrArg (fun k => k + h.val) (ez ⟨3, by decide⟩ (by decide))).trans (Nat.zero_add _)
  | ⟨4, _⟩ => exact (congrArg (fun k => k + n.val) (ez ⟨4, by decide⟩ (by decide))).trans (Nat.zero_add _)
  | ⟨5, _⟩ => exact (congrArg (fun k => k + j.val) (ez ⟨5, by decide⟩ (by decide))).trans (Nat.zero_add _)

include h0 h1 h2 h3 h4 h5 in
/-- An array after a trip's write, at the trip. -/
theorem update_own (x : S66x2x2x4x128x128.Idx → α) (y : S1x2x2x4x128x128.Idx → α) (d b : Fin 2) (h : Fin 4) (n j : Fin 128) :
    Host.dynamicUpdateSlice x y st hs (ix6 t d b h n j) = y (ix6 0 d b h n j) := by
  have e0 := begins t st h0 hs
  have ez := begins_zero st h1 h2 h3 h4 h5 hs
  have hin : ∀ a : Fin S66x2x2x4x128x128.rank,
      Host.clampedStart S66x2x2x4x128x128 S1x2x2x4x128x128 hs.1 st a ≤ ((ix6 t d b h n j : S66x2x2x4x128x128.Idx) a).val
        ∧ ((ix6 t d b h n j : S66x2x2x4x128x128.Idx) a).val
          < Host.clampedStart S66x2x2x4x128x128 S1x2x2x4x128x128 hs.1 st a + S1x2x2x4x128x128.size (a.cast hs.1.symm) := by
    intro a
    by_cases ha : a.val = 0
    · obtain rfl : a = ⟨0, by decide⟩ := Fin.ext ha
      rw [e0]
      show t.val ≤ t.val ∧ t.val < t.val + 1
      omega
    · rw [ez a ha]
      refine ⟨Nat.zero_le _, ?_⟩
      rw [Nat.zero_add]
      match a, ha with
      | ⟨0, _⟩, h => exact absurd rfl h
      | ⟨1, _⟩, _ => exact d.isLt
      | ⟨2, _⟩, _ => exact b.isLt
      | ⟨3, _⟩, _ => exact h.isLt
      | ⟨4, _⟩, _ => exact n.isLt
      | ⟨5, _⟩, _ => exact j.isLt
  rw [Host.dynamicUpdateSlice_apply, dif_pos hin]
  refine congrArg y (funext fun a => Fin.ext ?_)
  match a with
  | ⟨0, _⟩ => exact (congrArg (fun k => t.val - k) e0).trans (Nat.sub_self _)
  | ⟨1, _⟩ => exact congrArg (fun k => d.val - k) (ez ⟨1, by decide⟩ (by decide))
  | ⟨2, _⟩ => exact congrArg (fun k => b.val - k) (ez ⟨2, by decide⟩ (by decide))
  | ⟨3, _⟩ => exact congrArg (fun k => h.val - k) (ez ⟨3, by decide⟩ (by decide))
  | ⟨4, _⟩ => exact congrArg (fun k => n.val - k) (ez ⟨4, by decide⟩ (by decide))
  | ⟨5, _⟩ => exact congrArg (fun k => j.val - k) (ez ⟨5, by decide⟩ (by decide))

include h0 in
/-- An array after a trip's write, at another trip. -/
theorem update_other (u : Fin 66) (hu : u ≠ t) (x : S66x2x2x4x128x128.Idx → α) (y : S1x2x2x4x128x128.Idx → α) (d b : Fin 2)
    (h : Fin 4) (n j : Fin 128) : Host.dynamicUpdateSlice x y st hs (ix6 u d b h n j) = x (ix6 u d b h n j) := by
  rw [Host.dynamicUpdateSlice_apply, dif_neg]
  intro hin
  have ha := hin ⟨0, by decide⟩
  rw [begins t st h0 hs] at ha
  have hb : t.val ≤ u.val ∧ u.val < t.val + 1 := ha
  exact hu (Fin.ext (by omega))

end Places

/-- A trip reads its chunk of the queries. -/
theorem query_read (t : Fin 66) (s : State Ideal) (d b : Fin 2) (h : Fin 4) (n x : Fin 128) :
    b6 t.val s (ix5 d b h n x) = s.main_v78_0 (ix6 t d b h n x) := by
  have ht := t.isLt
  unfold b6
  rw [shapeCast_apply _ _ (ix5 d b h n x) (ix6 (0 : Fin 1) d b h n x) (by
    rw [Shape.rowMajor_val_six, Shape.rowMajor_val_five]
    show (((((0 * 2 + d.val) * 2 + b.val) * 4 + h.val) * 128 + n.val) * 128 + x.val)
      = ((((d.val * 2 + b.val) * 4 + h.val) * 128 + n.val) * 128 + x.val)
    omega)]
  unfold b5
  exact slice_at t _ (trip_toInt t) rfl rfl rfl rfl rfl _ _ d b h n x

/-- A trip reads its chunk of the keys. -/
theorem key_read (t : Fin 66) (s : State Ideal) (d b : Fin 2) (h : Fin 4) (n x : Fin 128) :
    b13 t.val s (ix5 d b h n x) = s.main_v78_1 (ix6 t d b h n x) := by
  have ht := t.isLt
  unfold b13
  rw [shapeCast_apply _ _ (ix5 d b h n x) (ix6 (0 : Fin 1) d b h n x) (by
    rw [Shape.rowMajor_val_six, Shape.rowMajor_val_five]
    show (((((0 * 2 + d.val) * 2 + b.val) * 4 + h.val) * 128 + n.val) * 128 + x.val)
      = ((((d.val * 2 + b.val) * 4 + h.val) * 128 + n.val) * 128 + x.val)
    omega)]
  unfold b12
  exact slice_at t _ (trip_toInt t) rfl rfl rfl rfl rfl _ _ d b h n x

/-- A trip reads its chunk of the values. -/
theorem value_read (t : Fin 66) (s : State Ideal) (d b : Fin 2) (h : Fin 4) (n x : Fin 128) :
    b20 t.val s (ix5 d b h n x) = s.main_v78_2 (ix6 t d b h n x) := by
  have ht := t.isLt
  unfold b20
  rw [shapeCast_apply _ _ (ix5 d b h n x) (ix6 (0 : Fin 1) d b h n x) (by
    rw [Shape.rowMajor_val_six, Shape.rowMajor_val_five]
    show (((((0 * 2 + d.val) * 2 + b.val) * 4 + h.val) * 128 + n.val) * 128 + x.val)
      = ((((d.val * 2 + b.val) * 4 + h.val) * 128 + n.val) * 128 + x.val)
    omega)]
  unfold b19
  exact slice_at t _ (trip_toInt t) rfl rfl rfl rfl rfl _ _ d b h n x

/-- The results of a trip. -/
theorem results_eq (t : ℕ) (s : State Ideal) (d b : Fin 2) (h : Fin 4) (n j : Fin 128) :
    b28 t s (ix5 d b h n j)
      = ∑ m, (∑ x, b6 t s (ix5 d b h n x) * b13 t s (ix5 d b h m x)) * s.main_v78_3 (ix5 d 0 h n m) * b20 t s (ix5 d b h m j)
        + ∑ x, b6 t s (ix5 d b h n x) * s.main_v78_4 (ix5 d 0 h n 0) * s.main_v78_8 (ix5 d b h x j) := by
  unfold b28 b27 b26 b25 b24 b23 b22 b21
  generalize b6 t s = q
  generalize b13 t s = k
  generalize b20 t s = v
  pointwise

/-- The state after a trip. -/
theorem next_eq (t : ℕ) (s : State Ideal) (d b : Fin 2) (h : Fin 4) (x j : Fin 128) :
    b34 t s (ix5 d b h x j)
      = s.main_v78_8 (ix5 d b h x j) * s.main_v78_5 (ix5 d 0 h 0 0)
        + ∑ n, b13 t s (ix5 d b h n x) * s.main_v78_6 (ix5 d 0 h n 0) * b20 t s (ix5 d b h n j) := by
  unfold b34 b33 b32 b31 b30 b29
  generalize b13 t s = k
  generalize b20 t s = v
  pointwise

/-- A trip writes its results into its place. -/
theorem written_own (t : Fin 66) (s : State Ideal) (d b : Fin 2) (h : Fin 4) (n x : Fin 128) :
    b41 t.val s (ix6 t d b h n x) = b28 t.val s (ix5 d b h n x) := by
  unfold b41 b35
  rw [update_own t _ (trip_toInt t) rfl rfl rfl rfl rfl]
  generalize b28 t.val s = y
  pointwise

/-- A trip leaves the other places. -/
theorem written_other (t u : Fin 66) (hu : u ≠ t) (s : State Ideal) (d b : Fin 2) (h : Fin 4) (n x : Fin 128) :
    b41 t.val s (ix6 u d b h n x) = s.main_v78_9 (ix6 u d b h n x) := by
  unfold b41
  exact update_other t _ (trip_toInt t) _ u hu _ _ d b h n x

/-- What the trips leave. -/
theorem kept (s : State Ideal) : ∀ k, (iter s k).main_v78_0 = s.main_v78_0 ∧ (iter s k).main_v78_1 = s.main_v78_1
    ∧ (iter s k).main_v78_2 = s.main_v78_2 ∧ (iter s k).main_v78_3 = s.main_v78_3 ∧ (iter s k).main_v78_4 = s.main_v78_4
    ∧ (iter s k).main_v78_5 = s.main_v78_5 ∧ (iter s k).main_v78_6 = s.main_v78_6
  | 0 => ⟨rfl, rfl, rfl, rfl, rfl, rfl, rfl⟩
  | k + 1 => kept s k

variable (x0 x1 x2 : (⟨S2x4x8448x128, .f32⟩ : BufTy).Contents (Elt Ideal)) (x3 : (⟨S2x4, .f32⟩ : BufTy).Contents (Elt Ideal))

/-- A head's rows. -/
abbrev rows (x : (⟨S2x4x8448x128, .f32⟩ : BufTy).Contents (Elt Ideal)) (b : Fin 2) (h : Fin 4) : Fin 8448 → Fin 128 → EReal :=
  fun r j => x (ix4 b h r j)

/-- A trip's chunks are the rows that the scan visits. -/
theorem query_at (t : Fin 66) (d b : Fin 2) (h : Fin 4) (n x : Fin 128) :
    b6 t.val (iter (init x0 x1 x2 x3) t.val) (ix5 d b h n x) = rows x0 b h (Retain.row d t.val n) x := by
  rw [query_read, (kept _ _).1]
  exact query_row x0 x1 x2 x3 t d b h n x

theorem key_at (t : Fin 66) (d b : Fin 2) (h : Fin 4) (n x : Fin 128) :
    b13 t.val (iter (init x0 x1 x2 x3) t.val) (ix5 d b h n x) = rows x1 b h (Retain.row d t.val n) x := by
  rw [key_read, (kept _ _).2.1]
  exact key_row x0 x1 x2 x3 t d b h n x

theorem value_at (t : Fin 66) (d b : Fin 2) (h : Fin 4) (n x : Fin 128) :
    b20 t.val (iter (init x0 x1 x2 x3) t.val) (ix5 d b h n x) = rows x2 b h (Retain.row d t.val n) x := by
  rw [value_read, (kept _ _).2.2.1]
  exact value_row x0 x1 x2 x3 t d b h n x

/-- The state before a trip. -/
theorem state_at (d b : Fin 2) (h : Fin 4) : ∀ t, t ≤ 66 → ∀ x j,
    (iter (init x0 x1 x2 x3) t).main_v78_8 (ix5 d b h x j) = Retain.state (x3 (ix2 d h)) (rows x1 b h) (rows x2 b h) d t x j
  | 0, _, x, j => by
    show K_main_v46 (F := Ideal) (ix5 d b h x j) = 0
    unfold K_main_v46 K_main_cst_6
    pointwise
  | t + 1, ht, x, j => by
    show b34 t (iter (init x0 x1 x2 x3) t) (ix5 d b h x j) = _
    rw [next_eq, state_at d b h t (by omega) x j, (kept _ _).2.2.2.2.2.1, (kept _ _).2.2.2.2.2.2]
    have e5 : (init x0 x1 x2 x3).main_v78_5 (ix5 d 0 h 0 0) = _ := chunk_eq x0 x1 x2 x3 d h
    have e6 : ∀ n, (init x0 x1 x2 x3).main_v78_6 (ix5 d 0 h n 0) = _ := rows_eq x0 x1 x2 x3 d h
    rw [e5]
    refine congrArg (_ + ·) (Finset.sum_congr rfl fun n _ => ?_)
    rw [e6, key_at x0 x1 x2 x3 ⟨t, ht⟩ d b h n x, value_at x0 x1 x2 x3 ⟨t, ht⟩ d b h n j]

/-- The results of a trip are the scan's. -/
theorem results_at (t : Fin 66) (d b : Fin 2) (h : Fin 4) (n j : Fin 128) :
    b28 t.val (iter (init x0 x1 x2 x3) t.val) (ix5 d b h n j)
      = Retain.out (x3 (ix2 d h)) (rows x0 b h) (rows x1 b h) (rows x2 b h) d t.val n j := by
  have e3 : ∀ m, (init x0 x1 x2 x3).main_v78_3 (ix5 d 0 h n m) = _ := inside_eq x0 x1 x2 x3 d h n
  have e4 : (init x0 x1 x2 x3).main_v78_4 (ix5 d 0 h n 0) = _ := state_eq x0 x1 x2 x3 d h n
  rw [results_eq, (kept _ _).2.2.2.1, (kept _ _).2.2.2.2.1, e4]
  unfold Retain.out
  refine congrArg₂ (· + ·) (Finset.sum_congr rfl fun m _ => ?_) (Finset.sum_congr rfl fun x _ => ?_)
  · rw [e3, value_at]
    refine congrArg (· * _ * _) (Finset.sum_congr rfl fun x _ => ?_)
    rw [query_at, key_at]
  · rw [query_at, state_at x0 x1 x2 x3 d b h t.val t.isLt.le]

/-- After its trip a place holds the trip's results. -/
theorem place_at (t : Fin 66) (d b : Fin 2) (h : Fin 4) (n j : Fin 128) : ∀ k, t.val < k → k ≤ 66 →
    (iter (init x0 x1 x2 x3) k).main_v78_9 (ix6 t d b h n j)
      = Retain.out (x3 (ix2 d h)) (rows x0 b h) (rows x1 b h) (rows x2 b h) d t.val n j
  | 0, h0, _ => absurd h0 (Nat.not_lt_zero _)
  | k + 1, hlt, hle => by
    show b41 k (iter (init x0 x1 x2 x3) k) (ix6 t d b h n j) = _
    by_cases e : t.val = k
    · subst e
      rw [written_own t, results_at]
    · rw [written_other ⟨k, hle⟩ t (fun e' => e (congrArg Fin.val e'))]
      exact place_at t d b h n j k (by omega) (by omega)

/-- The results in the array's order: a row of the forward direction. -/
theorem order_forward (s : State Ideal) (t : Fin 66) (b : Fin 2) (h : Fin 4) (n j : Fin 128) (r : Fin 8448)
    (hr : r.val = t.val * 128 + n.val) : R_main_v92 s (ix5 0 b h r j) = s.main_v78_9 (ix6 t 0 b h n j) := by
  have hn := n.isLt
  unfold R_main_v92
  pointwise
  refine congrArg₂ (fun t' n' => s.main_v78_9 (ix6 t' 0 b h n' j)) (Fin.ext ?_) (Fin.ext ?_)
  · show r.val / 128 = t.val
    omega
  · show r.val % 128 = n.val
    omega

/-- The results in the array's order: a row of the backward direction. -/
theorem order_backward (s : State Ideal) (t : Fin 66) (b : Fin 2) (h : Fin 4) (n j : Fin 128) (r : Fin 8448)
    (hr : back r.val = t.val * 128 + n.val) : R_main_v92 s (ix5 1 b h r j) = s.main_v78_9 (ix6 t 1 b h n j) := by
  have hn := n.isLt
  have hlt := r.isLt
  unfold back at hr
  unfold R_main_v92
  pointwise
  by_cases h256 : r.val < 256
  · rw [if_pos h256] at hr
    rw [dif_pos h256]
    refine congrArg₂ (fun t' n' => s.main_v78_9 (ix6 t' 1 b h n' j)) (Fin.ext ?_) (Fin.ext ?_)
    · show (256 - (r.val + 1)) / 128 = t.val
      omega
    · show (256 - (r.val + 1)) % 128 = n.val
      omega
  · rw [if_neg h256] at hr
    rw [dif_neg h256]
    refine congrArg₂ (fun t' n' => s.main_v78_9 (ix6 t' 1 b h n' j)) (Fin.ext ?_) (Fin.ext ?_)
    · show (256 + (8192 - (r.val - 256 + 1))) / 128 = t.val
      omega
    · show (256 + (8192 - (r.val - 256 + 1))) % 128 = n.val
      omega

/-- What the reference returns. -/
theorem result_at (d b : Fin 2) (h : Fin 4) (r : Fin 8448) (j : Fin 128) :
    R_main_v92 (iter (init x0 x1 x2 x3) 66) (ix5 d b h r j)
      = Retain.result (x3 (ix2 d h)) (rows x0 b h) (rows x1 b h) (rows x2 b h) d r j := by
  have hr := r.isLt
  have hc : Retain.chunk d (r.val / 128) < 66 := Retain.chunk_lt d _ (by omega)
  have e : R_main_v92 (iter (init x0 x1 x2 x3) 66) (ix5 d b h r j)
      = (iter (init x0 x1 x2 x3) 66).main_v78_9 (ix6 ⟨Retain.chunk d (r.val / 128), hc⟩ d b h
          (Retain.turn d ⟨r.val % 128, Nat.mod_lt _ (by decide)⟩) j) := by
    match d, hc with
    | 0, hc =>
      refine order_forward _ _ b h _ j r ?_
      show r.val = r.val / 128 * 128 + r.val % 128
      omega
    | 1, hc =>
      refine order_backward _ _ b h _ j r ?_
      have e' : (Retain.turn 1 ⟨r.val % 128, Nat.mod_lt _ (by decide)⟩).val = 127 - r.val % 128 := by
        show (Fin.rev _).val = _
        rw [Fin.val_rev]
        show 128 - (r.val % 128 + 1) = _
        omega
      show back r.val = Retain.chunk 1 (r.val / 128) * 128 + _
      rw [e']
      unfold back Retain.chunk
      rw [if_neg (by decide : ¬(1 : Fin 2) = 0)]
      split <;> split <;> omega
  exact e.trans (place_at x0 x1 x2 x3 _ d b h _ j 66 hc (le_refl 66))

end Cert.Reference8Ideal.Scan

end
-- ==== Proof.Retention.lean ====
module

public import proofs.«01_k».proof.Defs
public import proofs.«01_k».proof.Proof.RetentionKernel
public import proofs.«01_k».proof.Proof.RetentionRef
public import Idealize.ShloMosaic.Lib.Claim
public import Idealize.ShloMosaic.Lib.Quiescent

@[expose] public section

noncomputable section

/-! # The retention: the kernel and its reference return the same array -/

namespace Cert.Proof

open Idealize.ShloMosaic Idealize.SL.Sem

/-- The reference runs, leaves its arguments as they were, and ends with no semaphore raised. -/
theorem quiescent_Reference8Ideal : quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

/-- What the reference returns for the kernel's arguments. -/
theorem ret_eq (m : (ℓ : Loc Cert.Kernel8Ideal.nD Cert.Kernel8Ideal.τ Cert.Kernel8Ideal.sig) → Buf (Elt Ideal) ℓ)
    (c : Dev Cert.Kernel8Ideal.nD) {x0 x1 x2 : FVec Ideal Cert.Reference8Ideal.S2x4x8448x128 .f32}
    {x3 : FVec Ideal Cert.Reference8Ideal.S2x4 .f32} (h0 : x0 = Cert.Kernel8Ideal.Ret.A0 m c) (h1 : x1 = Cert.Kernel8Ideal.Ret.A1 m c)
    (h2 : x2 = Cert.Kernel8Ideal.Ret.A2 m c) (h3 : x3 = Cert.Kernel8Ideal.Ret.A3 m c) :
    Cert.Reference8Ideal.Step.R_main_v92 (F := Ideal)
      (Cert.Reference8Ideal.Scan.iter (Cert.Reference8Ideal.Step.init x0 x1 x2 x3) 66) = Cert.Kernel8Ideal.Ret.ret m c := by
  subst h0 h1 h2 h3
  funext i
  rw [eq_ix5 i]
  exact Cert.Reference8Ideal.Scan.result_at _ _ _ _ (i 0) (i 1) (i 2) (i 3) (i 4)

/-- The idealized kernel and the reference, started on the same arguments, return the same array. -/
theorem algebraic8 : algebraic_Kernel8Ideal_Reference8Ideal := by
  intro m ρ m' ρ' _ hagree
  refine ⟨_, Cert.Kernel8Ideal.Value.run_blocks (F := Ideal) m ρ, ?_⟩
  refine (θ_run Cert.Reference8Ideal.defs _ _).mono (fun _ h c => ⟨?_, (h c).2⟩) (Cert.Reference8Ideal.Scan.run_scan (F := Ideal) m' ρ')
  obtain ⟨h0, h1, h2, h3⟩ := hagree c
  exact (h c).1.trans ((ret_eq m c h0 h1 h2 h3).trans (Cert.Kernel8Ideal.Ret.final m c).symm)

end Cert.Proof

end
-- ==== Proof.Modulation.lean ====
module

public import proofs.«01_k».proof.Defs
public import proofs.«01_k».proof.Proof.Spec
public import proofs.«01_k».proof.Proof.Gen.Kernel10Ideal.Value
public import proofs.«01_k».proof.Proof.Gen.Reference10Ideal.Run
public import proofs.«01_k».proof.Proof.Gen.Reference10Ideal.Read
public import Idealize.ShloMosaic.Lib.Pointwise
public import Idealize.ShloMosaic.Lib.Pipeline.ValueKit
public import Idealize.ShloMosaic.Lib.Claim
public import Idealize.ShloMosaic.Lib.Quiescent
public import Idealize.ShloMosaic.Lib.Tactic.ValueTie

@[expose] public section

set_option maxRecDepth 16384

noncomputable section

/-! # The modulation vectors

A row of the conditions goes through the activation and is multiplied by a layer's weight; the layer's bias is added. The kernel
takes 1536 columns of a layer at each grid point. -/

namespace Cert.Kernel10Ideal.Mod

open Cert.Kernel10Ideal Cert.Kernel10Ideal.Gen Idealize.ShloMosaic.TcCoe
open Idealize.ShloMosaic

variable (m : (ℓ : Loc nD τ sig) → Buf (Elt Ideal) ℓ) (c : Dev nD)

/-! ## The kernel -/

/-- The conditions. -/
abbrev A0 : S8x1024.Idx → EReal := m ((c : Thread nD τ).loc main_arg0)
/-- The layers' weights. -/
abbrev A1 : S2x1024x6144.Idx → EReal := m ((c : Thread nD τ).loc main_arg1)
/-- The layers' biases. -/
abbrev A2 : S2x6144.Idx → EReal := m ((c : Thread nD τ).loc main_arg2)

/-- The modulation vectors. -/
def mods : S2x8x6144.Idx → EReal := fun i =>
  ∑ k, Moe.silu (A0 m c (ix2 (i 1) k)) * A1 m c (ix3 (i 0) k (i 2)) + A2 m c (ix2 (i 0) (i 2))

/-- The windows' block indices at a grid point. -/
theorem index_val : ∀ t : Fin cfg0.N, win0_0.index t = ![0, 0] ∧ win0_1.index t = ![t.val / 4, 0, t.val % 4]
    ∧ win0_2.index t = ![t.val / 4, 0, t.val % 4] ∧ win0_3.index t = ![t.val / 4, 0, t.val % 4] := by
  decide +kernel

/-- The biases with a row axis. -/
theorem host2 (l : Fin 2) (n : Fin 6144) : V m c main_v0 (ix3 l 0 n) = A2 m c (ix2 l n) := by
  entry_read
  pointwise

/-- The conditions. -/
theorem blk0 (t : Fin cfg0.N) (r : Fin 8) (k : Fin 1024) : iblk m c 0 t (ix2 r k) = A0 m c (ix2 r k) := by
  have h := (index_val t).1
  blk_ext [iblk, V, h]

/-- The weight's columns of a grid point. -/
theorem blk1 (t : Fin cfg0.N) (l : Fin 2) (hl : t.val / 4 = l.val) (k : Fin 1024) (p : Fin 1536) (n : Fin 6144)
    (hn : n.val = t.val % 4 * 1536 + p.val) : iblk m c 1 t (ix3 0 k p) = A1 m c (ix3 l k n) := by
  have h := (index_val t).2.1
  blk_ext [iblk, V, h]

/-- The bias's columns of a grid point. -/
theorem blk2 (t : Fin cfg0.N) (l : Fin 2) (hl : t.val / 4 = l.val) (p : Fin 1536) (n : Fin 6144)
    (hn : n.val = t.val % 4 * 1536 + p.val) : iblk m c 2 t (ix3 0 0 p) = A2 m c (ix2 l n) := by
  have h := (index_val t).2.2.1
  refine Eq.trans ?_ (host2 m c l n)
  show V m c main_v0 (((cfg0.win 2).blk t).view.emb (ix3 0 0 p)) = V m c main_v0 (ix3 l 0 n)
  refine congrArg (V m c main_v0) ?_
  blk_ext [h]

/-- What the kernel stores, at one element. -/
theorem pay1_row (x : FVec Ideal S8x1024 .f32) (w : FVec Ideal S1x1024x1536 .f32) (b : FVec Ideal S1x1x1536 .f32) (r : Fin 8)
    (p : Fin 1536) :
    k0_pay1 (F := Ideal) x w b (ix3 0 r p) = ∑ k, Moe.silu (x (ix2 r k)) * w (ix3 0 k p) + b (ix3 0 0 p) := by
  unfold k0_pay1
  pointwise
  unfold Moe.silu
  simp only [zero_sub]

/-- What a grid point stores at column `p` of its block is column `n` of the array. -/
theorem stored (t : Fin cfg0.N) (l : Fin 2) (hl : t.val / 4 = l.val) (r : Fin 8) (p : Fin 1536) (n : Fin 6144)
    (hn : n.val = t.val % 4 * 1536 + p.val) :
    k0_pay1 (F := Ideal) (iblk m c 0 t) (iblk m c 1 t) (iblk m c 2 t) (ix3 0 r p) = mods m c (ix3 l r n) := by
  refine (pay1_row _ _ _ r p).trans ?_
  show _ = ∑ k, Moe.silu (A0 m c (ix2 r k)) * A1 m c (ix3 l k n) + A2 m c (ix2 l n)
  refine congrArg₂ (fun y z => y + z) ?_ (blk2 m c t l hl p n hn)
  exact Finset.sum_congr rfl fun k _ => congrArg₂ (fun y z => Moe.silu y * z) (blk0 m c t r k) (blk1 m c t l hl k p n hn)

/-- The kernel's array after the run. -/
theorem final : (dats m 0 c).arrAt 3 cfg0.N = mods m c := by
  refine (dats m 0 c).arrAt_eq_of_covers 3 _ (by decide +kernel) fun t hf y => ?_
  blk_simp
  rw [after0_3]
  frame_out
  have h3 := (index_val t).2.2.2
  have ht : t.val < 8 := t.isLt
  have e : (win0_3.blk t).view.emb y = ix3 (⟨t.val / 4, by omega⟩ : Fin 2) (y 1)
      (⟨t.val % 4 * 1536 + (y 2).val, by idx_bounds y; omega⟩ : Fin 6144) := by blk_ext [h3]
  rw [e]
  exact (congrArg _ (show y = ix3 0 (y 1) (y 2) by blk_ext)).trans (stored m c t _ rfl (y 1) (y 2) _ rfl)

end Cert.Kernel10Ideal.Mod

namespace Cert.Reference10Ideal.Mod

open Cert.Reference10Ideal Cert.Reference10Ideal.Gen Cert.Reference10Ideal.Read Idealize.ShloMosaic.TcCoe
open Idealize.ShloMosaic

/-! ## The reference -/

variable (x0 : (⟨S8x1024, .f32⟩ : BufTy).Contents (Elt Ideal)) (x1 : (⟨S2x1024x6144, .f32⟩ : BufTy).Contents (Elt Ideal))
  (x2 : (⟨S2x6144, .f32⟩ : BufTy).Contents (Elt Ideal))

/-- The reference's result, at one element. -/
theorem v19_row (l : Fin 2) (r : Fin 8) (n : Fin 6144) : val_main_v19 (F := Ideal) x0 x1 x2 (ix3 l r n)
    = ∑ k, Moe.silu (x0 (ix2 r k)) * x1 (ix3 l k n) + x2 (ix2 l n) := by
  unfold val_main_v19 val_main_v18 val_main_v17 val_main_v16 val_main_v15 val_main_v14 val_main_v13 val_main_v12 val_main_v11 val_main_v10 val_main_v9 val_main_v8 val_main_v7 val_main_v6 val_main_v5 val_main_v4 val_main_v3 val_main_v2 val_main_v1 val_main_v0 val_main_call0_v5 val_main_call0_v4 val_main_call0_v3 val_main_call0_v2 val_main_call0_v1 val_main_call0_v0 val_main_call0_cst val_main_call0_cst_0
  match l with
  | 0 =>
    pointwise
    rfl
  | 1 =>
    pointwise
    rfl

end Cert.Reference10Ideal.Mod

namespace Cert.Proof

open Idealize.ShloMosaic Idealize.SL.Sem

/-- The reference runs, leaves its arguments as they were, and ends with no semaphore raised. -/
theorem quiescent_Reference10Ideal : quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)

/-- The reference's result depends on its arguments alone. -/
theorem mod10_congr {x0 y0 : FVec Ideal Cert.Reference10Ideal.S8x1024 .f32}
    {x1 y1 : FVec Ideal Cert.Reference10Ideal.S2x1024x6144 .f32} {x2 y2 : FVec Ideal Cert.Reference10Ideal.S2x6144 .f32}
    (h0 : x0 = y0) (h1 : x1 = y1) (h2 : x2 = y2) :
    Cert.Reference10Ideal.Read.val_main_v19 (F := Ideal) x0 x1 x2 = Cert.Reference10Ideal.Read.val_main_v19 (F := Ideal) y0 y1 y2 := by
  rw [h0, h1, h2]

/-- The idealized kernel and the reference, started on the same arguments, return the same array. -/
theorem algebraic10 : algebraic_Kernel10Ideal_Reference10Ideal := by
  intro m ρ m' ρ' hpre hagree
  refine ⟨_, Cert.Kernel10Ideal.Value.run_blocks (F := Ideal) m ρ, ?_⟩
  refine (θ_run Cert.Reference10Ideal.defs _ _).mono (fun _ h c => ⟨?_, (h c).2⟩) (Cert.Reference10Ideal.Value.run (F := Ideal) m' ρ')
  refine (h c).1.trans ((Cert.Reference10Ideal.Read.val_main_v19_eq _ _ _).trans ?_)
  refine Eq.trans ?_ (Cert.Kernel10Ideal.Mod.final m c).symm
  obtain ⟨h0, h1, h2⟩ := hagree c
  refine (mod10_congr h0 h1 h2).trans ?_
  funext i
  rw [eq_ix3 i]
  exact Cert.Reference10Ideal.Mod.v19_row _ _ _ _ _ _

end Cert.Proof

end
-- ==== Proof.Gate.lean ====
module

public import proofs.«01_k».proof.Defs
public import proofs.«01_k».proof.Proof.Spec
public import proofs.«01_k».proof.Proof.Gen.Kernel9Ideal.Value
public import proofs.«01_k».proof.Proof.Gen.Reference9Ideal.Run
public import proofs.«01_k».proof.Proof.Gen.Reference9Ideal.Read
public import Idealize.ShloMosaic.Lib.Pointwise
public import Idealize.ShloMosaic.Lib.Pipeline.ValueKit
public import Idealize.ShloMosaic.Lib.Claim
public import Idealize.ShloMosaic.Lib.Quiescent
public import Idealize.ShloMosaic.Lib.Tactic.ValueTie

@[expose] public section

set_option maxRecDepth 16384

noncomputable section

/-! # The gate of the RWKV heads

One row of the heads is multiplied by the product of the gate's row, between 0 and 1, with the gate's weight. The kernel takes
512 rows at each grid point. -/

namespace Cert.Kernel9Ideal.Gate

open Cert.Kernel9Ideal Cert.Kernel9Ideal.Gen Idealize.ShloMosaic.TcCoe
open Idealize.ShloMosaic

variable (m : (ℓ : Loc nD τ sig) → Buf (Elt Ideal) ℓ) (c : Dev nD)

/-! ## The kernel -/

/-- The heads' rows. -/
abbrev A0 : S2x8192x512.Idx → EReal := m ((c : Thread nD τ).loc main_arg0)
/-- The gate's rows, before the logistic function. -/
abbrev A1 : S2x8192x128.Idx → EReal := m ((c : Thread nD τ).loc main_arg1)
/-- The gate's weight. -/
abbrev A2 : S128x512.Idx → EReal := m ((c : Thread nD τ).loc main_arg2)

/-- The gated rows. -/
def gated : S2x8192x512.Idx → EReal := fun i =>
  A0 m c i * ∑ k, Ideal.div 1 (1 + Ideal.exp (-A1 m c (ix3 (i 0) (i 1) k))) * A2 m c (ix2 k (i 2))

/-- The windows' block indices at a grid point. -/
theorem index_val : ∀ t : Fin cfg0.N, win0_0.index t = ![t.val / 16, t.val % 16, 0]
    ∧ win0_1.index t = ![t.val / 16, t.val % 16, 0] ∧ win0_2.index t = ![0, 0]
    ∧ win0_3.index t = ![t.val / 16, t.val % 16, 0] := by
  decide +kernel

/-- The gate's rows after the logistic function. -/
theorem host1 (b : Fin 2) (r : Fin 8192) (k : Fin 128) :
    V m c main_v5 (ix3 b r k) = Ideal.div 1 (1 + Ideal.exp (-A1 m c (ix3 b r k))) := by
  entry_read
  pointwise

/-- The weight, whose rounding changes nothing here. -/
theorem host2 (k : Fin 128) (n : Fin 512) : V m c main_v6 (ix2 k n) = A2 m c (ix2 k n) := by
  entry_read
  pointwise

/-- The heads' rows of a grid point. -/
theorem blk0 (t : Fin cfg0.N) (b : Fin 2) (hb : t.val / 16 = b.val) (p : Fin 512) (r : Fin 8192)
    (hr : r.val = t.val % 16 * 512 + p.val) (k : Fin 512) : iblk m c 0 t (ix3 0 p k) = A0 m c (ix3 b r k) := by
  have h := (index_val t).1
  blk_ext [iblk, V, h]

/-- The gate's rows of a grid point. -/
theorem blk1 (t : Fin cfg0.N) (b : Fin 2) (hb : t.val / 16 = b.val) (p : Fin 512) (r : Fin 8192)
    (hr : r.val = t.val % 16 * 512 + p.val) (k : Fin 128) :
    iblk m c 1 t (ix3 0 p k) = Ideal.div 1 (1 + Ideal.exp (-A1 m c (ix3 b r k))) := by
  have h := (index_val t).2.1
  refine Eq.trans ?_ (host1 m c b r k)
  show V m c main_v5 (((cfg0.win 1).blk t).view.emb (ix3 0 p k)) = V m c main_v5 (ix3 b r k)
  refine congrArg (V m c main_v5) ?_
  blk_ext [h]

/-- The weight. -/
theorem blk2 (t : Fin cfg0.N) (k : Fin 128) (n : Fin 512) : iblk m c 2 t (ix2 k n) = A2 m c (ix2 k n) := by
  have h := (index_val t).2.2.1
  refine Eq.trans ?_ (host2 m c k n)
  show V m c main_v6 (((cfg0.win 2).blk t).view.emb (ix2 k n)) = V m c main_v6 (ix2 k n)
  refine congrArg (V m c main_v6) ?_
  blk_ext [h]

/-- What the kernel stores, at one element. -/
theorem pay1_row (y : FVec Ideal S1x512x512 .f32) (s : FVec Ideal S1x512x128 .f32) (w : FVec Ideal S128x512 .bf16) (p n : Fin 512) :
    k0_pay1 (F := Ideal) y s w (ix3 0 p n) = y (ix3 0 p n) * ∑ k, s (ix3 0 p k) * w (ix2 k n) := by
  unfold k0_pay1
  pointwise

/-- What a grid point stores at row `p` of its block is row `r` of the array. -/
theorem stored (t : Fin cfg0.N) (b : Fin 2) (hb : t.val / 16 = b.val) (p : Fin 512) (r : Fin 8192)
    (hr : r.val = t.val % 16 * 512 + p.val) (n : Fin 512) :
    k0_pay1 (F := Ideal) (iblk m c 0 t) (iblk m c 1 t) (iblk m c 2 t) (ix3 0 p n) = gated m c (ix3 b r n) := by
  refine (pay1_row _ _ _ p n).trans ?_
  show _ = A0 m c (ix3 b r n) * ∑ k, Ideal.div 1 (1 + Ideal.exp (-A1 m c (ix3 b r k))) * A2 m c (ix2 k n)
  refine congrArg₂ (fun y z => y * z) (blk0 m c t b hb p r hr n) ?_
  exact Finset.sum_congr rfl fun k _ => congrArg₂ (fun y z => y * z) (blk1 m c t b hb p r hr k) (blk2 m c t k n)

/-- The kernel's array after the run. -/
theorem final : (dats m 0 c).arrAt 3 cfg0.N = gated m c := by
  refine (dats m 0 c).arrAt_eq_of_covers 3 _ (by decide +kernel) fun t hf y => ?_
  blk_simp
  rw [after0_3]
  frame_out
  have h3 := (index_val t).2.2.2
  have ht : t.val < 32 := t.isLt
  have e : (win0_3.blk t).view.emb y = ix3 (⟨t.val / 16, by omega⟩ : Fin 2)
      (⟨t.val % 16 * 512 + (y 1).val, by idx_bounds y; omega⟩ : Fin 8192) (y 2) := by blk_ext [h3]
  rw [e]
  exact (congrArg _ (show y = ix3 0 (y 1) (y 2) by blk_ext)).trans (stored m c t _ rfl (y 1) _ rfl (y 2))

end Cert.Kernel9Ideal.Gate

namespace Cert.Reference9Ideal.Gate

open Cert.Reference9Ideal Cert.Reference9Ideal.Gen Cert.Reference9Ideal.Read Idealize.ShloMosaic.TcCoe
open Idealize.ShloMosaic

/-! ## The reference -/

variable (x0 : (⟨S2x8192x512, .f32⟩ : BufTy).Contents (Elt Ideal)) (x1 : (⟨S2x8192x128, .f32⟩ : BufTy).Contents (Elt Ideal))
  (x2 : (⟨S128x512, .f32⟩ : BufTy).Contents (Elt Ideal)) (b : Fin 2) (r : Fin 8192)

/-- The reference's result, at one element. -/
theorem v7_row (n : Fin 512) : val_main_v7 (F := Ideal) x0 x1 x2 (ix3 b r n)
    = x0 (ix3 b r n) * ∑ k, Ideal.div 1 (1 + Ideal.exp (-x1 (ix3 b r k))) * x2 (ix2 k n) := by
  unfold val_main_v7 val_main_v6 val_main_v5 val_main_v4 val_main_v3 val_main_v2 val_main_v1 val_main_v0 val_main_cst val_main_cst_0
  pointwise

end Cert.Reference9Ideal.Gate

namespace Cert.Proof

open Idealize.ShloMosaic Idealize.SL.Sem

/-- The reference runs, leaves its arguments as they were, and ends with no semaphore raised. -/
theorem quiescent_Reference9Ideal : quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

/-- The reference's result depends on its arguments alone. -/
theorem gate9_congr {x0 y0 : FVec Ideal Cert.Reference9Ideal.S2x8192x512 .f32}
    {x1 y1 : FVec Ideal Cert.Reference9Ideal.S2x8192x128 .f32} {x2 y2 : FVec Ideal Cert.Reference9Ideal.S128x512 .f32}
    (h0 : x0 = y0) (h1 : x1 = y1) (h2 : x2 = y2) :
    Cert.Reference9Ideal.Read.val_main_v7 (F := Ideal) x0 x1 x2 = Cert.Reference9Ideal.Read.val_main_v7 (F := Ideal) y0 y1 y2 := by
  rw [h0, h1, h2]

/-- The idealized kernel and the reference, started on the same arguments, return the same array. -/
theorem algebraic9 : algebraic_Kernel9Ideal_Reference9Ideal := by
  intro m ρ m' ρ' hpre hagree
  refine ⟨_, Cert.Kernel9Ideal.Value.run_blocks (F := Ideal) m ρ, ?_⟩
  refine (θ_run Cert.Reference9Ideal.defs _ _).mono (fun _ h c => ⟨?_, (h c).2⟩) (Cert.Reference9Ideal.Value.run (F := Ideal) m' ρ')
  refine (h c).1.trans ((Cert.Reference9Ideal.Read.val_main_v7_eq _ _ _).trans ?_)
  refine Eq.trans ?_ (Cert.Kernel9Ideal.Gate.final m c).symm
  obtain ⟨h0, h1, h2⟩ := hagree c
  refine (gate9_congr h0 h1 h2).trans ?_
  funext i
  rw [eq_ix3 i]
  exact Cert.Reference9Ideal.Gate.v7_row _ _ _ _ _ _

end Cert.Proof

end
-- ==== Proof.ProjOut.lean ====
module

public import proofs.«01_k».proof.Defs
public import proofs.«01_k».proof.Proof.Spec
public import proofs.«01_k».proof.Proof.Gen.Kernel6Ideal.Value
public import proofs.«01_k».proof.Proof.Gen.Reference6Ideal.Run
public import proofs.«01_k».proof.Proof.Gen.Reference6Ideal.Read
public import Idealize.ShloMosaic.Lib.Pointwise
public import Idealize.ShloMosaic.Lib.Pipeline.ValueKit
public import Idealize.ShloMosaic.Lib.Claim
public import Idealize.ShloMosaic.Lib.Quiescent
public import Idealize.ShloMosaic.Lib.Tactic.ValueTie

@[expose] public section

set_option maxRecDepth 16384

noncomputable section

/-! # The output projection

One row of the mixed heads is multiplied by the weight, normalized, and added to the input's row through a gate. Both
programs compute this row; the kernel takes 512 rows at each grid point. -/

namespace Cert.Kernel6Ideal.Proj

open Cert.Kernel6Ideal Cert.Kernel6Ideal.Gen Idealize.ShloMosaic.TcCoe
open Idealize.ShloMosaic

variable (m : (ℓ : Loc nD τ sig) → Buf (Elt Ideal) ℓ) (c : Dev nD)

/-! ## The kernel -/

/-- The mixed heads. -/
abbrev A0 : S2x8192x1024.Idx → EReal := m ((c : Thread nD τ).loc main_arg0)
/-- The weight. -/
abbrev A1 : S1024x1024.Idx → EReal := m ((c : Thread nD τ).loc main_arg1)
/-- The rows that the result is added to. -/
abbrev A2 : S2x8192x1024.Idx → EReal := m ((c : Thread nD τ).loc main_arg2)
/-- The gain. -/
abbrev A3 : S1024.Idx → EReal := m ((c : Thread nD τ).loc main_arg3)
/-- The gate. -/
abbrev A4 : S2x1024.Idx → EReal := m ((c : Thread nD τ).loc main_arg4)

/-- The layer's rows after the projection: the input plus the gated, normalized product. -/
def proj : S2x8192x1024.Idx → EReal := fun i =>
  A2 m c i + A4 m c (ix2 (i 0) (i 2))
    * (Moe.nrm (fun n => ∑ k, A0 m c (ix3 (i 0) (i 1) k) * A1 m c (ix2 k n)) (i 2) * A3 m c (ix1 (i 2)))

/-- The windows' block indices at a grid point. -/
theorem index_val : ∀ t : Fin cfg0.N, win0_0.index t = ![t.val / 16, t.val % 16, 0] ∧ win0_1.index t = ![0, 0]
    ∧ win0_2.index t = ![t.val / 16, t.val % 16, 0] ∧ win0_3.index t = ![0, 0] ∧ win0_4.index t = ![t.val / 16, 0, 0]
    ∧ win0_5.index t = ![t.val / 16, t.val % 16, 0] := by
  decide +kernel

/-- The mixed heads, whose rounding changes nothing here. -/
theorem host0 (b : Fin 2) (r : Fin 8192) (k : Fin 1024) : V m c main_v0 (ix3 b r k) = A0 m c (ix3 b r k) := by
  entry_read
  pointwise

/-- The weight, whose rounding changes nothing here. -/
theorem host1 (k n : Fin 1024) : V m c main_v1 (ix2 k n) = A1 m c (ix2 k n) := by
  entry_read
  pointwise

/-- The gain as a one-row array. -/
theorem host3 (k : Fin 1024) : V m c main_v2 (ix2 0 k) = A3 m c (ix1 k) := by
  entry_read
  pointwise

/-- The gate with a row axis. -/
theorem host4 (b : Fin 2) (k : Fin 1024) : V m c main_v3 (ix3 b 0 k) = A4 m c (ix2 b k) := by
  entry_read
  pointwise

/-- The mixed heads' rows of a grid point. -/
theorem blk0 (t : Fin cfg0.N) (b : Fin 2) (hb : t.val / 16 = b.val) (p : Fin 512) (r : Fin 8192)
    (hr : r.val = t.val % 16 * 512 + p.val) (k : Fin 1024) : iblk m c 0 t (ix3 0 p k) = A0 m c (ix3 b r k) := by
  have h := (index_val t).1
  refine Eq.trans ?_ (host0 m c b r k)
  show V m c main_v0 (((cfg0.win 0).blk t).view.emb (ix3 0 p k)) = V m c main_v0 (ix3 b r k)
  refine congrArg (V m c main_v0) ?_
  blk_ext [h]

/-- The weight. -/
theorem blk1 (t : Fin cfg0.N) (k n : Fin 1024) : iblk m c 1 t (ix2 k n) = A1 m c (ix2 k n) := by
  have h := (index_val t).2.1
  refine Eq.trans ?_ (host1 m c k n)
  show V m c main_v1 (((cfg0.win 1).blk t).view.emb (ix2 k n)) = V m c main_v1 (ix2 k n)
  refine congrArg (V m c main_v1) ?_
  blk_ext [h]

/-- The input's rows of a grid point. -/
theorem blk2 (t : Fin cfg0.N) (b : Fin 2) (hb : t.val / 16 = b.val) (p : Fin 512) (r : Fin 8192)
    (hr : r.val = t.val % 16 * 512 + p.val) (k : Fin 1024) : iblk m c 2 t (ix3 0 p k) = A2 m c (ix3 b r k) := by
  have h := (index_val t).2.2.1
  blk_ext [iblk, V, h]

/-- The gain. -/
theorem blk3 (t : Fin cfg0.N) (k : Fin 1024) : iblk m c 3 t (ix2 0 k) = A3 m c (ix1 k) := by
  have h := (index_val t).2.2.2.1
  refine Eq.trans ?_ (host3 m c k)
  show V m c main_v2 (((cfg0.win 3).blk t).view.emb (ix2 0 k)) = V m c main_v2 (ix2 0 k)
  refine congrArg (V m c main_v2) ?_
  blk_ext [h]

/-- The gate. -/
theorem blk4 (t : Fin cfg0.N) (b : Fin 2) (hb : t.val / 16 = b.val) (k : Fin 1024) :
    iblk m c 4 t (ix3 0 0 k) = A4 m c (ix2 b k) := by
  have h := (index_val t).2.2.2.2.1
  refine Eq.trans ?_ (host4 m c b k)
  show V m c main_v3 (((cfg0.win 4).blk t).view.emb (ix3 0 0 k)) = V m c main_v3 (ix3 b 0 k)
  refine congrArg (V m c main_v3) ?_
  blk_ext [h]

/-- What the kernel stores, at one element. -/
theorem pay1_row (a : FVec Ideal S1x512x1024 .bf16) (w : FVec Ideal S1024x1024 .bf16) (x : FVec Ideal S1x512x1024 .f32)
    (q : FVec Ideal S1x1x1024 .f32) (g : FVec Ideal S1x1024 .f32) (p : Fin 512) (n : Fin 1024) :
    k0_pay1 (F := Ideal) a w x q g (ix3 0 p n)
      = x (ix3 0 p n) + q (ix3 0 0 n) * (Moe.nrm (fun n => ∑ k, a (ix3 0 p k) * w (ix2 k n)) n * g (ix2 0 n)) := by
  unfold k0_pay1
  pointwise
  rfl

/-- What a grid point stores at row `p` of its block is row `r` of the array. -/
theorem stored (t : Fin cfg0.N) (b : Fin 2) (hb : t.val / 16 = b.val) (p : Fin 512) (r : Fin 8192)
    (hr : r.val = t.val % 16 * 512 + p.val) (n : Fin 1024) :
    k0_pay1 (F := Ideal) (iblk m c 0 t) (iblk m c 1 t) (iblk m c 2 t) (iblk m c 4 t) (iblk m c 3 t) (ix3 0 p n)
      = proj m c (ix3 b r n) := by
  refine (pay1_row _ _ _ _ _ p n).trans ?_
  show _ = A2 m c (ix3 b r n) + A4 m c (ix2 b n)
    * (Moe.nrm (fun n => ∑ k, A0 m c (ix3 b r k) * A1 m c (ix2 k n)) n * A3 m c (ix1 n))
  refine congrArg₂ (fun y z => y + z) (blk2 m c t b hb p r hr n) ?_
  refine congrArg₂ (fun y z => y * z) (blk4 m c t b hb n) ?_
  refine congrArg₂ (fun y z => y * z) (congrArg (Moe.nrm · n) ?_) (blk3 m c t n)
  funext n
  exact Finset.sum_congr rfl fun k _ => congrArg₂ (fun y z => y * z) (blk0 m c t b hb p r hr k) (blk1 m c t k n)

/-- The kernel's array after the run. -/
theorem final : (dats m 0 c).arrAt 5 cfg0.N = proj m c := by
  refine (dats m 0 c).arrAt_eq_of_covers 5 _ (by decide +kernel) fun t hf y => ?_
  blk_simp
  rw [after0_5]
  frame_out
  have h5 := (index_val t).2.2.2.2.2
  have ht : t.val < 32 := t.isLt
  have e : (win0_5.blk t).view.emb y = ix3 (⟨t.val / 16, by omega⟩ : Fin 2)
      (⟨t.val % 16 * 512 + (y 1).val, by idx_bounds y; omega⟩ : Fin 8192) (y 2) := by blk_ext [h5]
  rw [e]
  exact (congrArg _ (show y = ix3 0 (y 1) (y 2) by blk_ext)).trans (stored m c t _ rfl (y 1) _ rfl (y 2))

end Cert.Kernel6Ideal.Proj

namespace Cert.Reference6Ideal.Proj

open Cert.Reference6Ideal Cert.Reference6Ideal.Gen Cert.Reference6Ideal.Read Idealize.ShloMosaic.TcCoe
open Idealize.ShloMosaic

/-! ## The reference -/

variable (x0 : (⟨S2x8192x1024, .f32⟩ : BufTy).Contents (Elt Ideal)) (x1 : (⟨S1024x1024, .f32⟩ : BufTy).Contents (Elt Ideal))
  (x2 : (⟨S2x8192x1024, .f32⟩ : BufTy).Contents (Elt Ideal)) (x3 : (⟨S1024, .f32⟩ : BufTy).Contents (Elt Ideal))
  (x4 : (⟨S2x1024, .f32⟩ : BufTy).Contents (Elt Ideal)) (b : Fin 2) (r : Fin 8192)

/-- The reference's product, at one element. -/
theorem v1_row (n : Fin 1024) : val_main_v1 (F := Ideal) x0 x1 (ix3 b r n) = ∑ k, x0 (ix3 b r k) * x1 (ix2 k n) := by
  rw [val_main_v1_apply]
  refine Finset.sum_congr rfl fun k _ => ?_
  rw [show lidx_main_v1 (ix3 b r n) k = ix3 b r k from eq_ix3 _, show ridx_main_v1 (ix3 b r n) k = ix2 k n from eq_ix2 _]

/-- The reference's result, at one element. -/
theorem v17_row (n : Fin 1024) : val_main_v17 (F := Ideal) x0 x1 x2 x3 x4 (ix3 b r n)
    = x2 (ix3 b r n) + x4 (ix2 b n)
        * (Moe.nrm (fun n => ∑ k, x0 (ix3 b r k) * x1 (ix2 k n)) n * x3 (ix1 n)) := by
  have a1 : idx_main_v4 (idx_main_v10 (ix3 b r n)) = ix2 b r := eq_ix2 _
  have a2 : ∀ i, idx_main_v3 (ix2 b r) i = ix3 b r i := fun i => eq_ix3 _
  have a3 : idx_main_v12 (idx_main_v13 (ix3 b r n)) = ix1 n := eq_ix1 _
  have a4 : idx_main_v0 (idx_main_v15 (ix3 b r n)) = ix2 b n := eq_ix2 _
  rw [val_main_v17_apply, val_main_v16_apply, val_main_v15_apply, val_main_v0_apply, val_main_v14_apply, val_main_v13_apply,
    val_main_v12_apply, val_main_v11_apply, val_main_v10_apply, val_main_v9_apply, val_main_v8_apply, val_main_v7_apply,
    val_main_cst_1_apply, val_main_v6_apply, val_main_v5_apply, val_main_cst_0_apply, val_main_v4_apply, val_main_v3_apply,
    val_main_cst_apply, a1, a3, a4]
  simp only [val_main_v2_apply, a2, v1_row]
  simp only [Moe.nrm, Moe.width, Moe.eps, Ideal.ofBits_def, Ideal.ofBits_zero_f32, zero_add,
    Ideal.addf_def, Ideal.mulf_def, Ideal.hostUnary_rsqrt_def, Ideal.hostDivf_def]

end Cert.Reference6Ideal.Proj

namespace Cert.Proof

open Idealize.ShloMosaic Idealize.SL.Sem

/-- The reference runs, leaves its arguments as they were, and ends with no semaphore raised. -/
theorem quiescent_Reference6Ideal : quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

/-- The reference's result depends on its arguments alone. -/
theorem proj6_congr {x0 y0 x2 y2 : FVec Ideal Cert.Reference6Ideal.S2x8192x1024 .f32}
    {x1 y1 : FVec Ideal Cert.Reference6Ideal.S1024x1024 .f32}
    {x3 y3 : FVec Ideal Cert.Reference6Ideal.S1024 .f32}
    {x4 y4 : FVec Ideal Cert.Reference6Ideal.S2x1024 .f32}
    (h0 : x0 = y0) (h1 : x1 = y1) (h2 : x2 = y2) (h3 : x3 = y3) (h4 : x4 = y4) :
    Cert.Reference6Ideal.Read.val_main_v17 (F := Ideal) x0 x1 x2 x3 x4
      = Cert.Reference6Ideal.Read.val_main_v17 (F := Ideal) y0 y1 y2 y3 y4 := by
  rw [h0, h1, h2, h3, h4]

/-- The idealized kernel and the reference, started on the same arguments, return the same array. -/
theorem algebraic6 : algebraic_Kernel6Ideal_Reference6Ideal := by
  intro m ρ m' ρ' hpre hagree
  refine ⟨_, Cert.Kernel6Ideal.Value.run_blocks (F := Ideal) m ρ, ?_⟩
  refine (θ_run Cert.Reference6Ideal.defs _ _).mono (fun _ h c => ⟨?_, (h c).2⟩) (Cert.Reference6Ideal.Value.run (F := Ideal) m' ρ')
  refine (h c).1.trans ((Cert.Reference6Ideal.Read.val_main_v17_eq _ _ _ _ _).trans ?_)
  refine Eq.trans ?_ (Cert.Kernel6Ideal.Proj.final m c).symm
  obtain ⟨h0, h1, h2, h3, h4⟩ := hagree c
  refine (proj6_congr h0 h1 h2 h3 h4).trans ?_
  funext i
  rw [eq_ix3 i]
  exact Cert.Reference6Ideal.Proj.v17_row _ _ _ _ _ _ _ _

end Cert.Proof

end
-- ==== Proof.ProjInOdd.lean ====
module

public import proofs.«01_k».proof.Defs
public import proofs.«01_k».proof.Proof.Spec
public import proofs.«01_k».proof.Proof.Gen.Kernel5Ideal.Value
public import proofs.«01_k».proof.Proof.Gen.Reference5Ideal.Run
public import proofs.«01_k».proof.Proof.Gen.Reference5Ideal.Read
public import Idealize.ShloMosaic.Lib.Pointwise
public import Idealize.ShloMosaic.Lib.Pipeline.ValueKit
public import Idealize.ShloMosaic.Lib.Claim
public import Idealize.ShloMosaic.Lib.Quiescent
public import Idealize.ShloMosaic.Lib.Tactic.ValueTie

@[expose] public section

set_option maxRecDepth 16384

noncomputable section

/-! # The input projection of the odd layer

One row of the input is normalized, modulated and multiplied by the weight. Both programs compute this row; the kernel
takes 256 rows at each grid point. -/

namespace Cert.Kernel5Ideal.Proj

open Cert.Kernel5Ideal Cert.Kernel5Ideal.Gen Idealize.ShloMosaic.TcCoe
open Idealize.ShloMosaic

variable (m : (ℓ : Loc nD τ sig) → Buf (Elt Ideal) ℓ) (c : Dev nD)

/-! ## The kernel -/

/-- The input rows. -/
abbrev A0 : S2x8192x1024.Idx → EReal := m ((c : Thread nD τ).loc main_arg0)
/-- The gain. -/
abbrev A1 : S1024.Idx → EReal := m ((c : Thread nD τ).loc main_arg1)
/-- The shift. -/
abbrev A2 : S2x1024.Idx → EReal := m ((c : Thread nD τ).loc main_arg2)
/-- The scale. -/
abbrev A3 : S2x1024.Idx → EReal := m ((c : Thread nD τ).loc main_arg3)
/-- The weight. -/
abbrev A4 : S1024x3456.Idx → EReal := m ((c : Thread nD τ).loc main_arg4)

/-- The projection of every row: the modulated row times the weight. -/
def proj : S2x8192x3456.Idx → EReal := fun i =>
  ∑ k, Moe.hid (fun k => A0 m c (ix3 (i 0) (i 1) k)) (fun k => A1 m c (ix1 k)) (fun k => A3 m c (ix2 (i 0) k))
    (fun k => A2 m c (ix2 (i 0) k)) k * A4 m c (ix2 k (i 2))

/-- The windows' block indices at a grid point. -/
theorem index_val : ∀ t : Fin cfg0.N, win0_0.index t = ![t.val / 32, t.val % 32, 0] ∧ win0_1.index t = ![0, 0]
    ∧ win0_2.index t = ![t.val / 32, 0, 0] ∧ win0_3.index t = ![t.val / 32, 0, 0] ∧ win0_4.index t = ![0, 0]
    ∧ win0_5.index t = ![t.val / 32, t.val % 32, 0] := by
  decide +kernel

/-- The gain as a one-row array. -/
theorem host1 (k : Fin 1024) : V m c main_v1 (ix2 0 k) = A1 m c (ix1 k) := by
  entry_read
  pointwise

/-- The shift with a row axis. -/
theorem host2 (b : Fin 2) (k : Fin 1024) : V m c main_v2 (ix3 b 0 k) = A2 m c (ix2 b k) := by
  entry_read
  pointwise

/-- The scale with a row axis. -/
theorem host3 (b : Fin 2) (k : Fin 1024) : V m c main_v3 (ix3 b 0 k) = A3 m c (ix2 b k) := by
  entry_read
  pointwise

/-- The weight, whose rounding changes nothing here. -/
theorem host4 (k : Fin 1024) (n : Fin 3456) : V m c main_v0 (ix2 k n) = A4 m c (ix2 k n) := by
  entry_read
  pointwise

/-- The rows of a grid point. -/
theorem blk0 (t : Fin cfg0.N) (b : Fin 2) (hb : t.val / 32 = b.val) (p : Fin 256) (r : Fin 8192)
    (hr : r.val = t.val % 32 * 256 + p.val) (k : Fin 1024) : iblk m c 0 t (ix3 0 p k) = A0 m c (ix3 b r k) := by
  have h := (index_val t).1
  blk_ext [iblk, V, h]

/-- The gain. -/
theorem blk1 (t : Fin cfg0.N) (k : Fin 1024) : iblk m c 1 t (ix2 0 k) = A1 m c (ix1 k) := by
  have h := (index_val t).2.1
  refine Eq.trans ?_ (host1 m c k)
  show V m c main_v1 (((cfg0.win 1).blk t).view.emb (ix2 0 k)) = V m c main_v1 (ix2 0 k)
  refine congrArg (V m c main_v1) ?_
  blk_ext [h]

/-- The shift. -/
theorem blk2 (t : Fin cfg0.N) (b : Fin 2) (hb : t.val / 32 = b.val) (k : Fin 1024) :
    iblk m c 2 t (ix3 0 0 k) = A2 m c (ix2 b k) := by
  have h := (index_val t).2.2.1
  refine Eq.trans ?_ (host2 m c b k)
  show V m c main_v2 (((cfg0.win 2).blk t).view.emb (ix3 0 0 k)) = V m c main_v2 (ix3 b 0 k)
  refine congrArg (V m c main_v2) ?_
  blk_ext [h]

/-- The scale. -/
theorem blk3 (t : Fin cfg0.N) (b : Fin 2) (hb : t.val / 32 = b.val) (k : Fin 1024) :
    iblk m c 3 t (ix3 0 0 k) = A3 m c (ix2 b k) := by
  have h := (index_val t).2.2.2.1
  refine Eq.trans ?_ (host3 m c b k)
  show V m c main_v3 (((cfg0.win 3).blk t).view.emb (ix3 0 0 k)) = V m c main_v3 (ix3 b 0 k)
  refine congrArg (V m c main_v3) ?_
  blk_ext [h]

/-- The weight. -/
theorem blk4 (t : Fin cfg0.N) (k : Fin 1024) (n : Fin 3456) : iblk m c 4 t (ix2 k n) = A4 m c (ix2 k n) := by
  have h := (index_val t).2.2.2.2.1
  refine Eq.trans ?_ (host4 m c k n)
  show V m c main_v0 (((cfg0.win 4).blk t).view.emb (ix2 k n)) = V m c main_v0 (ix2 k n)
  refine congrArg (V m c main_v0) ?_
  blk_ext [h]

/-- What the kernel stores, at one element. -/
theorem pay1_row (x : FVec Ideal S1x256x1024 .f32) (g : FVec Ideal S1x1024 .f32) (s t : FVec Ideal S1x1x1024 .f32)
    (w : FVec Ideal S1024x3456 .bf16) (p : Fin 256) (n : Fin 3456) :
    k0_pay1 (F := Ideal) x g s t w (ix3 0 p n)
      = ∑ k, Moe.hid (fun k => x (ix3 0 p k)) (fun k => g (ix2 0 k)) (fun k => s (ix3 0 0 k)) (fun k => t (ix3 0 0 k)) k
          * w (ix2 k n) := by
  unfold k0_pay1
  pointwise
  rfl

/-- What a grid point stores at row `p` of its block is the projection of row `r` of the array. -/
theorem stored (t : Fin cfg0.N) (b : Fin 2) (hb : t.val / 32 = b.val) (p : Fin 256) (r : Fin 8192)
    (hr : r.val = t.val % 32 * 256 + p.val) (n : Fin 3456) :
    k0_pay1 (F := Ideal) (iblk m c 0 t) (iblk m c 1 t) (iblk m c 3 t) (iblk m c 2 t) (iblk m c 4 t) (ix3 0 p n)
      = proj m c (ix3 b r n) := by
  refine (pay1_row _ _ _ _ _ p n).trans ?_
  show _ = ∑ k, Moe.hid (fun k => A0 m c (ix3 b r k)) (fun k => A1 m c (ix1 k)) (fun k => A3 m c (ix2 b k))
    (fun k => A2 m c (ix2 b k)) k * A4 m c (ix2 k n)
  refine Finset.sum_congr rfl fun k _ => congrArg₂ (fun y z => y * z) ?_ (blk4 m c t k n)
  congr 1 <;> funext k
  · exact blk0 m c t b hb p r hr k
  · exact blk1 m c t k
  · exact blk3 m c t b hb k
  · exact blk2 m c t b hb k

/-- The kernel's array after the run. -/
theorem final : (dats m 0 c).arrAt 5 cfg0.N = proj m c := by
  refine (dats m 0 c).arrAt_eq_of_covers 5 _ (by decide +kernel) fun t hf y => ?_
  blk_simp
  rw [after0_5]
  frame_out
  have h5 := (index_val t).2.2.2.2.2
  have ht : t.val < 64 := t.isLt
  have e : (win0_5.blk t).view.emb y = ix3 (⟨t.val / 32, by omega⟩ : Fin 2)
      (⟨t.val % 32 * 256 + (y 1).val, by idx_bounds y; omega⟩ : Fin 8192) (y 2) := by blk_ext [h5]
  rw [e]
  exact (congrArg _ (show y = ix3 0 (y 1) (y 2) by blk_ext)).trans (stored m c t _ rfl (y 1) _ rfl (y 2))

end Cert.Kernel5Ideal.Proj

namespace Cert.Reference5Ideal.Proj

open Cert.Reference5Ideal Cert.Reference5Ideal.Gen Cert.Reference5Ideal.Read Idealize.ShloMosaic.TcCoe
open Idealize.ShloMosaic

/-! ## The reference -/

variable (x0 : (⟨S2x8192x1024, .f32⟩ : BufTy).Contents (Elt Ideal)) (x1 : (⟨S1024, .f32⟩ : BufTy).Contents (Elt Ideal))
  (x2 x3 : (⟨S2x1024, .f32⟩ : BufTy).Contents (Elt Ideal)) (x4 : (⟨S1024x3456, .f32⟩ : BufTy).Contents (Elt Ideal))
  (b : Fin 2) (r : Fin 8192)

/-- The reference's modulated row. -/
theorem v20_row (k : Fin 1024) : val_main_v20 (F := Ideal) x0 x1 x2 x3 (ix3 b r k)
    = Moe.hid (fun k => x0 (ix3 b r k)) (fun k => x1 (ix1 k)) (fun k => x3 (ix2 b k)) (fun k => x2 (ix2 b k)) k := by
  have a1 : idx_main_v2 (idx_main_v8 (ix3 b r k)) = ix2 b r := eq_ix2 _
  have a2 : ∀ i, idx_main_v1 (ix2 b r) i = ix3 b r i := fun i => eq_ix3 _
  have a3 : idx_main_v10 (idx_main_v11 (ix3 b r k)) = ix1 k := eq_ix1 _
  have a4 : idx_main_v14 (idx_main_v17 (ix3 b r k)) = ix2 b k := eq_ix2 _
  have a5 : idx_main_v13 (idx_main_v19 (ix3 b r k)) = ix2 b k := eq_ix2 _
  rw [val_main_v20_apply, val_main_v19_apply, val_main_v18_apply, val_main_v17_apply, val_main_v16_apply, val_main_v15_apply,
    val_main_cst_2_apply, val_main_v14_apply, val_main_v13_apply, val_main_v12_apply, val_main_v11_apply, val_main_v10_apply,
    val_main_v9_apply, val_main_v8_apply, val_main_v7_apply, val_main_v6_apply, val_main_v5_apply, val_main_cst_1_apply,
    val_main_v4_apply, val_main_v3_apply, val_main_cst_0_apply, val_main_v2_apply, val_main_v1_apply, val_main_cst_apply,
    a1, a3, a4, a5]
  simp only [val_main_v0_apply, a2]
  simp only [Moe.hid, Moe.nrm, Moe.width, Moe.eps, Ideal.ofBits_def, Ideal.ofBits_one_f32, Ideal.ofBits_zero_f32, zero_add,
    Ideal.addf_def, Ideal.mulf_def, Ideal.hostUnary_rsqrt_def, Ideal.hostDivf_def]

/-- The reference's result, at one element. -/
theorem v21_row (n : Fin 3456) : val_main_v21 (F := Ideal) x0 x1 x2 x3 x4 (ix3 b r n)
    = ∑ k, Moe.hid (fun k => x0 (ix3 b r k)) (fun k => x1 (ix1 k)) (fun k => x3 (ix2 b k)) (fun k => x2 (ix2 b k)) k
        * x4 (ix2 k n) := by
  rw [val_main_v21_apply]
  refine Finset.sum_congr rfl fun k _ => ?_
  rw [show lidx_main_v21 (ix3 b r n) k = ix3 b r k from eq_ix3 _, show ridx_main_v21 (ix3 b r n) k = ix2 k n from eq_ix2 _, v20_row]

end Cert.Reference5Ideal.Proj

namespace Cert.Proof

open Idealize.ShloMosaic Idealize.SL.Sem

/-- The reference runs, leaves its arguments as they were, and ends with no semaphore raised. -/
theorem quiescent_Reference5Ideal : quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- The reference's result depends on its arguments alone. -/
theorem proj5_congr {x0 y0 : FVec Ideal Cert.Reference5Ideal.S2x8192x1024 .f32}
    {x1 y1 : FVec Ideal Cert.Reference5Ideal.S1024 .f32}
    {x2 y2 x3 y3 : FVec Ideal Cert.Reference5Ideal.S2x1024 .f32}
    {x4 y4 : FVec Ideal Cert.Reference5Ideal.S1024x3456 .f32}
    (h0 : x0 = y0) (h1 : x1 = y1) (h2 : x2 = y2) (h3 : x3 = y3) (h4 : x4 = y4) :
    Cert.Reference5Ideal.Read.val_main_v21 (F := Ideal) x0 x1 x2 x3 x4
      = Cert.Reference5Ideal.Read.val_main_v21 (F := Ideal) y0 y1 y2 y3 y4 := by
  rw [h0, h1, h2, h3, h4]

/-- The idealized kernel and the reference, started on the same arguments, return the same array. -/
theorem algebraic5 : algebraic_Kernel5Ideal_Reference5Ideal := by
  intro m ρ m' ρ' hpre hagree
  refine ⟨_, Cert.Kernel5Ideal.Value.run_blocks (F := Ideal) m ρ, ?_⟩
  refine (θ_run Cert.Reference5Ideal.defs _ _).mono (fun _ h c => ⟨?_, (h c).2⟩) (Cert.Reference5Ideal.Value.run (F := Ideal) m' ρ')
  refine (h c).1.trans ((Cert.Reference5Ideal.Read.val_main_v21_eq _ _ _ _ _).trans ?_)
  refine Eq.trans ?_ (Cert.Kernel5Ideal.Proj.final m c).symm
  obtain ⟨h0, h1, h2, h3, h4⟩ := hagree c
  refine (proj5_congr h0 h1 h2 h3 h4).trans ?_
  funext i
  rw [eq_ix3 i]
  exact Cert.Reference5Ideal.Proj.v21_row _ _ _ _ _ _ _ _

end Cert.Proof

end
-- ==== Proof.ProjInEven.lean ====
module

public import proofs.«01_k».proof.Defs
public import proofs.«01_k».proof.Proof.Spec
public import proofs.«01_k».proof.Proof.Gen.Kernel4Ideal.Value
public import proofs.«01_k».proof.Proof.Gen.Reference4Ideal.Run
public import proofs.«01_k».proof.Proof.Gen.Reference4Ideal.Read
public import Idealize.ShloMosaic.Lib.Pointwise
public import Idealize.ShloMosaic.Lib.Pipeline.ValueKit
public import Idealize.ShloMosaic.Lib.Claim
public import Idealize.ShloMosaic.Lib.Quiescent
public import Idealize.ShloMosaic.Lib.Tactic.ValueTie

@[expose] public section

set_option maxRecDepth 16384

noncomputable section

/-! # The input projection of the even layer

One row of the input is normalized, modulated and multiplied by the weight. Both programs compute this row; the kernel
takes 256 rows at each grid point. -/

namespace Cert.Kernel4Ideal.Proj

open Cert.Kernel4Ideal Cert.Kernel4Ideal.Gen Idealize.ShloMosaic.TcCoe
open Idealize.ShloMosaic

variable (m : (ℓ : Loc nD τ sig) → Buf (Elt Ideal) ℓ) (c : Dev nD)

/-! ## The kernel -/

/-- The input rows. -/
abbrev A0 : S2x8192x1024.Idx → EReal := m ((c : Thread nD τ).loc main_arg0)
/-- The gain. -/
abbrev A1 : S1024.Idx → EReal := m ((c : Thread nD τ).loc main_arg1)
/-- The shift. -/
abbrev A2 : S2x1024.Idx → EReal := m ((c : Thread nD τ).loc main_arg2)
/-- The scale. -/
abbrev A3 : S2x1024.Idx → EReal := m ((c : Thread nD τ).loc main_arg3)
/-- The weight. -/
abbrev A4 : S1024x3072.Idx → EReal := m ((c : Thread nD τ).loc main_arg4)

/-- The projection of every row: the modulated row times the weight. -/
def proj : S2x8192x3072.Idx → EReal := fun i =>
  ∑ k, Moe.hid (fun k => A0 m c (ix3 (i 0) (i 1) k)) (fun k => A1 m c (ix1 k)) (fun k => A3 m c (ix2 (i 0) k))
    (fun k => A2 m c (ix2 (i 0) k)) k * A4 m c (ix2 k (i 2))

/-- The windows' block indices at a grid point. -/
theorem index_val : ∀ t : Fin cfg0.N, win0_0.index t = ![t.val / 32, t.val % 32, 0] ∧ win0_1.index t = ![0, 0]
    ∧ win0_2.index t = ![t.val / 32, 0, 0] ∧ win0_3.index t = ![t.val / 32, 0, 0] ∧ win0_4.index t = ![0, 0]
    ∧ win0_5.index t = ![t.val / 32, t.val % 32, 0] := by
  decide +kernel

/-- The gain as a one-row array. -/
theorem host1 (k : Fin 1024) : V m c main_v1 (ix2 0 k) = A1 m c (ix1 k) := by
  entry_read
  pointwise

/-- The shift with a row axis. -/
theorem host2 (b : Fin 2) (k : Fin 1024) : V m c main_v2 (ix3 b 0 k) = A2 m c (ix2 b k) := by
  entry_read
  pointwise

/-- The scale with a row axis. -/
theorem host3 (b : Fin 2) (k : Fin 1024) : V m c main_v3 (ix3 b 0 k) = A3 m c (ix2 b k) := by
  entry_read
  pointwise

/-- The weight, whose rounding changes nothing here. -/
theorem host4 (k : Fin 1024) (n : Fin 3072) : V m c main_v0 (ix2 k n) = A4 m c (ix2 k n) := by
  entry_read
  pointwise

/-- The rows of a grid point. -/
theorem blk0 (t : Fin cfg0.N) (b : Fin 2) (hb : t.val / 32 = b.val) (p : Fin 256) (r : Fin 8192)
    (hr : r.val = t.val % 32 * 256 + p.val) (k : Fin 1024) : iblk m c 0 t (ix3 0 p k) = A0 m c (ix3 b r k) := by
  have h := (index_val t).1
  blk_ext [iblk, V, h]

/-- The gain. -/
theorem blk1 (t : Fin cfg0.N) (k : Fin 1024) : iblk m c 1 t (ix2 0 k) = A1 m c (ix1 k) := by
  have h := (index_val t).2.1
  refine Eq.trans ?_ (host1 m c k)
  show V m c main_v1 (((cfg0.win 1).blk t).view.emb (ix2 0 k)) = V m c main_v1 (ix2 0 k)
  refine congrArg (V m c main_v1) ?_
  blk_ext [h]

/-- The shift. -/
theorem blk2 (t : Fin cfg0.N) (b : Fin 2) (hb : t.val / 32 = b.val) (k : Fin 1024) :
    iblk m c 2 t (ix3 0 0 k) = A2 m c (ix2 b k) := by
  have h := (index_val t).2.2.1
  refine Eq.trans ?_ (host2 m c b k)
  show V m c main_v2 (((cfg0.win 2).blk t).view.emb (ix3 0 0 k)) = V m c main_v2 (ix3 b 0 k)
  refine congrArg (V m c main_v2) ?_
  blk_ext [h]

/-- The scale. -/
theorem blk3 (t : Fin cfg0.N) (b : Fin 2) (hb : t.val / 32 = b.val) (k : Fin 1024) :
    iblk m c 3 t (ix3 0 0 k) = A3 m c (ix2 b k) := by
  have h := (index_val t).2.2.2.1
  refine Eq.trans ?_ (host3 m c b k)
  show V m c main_v3 (((cfg0.win 3).blk t).view.emb (ix3 0 0 k)) = V m c main_v3 (ix3 b 0 k)
  refine congrArg (V m c main_v3) ?_
  blk_ext [h]

/-- The weight. -/
theorem blk4 (t : Fin cfg0.N) (k : Fin 1024) (n : Fin 3072) : iblk m c 4 t (ix2 k n) = A4 m c (ix2 k n) := by
  have h := (index_val t).2.2.2.2.1
  refine Eq.trans ?_ (host4 m c k n)
  show V m c main_v0 (((cfg0.win 4).blk t).view.emb (ix2 k n)) = V m c main_v0 (ix2 k n)
  refine congrArg (V m c main_v0) ?_
  blk_ext [h]

/-- What the kernel stores, at one element. -/
theorem pay1_row (x : FVec Ideal S1x256x1024 .f32) (g : FVec Ideal S1x1024 .f32) (s t : FVec Ideal S1x1x1024 .f32)
    (w : FVec Ideal S1024x3072 .bf16) (p : Fin 256) (n : Fin 3072) :
    k0_pay1 (F := Ideal) x g s t w (ix3 0 p n)
      = ∑ k, Moe.hid (fun k => x (ix3 0 p k)) (fun k => g (ix2 0 k)) (fun k => s (ix3 0 0 k)) (fun k => t (ix3 0 0 k)) k
          * w (ix2 k n) := by
  unfold k0_pay1
  pointwise
  rfl

/-- What a grid point stores at row `p` of its block is the projection of row `r` of the array. -/
theorem stored (t : Fin cfg0.N) (b : Fin 2) (hb : t.val / 32 = b.val) (p : Fin 256) (r : Fin 8192)
    (hr : r.val = t.val % 32 * 256 + p.val) (n : Fin 3072) :
    k0_pay1 (F := Ideal) (iblk m c 0 t) (iblk m c 1 t) (iblk m c 3 t) (iblk m c 2 t) (iblk m c 4 t) (ix3 0 p n)
      = proj m c (ix3 b r n) := by
  refine (pay1_row _ _ _ _ _ p n).trans ?_
  show _ = ∑ k, Moe.hid (fun k => A0 m c (ix3 b r k)) (fun k => A1 m c (ix1 k)) (fun k => A3 m c (ix2 b k))
    (fun k => A2 m c (ix2 b k)) k * A4 m c (ix2 k n)
  refine Finset.sum_congr rfl fun k _ => congrArg₂ (fun y z => y * z) ?_ (blk4 m c t k n)
  congr 1 <;> funext k
  · exact blk0 m c t b hb p r hr k
  · exact blk1 m c t k
  · exact blk3 m c t b hb k
  · exact blk2 m c t b hb k

/-- The kernel's array after the run. -/
theorem final : (dats m 0 c).arrAt 5 cfg0.N = proj m c := by
  refine (dats m 0 c).arrAt_eq_of_covers 5 _ (by decide +kernel) fun t hf y => ?_
  blk_simp
  rw [after0_5]
  frame_out
  have h5 := (index_val t).2.2.2.2.2
  have ht : t.val < 64 := t.isLt
  have e : (win0_5.blk t).view.emb y = ix3 (⟨t.val / 32, by omega⟩ : Fin 2)
      (⟨t.val % 32 * 256 + (y 1).val, by idx_bounds y; omega⟩ : Fin 8192) (y 2) := by blk_ext [h5]
  rw [e]
  exact (congrArg _ (show y = ix3 0 (y 1) (y 2) by blk_ext)).trans (stored m c t _ rfl (y 1) _ rfl (y 2))

end Cert.Kernel4Ideal.Proj

namespace Cert.Reference4Ideal.Proj

open Cert.Reference4Ideal Cert.Reference4Ideal.Gen Cert.Reference4Ideal.Read Idealize.ShloMosaic.TcCoe
open Idealize.ShloMosaic

/-! ## The reference -/

variable (x0 : (⟨S2x8192x1024, .f32⟩ : BufTy).Contents (Elt Ideal)) (x1 : (⟨S1024, .f32⟩ : BufTy).Contents (Elt Ideal))
  (x2 x3 : (⟨S2x1024, .f32⟩ : BufTy).Contents (Elt Ideal)) (x4 : (⟨S1024x3072, .f32⟩ : BufTy).Contents (Elt Ideal))
  (b : Fin 2) (r : Fin 8192)

/-- The reference's modulated row. -/
theorem v20_row (k : Fin 1024) : val_main_v20 (F := Ideal) x0 x1 x2 x3 (ix3 b r k)
    = Moe.hid (fun k => x0 (ix3 b r k)) (fun k => x1 (ix1 k)) (fun k => x3 (ix2 b k)) (fun k => x2 (ix2 b k)) k := by
  have a1 : idx_main_v2 (idx_main_v8 (ix3 b r k)) = ix2 b r := eq_ix2 _
  have a2 : ∀ i, idx_main_v1 (ix2 b r) i = ix3 b r i := fun i => eq_ix3 _
  have a3 : idx_main_v10 (idx_main_v11 (ix3 b r k)) = ix1 k := eq_ix1 _
  have a4 : idx_main_v14 (idx_main_v17 (ix3 b r k)) = ix2 b k := eq_ix2 _
  have a5 : idx_main_v13 (idx_main_v19 (ix3 b r k)) = ix2 b k := eq_ix2 _
  rw [val_main_v20_apply, val_main_v19_apply, val_main_v18_apply, val_main_v17_apply, val_main_v16_apply, val_main_v15_apply,
    val_main_cst_2_apply, val_main_v14_apply, val_main_v13_apply, val_main_v12_apply, val_main_v11_apply, val_main_v10_apply,
    val_main_v9_apply, val_main_v8_apply, val_main_v7_apply, val_main_v6_apply, val_main_v5_apply, val_main_cst_1_apply,
    val_main_v4_apply, val_main_v3_apply, val_main_cst_0_apply, val_main_v2_apply, val_main_v1_apply, val_main_cst_apply,
    a1, a3, a4, a5]
  simp only [val_main_v0_apply, a2]
  simp only [Moe.hid, Moe.nrm, Moe.width, Moe.eps, Ideal.ofBits_def, Ideal.ofBits_one_f32, Ideal.ofBits_zero_f32, zero_add,
    Ideal.addf_def, Ideal.mulf_def, Ideal.hostUnary_rsqrt_def, Ideal.hostDivf_def]

/-- The reference's result, at one element. -/
theorem v21_row (n : Fin 3072) : val_main_v21 (F := Ideal) x0 x1 x2 x3 x4 (ix3 b r n)
    = ∑ k, Moe.hid (fun k => x0 (ix3 b r k)) (fun k => x1 (ix1 k)) (fun k => x3 (ix2 b k)) (fun k => x2 (ix2 b k)) k
        * x4 (ix2 k n) := by
  rw [val_main_v21_apply]
  refine Finset.sum_congr rfl fun k _ => ?_
  rw [show lidx_main_v21 (ix3 b r n) k = ix3 b r k from eq_ix3 _, show ridx_main_v21 (ix3 b r n) k = ix2 k n from eq_ix2 _, v20_row]

end Cert.Reference4Ideal.Proj

namespace Cert.Proof

open Idealize.ShloMosaic Idealize.SL.Sem

/-- The reference runs, leaves its arguments as they were, and ends with no semaphore raised. -/
theorem quiescent_Reference4Ideal : quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- The reference's result depends on its arguments alone. -/
theorem proj4_congr {x0 y0 : FVec Ideal Cert.Reference4Ideal.S2x8192x1024 .f32}
    {x1 y1 : FVec Ideal Cert.Reference4Ideal.S1024 .f32}
    {x2 y2 x3 y3 : FVec Ideal Cert.Reference4Ideal.S2x1024 .f32}
    {x4 y4 : FVec Ideal Cert.Reference4Ideal.S1024x3072 .f32}
    (h0 : x0 = y0) (h1 : x1 = y1) (h2 : x2 = y2) (h3 : x3 = y3) (h4 : x4 = y4) :
    Cert.Reference4Ideal.Read.val_main_v21 (F := Ideal) x0 x1 x2 x3 x4
      = Cert.Reference4Ideal.Read.val_main_v21 (F := Ideal) y0 y1 y2 y3 y4 := by
  rw [h0, h1, h2, h3, h4]

/-- The idealized kernel and the reference, started on the same arguments, return the same array. -/
theorem algebraic4 : algebraic_Kernel4Ideal_Reference4Ideal := by
  intro m ρ m' ρ' hpre hagree
  refine ⟨_, Cert.Kernel4Ideal.Value.run_blocks (F := Ideal) m ρ, ?_⟩
  refine (θ_run Cert.Reference4Ideal.defs _ _).mono (fun _ h c => ⟨?_, (h c).2⟩) (Cert.Reference4Ideal.Value.run (F := Ideal) m' ρ')
  refine (h c).1.trans ((Cert.Reference4Ideal.Read.val_main_v21_eq _ _ _ _ _).trans ?_)
  refine Eq.trans ?_ (Cert.Kernel4Ideal.Proj.final m c).symm
  obtain ⟨h0, h1, h2, h3, h4⟩ := hagree c
  refine (proj4_congr h0 h1 h2 h3 h4).trans ?_
  funext i
  rw [eq_ix3 i]
  exact Cert.Reference4Ideal.Proj.v21_row _ _ _ _ _ _ _ _

end Cert.Proof

end
-- ==== Proof.AttnOdd.lean ====
module

public import proofs.«01_k».proof.Defs
public import proofs.«01_k».proof.Proof.Attn
public import proofs.«01_k».proof.Proof.PreFinite
public import proofs.«01_k».proof.Proof.Gen.Kernel7Ideal.Value
public import proofs.«01_k».proof.Proof.Gen.Reference7Ideal.Run
public import proofs.«01_k».proof.Proof.Gen.Reference7Ideal.Read
public import Idealize.ShloMosaic.Lib.Pointwise
public import Idealize.ShloMosaic.Lib.Pipeline.ValueKit
public import Idealize.ShloMosaic.Lib.Claim
public import Idealize.ShloMosaic.Lib.Quiescent
public import Idealize.ShloMosaic.Lib.Tactic.ValueTie

@[expose] public section

set_option maxRecDepth 16384

noncomputable section

/-! # The attention of the odd layer's latent rows

Each head has two maps of queries and keys and one of values. Both programs weigh the values of a map's head by the softmax
of the map's scores; the kernel takes 256 queries of one map at each grid point. -/

namespace Attn

open Idealize.ShloMosaic

/-- The factor of the scores, as the programs write it. -/
def factor7 : EReal := Ideal.ofBits .f32 0x3E000000#32

theorem factor7_real : ∃ r : ℝ, 0 ≤ r ∧ factor7 = (r : EReal) := by
  unfold factor7
  simp only [Ideal.ofBits, Ideal.ieee]
  refine ⟨_, ?_, by simp [-EReal.coe_mul]; rfl⟩
  norm_num

end Attn

namespace Cert.Kernel7Ideal.Att

open Cert.Kernel7Ideal Cert.Kernel7Ideal.Gen Idealize.ShloMosaic.TcCoe
open Idealize.ShloMosaic

variable (m : (ℓ : Loc nD τ sig) → Buf (Elt Ideal) ℓ) (c : Dev nD)

/-! ## The kernel -/

/-- The queries. -/
abbrev A0 : S2x8x8192x64.Idx → EReal := m ((c : Thread nD τ).loc main_arg0)
/-- The keys. -/
abbrev A1 : S2x8x8448x64.Idx → EReal := m ((c : Thread nD τ).loc main_arg1)
/-- The values. -/
abbrev A2 : S2x4x8448x128.Idx → EReal := m ((c : Thread nD τ).loc main_arg2)

/-- The keys' head that a query head reads. -/
abbrev kHead (h : Fin 8) : Fin 8 := ⟨h.val, by omega⟩
/-- The values' head that a query head reads. -/
abbrev vHead (h : Fin 8) : Fin 4 := ⟨h.val / 2, by omega⟩

/-- The scores of a query. -/
def srow (b : Fin 2) (h : Fin 8) (r : Fin 8192) : Fin 8448 → EReal :=
  Attn.scores Attn.factor7 (fun d => A0 m c (ix4 b h r d)) fun j d => A1 m c (ix4 b (kHead h) j d)

/-- The attention of every query. -/
def att : S2x8x8192x128.Idx → EReal := fun i =>
  Attn.row (srow m c (i 0) (i 1) (i 2)) fun j => A2 m c (ix4 (i 0) (vHead (i 1)) j (i 3))

/-- The windows' block indices at a grid point. -/
theorem index_val : ∀ t : Fin cfg0.N, win0_0.index t = ![t.val / 256, t.val / 32 % 8, t.val % 32, 0]
    ∧ win0_1.index t = ![t.val / 256, t.val / 32 % 8, 0, 0] ∧ win0_2.index t = ![t.val / 256, t.val / 32 % 8 / 2, 0, 0]
    ∧ win0_3.index t = ![t.val / 256, t.val / 32 % 8, t.val % 32, 0] := by
  decide +kernel

/-- The queries times the factor. -/
theorem host0 (b : Fin 2) (h : Fin 8) (r : Fin 8192) (d : Fin 64) :
    V m c main_v2 (ix4 b h r d) = A0 m c (ix4 b h r d) * Attn.factor7 := by
  unfold Attn.factor7
  entry_read
  pointwise

/-- The keys, whose rounding changes nothing here. -/
theorem host1 (b : Fin 2) (h : Fin 8) (j : Fin 8448) (d : Fin 64) : V m c main_v3 (ix4 b h j d) = A1 m c (ix4 b h j d) := by
  entry_read
  pointwise

/-- The values, whose rounding changes nothing here. -/
theorem host2 (b : Fin 2) (h : Fin 4) (j : Fin 8448) (d : Fin 128) : V m c main_v4 (ix4 b h j d) = A2 m c (ix4 b h j d) := by
  entry_read
  pointwise

/-- The queries of a grid point. -/
theorem blk0 (t : Fin cfg0.N) (b : Fin 2) (hb : t.val / 256 = b.val) (h : Fin 8) (hh : t.val / 32 % 8 = h.val) (p : Fin 256)
    (r : Fin 8192) (hr : r.val = t.val % 32 * 256 + p.val) (d : Fin 64) :
    iblk m c 0 t (ix4 0 0 p d) = A0 m c (ix4 b h r d) * Attn.factor7 := by
  have hi := (index_val t).1
  refine Eq.trans ?_ (host0 m c b h r d)
  show V m c main_v2 (((cfg0.win 0).blk t).view.emb (ix4 0 0 p d)) = V m c main_v2 (ix4 b h r d)
  refine congrArg (V m c main_v2) ?_
  blk_ext [hi]

/-- The keys of a grid point. -/
theorem blk1 (t : Fin cfg0.N) (b : Fin 2) (hb : t.val / 256 = b.val) (h : Fin 8) (hh : t.val / 32 % 8 = h.val)
    (j : Fin 8448) (d : Fin 64) : iblk m c 1 t (ix4 0 0 j d) = A1 m c (ix4 b h j d) := by
  have hi := (index_val t).2.1
  refine Eq.trans ?_ (host1 m c b h j d)
  show V m c main_v3 (((cfg0.win 1).blk t).view.emb (ix4 0 0 j d)) = V m c main_v3 (ix4 b h j d)
  refine congrArg (V m c main_v3) ?_
  blk_ext [hi]

/-- The values of a grid point. -/
theorem blk2 (t : Fin cfg0.N) (b : Fin 2) (hb : t.val / 256 = b.val) (h : Fin 4) (hh : t.val / 32 % 8 / 2 = h.val)
    (j : Fin 8448) (d : Fin 128) : iblk m c 2 t (ix4 0 0 j d) = A2 m c (ix4 b h j d) := by
  have hi := (index_val t).2.2.1
  refine Eq.trans ?_ (host2 m c b h j d)
  show V m c main_v4 (((cfg0.win 2).blk t).view.emb (ix4 0 0 j d)) = V m c main_v4 (ix4 b h j d)
  refine congrArg (V m c main_v4) ?_
  blk_ext [hi]

theorem bits_neg_inf : Ideal.ofBits .f32 4286578688#32 = ⊥ := by simp [Ideal.ofBits, Ideal.ieee]

/-- What the kernel stores, at one element. -/
theorem pay1_row (q : FVec Ideal S1x1x256x64 .bf16) (k : FVec Ideal S1x1x8448x64 .bf16) (v : FVec Ideal S1x1x8448x128 .bf16)
    (p : Fin 256) (n : Fin 128) :
    k0_pay1 (F := Ideal) q k v (ix4 0 0 p n)
      = Attn.row (fun j => ∑ d, q (ix4 0 0 p d) * k (ix4 0 0 j d)) fun j => v (ix4 0 0 j n) := by
  unfold k0_pay1
  pointwise
  rw [bits_neg_inf]
  rfl

/-- What a grid point stores at row `p` of its block is the attention of query `r` of the array. -/
theorem stored (t : Fin cfg0.N) (b : Fin 2) (hb : t.val / 256 = b.val) (h : Fin 8) (hh : t.val / 32 % 8 = h.val) (p : Fin 256)
    (r : Fin 8192) (hr : r.val = t.val % 32 * 256 + p.val) (n : Fin 128) :
    k0_pay1 (F := Ideal) (iblk m c 0 t) (iblk m c 1 t) (iblk m c 2 t) (ix4 0 0 p n) = att m c (ix4 b h r n) := by
  refine (pay1_row _ _ _ p n).trans ?_
  show _ = Attn.row (srow m c b h r) fun j => A2 m c (ix4 b (vHead h) j n)
  refine congrArg₂ Attn.row (funext fun j => ?_) (funext fun j => blk2 m c t b hb _ (congrArg (· / 2) hh) j n)
  obtain ⟨f, hf, e⟩ := Attn.factor7_real
  refine Eq.trans ?_ ((Attn.scores_eq f hf (fun d => A0 m c (ix4 b h r d)) (fun j d => A1 m c (ix4 b (kHead h) j d)) j).trans ?_)
  · rw [← e]
    exact Finset.sum_congr rfl fun d _ => congrArg₂ (fun y z => y * z) (blk0 m c t b hb h hh p r hr d)
      (blk1 m c t b hb _ hh j d)
  · rw [← e]; rfl

/-- The kernel's array after the run. -/
theorem final : (dats m 0 c).arrAt 3 cfg0.N = att m c := by
  refine (dats m 0 c).arrAt_eq_of_covers 3 _ (by decide +kernel) fun t hf y => ?_
  blk_simp
  rw [after0_3]
  frame_out
  have h3 := (index_val t).2.2.2
  have ht : t.val < 512 := t.isLt
  have e : (win0_3.blk t).view.emb y = ix4 (⟨t.val / 256, by omega⟩ : Fin 2) (⟨t.val / 32 % 8, by omega⟩ : Fin 8)
      (⟨t.val % 32 * 256 + (y 2).val, by idx_bounds y; omega⟩ : Fin 8192) (y 3) := by blk_ext [h3]
  rw [e]
  exact (congrArg _ (show y = ix4 0 0 (y 2) (y 3) by blk_ext)).trans (stored m c t _ rfl _ rfl (y 2) _ rfl (y 3))

end Cert.Kernel7Ideal.Att

namespace Cert.Reference7Ideal.Att

open Cert.Reference7Ideal Cert.Reference7Ideal.Gen Cert.Reference7Ideal.Read Idealize.ShloMosaic.TcCoe
open Idealize.ShloMosaic

/-! ## The reference -/

variable (x0 : (⟨S2x8x8192x64, .f32⟩ : BufTy).Contents (Elt Ideal)) (x1 : (⟨S2x8x8448x64, .f32⟩ : BufTy).Contents (Elt Ideal))
  (x2 : (⟨S2x4x8448x128, .f32⟩ : BufTy).Contents (Elt Ideal))
  (b : Fin 2) (h : Fin 8) (g : Fin 4) (u : Fin 2) (hg : h.val = g.val * 2 + u.val) (r : Fin 8192)

/-- The reference's scores of a query. -/
def srow : Fin 8448 → EReal :=
  Attn.scores Attn.factor7 (fun d => x0 (ix4 b h r d)) fun j d => x1 (ix4 b h j d)

include hg in
/-- The product of the queries and the keys, times the factor. -/
theorem scores_row (j : Fin 8448) : val_main_v4 (F := Ideal) x0 x1 (ix5 b g u r j) = srow x0 x1 b h r j := by
  rw [val_main_v4_apply, val_main_v2_apply, val_main_v3_apply, val_main_cst_apply, Ideal.mulf_def, Ideal.ofBits_def]
  refine congrArg₂ (fun y z => y * z) (Finset.sum_congr rfl fun d _ => congrArg₂ (fun y z => y * z) ?_ ?_) rfl
  · rw [show lidx_main_v2 (ix5 b g u r j) d = ix5 b g u r d from eq_ix5 _, val_main_v0_apply]
    refine congrArg x0 ?_
    blk_ext
  · rw [show ridx_main_v2 (ix5 b g u r j) d = ix5 b g u j d from eq_ix5 _, val_main_v1_apply]
    refine congrArg x1 ?_
    blk_ext

include hg in
/-- The largest score of a query. -/
theorem top_row : val_main_v7 (F := Ideal) x0 x1 (ix4 b g u r) = Attn.top (srow x0 x1 b h r) := by
  rw [val_main_v7_apply, val_main_v6_apply, val_main_cst_1_apply, Ideal.ofBits_def, Cert.Kernel7Ideal.Att.bits_neg_inf]
  refine (max_eq_right bot_le).trans ?_
  rw [show srow x0 x1 b h r = fun j => val_main_v4 (F := Ideal) x0 x1 (ix5 b g u r j) from
    funext fun j => (scores_row x0 x1 b h g u hg r j).symm]
  unfold val_main_v5
  generalize val_main_v4 (F := Ideal) x0 x1 = y
  pointwise
  rw [val_main_cst_0_apply, Ideal.ofBits_def, Cert.Kernel7Ideal.Att.bits_neg_inf]
  rfl

include hg in
/-- The weight of a key. -/
theorem pw_row (j : Fin 8448) : val_main_v11 (F := Ideal) x0 x1 (ix5 b g u r j) = Attn.pw (srow x0 x1 b h r) j := by
  rw [val_main_v11_apply, val_main_v10_apply, val_main_v9_apply, val_main_v8_apply,
    show idx_main_v8 (idx_main_v9 (ix5 b g u r j)) = ix4 b g u r from eq_ix4 _, top_row x0 x1 b h g u hg r,
    scores_row x0 x1 b h g u hg r j, Ideal.subf_def, Ideal.hostUnary_exp_def]
  rfl

include hg in
/-- The reference's result, at one element. -/
theorem result_row (n : Fin 128) : val_main_v17 (F := Ideal) x0 x1 x2 (ix4 b h r n)
    = ∑ j, Ideal.div (Attn.pw (srow x0 x1 b h r) j) (∑ i, Attn.pw (srow x0 x1 b h r) i) * x2 (ix4 b g j n) := by
  have a1 : idx_main_v17 (ix4 b h r n) = ix5 b g u r n := by blk_ext
  rw [val_main_v17_apply, a1, val_main_v16_apply]
  refine Finset.sum_congr rfl fun j _ => ?_
  rw [show lidx_main_v16 (ix5 b g u r n) j = ix5 b g u r j from eq_ix5 _,
    show ridx_main_v16 (ix5 b g u r n) j = ix4 b g j n from eq_ix4 _,
    val_main_v15_apply, val_main_v14_apply, val_main_v13_apply,
    show idx_main_v13 (idx_main_v14 (ix5 b g u r j)) = ix4 b g u r from eq_ix4 _, val_main_v12_apply, val_main_cst_2_apply,
    pw_row x0 x1 b h g u hg r j, Ideal.ofBits_def, Ideal.ofBits_zero_f32, zero_add, Ideal.hostDivf_def]
  refine congrArg (fun z => Ideal.div _ z * _) (Finset.sum_congr rfl fun i _ => ?_)
  rw [show idx_main_v12 (ix4 b g u r) i = ix5 b g u r i from eq_ix5 _, pw_row x0 x1 b h g u hg r i]

end Cert.Reference7Ideal.Att

namespace Cert.Pre_diff_finite

open Idealize.ShloMosaic

/-- The side conditions of the predicate's operations. -/
instance facts : Cert.Pre_diff_finite.Facts where
  bcast_S_S2x8x8192x64 := by decide
  reducesTo_S2x8x8192x64_S_d0_1_2_3 := by decide
  h_S_ := by decide
  bcast_S_S2x8x8448x64 := by decide
  reducesTo_S2x8x8448x64_S_d0_1_2_3 := by decide

end Cert.Pre_diff_finite

namespace Cert.Kernel7Ideal.Att

open Idealize.ShloMosaic

/-- The precondition makes the queries and the keys real on every device. -/
theorem finite_of_pre (m : (ℓ : Loc nD τ sig) → Buf (Elt Ideal) ℓ) (h : Cert.Pre_Kernel7Ideal_diff_finite m) (c : Dev nD) :
    (∀ i, Moe.IsReal (A0 m c i)) ∧ ∀ i, Moe.IsReal (A1 m c i) := by
  have e := congrFun (h c) (Shape.Idx.first Cert.Pre_diff_finite.facts.h_S_)
  unfold Cert.Pre_diff_finite.fn at e
  obtain ⟨e1, e2⟩ := IntOp.andi_eq_one.1 e
  exact ⟨fun i => Cert.Pre_routing_finite.all_real _ _ _ _ _ e1 _, fun i => Cert.Pre_routing_finite.all_real _ _ _ _ _ e2 _⟩

end Cert.Kernel7Ideal.Att

namespace Cert.Proof

open Idealize.ShloMosaic Idealize.SL.Sem

/-- The reference runs, leaves its arguments as they were, and ends with no semaphore raised. -/
theorem quiescent_Reference7Ideal : quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

/-- The reference's result depends on its arguments alone. -/
theorem att7_congr {x0 y0 : FVec Ideal Cert.Reference7Ideal.S2x8x8192x64 .f32}
    {x1 y1 : FVec Ideal Cert.Reference7Ideal.S2x8x8448x64 .f32} {x2 y2 : FVec Ideal Cert.Reference7Ideal.S2x4x8448x128 .f32}
    (h0 : x0 = y0) (h1 : x1 = y1) (h2 : x2 = y2) :
    Cert.Reference7Ideal.Read.val_main_v17 (F := Ideal) x0 x1 x2 = Cert.Reference7Ideal.Read.val_main_v17 (F := Ideal) y0 y1 y2 := by
  rw [h0, h1, h2]

/-- On real queries and keys the two programs' arrays are one. -/
theorem att7_eq (m : (ℓ : Loc Cert.Kernel7Ideal.nD Cert.Kernel7Ideal.τ Cert.Kernel7Ideal.sig) → Buf (Elt Ideal) ℓ)
    (c : Dev Cert.Kernel7Ideal.nD)
    (hF : (∀ i, Moe.IsReal (Cert.Kernel7Ideal.Att.A0 m c i)) ∧ ∀ i, Moe.IsReal (Cert.Kernel7Ideal.Att.A1 m c i)) :
    Cert.Reference7Ideal.Read.val_main_v17 (F := Ideal) (Cert.Kernel7Ideal.Att.A0 m c) (Cert.Kernel7Ideal.Att.A1 m c)
      (Cert.Kernel7Ideal.Att.A2 m c) = Cert.Kernel7Ideal.Att.att m c := by
  funext i
  rw [eq_ix4 i]
  have hh : (i 1).val < 8 := (i 1).isLt
  refine (Cert.Reference7Ideal.Att.result_row _ _ _ (i 0) (i 1) ⟨(i 1).val / 2, by omega⟩ ⟨(i 1).val % 2, by omega⟩
    (by show (i 1).val = (i 1).val / 2 * 2 + (i 1).val % 2; omega) (i 2) (i 3)).trans ?_
  obtain ⟨f, -, e⟩ := Attn.factor7_real
  exact Attn.row_eq (by decide) (Attn.scores_isReal ⟨f, e.symm⟩ (fun _ => hF.1 _) fun _ _ => hF.2 _) _

/-- The idealized kernel and the reference, started on the same arguments, return the same array. -/
theorem algebraic7 : algebraic_Kernel7Ideal_Reference7Ideal_pre_diff_finite := by
  intro m ρ m' ρ' hpre hagree
  refine ⟨_, Cert.Kernel7Ideal.Value.run_blocks (F := Ideal) m ρ, ?_⟩
  refine (θ_run Cert.Reference7Ideal.defs _ _).mono (fun _ h c => ⟨?_, (h c).2⟩) (Cert.Reference7Ideal.Value.run (F := Ideal) m' ρ')
  refine (h c).1.trans ((Cert.Reference7Ideal.Read.val_main_v17_eq _ _ _).trans ?_)
  refine Eq.trans ?_ ((att7_eq m c (Cert.Kernel7Ideal.Att.finite_of_pre m hpre c)).trans (Cert.Kernel7Ideal.Att.final m c).symm)
  obtain ⟨h0, h1, h2⟩ := hagree c
  exact att7_congr h0 h1 h2

end Cert.Proof

end
-- ==== Proof.lean ====
/- The certificate: each of the calls, its idealization and its reference run safely, the idealization is the call's,
   and the idealized call and the reference return the same array (for the routing and for the attentions, where the
   named arguments are finite). -/
module

public import proofs.«01_k».proof.Defs
public import proofs.«01_k».proof.Proof.RefExperts
public import proofs.«01_k».proof.Proof.KernelSum
public import proofs.«01_k».proof.Proof.PreFinite
public import proofs.«01_k».proof.Proof.FfnCtx
public import proofs.«01_k».proof.Proof.AttnEvenCtx
public import proofs.«01_k».proof.Proof.ProjOutCtx
public import proofs.«01_k».proof.Proof.ProjInOddCtx
public import proofs.«01_k».proof.Proof.ProjInEvenCtx
public import proofs.«01_k».proof.Proof.Retention
public import proofs.«01_k».proof.Proof.Modulation
public import proofs.«01_k».proof.Proof.Gate
public import proofs.«01_k».proof.Proof.ProjOut
public import proofs.«01_k».proof.Proof.ProjInOdd
public import proofs.«01_k».proof.Proof.ProjInEven
public import proofs.«01_k».proof.Proof.AttnOdd
public import proofs.«01_k».proof.Proof.AttnEven
public import proofs.«01_k».proof.Proof.Ffn
public import proofs.«01_k».proof.Proof.Gen.Kernel.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7.Frame
public import proofs.«01_k».proof.Proof.Gen.Kernel8.Frame
public import proofs.«01_k».proof.Proof.Gen.Kernel9.Frame
public import proofs.«01_k».proof.Proof.Gen.Kernel10.Frame
public import proofs.«01_k».proof.Proof.Gen.Kernel11.Frame
public import proofs.«01_k».proof.Proof.Gen.Kernel12.Frame
public import proofs.«01_k».proof.Proof.Gen.Kernel13.Frame
public import proofs.«01_k».proof.Proof.Gen.Kernel14.Frame
public import proofs.«01_k».proof.Proof.Gen.Kernel15.Frame
public import proofs.«01_k».proof.Proof.Gen.Kernel7Ideal.Value
public import proofs.«01_k».proof.Proof.Gen.Reference7Ideal.Run
public import proofs.«01_k».proof.Proof.Gen.Reference7Ideal.Read
public import Idealize.ShloMosaic.Adequacy
public import Idealize.ShloMosaic.Init
public import Idealize.ShloMosaic.Lib.Quiescent
public import Idealize.ShloMosaic.Lib.Tactic.ValueTie

@[expose] public section

noncomputable section

namespace Cert.Proof

open Idealize.ShloMosaic Idealize.SL.Sem

/-- The reference runs, leaves its arguments as they were, and ends with no semaphore raised. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- On real routing arguments the two rows the programs compute are one: the rows, logits and mixtures of both sides are
    spelt by the same functions of the arguments. -/
theorem result_eq (m : (ℓ : Loc Cert.KernelIdeal.nD Cert.KernelIdeal.τ Cert.KernelIdeal.sig) → Buf (Elt Ideal) ℓ) (c : Dev Cert.KernelIdeal.nD)
    (hF : Cert.KernelIdeal.Moe.Finite m c) :
    Cert.ReferenceIdeal.Read.val_main_v172 (F := Ideal) (Cert.KernelIdeal.Moe.A0 m c) (Cert.KernelIdeal.Moe.A1 m c) (Cert.KernelIdeal.Moe.A2 m c)
      (Cert.KernelIdeal.Moe.A3 m c) (Cert.KernelIdeal.Moe.A4 m c) (Cert.KernelIdeal.Moe.A5 m c) (Cert.KernelIdeal.Moe.A6 m c)
      (Cert.KernelIdeal.Moe.A7 m c) (Cert.KernelIdeal.Moe.A8 m c) (Cert.KernelIdeal.Moe.A9 m c) = Cert.KernelIdeal.Value.G10 m c := by
  funext i
  rw [eq_ix3 i]
  refine (Cert.ReferenceIdeal.Moe.v172_row _ _ _ _ _ _ _ _ _ _ _ _ (fun e => ?_) _).trans (Cert.KernelIdeal.Moe.result_row m c hF _ _ _).symm
  exact Cert.KernelIdeal.Moe.lrow_real m c hF _ _ e

/-- The reference's result depends on its ten arguments alone. -/
theorem val_congr {x0 y0 : FVec Ideal Cert.ReferenceIdeal.S2x8192x1024 .f32}
    {x1 y1 : FVec Ideal Cert.ReferenceIdeal.S1024 .f32}
    {x2 y2 : FVec Ideal Cert.ReferenceIdeal.S2x1024 .f32}
    {x3 y3 : FVec Ideal Cert.ReferenceIdeal.S2x1024 .f32}
    {x4 y4 : FVec Ideal Cert.ReferenceIdeal.S1024x8 .f32}
    {x5 y5 : FVec Ideal Cert.ReferenceIdeal.S8x1024x3584 .f32}
    {x6 y6 : FVec Ideal Cert.ReferenceIdeal.S8x1024x3584 .f32}
    {x7 y7 : FVec Ideal Cert.ReferenceIdeal.S8x3584x1024 .f32}
    {x8 y8 : FVec Ideal Cert.ReferenceIdeal.S1024 .f32}
    {x9 y9 : FVec Ideal Cert.ReferenceIdeal.S2x1024 .f32}
    (h0 : x0 = y0) (h1 : x1 = y1) (h2 : x2 = y2) (h3 : x3 = y3) (h4 : x4 = y4) (h5 : x5 = y5) (h6 : x6 = y6) (h7 : x7 = y7) (h8 : x8 = y8) (h9 : x9 = y9) :
    Cert.ReferenceIdeal.Read.val_main_v172 (F := Ideal) x0 x1 x2 x3 x4 x5 x6 x7 x8 x9 = Cert.ReferenceIdeal.Read.val_main_v172 (F := Ideal) y0 y1 y2 y3 y4 y5 y6 y7 y8 y9 := by
  rw [h0, h1, h2, h3, h4, h5, h6, h7, h8, h9]

/-- The idealized kernel and the reference, started on the same arguments, return the same array. -/
theorem algebraic : algebraic_KernelIdeal_ReferenceIdeal_pre_routing_finite := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  refine (h c).1.trans ((Cert.ReferenceIdeal.Read.val_main_v172_eq _).trans ?_)
  refine Eq.trans ?_ (result_eq m c (Cert.KernelIdeal.Moe.finite_of_pre m hpre c))
  obtain ⟨h0, h1, h2, h3, h4, h5, h6, h7, h8, h9⟩ := hagree c
  exact val_congr h0 h1 h2 h3 h4 h5 h6 h7 h8 h9

/-- Everything the certificate states. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Pre_routing_finite.facts, Cert.Pre_gqa_finite.facts, Cert.Pre_diff_finite.facts,
  Cert.Pre_gqa_context_finite.facts,
  fun m ρ _ => Cert.Kernel.Gen.frame m ρ, fun m ρ _ => Cert.KernelIdeal.Gen.frame m ρ, fun m ρ _ => Cert.KernelIdeal.Gen.frame m ρ,
  quiescent_ReferenceIdeal, fun m ρ _ => quiescent_ReferenceIdeal m ρ trivial,
  fun m ρ _ => Cert.Kernel2.Gen.frame m ρ, fun m ρ _ => Cert.Kernel2Ideal.Gen.frame m ρ,
  quiescent_Reference2Ideal,
  fun m ρ _ => Cert.Kernel3.Gen.frame m ρ, fun m ρ _ => Cert.Kernel3Ideal.Gen.frame m ρ, fun m ρ _ => Cert.Kernel3Ideal.Gen.frame m ρ,
  quiescent_Reference3Ideal, fun m ρ _ => quiescent_Reference3Ideal m ρ trivial,
  fun m ρ _ => Cert.Kernel4.Gen.frame m ρ, fun m ρ _ => Cert.Kernel4Ideal.Gen.frame m ρ,
  quiescent_Reference4Ideal,
  fun m ρ _ => Cert.Kernel5.Gen.frame m ρ, fun m ρ _ => Cert.Kernel5Ideal.Gen.frame m ρ,
  quiescent_Reference5Ideal,
  fun m ρ _ => Cert.Kernel6.Gen.frame m ρ, fun m ρ _ => Cert.Kernel6Ideal.Gen.frame m ρ,
  quiescent_Reference6Ideal,
  fun m ρ _ => Cert.Kernel7.Gen.frame m ρ, fun m ρ _ => Cert.Kernel7Ideal.Gen.frame m ρ, fun m ρ _ => Cert.Kernel7Ideal.Gen.frame m ρ,
  quiescent_Reference7Ideal, fun m ρ _ => quiescent_Reference7Ideal m ρ trivial,
  fun m ρ _ => Cert.Kernel8.Gen.frame m ρ, fun m ρ _ => Cert.Kernel8Ideal.Gen.frame m ρ,
  quiescent_Reference8Ideal,
  fun m ρ _ => Cert.Kernel9.Gen.frame m ρ, fun m ρ _ => Cert.Kernel9Ideal.Gen.frame m ρ,
  quiescent_Reference9Ideal,
  fun m ρ _ => Cert.Kernel10.Gen.frame m ρ, fun m ρ _ => Cert.Kernel10Ideal.Gen.frame m ρ,
  quiescent_Reference10Ideal,
  fun m ρ _ => Cert.Kernel11.Gen.frame m ρ, fun m ρ _ => Cert.Kernel11Ideal.Gen.frame m ρ,
  quiescent_Reference11Ideal,
  fun m ρ _ => Cert.Kernel12.Gen.frame m ρ, fun m ρ _ => Cert.Kernel12Ideal.Gen.frame m ρ,
  quiescent_Reference12Ideal,
  fun m ρ _ => Cert.Kernel13.Gen.frame m ρ, fun m ρ _ => Cert.Kernel13Ideal.Gen.frame m ρ,
  quiescent_Reference13Ideal,
  fun m ρ _ => Cert.Kernel14.Gen.frame m ρ, fun m ρ _ => Cert.Kernel14Ideal.Gen.frame m ρ,
  quiescent_Reference14Ideal,
  fun m ρ _ => Cert.Kernel15.Gen.frame m ρ, fun m ρ _ => Cert.Kernel15Ideal.Gen.frame m ρ, fun m ρ _ => Cert.Kernel15Ideal.Gen.frame m ρ,
  quiescent_Reference15Ideal, fun m ρ _ => quiescent_Reference15Ideal m ρ trivial,
  (trivial : preserves_Kernel_KernelIdeal), algebraic,
  (trivial : preserves_Kernel2_Kernel2Ideal), algebraic2,
  (trivial : preserves_Kernel3_Kernel3Ideal), algebraic3,
  (trivial : preserves_Kernel4_Kernel4Ideal), algebraic4,
  (trivial : preserves_Kernel5_Kernel5Ideal), algebraic5,
  (trivial : preserves_Kernel6_Kernel6Ideal), algebraic6,
  (trivial : preserves_Kernel7_Kernel7Ideal), algebraic7,
  (trivial : preserves_Kernel8_Kernel8Ideal), algebraic8,
  (trivial : preserves_Kernel9_Kernel9Ideal), algebraic9,
  (trivial : preserves_Kernel10_Kernel10Ideal), algebraic10,
  (trivial : preserves_Kernel11_Kernel11Ideal), algebraic11,
  (trivial : preserves_Kernel12_Kernel12Ideal), algebraic12,
  (trivial : preserves_Kernel13_Kernel13Ideal), algebraic13,
  (trivial : preserves_Kernel14_Kernel14Ideal), algebraic14,
  (trivial : preserves_Kernel15_Kernel15Ideal), algebraic15⟩

end Cert.Proof

end
